-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "inv_dv" .f32 0x3B2AAAAB#32 ((384⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_v260) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v269) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S6x8x256x192 : Shape := ⟨4, ![6, 8, 256, 192]⟩
abbrev S6x8x256x384 : Shape := ⟨4, ![6, 8, 256, 384]⟩
abbrev S6x8x4 : Shape := ⟨3, ![6, 8, 4]⟩
abbrev S6x8x256 : Shape := ⟨3, ![6, 8, 256]⟩
abbrev S8x384 : Shape := ⟨2, ![8, 384]⟩
abbrev S_ : Shape := ⟨0, ![]⟩

class Facts : Prop where
  bcast_S_S6x8x256x192 : S_.BroadcastsInDim S6x8x256x192 (![] : Fin 0 → Fin S6x8x256x192.rank)
  reducesTo_S6x8x256x192_S_d0_1_2_3 : S6x8x256x192.ReducesTo [0, 1, 2, 3] S_
  h_S_ : 0 < S_.numel
  bcast_S_S6x8x256x384 : S_.BroadcastsInDim S6x8x256x384 (![] : Fin 0 → Fin S6x8x256x384.rank)
  reducesTo_S6x8x256x384_S_d0_1_2_3 : S6x8x256x384.ReducesTo [0, 1, 2, 3] S_
  bcast_S_S6x8x4 : S_.BroadcastsInDim S6x8x4 (![] : Fin 0 → Fin S6x8x4.rank)
  reducesTo_S6x8x4_S_d0_1_2 : S6x8x4.ReducesTo [0, 1, 2] S_
  bcast_S_S6x8x256 : S_.BroadcastsInDim S6x8x256 (![] : Fin 0 → Fin S6x8x256.rank)
  reducesTo_S6x8x256_S_d0_1_2 : S6x8x256.ReducesTo [0, 1, 2] S_

variable [Facts]

def fn_part2 {F : FTy → Type} [FloatOps F] (main_arg5 : FVec F S6x8x4 .f32) (main_v13 : IVec S_ 1) (main_v27 : IVec S_ 1) (main_v31 : IVec S_ 1) (main_v32 : FVec F S6x8x256 .f32) (main_cst_12 : FVec F S_ .f32) : IVec S_ 1 :=
  let main_v33 : FVec F S6x8x256 .f32 := broadcastInDim S6x8x256 ![] bcast_S_S6x8x256 main_cst_12
  let main_v34 : IVec S6x8x256 1 := cmpf .olt main_v32 main_v33
  let main_c_13 : IVec S_ 1 := constantI S_ 1 1#1
  let main_v35 : IVec S_ 1 := (fun x v => Host.reduce IntOp.andi x v reducesTo_S6x8x256_S_d0_1_2 h_S_) main_v34 main_c_13
  let main_v36 : IVec S_ 1 := andi main_v31 main_v35
  let main_v37 : IVec S_ 1 := andi main_v13 main_v27
  let main_v38 : IVec S_ 1 := andi main_v37 main_v36
  let main_cst_14 : FVec F S_ .f32 := constant S_ .f32 0x00000000#32
  let main_v39 : FVec F S6x8x4 .f32 := broadcastInDim S6x8x4 ![] bcast_S_S6x8x4 main_cst_14
  let main_v40 : IVec S6x8x4 1 := cmpf .une main_arg5 main_v39
  let main_c_15 : IVec S_ 1 := constantI S_ 1 1#1
  let main_v41 : IVec S_ 1 := (fun x v => Host.reduce IntOp.andi x v reducesTo_S6x8x4_S_d0_1_2 h_S_) main_v40 main_c_15
  let main_v42 : IVec S_ 1 := andi main_v38 main_v41
  main_v42

def fn_part1 {F : FTy → Type} [FloatOps F] (main_arg4 : FVec F S6x8x4 .f32) (main_arg5 : FVec F S6x8x4 .f32) (main_arg6 : FVec F S6x8x256 .f32) (main_arg7 : FVec F S6x8x256 .f32) (main_v13 : IVec S_ 1) (main_v16 : IVec S6x8x4 1) : IVec S_ 1 :=
  let main_c_5 : IVec S_ 1 := constantI S_ 1 1#1
  let main_v17 : IVec S_ 1 := (fun x v => Host.reduce IntOp.andi x v reducesTo_S6x8x4_S_d0_1_2 h_S_) main_v16 main_c_5
  let main_v18 : FVec F S6x8x4 .f32 := Host.absf main_arg4
  let main_cst_6 : FVec F S_ .f32 := constant S_ .f32 0x7F800000#32
  let main_v19 : FVec F S6x8x4 .f32 := broadcastInDim S6x8x4 ![] bcast_S_S6x8x4 main_cst_6
  let main_v20 : IVec S6x8x4 1 := cmpf .olt main_v18 main_v19
  let main_c_7 : IVec S_ 1 := constantI S_ 1 1#1
  let main_v21 : IVec S_ 1 := (fun x v => Host.reduce IntOp.andi x v reducesTo_S6x8x4_S_d0_1_2 h_S_) main_v20 main_c_7
  let main_v22 : IVec S_ 1 := andi main_v17 main_v21
  let main_v23 : FVec F S6x8x4 .f32 := Host.absf main_arg5
  let main_cst_8 : FVec F S_ .f32 := constant S_ .f32 0x7F800000#32
  let main_v24 : FVec F S6x8x4 .f32 := broadcastInDim S6x8x4 ![] bcast_S_S6x8x4 main_cst_8
  let main_v25 : IVec S6x8x4 1 := cmpf .olt main_v23 main_v24
  let main_c_9 : IVec S_ 1 := constantI S_ 1 1#1
  let main_v26 : IVec S_ 1 := (fun x v => Host.reduce IntOp.andi x v reducesTo_S6x8x4_S_d0_1_2 h_S_) main_v25 main_c_9
  let main_v27 : IVec S_ 1 := andi main_v22 main_v26
  let main_v28 : FVec F S6x8x256 .f32 := Host.absf main_arg6
  let main_cst_10 : FVec F S_ .f32 := constant S_ .f32 0x7F800000#32
  let main_v29 : FVec F S6x8x256 .f32 := broadcastInDim S6x8x256 ![] bcast_S_S6x8x256 main_cst_10
  let main_v30 : IVec S6x8x256 1 := cmpf .olt main_v28 main_v29
  let main_c_11 : IVec S_ 1 := constantI S_ 1 1#1
  let main_v31 : IVec S_ 1 := (fun x v => Host.reduce IntOp.andi x v reducesTo_S6x8x256_S_d0_1_2 h_S_) main_v30 main_c_11
  let main_v32 : FVec F S6x8x256 .f32 := Host.absf main_arg7
  let main_cst_12 : FVec F S_ .f32 := constant S_ .f32 0x7F800000#32
  fn_part2 (F := F) main_arg5 main_v13 main_v27 main_v31 main_v32 main_cst_12

def fn {F : FTy → Type} [FloatOps F] (main_arg0 : FVec F S6x8x256x192 .f32) (main_arg1 : FVec F S6x8x256x192 .f32) (main_arg2 : FVec F S6x8x256x384 .f32) (main_arg3 : FVec F S6x8x4 .f32) (main_arg4 : FVec F S6x8x4 .f32) (main_arg5 : FVec F S6x8x4 .f32) (main_arg6 : FVec F S6x8x256 .f32) (main_arg7 : FVec F S6x8x256 .f32) (main_arg8 : FVec F S6x8x256x384 .bf16) (main_arg9 : FVec F S8x384 .f32) : IVec S_ 1 :=
  let main_v0 : FVec F S6x8x256x192 .f32 := Host.absf main_arg0
  let main_cst : FVec F S_ .f32 := constant S_ .f32 0x7F800000#32
  let main_v1 : FVec F S6x8x256x192 .f32 := broadcastInDim S6x8x256x192 ![] bcast_S_S6x8x256x192 main_cst
  let main_v2 : IVec S6x8x256x192 1 := cmpf .olt main_v0 main_v1
  let main_c : IVec S_ 1 := constantI S_ 1 1#1
  let main_v3 : IVec S_ 1 := (fun x v => Host.reduce IntOp.andi x v reducesTo_S6x8x256x192_S_d0_1_2_3 h_S_) main_v2 main_c
  let main_v4 : FVec F S6x8x256x192 .f32 := Host.absf main_arg1
  let main_cst_0 : FVec F S_ .f32 := constant S_ .f32 0x7F800000#32
  let main_v5 : FVec F S6x8x256x192 .f32 := broadcastInDim S6x8x256x192 ![] bcast_S_S6x8x256x192 main_cst_0
  let main_v6 : IVec S6x8x256x192 1 := cmpf .olt main_v4 main_v5
  let main_c_1 : IVec S_ 1 := constantI S_ 1 1#1
  let main_v7 : IVec S_ 1 := (fun x v => Host.reduce IntOp.andi x v reducesTo_S6x8x256x192_S_d0_1_2_3 h_S_) main_v6 main_c_1
  let main_v8 : IVec S_ 1 := andi main_v3 main_v7
  let main_v9 : FVec F S6x8x256x384 .f32 := Host.absf main_arg2
  let main_cst_2 : FVec F S_ .f32 := constant S_ .f32 0x7F800000#32
  let main_v10 : FVec F S6x8x256x384 .f32 := broadcastInDim S6x8x256x384 ![] bcast_S_S6x8x256x384 main_cst_2
  let main_v11 : IVec S6x8x256x384 1 := cmpf .olt main_v9 main_v10
  let main_c_3 : IVec S_ 1 := constantI S_ 1 1#1
  let main_v12 : IVec S_ 1 := (fun x v => Host.reduce IntOp.andi x v reducesTo_S6x8x256x384_S_d0_1_2_3 h_S_) main_v11 main_c_3
  let main_v13 : IVec S_ 1 := andi main_v8 main_v12
  let main_v14 : FVec F S6x8x4 .f32 := Host.absf main_arg3
  let main_cst_4 : FVec F S_ .f32 := constant S_ .f32 0x7F800000#32
  let main_v15 : FVec F S6x8x4 .f32 := broadcastInDim S6x8x4 ![] bcast_S_S6x8x4 main_cst_4
  let main_v16 : IVec S6x8x4 1 := cmpf .olt main_v14 main_v15
  fn_part1 (F := F) main_arg4 main_arg5 main_arg6 main_arg7 main_v13 main_v16
-- ==== Kernel.lean ====
abbrev S6x8x256x192 : Shape := ⟨4, ![6, 8, 256, 192]⟩
abbrev S6x8x256x384 : Shape := ⟨4, ![6, 8, 256, 384]⟩
abbrev S6x8x4 : Shape := ⟨3, ![6, 8, 4]⟩
abbrev S6x8x256 : Shape := ⟨3, ![6, 8, 256]⟩
abbrev S8x384 : Shape := ⟨2, ![8, 384]⟩
abbrev S6x8x192x384 : Shape := ⟨4, ![6, 8, 192, 384]⟩
abbrev S6x8x192 : Shape := ⟨3, ![6, 8, 192]⟩
abbrev S6x8 : Shape := ⟨2, ![6, 8]⟩
abbrev S1x2x256x192 : Shape := ⟨4, ![1, 2, 256, 192]⟩
abbrev S1x2x256x384 : Shape := ⟨4, ![1, 2, 256, 384]⟩
abbrev S1x2x192x384 : Shape := ⟨4, ![1, 2, 192, 384]⟩
abbrev S1x8x192 : Shape := ⟨3, ![1, 8, 192]⟩
abbrev S21x48x256 : Shape := ⟨3, ![21, 48, 256]⟩
abbrev S48x256 : Shape := ⟨2, ![48, 256]⟩
abbrev S48x4 : Shape := ⟨2, ![48, 4]⟩
abbrev S256x256 : Shape := ⟨2, ![256, 256]⟩
abbrev S48x1 : Shape := ⟨2, ![48, 1]⟩
abbrev S48x64 : Shape := ⟨2, ![48, 64]⟩
abbrev S48 : Shape := ⟨1, ![48]⟩
abbrev S1x48x256 : Shape := ⟨3, ![1, 48, 256]⟩
abbrev S8x128 : Shape := ⟨2, ![8, 128]⟩
abbrev S8x1 : Shape := ⟨2, ![8, 1]⟩
abbrev S128 : Shape := ⟨1, ![128]⟩
abbrev S1x128 : Shape := ⟨2, ![1, 128]⟩
abbrev S1x8 : Shape := ⟨2, ![1, 8]⟩
abbrev S1x1x256x192 : Shape := ⟨4, ![1, 1, 256, 192]⟩
abbrev S256x192 : Shape := ⟨2, ![256, 192]⟩
abbrev S1x1x256x384 : Shape := ⟨4, ![1, 1, 256, 384]⟩
abbrev S256x384 : Shape := ⟨2, ![256, 384]⟩
abbrev S192x256 : Shape := ⟨2, ![192, 256]⟩
abbrev S1x1x256 : Shape := ⟨3, ![1, 1, 256]⟩
abbrev S1x256 : Shape := ⟨2, ![1, 256]⟩
abbrev S4x256 : Shape := ⟨2, ![4, 256]⟩
abbrev S12x256 : Shape := ⟨2, ![12, 256]⟩
abbrev S12x192 : Shape := ⟨2, ![12, 192]⟩
abbrev S4x192 : Shape := ⟨2, ![4, 192]⟩
abbrev S1x192 : Shape := ⟨2, ![1, 192]⟩
abbrev S1x1x192 : Shape := ⟨3, ![1, 1, 192]⟩
abbrev S256x12 : Shape := ⟨2, ![256, 12]⟩
abbrev S192x384 : Shape := ⟨2, ![192, 384]⟩
abbrev S1x1x192x384 : Shape := ⟨4, ![1, 1, 192, 384]⟩
abbrev S192x192 : Shape := ⟨2, ![192, 192]⟩
abbrev S128x192 : Shape := ⟨2, ![128, 192]⟩
abbrev S128x128 : Shape := ⟨2, ![128, 128]⟩
abbrev S256x128 : Shape := ⟨2, ![256, 128]⟩
abbrev S64x128 : Shape := ⟨2, ![64, 128]⟩
abbrev S64 : Shape := ⟨1, ![64]⟩
abbrev S64x1 : Shape := ⟨2, ![64, 1]⟩
abbrev S1x1 : Shape := ⟨2, ![1, 1]⟩
abbrev S64x12 : Shape := ⟨2, ![64, 12]⟩
abbrev S64x256 : Shape := ⟨2, ![64, 256]⟩
abbrev S320x256 : Shape := ⟨2, ![320, 256]⟩
abbrev S320x384 : Shape := ⟨2, ![320, 384]⟩
abbrev S128x384 : Shape := ⟨2, ![128, 384]⟩
abbrev S64x384 : Shape := ⟨2, ![64, 384]⟩
abbrev S1x384 : Shape := ⟨2, ![1, 384]⟩
abbrev S1x1x64x384 : Shape := ⟨4, ![1, 1, 64, 384]⟩

abbrev nBuf : Space → Nat
  | .hbm => 18
  | .vmem => 24
  | .smem => 0
  | _ => 0

abbrev bufTy : (tb : Table) → Fin (tcTables nBuf tb) → BufTy
  | .hbm, ⟨0, _⟩ => ⟨S6x8x256x192, .f32⟩
  | .hbm, ⟨1, _⟩ => ⟨S6x8x256x192, .f32⟩
  | .hbm, ⟨2, _⟩ => ⟨S6x8x256x384, .f32⟩
  | .hbm, ⟨3, _⟩ => ⟨S6x8x4, .f32⟩
  | .hbm, ⟨4, _⟩ => ⟨S6x8x4, .f32⟩
  | .hbm, ⟨5, _⟩ => ⟨S6x8x4, .f32⟩
  | .hbm, ⟨6, _⟩ => ⟨S6x8x256, .f32⟩
  | .hbm, ⟨7, _⟩ => ⟨S6x8x256, .f32⟩
  | .hbm, ⟨8, _⟩ => ⟨S6x8x256x384, .bf16⟩
  | .hbm, ⟨9, _⟩ => ⟨S8x384, .f32⟩
  | .hbm, ⟨10, _⟩ => ⟨S6x8x256x192, .fp8e4m3⟩
  | .hbm, ⟨11, _⟩ => ⟨S6x8x256x192, .fp8e4m3⟩
  | .hbm, ⟨12, _⟩ => ⟨S6x8x256x384, .fp8e4m3⟩
  | .hbm, ⟨13, _⟩ => ⟨S6x8x256x384, .bf16⟩
  | .hbm, ⟨14, _⟩ => ⟨S6x8x256x384, .bf16⟩
  | .hbm, ⟨15, _⟩ => ⟨S6x8x192x384, .f32⟩
  | .hbm, ⟨16, _⟩ => ⟨S6x8x192, .f32⟩
  | .hbm, ⟨17, _⟩ => ⟨S6x8, .f32⟩
  | .local _ .vmem, ⟨0, _⟩ => ⟨S6x8x256, .f32⟩
  | .local _ .vmem, ⟨1, _⟩ => ⟨S6x8x256, .f32⟩
  | .local _ .vmem, ⟨2, _⟩ => ⟨S6x8x4, .f32⟩
  | .local _ .vmem, ⟨3, _⟩ => ⟨S6x8x4, .f32⟩
  | .local _ .vmem, ⟨4, _⟩ => ⟨S6x8x4, .f32⟩
  | .local _ .vmem, ⟨5, _⟩ => ⟨S1x2x256x192, .fp8e4m3⟩
  | .local _ .vmem, ⟨6, _⟩ => ⟨S1x2x256x192, .fp8e4m3⟩
  | .local _ .vmem, ⟨7, _⟩ => ⟨S1x2x256x192, .fp8e4m3⟩
  | .local _ .vmem, ⟨8, _⟩ => ⟨S1x2x256x192, .fp8e4m3⟩
  | .local _ .vmem, ⟨9, _⟩ => ⟨S1x2x256x384, .fp8e4m3⟩
  | .local _ .vmem, ⟨10, _⟩ => ⟨S1x2x256x384, .fp8e4m3⟩
  | .local _ .vmem, ⟨11, _⟩ => ⟨S1x2x256x384, .bf16⟩
  | .local _ .vmem, ⟨12, _⟩ => ⟨S1x2x256x384, .bf16⟩
  | .local _ .vmem, ⟨13, _⟩ => ⟨S8x384, .f32⟩
  | .local _ .vmem, ⟨14, _⟩ => ⟨S1x2x256x384, .bf16⟩
  | .local _ .vmem, ⟨15, _⟩ => ⟨S1x2x256x384, .bf16⟩
  | .local _ .vmem, ⟨16, _⟩ => ⟨S1x2x256x384, .bf16⟩
  | .local _ .vmem, ⟨17, _⟩ => ⟨S1x2x256x384, .bf16⟩
  | .local _ .vmem, ⟨18, _⟩ => ⟨S1x2x192x384, .f32⟩
  | .local _ .vmem, ⟨19, _⟩ => ⟨S1x2x192x384, .f32⟩
  | .local _ .vmem, ⟨20, _⟩ => ⟨S1x8x192, .f32⟩
  | .local _ .vmem, ⟨21, _⟩ => ⟨S1x8x192, .f32⟩
  | .local _ .vmem, ⟨22, _⟩ => ⟨S6x8, .f32⟩
  | .local _ .vmem, ⟨23, _⟩ => ⟨S21x48x256, .f32⟩
  | _, _ => ⟨S6x8x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨2, ![6, 4], ![false, false]⟩

def k0_off1 (i : grid0.Coords) (c0_i32_2 : BitVec 32) : Fin 3 → Nat :=
  let c0_14 : Index := 0#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v19 : Index := Scalar.indexCast v8
  let c0_15 : Index := 0#32
  ![0, v19.toNat, 0]
def k0_off2 (i : grid0.Coords) (c0_i32_2 : BitVec 32) : Fin 3 → Nat :=
  let c12 : Index := 12#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v25 : Index := Scalar.indexCast v8
  let c0_16 : Index := 0#32
  ![12, v25.toNat, 0]
def k0_off3 (i : grid0.Coords) (c0_i32_2 : BitVec 32) : Fin 3 → Nat :=
  let c13 : Index := 13#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v28 : Index := Scalar.indexCast v8
  let c0_17 : Index := 0#32
  ![13, v28.toNat, 0]
def k0_off4 (i : grid0.Coords) (c0_i32_2 : BitVec 32) : Fin 3 → Nat :=
  let c14 : Index := 14#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v31 : Index := Scalar.indexCast v8
  let c0_18 : Index := 0#32
  ![14, v31.toNat, 0]
def k0_off5 (i : grid0.Coords) (c0_i32_2 : BitVec 32) : Fin 3 → Nat :=
  let c15 : Index := 15#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v34 : Index := Scalar.indexCast v8
  let c0_19 : Index := 0#32
  ![15, v34.toNat, 0]
def k0_off6 (i : grid0.Coords) (c0_i32_2 : BitVec 32) : Fin 3 → Nat :=
  let c0_20 : Index := 0#32
  let arg1 : BitVec 32 := BitVec.ofNat 32 (i 1).val
  let c2_i32 : BitVec 32 := 2#32
  let v5 : BitVec 32 := Scalar.muli arg1 c2_i32
  let v6 : BitVec 32 := Scalar.addi v5 c0_i32_2
  let v53 : Index := Scalar.indexCast v6
  let c0_21 : Index := 0#32
  ![0, v53.toNat, 0]
def k0_off7 (i : grid0.Coords) (c0_i32_2 : BitVec 32) : Fin 3 → Nat :=
  let c1 : Index := 1#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v67 : Index := Scalar.indexCast v8
  let c0_23 : Index := 0#32
  ![1, v67.toNat, 0]
def k0_off8 (i : grid0.Coords) (c0_i32_2 : BitVec 32) : Fin 3 → Nat :=
  let c2 : Index := 2#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v95 : Index := Scalar.indexCast v8
  let c0_34 : Index := 0#32
  ![2, v95.toNat, 0]
def k0_off9 (i : grid0.Coords) (c0_i32_2 : BitVec 32) : Fin 3 → Nat :=
  let c3 : Index := 3#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v107 : Index := Scalar.indexCast v8
  let c0_35 : Index := 0#32
  ![3, v107.toNat, 0]
def k0_off10 (i : grid0.Coords) (c0_i32_2 : BitVec 32) : Fin 3 → Nat :=
  let c4 : Index := 4#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v131 : Index := Scalar.indexCast v8
  let c0_38 : Index := 0#32
  ![4, v131.toNat, 0]
def k0_off11 (i : grid0.Coords) (c0_i32_2 : BitVec 32) : Fin 3 → Nat :=
  let c8 : Index := 8#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v134 : Index := Scalar.indexCast v8
  let c0_39 : Index := 0#32
  ![8, v134.toNat, 0]
def k0_off12 (i : grid0.Coords) (c0_i32_2 : BitVec 32) : Fin 3 → Nat :=
  let c5 : Index := 5#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v156 : Index := Scalar.indexCast v8
  let c0_42 : Index := 0#32
  ![5, v156.toNat, 0]
def k0_off13 (i : grid0.Coords) (c0_i32_2 : BitVec 32) : Fin 3 → Nat :=
  let c9 : Index := 9#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v159 : Index := Scalar.indexCast v8
  let c0_43 : Index := 0#32
  ![9, v159.toNat, 0]
def k0_off14 (i : grid0.Coords) (c0_i32_2 : BitVec 32) : Fin 3 → Nat :=
  let c17 : Index := 17#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v182 : Index := Scalar.indexCast v8
  let c0_47 : Index := 0#32
  ![17, v182.toNat, 0]
def k0_off15 (i : grid0.Coords) (c0_i32_2 : BitVec 32) : Fin 3 → Nat :=
  let c6 : Index := 6#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v221 : Index := Scalar.indexCast v8
  let c0_50 : Index := 0#32
  ![6, v221.toNat, 0]
def k0_off16 (i : grid0.Coords) (c0_i32_2 : BitVec 32) : Fin 3 → Nat :=
  let c10 : Index := 10#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v224 : Index := Scalar.indexCast v8
  let c0_51 : Index := 0#32
  ![10, v224.toNat, 0]
def k0_off17 (i : grid0.Coords) (c0_i32_2 : BitVec 32) : Fin 3 → Nat :=
  let c18 : Index := 18#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v249 : Index := Scalar.indexCast v8
  let c0_54 : Index := 0#32
  ![18, v249.toNat, 0]
def k0_off18 (i : grid0.Coords) (c0_i32_2 : BitVec 32) : Fin 3 → Nat :=
  let c7 : Index := 7#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v281 : Index := Scalar.indexCast v8
  let c0_55 : Index := 0#32
  ![7, v281.toNat, 0]
def k0_off19 (i : grid0.Coords) (c0_i32_2 : BitVec 32) : Fin 3 → Nat :=
  let c11 : Index := 11#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v284 : Index := Scalar.indexCast v8
  let c0_56 : Index := 0#32
  ![11, v284.toNat, 0]
def k0_off20 (i : grid0.Coords) (c0_i32_2 : BitVec 32) : Fin 3 → Nat :=
  let c19 : Index := 19#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v316 : Index := Scalar.indexCast v8
  let c0_60 : Index := 0#32
  ![19, v316.toNat, 0]
def k0_off21 (i : grid0.Coords) (c0_i32_2 : BitVec 32) : Fin 3 → Nat :=
  let c20 : Index := 20#32
  let arg0 : BitVec 32 := BitVec.ofNat 32 (i 0).val
  let c8_i32 : BitVec 32 := 8#32
  let v7 : BitVec 32 := Scalar.muli arg0 c8_i32
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : BitVec 32 := Scalar.addi v7 v6
  let v393 : Index := Scalar.indexCast v8
  let c0_68 : Index := 0#32
  ![20, v393.toNat, 0]
def k0_off22 (i : grid0.Coords) (c0_i32_2 : BitVec 32) : Fin 2 → Nat :=
  let arg1 : BitVec 32 := BitVec.ofNat 32 (i 1).val
  let c2_i32 : BitVec 32 := 2#32
  let v5 : BitVec 32 := Scalar.muli arg1 c2_i32
  let v6 : BitVec 32 := Scalar.addi v5 c0_i32_2
  let v396 : Index := Scalar.indexCast v6
  let c0_69 : Index := 0#32
  ![v396.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S6x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S6x8x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x8x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6x8x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x256x192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x256x192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x384 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2x256x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x192x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S6x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== KernelIdeal.lean ====
variable {F : FTy → Type} [FloatOps F] [Named F]
def κ : String → Option EReal := fun
  | "inv_dv" => some ((384⁻¹ : ℝ) : EReal)
  | "log2e" => some (((Real.log 2)⁻¹ : ℝ) : EReal)
  | _ => none
-- ==== ReferenceIdeal.lean ====
abbrev S6x8x256x192 : Shape := ⟨4, ![6, 8, 256, 192]⟩
abbrev S6x8x256x384 : Shape := ⟨4, ![6, 8, 256, 384]⟩
abbrev S6x8x4 : Shape := ⟨3, ![6, 8, 4]⟩
abbrev S6x8x256 : Shape := ⟨3, ![6, 8, 256]⟩
abbrev S8x384 : Shape := ⟨2, ![8, 384]⟩
abbrev S6x8x4x64x192 : Shape := ⟨5, ![6, 8, 4, 64, 192]⟩
abbrev S6x8x4x64x384 : Shape := ⟨5, ![6, 8, 4, 64, 384]⟩
abbrev S6x8x4x64 : Shape := ⟨4, ![6, 8, 4, 64]⟩
abbrev S_ : Shape := ⟨0, ![]⟩
abbrev S6x8x4x1 : Shape := ⟨4, ![6, 8, 4, 1]⟩
abbrev S6x8x4x64x1 : Shape := ⟨5, ![6, 8, 4, 64, 1]⟩
abbrev S6x8x4x192x384 : Shape := ⟨5, ![6, 8, 4, 192, 384]⟩
abbrev S6x8x4x1x1 : Shape := ⟨5, ![6, 8, 4, 1, 1]⟩
abbrev S6x8x192x384 : Shape := ⟨4, ![6, 8, 192, 384]⟩
abbrev S6x8 : Shape := ⟨2, ![6, 8]⟩
abbrev S6x8x1 : Shape := ⟨3, ![6, 8, 1]⟩
abbrev S6x8x1x1 : Shape := ⟨4, ![6, 8, 1, 1]⟩
abbrev S6x8x1x192x384 : Shape := ⟨5, ![6, 8, 1, 192, 384]⟩
abbrev S6x8x4x192 : Shape := ⟨4, ![6, 8, 4, 192]⟩
abbrev S6x8x192 : Shape := ⟨3, ![6, 8, 192]⟩
abbrev S6x8x1x192 : Shape := ⟨4, ![6, 8, 1, 192]⟩
abbrev S6x8x4x64x64 : Shape := ⟨5, ![6, 8, 4, 64, 64]⟩
abbrev S64x64 : Shape := ⟨2, ![64, 64]⟩
abbrev S6x8x4x1x64 : Shape := ⟨5, ![6, 8, 4, 1, 64]⟩
abbrev S6x8x256x1 : Shape := ⟨4, ![6, 8, 256, 1]⟩
abbrev S1x8x1x384 : Shape := ⟨4, ![1, 8, 1, 384]⟩

abbrev nBuf : Space → Nat
  | .hbm => 326
  | .vmem => 6
  | .smem => 0
  | _ => 0

abbrev hbmTy0_0 (i : Nat) : BufTy := match i % 128 with
  | 0 => ⟨S6x8x256x192, .f32⟩
  | 1 => ⟨S6x8x256x192, .f32⟩
  | 2 => ⟨S6x8x256x384, .f32⟩
  | 3 => ⟨S6x8x4, .f32⟩
  | 4 => ⟨S6x8x4, .f32⟩
  | 5 => ⟨S6x8x4, .f32⟩
  | 6 => ⟨S6x8x256, .f32⟩
  | 7 => ⟨S6x8x256, .f32⟩
  | 8 => ⟨S6x8x256x384, .bf16⟩
  | 9 => ⟨S8x384, .f32⟩
  | 10 => ⟨S6x8x256x192, .fp8e4m3⟩
  | 11 => ⟨S6x8x256x192, .fp8e4m3⟩
  | 12 => ⟨S6x8x256x384, .fp8e4m3⟩
  | 13 => ⟨S6x8x256x192, .f32⟩
  | 14 => ⟨S6x8x256x192, .f32⟩
  | 15 => ⟨S6x8x256x384, .f32⟩
  | 16 => ⟨S6x8x4x64x192, .f32⟩
  | 17 => ⟨S6x8x4x64x192, .f32⟩
  | 18 => ⟨S6x8x4x64x384, .f32⟩
  | 19 => ⟨S6x8x4x64, .f32⟩
  | 20 => ⟨S6x8x256, .f32⟩
  | 21 => ⟨S_, .f32⟩
  | 22 => ⟨S6x8x256, .f32⟩
  | 23 => ⟨S6x8x256, .f32⟩
  | 24 => ⟨S6x8x256, .f32⟩
  | 25 => ⟨S6x8x256, .f32⟩
  | 26 => ⟨S6x8x256, .i1⟩
  | 27 => ⟨S6x8x256, .f32⟩
  | 28 => ⟨S6x8x256, .f32⟩
  | 29 => ⟨S6x8x256, .f32⟩
  | 30 => ⟨S6x8x256, .f32⟩
  | 31 => ⟨S6x8x256, .f32⟩
  | 32 => ⟨S6x8x256, .f32⟩
  | 33 => ⟨S6x8x256, .f32⟩
  | 34 => ⟨S6x8x256, .f32⟩
  | 35 => ⟨S6x8x256, .f32⟩
  | 36 => ⟨S6x8x4x64, .f32⟩
  | 37 => ⟨S_, .f32⟩
  | 38 => ⟨S_, .f32⟩
  | 39 => ⟨S6x8x4x64, .f32⟩
  | 40 => ⟨S6x8x4x1, .f32⟩
  | 41 => ⟨S6x8x4, .f32⟩
  | 42 => ⟨S6x8x4x1, .f32⟩
  | 43 => ⟨S6x8x4x64, .f32⟩
  | 44 => ⟨S6x8x4x64, .f32⟩
  | 45 => ⟨S6x8x4x64, .f32⟩
  | 46 => ⟨S_, .f32⟩
  | 47 => ⟨S6x8x4, .f32⟩
  | 48 => ⟨S6x8x4x1, .f32⟩
  | 49 => ⟨S6x8x4x64, .f32⟩
  | 50 => ⟨S6x8x4x64, .f32⟩
  | 51 => ⟨S6x8x4x64, .f32⟩
  | 52 => ⟨S6x8x4x64x1, .f32⟩
  | 53 => ⟨S6x8x4x64x192, .f32⟩
  | 54 => ⟨S6x8x4x64x192, .f32⟩
  | 55 => ⟨S6x8x4x64x192, .bf16⟩
  | 56 => ⟨S6x8x4x64x384, .bf16⟩
  | 57 => ⟨S6x8x4x192x384, .f32⟩
  | 58 => ⟨S6x8x4, .f32⟩
  | 59 => ⟨S6x8x4x1x1, .f32⟩
  | 60 => ⟨S6x8x4x192x384, .f32⟩
  | 61 => ⟨S6x8x4x192x384, .f32⟩
  | 62 => ⟨S_, .f32⟩
  | 63 => ⟨S6x8x192x384, .f32⟩
  | 64 => ⟨S_, .f32⟩
  | 65 => ⟨S6x8, .f32⟩
  | 66 => ⟨S6x8x1, .f32⟩
  | 67 => ⟨S6x8, .f32⟩
  | 68 => ⟨S6x8, .f32⟩
  | 69 => ⟨S6x8x1, .f32⟩
  | 70 => ⟨S6x8, .f32⟩
  | 71 => ⟨S6x8, .f32⟩
  | 72 => ⟨S6x8x1, .f32⟩
  | 73 => ⟨S6x8, .f32⟩
  | 74 => ⟨S6x8, .f32⟩
  | 75 => ⟨S6x8, .f32⟩
  | 76 => ⟨S6x8, .f32⟩
  | 77 => ⟨S6x8x1, .f32⟩
  | 78 => ⟨S6x8, .f32⟩
  | 79 => ⟨S6x8, .f32⟩
  | 80 => ⟨S6x8, .f32⟩
  | 81 => ⟨S6x8x1x1, .f32⟩
  | 82 => ⟨S6x8x192x384, .f32⟩
  | 83 => ⟨S6x8x192x384, .f32⟩
  | 84 => ⟨S6x8x1x1, .f32⟩
  | 85 => ⟨S6x8x1x192x384, .f32⟩
  | 86 => ⟨S6x8x192x384, .f32⟩
  | 87 => ⟨S6x8x192x384, .f32⟩
  | 88 => ⟨S6x8x192x384, .f32⟩
  | 89 => ⟨S6x8x192x384, .f32⟩
  | 90 => ⟨S6x8x1, .f32⟩
  | 91 => ⟨S6x8, .f32⟩
  | 92 => ⟨S6x8, .f32⟩
  | 93 => ⟨S6x8x1, .f32⟩
  | 94 => ⟨S6x8, .f32⟩
  | 95 => ⟨S6x8, .f32⟩
  | 96 => ⟨S6x8x1, .f32⟩
  | 97 => ⟨S6x8, .f32⟩
  | 98 => ⟨S6x8, .f32⟩
  | 99 => ⟨S6x8, .f32⟩
  | 100 => ⟨S6x8, .f32⟩
  | 101 => ⟨S6x8x1, .f32⟩
  | 102 => ⟨S6x8, .f32⟩
  | 103 => ⟨S6x8, .f32⟩
  | 104 => ⟨S6x8, .f32⟩
  | 105 => ⟨S6x8x1x1, .f32⟩
  | 106 => ⟨S6x8x192x384, .f32⟩
  | 107 => ⟨S6x8x192x384, .f32⟩
  | 108 => ⟨S6x8x1x1, .f32⟩
  | 109 => ⟨S6x8x1x192x384, .f32⟩
  | 110 => ⟨S6x8x192x384, .f32⟩
  | 111 => ⟨S6x8x192x384, .f32⟩
  | 112 => ⟨S6x8x192x384, .f32⟩
  | 113 => ⟨S6x8x192x384, .f32⟩
  | 114 => ⟨S6x8x1, .f32⟩
  | 115 => ⟨S6x8, .f32⟩
  | 116 => ⟨S6x8, .f32⟩
  | 117 => ⟨S6x8x1, .f32⟩
  | 118 => ⟨S6x8, .f32⟩
  | 119 => ⟨S6x8, .f32⟩
  | 120 => ⟨S6x8x1, .f32⟩
  | 121 => ⟨S6x8, .f32⟩
  | 122 => ⟨S6x8, .f32⟩
  | 123 => ⟨S6x8, .f32⟩
  | 124 => ⟨S6x8, .f32⟩
  | 125 => ⟨S6x8x1, .f32⟩
  | 126 => ⟨S6x8, .f32⟩
  | 127 => ⟨S6x8, .f32⟩
  | _ => ⟨S6x8x256x192, .f32⟩

abbrev hbmTy0_1 (i : Nat) : BufTy := match i % 128 with
  | 0 => ⟨S6x8, .f32⟩
  | 1 => ⟨S6x8x1x1, .f32⟩
  | 2 => ⟨S6x8x192x384, .f32⟩
  | 3 => ⟨S6x8x192x384, .f32⟩
  | 4 => ⟨S6x8x1x1, .f32⟩
  | 5 => ⟨S6x8x1x192x384, .f32⟩
  | 6 => ⟨S6x8x192x384, .f32⟩
  | 7 => ⟨S6x8x192x384, .f32⟩
  | 8 => ⟨S6x8x192x384, .f32⟩
  | 9 => ⟨S6x8x192x384, .f32⟩
  | 10 => ⟨S6x8x1, .f32⟩
  | 11 => ⟨S6x8, .f32⟩
  | 12 => ⟨S6x8, .f32⟩
  | 13 => ⟨S6x8x1, .f32⟩
  | 14 => ⟨S6x8, .f32⟩
  | 15 => ⟨S6x8, .f32⟩
  | 16 => ⟨S6x8x1, .f32⟩
  | 17 => ⟨S6x8, .f32⟩
  | 18 => ⟨S6x8, .f32⟩
  | 19 => ⟨S6x8, .f32⟩
  | 20 => ⟨S6x8, .f32⟩
  | 21 => ⟨S6x8x1, .f32⟩
  | 22 => ⟨S6x8, .f32⟩
  | 23 => ⟨S6x8, .f32⟩
  | 24 => ⟨S6x8, .f32⟩
  | 25 => ⟨S6x8x1x1, .f32⟩
  | 26 => ⟨S6x8x192x384, .f32⟩
  | 27 => ⟨S6x8x192x384, .f32⟩
  | 28 => ⟨S6x8x1x1, .f32⟩
  | 29 => ⟨S6x8x1x192x384, .f32⟩
  | 30 => ⟨S6x8x192x384, .f32⟩
  | 31 => ⟨S6x8x192x384, .f32⟩
  | 32 => ⟨S6x8x192x384, .f32⟩
  | 33 => ⟨S6x8x192x384, .f32⟩
  | 34 => ⟨S6x8x1x192x384, .f32⟩
  | 35 => ⟨S6x8x1x192x384, .f32⟩
  | 36 => ⟨S6x8x1x192x384, .f32⟩
  | 37 => ⟨S6x8x1x192x384, .f32⟩
  | 38 => ⟨S6x8x4x192x384, .f32⟩
  | 39 => ⟨S6x8x1, .f32⟩
  | 40 => ⟨S6x8x1, .f32⟩
  | 41 => ⟨S6x8x1, .f32⟩
  | 42 => ⟨S6x8x1, .f32⟩
  | 43 => ⟨S6x8x4, .f32⟩
  | 44 => ⟨S6x8x4x1, .f32⟩
  | 45 => ⟨S6x8x4x64x1, .f32⟩
  | 46 => ⟨S6x8x4x64x192, .f32⟩
  | 47 => ⟨S6x8x4x64x192, .f32⟩
  | 48 => ⟨S_, .f32⟩
  | 49 => ⟨S6x8x4x192, .f32⟩
  | 50 => ⟨S6x8x4x192, .f32⟩
  | 51 => ⟨S6x8x4x192, .f32⟩
  | 52 => ⟨S_, .f32⟩
  | 53 => ⟨S6x8x192, .f32⟩
  | 54 => ⟨S6x8x1, .f32⟩
  | 55 => ⟨S6x8x192, .f32⟩
  | 56 => ⟨S6x8x192, .f32⟩
  | 57 => ⟨S6x8x1, .f32⟩
  | 58 => ⟨S6x8x1x192, .f32⟩
  | 59 => ⟨S6x8x192, .f32⟩
  | 60 => ⟨S6x8x192, .f32⟩
  | 61 => ⟨S6x8x192, .f32⟩
  | 62 => ⟨S6x8x192, .f32⟩
  | 63 => ⟨S6x8x1, .f32⟩
  | 64 => ⟨S6x8x192, .f32⟩
  | 65 => ⟨S6x8x192, .f32⟩
  | 66 => ⟨S6x8x1, .f32⟩
  | 67 => ⟨S6x8x1x192, .f32⟩
  | 68 => ⟨S6x8x192, .f32⟩
  | 69 => ⟨S6x8x192, .f32⟩
  | 70 => ⟨S6x8x192, .f32⟩
  | 71 => ⟨S6x8x192, .f32⟩
  | 72 => ⟨S6x8x1, .f32⟩
  | 73 => ⟨S6x8x192, .f32⟩
  | 74 => ⟨S6x8x192, .f32⟩
  | 75 => ⟨S6x8x1, .f32⟩
  | 76 => ⟨S6x8x1x192, .f32⟩
  | 77 => ⟨S6x8x192, .f32⟩
  | 78 => ⟨S6x8x192, .f32⟩
  | 79 => ⟨S6x8x192, .f32⟩
  | 80 => ⟨S6x8x192, .f32⟩
  | 81 => ⟨S6x8x1x192, .f32⟩
  | 82 => ⟨S6x8x1x192, .f32⟩
  | 83 => ⟨S6x8x1x192, .f32⟩
  | 84 => ⟨S6x8x1x192, .f32⟩
  | 85 => ⟨S6x8x4x192, .f32⟩
  | 86 => ⟨S6x8x4x64x64, .f32⟩
  | 87 => ⟨S6x8x4, .f32⟩
  | 88 => ⟨S_, .f32⟩
  | 89 => ⟨S6x8x4, .f32⟩
  | 90 => ⟨S6x8x4, .f32⟩
  | 91 => ⟨S6x8x4x1x1, .f32⟩
  | 92 => ⟨S6x8x4x64x64, .f32⟩
  | 93 => ⟨S6x8x4x64x64, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S6x8x4x64x1, .f32⟩
  | 106 => ⟨S6x8x4x1x64, .f32⟩
  | 107 => ⟨S6x8x4x64x64, .f32⟩
  | 108 => ⟨S6x8x4x64x64, .f32⟩
  | 109 => ⟨S6x8x4x64x64, .f32⟩
  | 110 => ⟨S6x8x4x1x64, .f32⟩
  | 111 => ⟨S6x8x4x64x64, .f32⟩
  | 112 => ⟨S6x8x4x64x64, .f32⟩
  | 113 => ⟨S_, .f32⟩
  | 114 => ⟨S_, .f32⟩
  | 115 => ⟨S6x8x4x64x64, .i1⟩
  | 116 => ⟨S6x8x4x64x64, .f32⟩
  | 117 => ⟨S6x8x4x64x64, .f32⟩
  | 118 => ⟨S6x8x4x1, .f32⟩
  | 119 => ⟨S6x8x4x64, .f32⟩
  | 120 => ⟨S6x8x4x64, .f32⟩
  | 121 => ⟨S_, .f32⟩
  | 122 => ⟨S6x8x4x64, .f32⟩
  | 123 => ⟨S6x8x4x64, .f32⟩
  | 124 => ⟨S6x8x4x64, .f32⟩
  | 125 => ⟨S6x8x4x64, .f32⟩
  | 126 => ⟨S_, .f32⟩
  | 127 => ⟨S6x8x4, .f32⟩
  | _ => ⟨S6x8x256x192, .f32⟩

abbrev hbmTy0_2 (i : Nat) : BufTy := match i % 128 with
  | 0 => ⟨S6x8x4, .f32⟩
  | 1 => ⟨S6x8x4x1, .f32⟩
  | 2 => ⟨S6x8x4x64, .f32⟩
  | 3 => ⟨S6x8x4x64, .f32⟩
  | 4 => ⟨S6x8x4x64x1, .f32⟩
  | 5 => ⟨S6x8x4x64x384, .f32⟩
  | 6 => ⟨S6x8x4x64x384, .f32⟩
  | 7 => ⟨S6x8x4x64x384, .f32⟩
  | 8 => ⟨S6x8x4x64, .f32⟩
  | 9 => ⟨S6x8x4x64, .f32⟩
  | 10 => ⟨S6x8x4x64x1, .f32⟩
  | 11 => ⟨S6x8x4x64x64, .f32⟩
  | 12 => ⟨S6x8x4x64x64, .f32⟩
  | 13 => ⟨S6x8x4x64x64, .f32⟩
  | 14 => ⟨S6x8x4x64x64, .f32⟩
  | 15 => ⟨S6x8x4x1x1, .f32⟩
  | 16 => ⟨S6x8x4x64x64, .bf16⟩
  | 17 => ⟨S6x8x4x64x384, .bf16⟩
  | 18 => ⟨S6x8x4x64x384, .f32⟩
  | 19 => ⟨S6x8x4x64x384, .f32⟩
  | 20 => ⟨S6x8x4x64x384, .f32⟩
  | 21 => ⟨S_, .f32⟩
  | 22 => ⟨S6x8x4x64, .f32⟩
  | 23 => ⟨S6x8x4x64, .f32⟩
  | 24 => ⟨S6x8x4x64, .f32⟩
  | 25 => ⟨S6x8x4x64, .f32⟩
  | 26 => ⟨S6x8x4x64, .f32⟩
  | 27 => ⟨S6x8x4x64, .f32⟩
  | 28 => ⟨S6x8x4x64x384, .f32⟩
  | 29 => ⟨S6x8x4x64x1, .f32⟩
  | 30 => ⟨S6x8x4x64x384, .f32⟩
  | 31 => ⟨S6x8x4x64x384, .f32⟩
  | 32 => ⟨S6x8x256x384, .f32⟩
  | 33 => ⟨S6x8x256x384, .f32⟩
  | 34 => ⟨S_, .f32⟩
  | 35 => ⟨S6x8x256, .f32⟩
  | 36 => ⟨S6x8x256x1, .f32⟩
  | 37 => ⟨S_, .f32⟩
  | 38 => ⟨S6x8x256x1, .f32⟩
  | 39 => ⟨S6x8x256x1, .f32⟩
  | 40 => ⟨S_, .f32⟩
  | 41 => ⟨S6x8x256x1, .f32⟩
  | 42 => ⟨S6x8x256x1, .f32⟩
  | 43 => ⟨S6x8x256x1, .f32⟩
  | 44 => ⟨S6x8x256x384, .f32⟩
  | 45 => ⟨S6x8x256x384, .f32⟩
  | 46 => ⟨S6x8x256x384, .f32⟩
  | 47 => ⟨S_, .f32⟩
  | 48 => ⟨S6x8x256x384, .f32⟩
  | 49 => ⟨S6x8x256x384, .f32⟩
  | 50 => ⟨S_, .f32⟩
  | 51 => ⟨S6x8x256x384, .f32⟩
  | 52 => ⟨S6x8x256x384, .f32⟩
  | 53 => ⟨S1x8x1x384, .f32⟩
  | 54 => ⟨S6x8x256x384, .f32⟩
  | 55 => ⟨S6x8x256x384, .f32⟩
  | 56 => ⟨S6x8x256x384, .f32⟩
  | 57 => ⟨S6x8x256x384, .f32⟩
  | 58 => ⟨S6x8x256x384, .f32⟩
  | 59 => ⟨S6x8x256x384, .bf16⟩
  | 60 => ⟨S6x8x256x384, .bf16⟩
  | 61 => ⟨S6x8x1, .f32⟩
  | 62 => ⟨S6x8x192, .f32⟩
  | 63 => ⟨S6x8x192, .f32⟩
  | 64 => ⟨S6x8x1, .f32⟩
  | 65 => ⟨S6x8x1x192, .f32⟩
  | 66 => ⟨S6x8x192, .f32⟩
  | 67 => ⟨S6x8x192, .f32⟩
  | 68 => ⟨S6x8x192, .f32⟩
  | 69 => ⟨S6x8x192, .f32⟩
  | _ => ⟨S6x8x256x192, .f32⟩

abbrev hbmTy (i : Nat) : BufTy := match i / 128 with
  | 0 => hbmTy0_0 i
  | 1 => hbmTy0_1 i
  | 2 => hbmTy0_2 i
  | _ => ⟨S6x8x256x192, .f32⟩

abbrev bufTy : (tb : Table) → Fin (tcTables nBuf tb) → BufTy
  | .hbm, ⟨i, _⟩ => hbmTy i
  | .local _ .vmem, ⟨0, _⟩ => ⟨S6x8x256x192, .fp8e4m3⟩
  | .local _ .vmem, ⟨1, _⟩ => ⟨S6x8x256x192, .fp8e4m3⟩
  | .local _ .vmem, ⟨2, _⟩ => ⟨S6x8x256x384, .fp8e4m3⟩
  | .local _ .vmem, ⟨3, _⟩ => ⟨S6x8x256x192, .f32⟩
  | .local _ .vmem, ⟨4, _⟩ => ⟨S6x8x256x192, .f32⟩
  | .local _ .vmem, ⟨5, _⟩ => ⟨S6x8x256x384, .f32⟩
  | _, _ => ⟨S6x8x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v8 : Ref sig .tc := ⟨.hbm, 35, rfl⟩
abbrev main_v9 : Ref sig .tc := ⟨.hbm, 36, rfl⟩
abbrev main_call1_call0_cst : Ref sig .tc := ⟨.hbm, 37, rfl⟩
abbrev main_call1_call0_v0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_0 : Ref sig .tc := ⟨.hbm, 62, rfl⟩
abbrev main_v32 : Ref sig .tc := ⟨.hbm, 63, rfl⟩
abbrev main_cst_1 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_2 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_3 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_cst_4 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_c : Ref sig .tc := ⟨.hbm, 222, rfl⟩
abbrev main_v187 : Ref sig .tc := ⟨.hbm, 223, rfl⟩
abbrev main_call2_v0 : Ref sig .tc := ⟨.hbm, 224, rfl⟩
abbrev main_call2_c : Ref sig .tc := ⟨.hbm, 225, rfl⟩
abbrev main_call2_v1 : Ref sig .tc := ⟨.hbm, 226, rfl⟩
abbrev main_call2_v2 : Ref sig .tc := ⟨.hbm, 227, rfl⟩
abbrev main_call2_v3 : Ref sig .tc := ⟨.hbm, 228, rfl⟩
abbrev main_call2_v4 : Ref sig .tc := ⟨.hbm, 229, rfl⟩
abbrev main_call2_c_0 : Ref sig .tc := ⟨.hbm, 230, rfl⟩
abbrev main_call2_v5 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_cst_5 : Ref sig .tc := ⟨.hbm, 241, rfl⟩
abbrev main_call3_v0 : Ref sig .tc := ⟨.hbm, 242, rfl⟩
abbrev main_call3_v1 : Ref sig .tc := ⟨.hbm, 243, rfl⟩
abbrev main_call3_v2 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_6 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_cst_7 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_cst_8 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_cst_9 : Ref sig .tc := ⟨.hbm, 290, rfl⟩
abbrev main_v239 : Ref sig .tc := ⟨.hbm, 291, rfl⟩
abbrev main_v240 : Ref sig .tc := ⟨.hbm, 292, rfl⟩
abbrev main_cst_10 : Ref sig .tc := ⟨.hbm, 293, rfl⟩
abbrev main_v241 : Ref sig .tc := ⟨.hbm, 294, rfl⟩
abbrev main_v242 : Ref sig .tc := ⟨.hbm, 295, rfl⟩
abbrev main_cst_11 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_cst_12 : Ref sig .tc := ⟨.hbm, 303, rfl⟩
abbrev main_v249 : Ref sig .tc := ⟨.hbm, 304, rfl⟩
abbrev main_v250 : Ref sig .tc := ⟨.hbm, 305, rfl⟩
abbrev main_cst_13 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x8x256x192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8x256x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x8x256x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x8x256x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x8x256x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x8x256x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KB.Runs.lean ====
/- The entry of the region, the windows' blocks and the staging memrefs of the kernel at its own bits. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 0 rfl).trans ((hA c 0).trans (V_main_arg6 m c)),
      (Pipeline.RDat.FramePost.arr_in h c 1 rfl).trans ((hA c 1).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 4 % 6 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x8x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x8x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x8x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x256x192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x256x192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x256x384 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x256x384 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x384 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x256x384 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x256x384 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x192x384 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8x192 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S6x8 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S21x48x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KB.RunA.lean ====
/- The run of the kernel body at the first grid point. -/
module

public import proofs.«01_k».proof.Proof.KB.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1508000 in
/-- The body's triple IN CASE A (`scf.if` 0 taken: points 0): on whole staging memrefs — the inputs' at their contents,
    the FORGOTTEN outputs' (10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_mlstm_eq_skeleton]; unfold cc0_mlstm_skel
    simp only [k0_part41_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

end Cert.Kernel.Gen

end
-- ==== Proof.KB.RunB.lean ====
/- The run of the kernel body at every later grid point. -/
module

public import proofs.«01_k».proof.Proof.KB.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 23: 23 of 24): on whole staging memrefs — the inputs' at their contents,
    the FORGOTTEN outputs' (10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_mlstm_eq_skeleton]; unfold cc0_mlstm_skel
    simp only [k0_part41_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

end Cert.Kernel.Gen

end
-- ==== Proof.KB.Frame.lean ====
/- The frame run of the kernel at its own bits: its arguments end unchanged. -/
module

public import proofs.«01_k».proof.Proof.KB.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13, 14): nothing reads what the kernel leaves in them, so nothing
    of it is named (Lib/Pipeline/Dat.lean `Dat.toRForget`). -/
def forgets0 : Fin 15 → Bool := fun w => w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 24 := lt_of_lt_of_eq t.isLt (show cfg0.N = 24 from N_0)
  by_cases h0 : t.val % 24 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, H11, H12, H13, H14, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, H11, H12, H13, H14, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.KI.Runs.lean ====
/- The entry of the region, the windows' blocks and the staging memrefs of the idealized kernel. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 0 rfl).trans ((hA c 0).trans (V_main_arg6 m c)),
      (Pipeline.RDat.FramePost.arr_in h c 1 rfl).trans ((hA c 1).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 4 % 6 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-! ## The kernel body on any staging memrefs: a subtype the run finds -/

/-- One staging buffer of output window 10, through which its contents are stated (`View.read_writes_of_cover`: the
    choice does not matter). -/
abbrev VO0_10 : View sig .tc .vmem S1x2x256x384 .bf16 := (Memref.whole cc0_stg10_0 : Memref sig .tc .vmem S1x2x256x384 .bf16).view
/-- One staging buffer of output window 11, through which its contents are stated (`View.read_writes_of_cover`: the
    choice does not matter). -/
abbrev VO0_11 : View sig .tc .vmem S1x2x256x384 .bf16 := (Memref.whole cc0_stg11_0 : Memref sig .tc .vmem S1x2x256x384 .bf16).view
/-- One staging buffer of output window 12, through which its contents are stated (`View.read_writes_of_cover`: the
    choice does not matter). -/
abbrev VO0_12 : View sig .tc .vmem S1x2x192x384 .f32 := (Memref.whole cc0_stg12_0 : Memref sig .tc .vmem S1x2x192x384 .f32).view
/-- Each window's current staging memref at point `t`, spelled as the pipeline passes it (`bodyAt0`), and its wholeness. -/
abbrev ms0_0 (t : Fin cfg0.N) : Memref sig .tc .vmem S6x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x8x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x8x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x8x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x256x192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x256x192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x256x384 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x256x384 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x384 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x256x384 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x256x384 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x192x384 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8x192 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S6x8 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S21x48x256 .f32 := Memref.whole cc0_scratch0
/-- The scratch `arg17` the kernel carries between points, as a view: what it holds is stated through it. -/
abbrev VS0_0 : View sig .tc .vmem S21x48x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KI.RunA.lean ====
/- The run of the kernel body at the first grid point. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1508000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Output 13's memref, of which the point writes two rows, is handed over at `x13` and back with its pieces written into it; output 14's with its pieces written. -/
noncomputable def kernelRun0_A (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) :
    Σ' (L10 : List (View.Piece (Elt F) S1x2x256x384 .bf16)), Σ' (L11 : List (View.Piece (Elt F) S1x2x256x384 .bf16)), Σ' (L12 : List (View.Piece (Elt F) S1x2x192x384 .f32)), Σ' (LS0 : List (View.Piece (Elt F) S21x48x256 .f32)), Σ' (L13 : List (View.Piece (Elt F) S1x8x192 .f32)), { L14 : List (View.Piece (Elt F) S6x8 .f32) //
      ∀ (x13 : Vec F S1x8x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread x13) L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun x13 E K => ?run⟩
  case run =>
    simp only [cc0_mlstm_eq_skeleton]; unfold cc0_mlstm_skel
    simp only [k0_part41_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexact H13
    isplitl [H14]; · iexists _; iexact H14
    iexists _; iexact HS0

end Cert.KernelIdeal.Gen

end
-- ==== Proof.KI.RunB.lean ====
/- The run of the kernel body at every later grid point. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 23: 23 of 24), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Output 13's memref, of which the point writes two rows, is handed over at `x13` and back with its pieces written into it; output 14's is handed back as it was (`x14`). -/
noncomputable def kernelRun0_B (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) :
    Σ' (L10 : List (View.Piece (Elt F) S1x2x256x384 .bf16)), Σ' (L11 : List (View.Piece (Elt F) S1x2x256x384 .bf16)), Σ' (L12 : List (View.Piece (Elt F) S1x2x192x384 .f32)), Σ' (LS0 : List (View.Piece (Elt F) S21x48x256 .f32)), { L13 : List (View.Piece (Elt F) S1x8x192 .f32) //
      ∀ (x13 : Vec F S1x8x192 .f32) (x14 : Vec F S6x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ owns (c : Thread nD τ) arg16 fullShare x14 ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread x13) L13) ∗ owns (c : Thread nD τ) arg16 fullShare x14 ∗ owns (c : Thread nD τ) arg17 fullShare xs0) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, [], ?_, fun x13 x14 E K => ?run⟩
  case run =>
    simp only [cc0_mlstm_eq_skeleton]; unfold cc0_mlstm_skel
    simp only [k0_part41_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg17.eq_unread hfs0; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexact H13
    isplitl [H14]
    · iexists _; isplitr; · ipureintro; exact harg16.read_unread _
      iexact H14
    iexists _; isplitr; · ipureintro; exact harg17.read_unread _
    iexact HS0

end Cert.KernelIdeal.Gen

end
-- ==== Proof.KI.Frame.lean ====
/- The frame run of the idealized kernel, with the contents of the results y, h and C named and those of n and m not named. -/
module

public import proofs.«01_k».proof.Proof.KI.RunB
public import Idealize.ShloMosaic.Lib.Claim
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 10 tile its block (8 stores of `S1x1x64x384`, checked by the kernel's evaluation: Lib/Ring.lean `Piece.tiledL`, linear in the pieces, through a loop's `@[irreducible]` trip theorem too), so they cover it. -/
theorem cover0_A_10 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (y : S1x2x256x384.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1 S1x1x64x384.size (by sl_kernel_rfl) y

/-- What case A leaves in output 10's staging buffer: its pieces read back over junk. -/
def out0_A_10 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) : Vec F S1x2x256x384 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1)

/-- Case A's pieces for output 11 tile its block (8 stores of `S1x1x64x384`, checked by the kernel's evaluation: Lib/Ring.lean `Piece.tiledL`, linear in the pieces, through a loop's `@[irreducible]` trip theorem too), so they cover it. -/
theorem cover0_A_11 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (y : S1x2x256x384.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1 S1x1x64x384.size (by sl_kernel_rfl) y

/-- What case A leaves in output 11's staging buffer: its pieces read back over junk. -/
def out0_A_11 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) : Vec F S1x2x256x384 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1)

/-- Case A's pieces for output 12 tile its block (2 stores of `S1x1x192x384`, checked by the kernel's evaluation: Lib/Ring.lean `Piece.tiledL`, linear in the pieces, through a loop's `@[irreducible]` trip theorem too), so they cover it. -/
theorem cover0_A_12 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (y : S1x2x192x384.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.1 S1x1x192x384.size (by sl_kernel_rfl) y

/-- What case A leaves in output 12's staging buffer: its pieces read back over junk. -/
def out0_A_12 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) : Vec F S1x2x192x384 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.1)

/-- Case A's six row stores tile output 14's block. -/
theorem cover0_A_14 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (y : S6x8.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.2.1 S1x8.size (by sl_kernel_rfl) y

/-- Case A's pieces for scratch `arg17`, which the kernel carries between points, cover it: 21 pieces of `S1x48x256` tiling it (Lib/Ring.lean `Piece.tiledL`). -/
theorem scover0_A_0 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (y : S21x48x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.1 S1x48x256.size (by sl_kernel_rfl) y

/-- What case A leaves in scratch `arg17`: its pieces read back over junk. -/
def sout0_A_0 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) : Vec F S21x48x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.1)

/-- Case B's pieces for output 10 tile its block (8 stores of `S1x1x64x384`, checked by the kernel's evaluation: Lib/Ring.lean `Piece.tiledL`, linear in the pieces, through a loop's `@[irreducible]` trip theorem too), so they cover it. -/
theorem cover0_B_10 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) (y : S1x2x256x384.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).1 S1x1x64x384.size (by sl_kernel_rfl) y

/-- What case B leaves in output 10's staging buffer: its pieces read back over junk. -/
def out0_B_10 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) : Vec F S1x2x256x384 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).1)

/-- Case B's pieces for output 11 tile its block (8 stores of `S1x1x64x384`, checked by the kernel's evaluation: Lib/Ring.lean `Piece.tiledL`, linear in the pieces, through a loop's `@[irreducible]` trip theorem too), so they cover it. -/
theorem cover0_B_11 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) (y : S1x2x256x384.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.1 S1x1x64x384.size (by sl_kernel_rfl) y

/-- What case B leaves in output 11's staging buffer: its pieces read back over junk. -/
def out0_B_11 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) : Vec F S1x2x256x384 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.1)

/-- Case B's pieces for output 12 tile its block (2 stores of `S1x1x192x384`, checked by the kernel's evaluation: Lib/Ring.lean `Piece.tiledL`, linear in the pieces, through a loop's `@[irreducible]` trip theorem too), so they cover it. -/
theorem cover0_B_12 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) (y : S1x2x192x384.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.2.1 S1x1x192x384.size (by sl_kernel_rfl) y

/-- What case B leaves in output 12's staging buffer: its pieces read back over junk. -/
def out0_B_12 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) : Vec F S1x2x192x384 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.2.1)

/-- Case B stores nothing into scratch `arg17`: it holds what the point before left. -/
def sout0_B_0 (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole) (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole) (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole) (hc0 : ¬cond0_0 i)
    (x0 : Vec F S6x8x256 .f32) (x1 : Vec F S6x8x256 .f32) (x2 : Vec F S6x8x4 .f32) (x3 : Vec F S6x8x4 .f32) (x4 : Vec F S6x8x4 .f32) (x5 : Vec F S1x2x256x192 .fp8e4m3) (x6 : Vec F S1x2x256x192 .fp8e4m3) (x7 : Vec F S1x2x256x384 .fp8e4m3) (x8 : Vec F S1x2x256x384 .bf16) (x9 : Vec F S8x384 .f32) (xs0 : Vec F S21x48x256 .f32) : Vec F S21x48x256 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2x256x384 .bf16 × Vec F S1x2x256x384 .bf16 × Vec F S1x2x192x384 .f32 × Vec F S21x48x256 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 24 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2)

/-- `outsAt0` at a point of case A: that case's contents. -/
theorem outsAt0_A (c : Dev nD) (t : Fin cfg0.N) (h0 : t.val % 24 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 24 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The output windows whose contents are held to a predicate (`Rl0`) instead of named point by point: 13 and 14. -/
def forgets0 : Fin 15 → Bool := fun w => w.val == 13 || w.val == 14
theorem forgets0_10 : forgets0 (10 : Fin 15) = false := by decide
theorem forgets0_11 : forgets0 (11 : Fin 15) = false := by decide
theorem forgets0_12 : forgets0 (12 : Fin 15) = false := by decide

/-- The proof data of the one pipeline on core `c`: the arrays as the region finds them (`V`); after the body at
    point `t` each input's buffer at its block and the NAMED outputs' at `outsAt0` (13 and 14 at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, h⟩ => Pipeline.Dat.unnamed (cfg := cfg0) ⟨13, h⟩ t
    | ⟨14, h⟩ => Pipeline.Dat.unnamed (cfg := cfg0) ⟨14, h⟩ t
  Φ t := PhiS m c t.val (Nat.le_of_lt_succ t.isLt)
  q _ := fullShare
  owed _ := 0

/-- Output 13's and output 14's whole views, through which a piece list is read back. -/
abbrev VO0_13 : View sig .tc .vmem S1x8x192 .f32 := (Memref.whole cc0_stg13_0 : Memref sig .tc .vmem S1x8x192 .f32).view
abbrev VO0_14 : View sig .tc .vmem S6x8 .f32 := (Memref.whole cc0_stg14_0 : Memref sig .tc .vmem S6x8 .f32).view

/-- The two rows that the body stores into output 13 at point `t`. -/
def L13 (c : Dev nD) (t : Fin cfg0.N) : List (View.Piece (Elt F) S1x8x192 .f32) :=
  if h0 : t.val % 24 = 0 then (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.1
  else (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2).2.2.2.2.1

theorem L13_A (c : Dev nD) (t : Fin cfg0.N) (h0 : t.val % 24 = 0) :
    L13 m c t = (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.1 := by unfold L13; rw [dif_pos h0]

theorem L13_B (c : Dev nD) (t : Fin cfg0.N) (h0 : ¬t.val % 24 = 0) :
    L13 m c t = (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2).2.2.2.2.1 := by
  unfold L13; rw [dif_neg h0]

/-- The rows that point `t` stores into output 13, read back. -/
def N13 (c : Dev nD) (t : Fin cfg0.N) : Vec F S1x8x192 .f32 :=
  VO0_13.read (Elt F) (VO0_13.writes (Elt F) VO0_13.junk (L13 m c t))

/-- The six rows that the first point stores into output 14. -/
def L14 (c : Dev nD) (t : Fin cfg0.N) (h0 : t.val % 24 = 0) : List (View.Piece (Elt F) S6x8 .f32) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2.1

/-- The first point. -/
def pt0 : Fin cfg0.N := ⟨0, lt_of_lt_of_eq (by omega : 0 < 24) (show cfg0.N = 24 from N_0).symm⟩

/-- What the first point leaves in output 14. -/
def M14 (c : Dev nD) : Vec F S6x8 .f32 :=
  VO0_14.read (Elt F) (VO0_14.writes (Elt F) VO0_14.junk (L14 m c pt0 (Nat.zero_mod _)))

/-- Output 13's buffer after point `t`: every row stored since its block was last written back still holds what was stored there. -/
def Has13 (c : Dev nD) (t : Fin cfg0.N) (X : Vec F S1x8x192 .f32) : Prop :=
  ∀ s : Fin cfg0.N, s.val ≤ t.val → s.val / 4 = t.val / 4 → ∀ y : S1x8x192.Idx, (∃ pc ∈ L13 m c s, y ∈ pc.1.set) →
    (∀ r : Fin cfg0.N, s.val < r.val → r.val ≤ t.val → ∀ pc ∈ L13 m c r, y ∉ pc.1.set) → X y = N13 m c s y

/-- What outputs 13 and 14 are held to after each point. -/
def Rl0 (c : Dev nD) (w : Fin cfg0.W) (t : Fin cfg0.N) : ((cfg0.win w).block.Idx → Elt F (cfg0.win w).elt) → Prop :=
  match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => fun _ => True
    | ⟨7, _⟩ => fun _ => True
    | ⟨8, _⟩ => fun _ => True
    | ⟨9, _⟩ => fun _ => True
    | ⟨10, _⟩ => fun _ => True
    | ⟨11, _⟩ => fun _ => True
    | ⟨12, _⟩ => fun _ => True
    | ⟨13, _⟩ => fun X => Has13 m c t X
    | ⟨14, _⟩ => fun X => X = M14 m c

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- Storing point `t`'s rows over what output 13's buffer may hold there keeps `Has13`. -/
theorem has13_step (c : Dev nD) (t : Fin cfg0.N) (Y : Vec F S1x8x192 .f32)
    (hY : ((dats m 0 c).toRRel forgets0 (Rl0 m c)).Finds 13 t Y) :
    Has13 m c t ((ms0_13 t).view.read (Elt F) ((ms0_13 t).view.writes (Elt F) ((hs0_13 t).unread Y) (L13 m c t))) := by
  intro s hs hst y hc hn
  rcases Nat.lt_or_ge s.val t.val with hlt | hge
  · rw [View.read_writes_apply_of_forall_not_mem _ _ y _ (hn t hlt le_rfl), (hs0_13 t).read_unread]
    rcases (Pipeline.RDat.finds_of_pos _ ((cfg0.win 13).fetch_out rfl t) (by omega) Y).mp hY with hf | hl
    · have := (flush0_13 _).mp hf
      dsimp only at this
      omega
    · have h := Dat.toRRel_leaves (dat := dats m 0 c) (show forgets0 (13 : Fin 15) = true by decide) hl
      exact (show Has13 m c ⟨t.val - 1, _⟩ Y from h) s (by dsimp only; omega) (by dsimp only; omega) y hc
        fun r h1 h2 => hn r h1 (by dsimp only at h2; omega)
  · obtain rfl : s = t := Fin.ext (by omega)
    exact View.read_writes_apply_eq _ _ VO0_13 VO0_13.junk y _ hc

/-- The first point's rows cover output 14's buffer. -/
theorem m14_A (c : Dev nD) (t : Fin cfg0.N) (h0 : t.val % 24 = 0) (f) :
    (ms0_14 t).view.read (Elt F) ((ms0_14 t).view.writes (Elt F) f (L14 m c t h0)) = M14 m c := by
  have hN : t.val < 24 := lt_of_lt_of_eq t.isLt (show cfg0.N = 24 from N_0)
  obtain rfl : t = pt0 := Fin.ext (show t.val = 0 by omega)
  exact View.read_writes_of_cover _ _ _ _ _ (cover0_A_14 c _ _ _ _ _ _ _ _ _ _ _ _ _ _ _ _ _ _ _ _ _ _ _ _ _ _ _ _ _ _ _ _ _ _ _ _ _ _ _ _ _ _ _ _)

/-- At any later point output 14's buffer holds what the first left. -/
theorem m14_B (c : Dev nD) (t : Fin cfg0.N) (hz : t.val ≠ 0) (Y : Vec F S6x8 .f32)
    (hY : ((dats m 0 c).toRRel forgets0 (Rl0 m c)).Finds 14 t Y) : Y = M14 m c := by
  have hN : t.val < 24 := lt_of_lt_of_eq t.isLt (show cfg0.N = 24 from N_0)
  rcases (Pipeline.RDat.finds_of_pos _ ((cfg0.win 14).fetch_out rfl t) hz Y).mp hY with hf | hl
  · have := (flush0_14 _).mp hf
    dsimp only at this
    omega
  · exact Dat.toRRel_leaves (dat := dats m 0 c) (show forgets0 (14 : Fin 15) = true by decide) hl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜((dats m 0 c).toRRel forgets0 (Rl0 m c)).Finds 13 t Y⌝ ∗ owns (c : Thread nD τ) (ms0_13 t) fullShare Y)
    ∗ (∃ Y, ⌜((dats m 0 c).toRRel forgets0 (Rl0 m c)).Finds 14 t Y⌝ ∗ owns (c : Thread nD τ) (ms0_14 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ X, ⌜Has13 m c t X⌝ ∗ owns (c : Thread nD τ) (ms0_13 t) fullShare X)
    ∗ (∃ X, ⌜X = M14 m c⌝ ∗ owns (c : Thread nD τ) (ms0_14 t) fullShare X))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  by_cases h0 : t.val % 24 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    by_cases hz : t.val = 0
    · rw [PhiS_castSucc m c t, PhiS_zero m c _ _ hz, PhiA0_eq]
      rw [outsAt0_A m c t h0]
      unfold out0_A_10 out0_A_11 out0_A_12 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y13, %hY13, H13⟩, ⟨%Y14, %hY14, H14⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2.2 Y13 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexact H13
      isplitl [H14]; · iexists _; iexact H14
      isplitl [HS0]; · iexact HS0
      iintro ⟨H0, H1, H2, H3, H4, H5, H6, H7, H8, H9, ⟨%e10, H10⟩, ⟨%e11, H11⟩, ⟨%e12, H12⟩, H13, ⟨%e14, H14⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _)
      isplitl [H13]
      · iexists ((ms0_13 t).view.read (Elt F) ((ms0_13 t).view.writes (Elt F) ((hs0_13 t).unread Y13) (L13 m c t)))
        isplitr
        · ipureintro; exact has13_step m c t Y13 hY13
        rw [L13_A m c t h0]
        unfold owns; iexists _; isplitr
        swap; · iexact H13
        ipureintro; exact rfl
      iexists (M14 m c)
      isplitr
      · ipureintro; exact rfl
      unfold owns; iexists _; isplitr
      swap; · iexact H14
      ipureintro; exact m14_A m c t h0 e14
    · exfalso; have hN : t.val < 24 := lt_of_lt_of_eq t.isLt (show cfg0.N = 24 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    by_cases hz : t.val = 0
    · exfalso; have hN : t.val < 24 := lt_of_lt_of_eq t.isLt (show cfg0.N = 24 from N_0); omega
    · rw [PhiS_castSucc m c t, PhiS_pos m c _ _ hz]
      rw [outsAt0_B m c t h0]
      unfold out0_B_10 out0_B_11 out0_B_12 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y13, %hY13, H13⟩, ⟨%Y14, %hY14, H14⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2 Y13 Y14 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexact H13
      isplitl [H14]; · iexact H14
      isplitl [HS0]; · iexact HS0
      iintro ⟨H0, H1, H2, H3, H4, H5, H6, H7, H8, H9, ⟨%e10, H10⟩, ⟨%e11, H11⟩, ⟨%e12, H12⟩, H13, H14, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _)
      isplitl [H13]
      · iexists ((ms0_13 t).view.read (Elt F) ((ms0_13 t).view.writes (Elt F) ((hs0_13 t).unread Y13) (L13 m c t)))
        isplitr
        · ipureintro; exact has13_step m c t Y13 hY13
        rw [L13_B m c t h0]
        unfold owns; iexists _; isplitr
        swap; · iexact H13
        ipureintro; exact rfl
      iexists Y14
      isplitr
      · ipureintro; exact m14_B m c t hz Y14 hY14
      iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl0 m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- the launch lemma's implicit arguments are found by unifying its conclusion with this one, which takes unfolding plain
-- definitions in a metavariable's type
set_option backward.isDefEq.respectTransparency.types false in
/-- The launch at any proof data with outputs 13 and 14 held to a predicate. Stated at variable data, so that `dats`'s
    point-recursive invariant is never unfolded. -/
theorem run_rel (D : Fin 1 → (c : Dev nD) → Dat τ (Elt F) Unit ℕ (UR sig nD τ) ℕ cfg0 c)
    (R : (c : Dev nD) → (w : Fin cfg0.W) → Fin cfg0.N → ((cfg0.win w).block.Idx → Elt F (cfg0.win w).elt) → Prop)
    (hbody : ∀ c, BodyObligationRel (D 0 c) (defs₀ (F := F)) Variants.none () Set.univ forgets0 (R c))
    (hshare : ∀ c w, (D 0 c).share w = fullShare) (howed : ∀ c t, (D 0 c).owed t = 0)
    (hA : ∀ c w, (D 0 c).A w = V m c (Pipeline.arrRef spec0 w))
    (hin : ∀ c, Pipeline.ΦA spec0 c ⊢ (D 0 c).Φ 0) (hout : ∀ c, (D 0 c).Φ (Fin.last cfg0.N) ⊢ Pipeline.ΦA spec0 c) :
    θ_run defs (onTc (τ := τ) (main (F := F))) (s₀ m ρ) (fun r => (Pipeline.RDat.FramePost (cfgs 0) (fun c => (D 0 c).toRRel forgets0 (R c)) (V m)) r ∧ r.2.sem = fun _ => 0) :=
  Pipeline.RDat.θ_run_frame_track (Q' := _) cfgs (0 : Fin 1) launch0 defs₀ Variants.none (fun c => (D 0 c).toRRel forgets0 (R c)) m ρ main
    (hbody := fun c => (hbody c).toRRel) (hshare := hshare) (howed := howed) (V := V m) (hmain := hmain m Variants.none)
    (hA := hA) (hin := hin) (hout := hout)

/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRRel forgets0 (Rl0 m c)) (V m)) r ∧ r.2.sem = fun _ => 0) :=
  run_rel m ρ (dats m) (Rl0 m) (body_obligation m) (fun c => (dats m 0 c).share_full fun _ => rfl)
    (fun _ _ => rfl) (A_eq m) (hin m) (hout m)

/-- At the compiled mesh, for any values, from any memory with zero counters: every weakly fair execution of @main on the
    TensorCores terminates, and every final state has every INPUT array of the pipeline unchanged, outputs 13
    and 14 as `Rl0` says (Lib/Pipeline/Frame.lean `RDat.FramePost` over the proof data with those windows
    held to a predicate, DatRel.lean `Dat.toRRel`), and every other unscoped buffer at its region-entry contents. -/
theorem run_main : θ_run defs (onTc (τ := τ) (main (F := F))) (s₀ m ρ) (Pipeline.RDat.FramePost (cfgs 0) (fun c => (dats m 0 c).toRRel forgets0 (Rl0 m c)) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRRel forgets0 (Rl0 m c)) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.CMath.lean ====
/- The real-number side of the final cell state: the gates of one head as real functions of its 256 positions,
   and the equation between the state built up chunk by chunk and the one sum over all positions. -/
module

public import Idealize.ShloMosaic.PureOps.Ideal
public import Mathlib.Analysis.SpecialFunctions.Log.Basic
public import Mathlib.Algebra.BigOperators.Fin
public import Mathlib.Tactic.Ring
public import Mathlib.Tactic.Linarith

@[expose] public section

noncomputable section

namespace Cert.ML

open Idealize.ShloMosaic

/-- Position `l` of chunk `c`, in the sequence of 256. -/
def pos (c : Fin 4) (l : Fin 64) : Fin 256 := ⟨64 * c.val + l.val, by omega⟩

/-- The chunk that a position lies in. -/
def chunk (s : Fin 256) : Fin 4 := ⟨s.val / 64, by omega⟩

theorem chunk_pos (c : Fin 4) (l : Fin 64) : chunk (pos c l) = c := by
  apply Fin.ext; simp only [chunk, pos]; omega

/-- A sum over the sequence is the sum over its chunks of the sums over their positions. -/
theorem sum_pos {α : Type*} [AddCommMonoid α] (g : Fin 256 → α) : ∑ s, g s = ∑ c : Fin 4, ∑ l : Fin 64, g (pos c l) := by
  rw [← Fintype.sum_prod_type', ← (finProdFinEquiv (m := 4) (n := 64)).sum_comp]
  refine Finset.sum_congr rfl fun x _ => congrArg g (Fin.ext ?_)
  simp only [pos, finProdFinEquiv, Equiv.coe_fn_mk]; omega

/-- The logarithm of the logistic function, in its stable form. -/
def lsig (x : ℝ) : ℝ := min x 0 - Real.log (1 + Real.exp (-|x|))

/-- The running sum of `g` within the chunk of `s`, up to `s`. -/
def cum (g : Fin 256 → ℝ) (s : Fin 256) : ℝ := ∑ i, if chunk i = chunk s ∧ i ≤ s then g i else 0

/-- The running sum read by chunk and position. -/
theorem cum_pos (g : Fin 256 → ℝ) (c : Fin 4) (l : Fin 64) :
    cum g (pos c l) = ∑ i : Fin 64, if i ≤ l then g (pos c i) else 0 := by
  rw [cum, sum_pos, Finset.sum_eq_single c]
  · refine Finset.sum_congr rfl fun i _ => if_congr ?_ rfl rfl
    rw [chunk_pos, chunk_pos]; simp only [true_and, pos, Fin.le_def]; omega
  · intro d _ hd
    refine Finset.sum_eq_zero fun i _ => if_neg ?_
    simp only [chunk_pos]; exact fun h => hd h.1
  · intro h; exact absurd (Finset.mem_univ c) h

/-- The whole decay of a chunk. -/
def bl (g : Fin 256 → ℝ) (c : Fin 4) : ℝ := cum g (pos c 63)

/-- The exponent with which a position's key enters its chunk's state. -/
def kl (g ig : Fin 256 → ℝ) (s : Fin 256) : ℝ := (bl g (chunk s) - cum g s) + ig s

/-- The largest such exponent of a chunk. -/
def amax (g ig : Fin 256 → ℝ) (c : Fin 4) : ℝ :=
  Finset.univ.sup' ⟨(0 : Fin 64), Finset.mem_univ _⟩ fun l => kl g ig (pos c l)

/-- The weight of a position's key, at most one. -/
def wt (g ig : Fin 256 → ℝ) (s : Fin 256) : ℝ := Real.exp (kl g ig s - amax g ig (chunk s))

/-- The running maximum after one, two, three and four chunks. -/
def m1 (g ig : Fin 256 → ℝ) : ℝ := max (bl g 0) (amax g ig 0)
@[inherit_doc m1] def m2 (g ig : Fin 256 → ℝ) : ℝ := max (bl g 1 + m1 g ig) (amax g ig 1)
@[inherit_doc m1] def m3 (g ig : Fin 256 → ℝ) : ℝ := max (bl g 2 + m2 g ig) (amax g ig 2)
@[inherit_doc m1] def m4 (g ig : Fin 256 → ℝ) : ℝ := max (bl g 3 + m3 g ig) (amax g ig 3)

/-- The exponent with which chunk `c` enters the final state. -/
def ce (g ig : Fin 256 → ℝ) : Fin 4 → ℝ :=
  ![amax g ig 0 + bl g 1 + bl g 2 + bl g 3 - m4 g ig, amax g ig 1 + bl g 2 + bl g 3 - m4 g ig,
    amax g ig 2 + bl g 3 - m4 g ig, amax g ig 3 - m4 g ig]

/-- The factor with which chunk `c` enters the final state, its scales included. -/
def cf (g ig : Fin 256 → ℝ) (ks vs : Fin 4 → ℝ) (c : Fin 4) : ℝ := (Real.exp (ce g ig c) * ks c) * vs c

/-- The final state as one sum over the positions. -/
def cfin (g ig : Fin 256 → ℝ) (ks vs : Fin 4 → ℝ) (k v : Fin 256 → ℝ) : ℝ :=
  ∑ s, ((k s * wt g ig s) * cf g ig ks vs (chunk s)) * v s

/-- One chunk's own contribution to the state. -/
def dC (g ig : Fin 256 → ℝ) (ks vs : Fin 4 → ℝ) (k v : Fin 256 → ℝ) (c : Fin 4) : ℝ :=
  (∑ l : Fin 64, (k (pos c l) * wt g ig (pos c l)) * v (pos c l)) * (ks c * vs c)

/-- The state after each chunk, from the state before it. -/
def c1 (g ig : Fin 256 → ℝ) (ks vs : Fin 4 → ℝ) (k v : Fin 256 → ℝ) : ℝ :=
  Real.exp (amax g ig 0 - m1 g ig) * dC g ig ks vs k v 0
@[inherit_doc c1] def c2 (g ig : Fin 256 → ℝ) (ks vs : Fin 4 → ℝ) (k v : Fin 256 → ℝ) : ℝ :=
  Real.exp (bl g 1 + m1 g ig - m2 g ig) * c1 g ig ks vs k v + Real.exp (amax g ig 1 - m2 g ig) * dC g ig ks vs k v 1
@[inherit_doc c1] def c3 (g ig : Fin 256 → ℝ) (ks vs : Fin 4 → ℝ) (k v : Fin 256 → ℝ) : ℝ :=
  Real.exp (bl g 2 + m2 g ig - m3 g ig) * c2 g ig ks vs k v + Real.exp (amax g ig 2 - m3 g ig) * dC g ig ks vs k v 2
@[inherit_doc c1] def c4 (g ig : Fin 256 → ℝ) (ks vs : Fin 4 → ℝ) (k v : Fin 256 → ℝ) : ℝ :=
  Real.exp (bl g 3 + m3 g ig - m4 g ig) * c3 g ig ks vs k v + Real.exp (amax g ig 3 - m4 g ig) * dC g ig ks vs k v 3

/-- The state built up chunk by chunk is the one sum over all positions. -/
theorem c4_eq_cfin (g ig : Fin 256 → ℝ) (ks vs : Fin 4 → ℝ) (k v : Fin 256 → ℝ) :
    c4 g ig ks vs k v = cfin g ig ks vs k v := by
  have e2 : Real.exp (ce g ig 2) = Real.exp (bl g 3 + m3 g ig - m4 g ig) * Real.exp (amax g ig 2 - m3 g ig) := by
    rw [← Real.exp_add]; congr 1; simp only [ce, Matrix.cons_val]; ring
  have e1 : Real.exp (ce g ig 1) = Real.exp (bl g 3 + m3 g ig - m4 g ig) * (Real.exp (bl g 2 + m2 g ig - m3 g ig)
      * Real.exp (amax g ig 1 - m2 g ig)) := by
    rw [← Real.exp_add, ← Real.exp_add]; congr 1; simp only [ce, Matrix.cons_val]; ring
  have e0 : Real.exp (ce g ig 0) = Real.exp (bl g 3 + m3 g ig - m4 g ig) * (Real.exp (bl g 2 + m2 g ig - m3 g ig)
      * (Real.exp (bl g 1 + m1 g ig - m2 g ig) * Real.exp (amax g ig 0 - m1 g ig))) := by
    rw [← Real.exp_add, ← Real.exp_add, ← Real.exp_add]; congr 1; simp only [ce, Matrix.cons_val]; ring
  have e3 : Real.exp (ce g ig 3) = Real.exp (amax g ig 3 - m4 g ig) := rfl
  have hs : ∀ c : Fin 4, (∑ l : Fin 64, ((k (pos c l) * wt g ig (pos c l)) * cf g ig ks vs (chunk (pos c l))) * v (pos c l))
      = Real.exp (ce g ig c) * dC g ig ks vs k v c := by
    intro c
    rw [dC, Finset.sum_mul, Finset.mul_sum]
    refine Finset.sum_congr rfl fun l _ => ?_
    rw [chunk_pos, cf]; ring
  rw [cfin, sum_pos, Finset.sum_congr rfl fun c _ => hs c, Fin.sum_univ_four, e0, e1, e2, e3, c4, c3, c2, c1]
  ring

/-- The coercion of the reals passes through a finite sum. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- A fold of maxima over reals, from the bottom, is their supremum. -/
theorem fold_max (g : Fin 64 → ℝ) : (Finset.univ : Finset (Fin 64)).fold max (⊥ : EReal) (fun l => ((g l : ℝ) : EReal))
    = ((Finset.univ.sup' ⟨(0 : Fin 64), Finset.mem_univ _⟩ g : ℝ) : EReal) := by
  apply le_antisymm
  · rw [Finset.fold_max_le]
    exact ⟨bot_le, fun l _ => EReal.coe_le_coe_iff.mpr (Finset.le_sup' g (Finset.mem_univ l))⟩
  · obtain ⟨l, _, hl⟩ := Finset.exists_mem_eq_sup' (⟨(0 : Fin 64), Finset.mem_univ _⟩ : (Finset.univ : Finset (Fin 64)).Nonempty) g
    rw [hl, Finset.le_fold_max]
    exact Or.inr ⟨l, Finset.mem_univ l, le_rfl⟩

/-- An extended real that is neither infinity is a real. -/
theorem exists_coe {x : EReal} (h : max x (-x) < ⊤) : ∃ r : ℝ, x = (r : EReal) := by
  induction x with
  | bot => simp at h
  | coe r => exact ⟨r, rfl⟩
  | top => simp at h

/-- The stable log-logistic over the extended reals, at a real, as `min x 0 - log1p (exp (-|x|))`. -/
theorem lsig_coe (x : ℝ) : min (x : EReal) 0 - Ideal.log1p (Ideal.exp (0 - max (x : EReal) (-(x : EReal)))) = ((lsig x : ℝ) : EReal) := by
  have h : (0 : EReal) - max (x : EReal) (-(x : EReal)) = ((-|x| : ℝ) : EReal) := by
    rw [← EReal.coe_neg, coe_max, ← EReal.coe_zero, ← EReal.coe_sub, zero_sub]; rfl
  have hp : ¬ (1 + Real.exp (-|x|) ≤ 0) := by have := Real.exp_pos (-|x|); linarith
  rw [h, Ideal.exp_coe, Ideal.log1p, ← EReal.coe_one, ← EReal.coe_add, Ideal.log_coe, if_neg hp, ← EReal.coe_zero, coe_min,
    ← EReal.coe_sub]; rfl

end Cert.ML
-- ==== Proof.Pre.lean ====
/- What the precondition says of an entry: the codes, the scales and the gates are real numbers. -/
module

public import proofs.«01_k».proof.Defs
public import proofs.«01_k».proof.Proof.CMath
public import Idealize.ShloMosaic.Lib.ReduceAll
public import Idealize.ShloMosaic.Lib.Pointwise

@[expose] public section

noncomputable section

namespace Cert.ML

open Idealize.ShloMosaic

/-- The side conditions of the precondition's operations hold. -/
theorem pre_facts : Cert.Pre_finite_inputs.Facts where
  bcast_S_S6x8x256x192 := by decide
  reducesTo_S6x8x256x192_S_d0_1_2_3 := by decide
  h_S_ := by decide
  bcast_S_S6x8x256x384 := by decide
  reducesTo_S6x8x256x384_S_d0_1_2_3 := by decide
  bcast_S_S6x8x4 := by decide
  reducesTo_S6x8x4_S_d0_1_2 := by decide
  bcast_S_S6x8x256 := by decide
  reducesTo_S6x8x256_S_d0_1_2 := by decide

/-- Plus infinity, as its bits. -/
theorem pos_inf : Ideal.ofBits FTy.f32 0x7F800000#32 = (⊤ : EReal) := by
  simp [Ideal.ofBits, Ideal.ieee]

instance : Subsingleton Cert.Pre_finite_inputs.S_.Idx := ⟨fun a b => funext fun i => i.elim0⟩

/-- An entry whose magnitude compares below infinity is a real number. -/
theorem real_of_lt {x y : EReal} (hy : y = ⊤) (h : FloatOps.cmpf (F := Ideal) (φ := .f32) .olt (FloatOps.absf (F := Ideal) (φ := .f32) x : EReal) y = 1#1) : ∃ r : ℝ, x = (r : EReal) := by
  subst hy
  refine exists_coe ?_
  by_contra hn
  have h' : BitVec.ofBool (decide (max x (-x) < ⊤)) = 1#1 := h
  rw [decide_eq_false hn] at h'
  exact absurd h' (by decide)

/-- An entry that compares unequal to zero is not zero. -/
theorem ne_zero_of_une {x y : EReal} (hy : y = 0) (h : FloatOps.cmpf (F := Ideal) (φ := .f32) .une x y = 1#1) : x ≠ 0 := by
  subst hy
  intro hx
  have h' : BitVec.ofBool (decide (x ≠ 0)) = 1#1 := h
  rw [decide_eq_false (by simpa using hx)] at h'
  exact absurd h' (by decide)

open Cert.Pre_finite_inputs in
/-- Under the precondition every entry of the queries, the keys, the values, their scales and the gates is a real number, and no scale of the values is zero. -/
theorem pre_real [Facts] {a0 a1 : FVec Ideal S6x8x256x192 .f32} {a2 : FVec Ideal S6x8x256x384 .f32} {a3 a4 a5 : FVec Ideal S6x8x4 .f32} {a6 a7 : FVec Ideal S6x8x256 .f32}
    {a8 : FVec Ideal S6x8x256x384 .bf16} {a9 : FVec Ideal S8x384 .f32} (h : fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ ∀ i, a5 i ≠ 0 := by
  have e := congrFun h (fun i => i.elim0)
  dsimp only [fn, fn_part1, fn_part2] at e
  simp only [andi, IntOp.andi_eq_one] at e
  obtain ⟨⟨⟨⟨⟨h0, h1⟩, h2⟩, ⟨h3, h4⟩, h5⟩, h6, h7⟩, h8⟩ := e
  refine ⟨fun i => ?_, fun i => ?_, fun i => ?_, fun i => ?_, fun i => ?_, fun i => ?_, fun i => ?_, fun i => ?_, fun i => ?_⟩
  · exact real_of_lt pos_inf (Host.reduce_andi_all _ _ _ _ _ h0 i)
  · exact real_of_lt pos_inf (Host.reduce_andi_all _ _ _ _ _ h1 i)
  · exact real_of_lt pos_inf (Host.reduce_andi_all _ _ _ _ _ h2 i)
  · exact real_of_lt pos_inf (Host.reduce_andi_all _ _ _ _ _ h3 i)
  · exact real_of_lt pos_inf (Host.reduce_andi_all _ _ _ _ _ h4 i)
  · exact real_of_lt pos_inf (Host.reduce_andi_all _ _ _ _ _ h5 i)
  · exact real_of_lt pos_inf (Host.reduce_andi_all _ _ _ _ _ h6 i)
  · exact real_of_lt pos_inf (Host.reduce_andi_all _ _ _ _ _ h7 i)
  · exact ne_zero_of_une Ideal.ofBits_zero_f32 (Host.reduce_andi_all _ _ _ _ _ h8 i)

end Cert.ML

end
-- ==== Proof.KI.Value.lean ====
/- The final contents of the named result arrays, block by block. -/
module

public import proofs.«01_k».proof.Proof.KI.Frame
public import Idealize.ShloMosaic.Lib.Pipeline.Value
public import Idealize.ShloMosaic.Lib.Pipeline.ArrRel

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 10's array: the run's contents for that window after the body (`Gen.outsAt0`: its component 0), read through the window's block. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- The index map sends distinct grid points to distinct block indices (decided over the 24 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- WHAT POINT `t` WRITES BACK to output window 11's array: the run's contents for that window after the body (`Gen.outsAt0`: its component 1), read through the window's block. -/
theorem flushed11 (c : Dev nD) (t : Fin cfg0.N) :
    (dats m 0 c).flushed 11 t = (cfg0.win 11).cut (grid0.coords t) ((outsAt0 m c t.val t.isLt).2.1) := by
  show (cfg0.win 11).cut (grid0.coords t) ((dats m 0 c).after 11 t) = _
  rw [after0_11]

/-- The index map sends distinct grid points to distinct block indices (decided over the 24 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- WHAT POINT `t` WRITES BACK to output window 12's array: the run's contents for that window after the body (`Gen.outsAt0`: its component 2), read through the window's block. -/
theorem flushed12 (c : Dev nD) (t : Fin cfg0.N) :
    (dats m 0 c).flushed 12 t = (cfg0.win 12).cut (grid0.coords t) ((outsAt0 m c t.val t.isLt).2.2.1) := by
  show (cfg0.win 12).cut (grid0.coords t) ((dats m 0 c).after 12 t) = _
  rw [after0_12]

/-- The index map sends distinct grid points to distinct block indices (decided over the 24 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- A NAMED output window's array after the frame run: `(dats m 0 c).arrAt w N`, read off the run's relational post (`h`:
    the proof data with the windows `Gen.forgets0` held to predicates) at any window `w` that is named (`hw`). -/
theorem finalR_out0 (r : PUnit × MemSt nD τ sig (Elt F)) (h : Pipeline.RDat.FramePost (cfgs 0) (fun c => (dats m 0 c).toRRel forgets0 (Rl0 m c)) (V m) r) (c : Dev nD) (w : Fin 15) (hw : forgets0 w = false) :
    r.2.mem ((cfg0.spec w).arr.view.loc (c : Thread nD τ)) = (dats m 0 c).arrAt w cfg0.N :=
  (((dats m 0 c).toR.override_arrAt (by simp only [hw]) _ _).trans ((dats m 0 c).toR_arrAt_iff w _ _)).mp ((h c).1 w)

/-- After the frame run, output window 10's array is `(dats m 0 c).arrAt 10 N`. -/
theorem post10 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v3_0) = (dats m 0 c).arrAt 10 cfg0.N :=
  finalR_out0 m r h c 10 forgets0_10

/-- After the frame run, output window 11's array is `(dats m 0 c).arrAt 11 N`. -/
theorem post11 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v3_1) = (dats m 0 c).arrAt 11 cfg0.N :=
  finalR_out0 m r h c 11 forgets0_11

/-- After the frame run, output window 12's array is `(dats m 0 c).arrAt 12 N`. -/
theorem post12 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v3_2) = (dats m 0 c).arrAt 12 cfg0.N :=
  finalR_out0 m r h c 12 forgets0_12

/-- After the frame run, argument `main_arg0` is as launched: no window stages it, and the run leaves the region's other buffers as they were. -/
theorem kept_main_arg0 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 2 stages it and never writes it back. -/
theorem kept_main_arg3 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg3) = m ((c : Thread nD τ).loc main_arg3) :=
  (Pipeline.RDat.FramePost.arr_in h c 2 rfl).trans ((A_eq m c 2).trans (V_main_arg3 m c))

/-- After the frame run, argument `main_arg4` is as launched: input window 3 stages it and never writes it back. -/
theorem kept_main_arg4 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg4) = m ((c : Thread nD τ).loc main_arg4) :=
  (Pipeline.RDat.FramePost.arr_in h c 3 rfl).trans ((A_eq m c 3).trans (V_main_arg4 m c))

/-- After the frame run, argument `main_arg5` is as launched: input window 4 stages it and never writes it back. -/
theorem kept_main_arg5 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg5) = m ((c : Thread nD τ).loc main_arg5) :=
  (Pipeline.RDat.FramePost.arr_in h c 4 rfl).trans ((A_eq m c 4).trans (V_main_arg5 m c))

/-- After the frame run, argument `main_arg6` is as launched: input window 0 stages it and never writes it back. -/
theorem kept_main_arg6 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg6) = m ((c : Thread nD τ).loc main_arg6) :=
  (Pipeline.RDat.FramePost.arr_in h c 0 rfl).trans ((A_eq m c 0).trans (V_main_arg6 m c))

/-- After the frame run, argument `main_arg7` is as launched: input window 1 stages it and never writes it back. -/
theorem kept_main_arg7 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg7) = m ((c : Thread nD τ).loc main_arg7) :=
  (Pipeline.RDat.FramePost.arr_in h c 1 rfl).trans ((A_eq m c 1).trans (V_main_arg7 m c))

/-- After the frame run, argument `main_arg8` is as launched: input window 8 stages it and never writes it back. -/
theorem kept_main_arg8 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg8) = m ((c : Thread nD τ).loc main_arg8) :=
  (Pipeline.RDat.FramePost.arr_in h c 8 rfl).trans ((A_eq m c 8).trans (V_main_arg8 m c))

/-- After the frame run, argument `main_arg9` is as launched: input window 9 stages it and never writes it back. -/
theorem kept_main_arg9 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg9) = m ((c : Thread nD τ).loc main_arg9) :=
  (Pipeline.RDat.FramePost.arr_in h c 9 rfl).trans ((A_eq m c 9).trans (V_main_arg9 m c))

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S21x48x256 .f32) : Vec F S21x48x256 .f32 :=
  if h0 : n % 24 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc

/-- WHAT CARRIED SCRATCH 0 HOLDS after point `t`: the fold of its run up to `t`, from the reset at the run's first point
    `24·(t / 24)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (24 * (t.val / 24)) (t.val % 24)
      (by have h1 := t.isLt; have h2 := Nat.div_add_mod t.val 24; omega) :=
  Pipeline.eq_accAt_of_mod (fun n h => (outsAt0 m c n h).2.2.2) 24 (fun n h => scAt0_0 m c n h (VS0_0.read (Elt F) VS0_0.junk)) (scAt0_0 m c)
    (fun n h hn => by
      have hN := lt_of_lt_of_eq h (show cfg0.N = 24 from N_0)
      by_cases h0 : n % 24 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 24 from N_0)
      by_cases h0 : (n + 1) % 24 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x2x256x384 .bf16 × Vec F S1x2x256x384 .bf16 × Vec F S1x2x192x384 .f32 × Vec F S21x48x256 .f32 :=
  ((VO0_10.read (Elt F) VO0_10.junk, VO0_11.read (Elt F) VO0_11.junk, VO0_12.read (Elt F) VO0_12.junk, VS0_0.read (Elt F) VS0_0.junk) : Vec F S1x2x256x384 .bf16 × Vec F S1x2x256x384 .bf16 × Vec F S1x2x192x384 .f32 × Vec F S21x48x256 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x2x256x384 .bf16 × Vec F S1x2x256x384 .bf16 × Vec F S1x2x192x384 .f32 × Vec F S21x48x256 .f32) : Vec F S1x2x256x384 .bf16 × Vec F S1x2x256x384 .bf16 × Vec F S1x2x192x384 .f32 × Vec F S21x48x256 .f32 :=
  if h0 : n % 24 = 0 then
    (out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), out0_A_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)))
  else
    (out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.2.2.2, out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.2.2.2, out0_B_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.2.2.2)

/-- `stAt0` at a point of case A: that case's contents. -/
theorem stAt0_A (c : Dev nD) (t : Fin cfg0.N) (acc : Vec F S1x2x256x384 .bf16 × Vec F S1x2x256x384 .bf16 × Vec F S1x2x192x384 .f32 × Vec F S21x48x256 .f32) (h0 : t.val % 24 = 0) :
    stAt0 m c t.val t.isLt acc = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) :=
  (dif_pos h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 24 from N_0)
  have e := Pipeline.eq_accAt_of_mod (fun n h => outsAt0 m c n h) 24 (fun n h => stAt0 m c n h junk0) (stAt0 m c)
    (fun n h _ => by
      have hN := lt_of_lt_of_eq h (show cfg0.N = 24 from N_0)
      obtain rfl : n = 0 := by omega
      exact outsAt0_zero m c h)
    (fun n h _ => outsAt0_succ m c n h)
    (by decide) n hn (by have := Nat.div_add_mod n 24; omega)
  have hd : n / 24 = 0 := Nat.div_eq_of_lt hN
  have hm : n % 24 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 10 -/

/-- The block of the array that holds index `i`, numbered in the order the points write the blocks back (one per point),
    `i`'s place in it, and the point that writes it back. -/
abbrev run10Of (i : S6x8x256x384.Idx) : ℕ := 4 * ((i 0).val / 1 - 0) + 1 * ((i 1).val / 2 - 0) + 1 * ((i 2).val / 256 - 0) + 1 * ((i 3).val / 384 - 0)
set_option backward.proofsInPublic true in
abbrev loc10Of (i : S6x8x256x384.Idx) : S1x2x256x384.Idx := fun a => match a with
  | ⟨0, _⟩ => ⟨(i 0).val % 1, Nat.mod_lt _ (by decide)⟩
  | ⟨1, _⟩ => ⟨(i 1).val % 2, Nat.mod_lt _ (by decide)⟩
  | ⟨2, _⟩ => ⟨(i 2).val % 256, Nat.mod_lt _ (by decide)⟩
  | ⟨3, _⟩ => ⟨(i 3).val % 384, Nat.mod_lt _ (by decide)⟩
abbrev pt10Of (i : S6x8x256x384.Idx) : ℕ := run10Of i

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v3_0) := fun i =>
  if h : pt10Of i < cfg0.N then
    (Pipeline.accAt (fun n h => stAt0 m c n h junk0) (stAt0 m c) 0 (pt10Of i) (by omega)).1 (loc10Of i)
  else V m c (Pipeline.arrRef spec0 10) i

/-- The printed index map, decided over the grid: output window 10's block indices stay in the box, and the block number
    read off them is the point's (`t`). -/
theorem idx_facts10 : ∀ t : Fin cfg0.N, 0 ≤ win0_10.index t (0 : Fin 4) ∧ win0_10.index t (0 : Fin 4) ≤ 5
    ∧ 0 ≤ win0_10.index t (1 : Fin 4) ∧ win0_10.index t (1 : Fin 4) ≤ 3
    ∧ 0 ≤ win0_10.index t (2 : Fin 4) ∧ win0_10.index t (2 : Fin 4) ≤ 0
    ∧ 0 ≤ win0_10.index t (3 : Fin 4) ∧ win0_10.index t (3 : Fin 4) ≤ 0
    ∧ 4 * (win0_10.index t (0 : Fin 4) - 0) + 1 * (win0_10.index t (1 : Fin 4) - 0) + 1 * (win0_10.index t (2 : Fin 4) - 0) + 1 * (win0_10.index t (3 : Fin 4) - 0) = t.val :=
  (by decide +kernel : ∀ t : Fin grid0.N, _)

/-- Every block of the box is SOME flushing point's: `onto10Pt`, the point that writes back the block at place `q` of the box. -/
abbrev onto10Pt (q0 : Fin 6) (q1 : Fin 4) (q2 : Fin 1) (q3 : Fin 1) : Fin grid0.N :=
  ⟨4 * q0.val + 1 * q1.val + 1 * q2.val + 1 * q3.val, lt_of_lt_of_eq (by omega) N_0.symm⟩
theorem idx_onto10 : ∀ (q0 : Fin 6) (q1 : Fin 4) (q2 : Fin 1) (q3 : Fin 1), ∃ t : Fin cfg0.N, (cfg0.win 10).flush t = true ∧ win0_10.index t = ![q0.val + 0, q1.val + 0, q2.val + 0, q3.val + 0] :=
  fun q0 q1 q2 q3 => ⟨onto10Pt q0 q1 q2 q3, (by decide +kernel : ∀ (q0 : Fin 6) (q1 : Fin 4) (q2 : Fin 1) (q3 : Fin 1), win0_10.flush (onto10Pt q0 q1 q2 q3) = true ∧ win0_10.index (onto10Pt q0 q1 q2 q3) = ![q0.val + 0, q1.val + 0, q2.val + 0, q3.val + 0]) q0 q1 q2 q3⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  obtain ⟨e0, e1, e2, e3, e4⟩ := idx_facts10 t
  funext y
  have hy0 : (y 0).val < 1 := (y 0).isLt
  have hy1 : (y 1).val < 2 := (y 1).isLt
  have hy2 : (y 2).val < 256 := (y 2).isLt
  have hy3 : (y 3).val < 384 := (y 3).isLt
  have hb0 : (((cfg0.win 10).blk t).view.emb y 0).val = win0_10.index t (0 : Fin 4) * 1 + 1 * (y 0).val := rfl
  have hb1 : (((cfg0.win 10).blk t).view.emb y 1).val = win0_10.index t (1 : Fin 4) * 2 + 1 * (y 1).val := rfl
  have hb2 : (((cfg0.win 10).blk t).view.emb y 2).val = win0_10.index t (2 : Fin 4) * 256 + 1 * (y 2).val := rfl
  have hb3 : (((cfg0.win 10).blk t).view.emb y 3).val = win0_10.index t (3 : Fin 4) * 384 + 1 * (y 3).val := rfl
  have hr : run10Of (((cfg0.win 10).blk t).view.emb y) = t.val := by
    show 4 * ((((cfg0.win 10).blk t).view.emb y 0).val / 1 - 0) + 1 * ((((cfg0.win 10).blk t).view.emb y 1).val / 2 - 0) + 1 * ((((cfg0.win 10).blk t).view.emb y 2).val / 256 - 0) + 1 * ((((cfg0.win 10).blk t).view.emb y 3).val / 384 - 0) = _
    rw [hb0, hb1, hb2, hb3]
    rw [show (win0_10.index t (0 : Fin 4) * 1 + 1 * (y 0).val) / 1 = win0_10.index t (0 : Fin 4) from by omega]; rw [show (win0_10.index t (1 : Fin 4) * 2 + 1 * (y 1).val) / 2 = win0_10.index t (1 : Fin 4) from by omega]; rw [show (win0_10.index t (2 : Fin 4) * 256 + 1 * (y 2).val) / 256 = win0_10.index t (2 : Fin 4) from by omega]; rw [show (win0_10.index t (3 : Fin 4) * 384 + 1 * (y 3).val) / 384 = win0_10.index t (3 : Fin 4) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 1 = (y 0).val; rw [hb0]; omega
    | ⟨1, _⟩ => show (((cfg0.win 10).blk t).view.emb y 1).val % 2 = (y 1).val; rw [hb1]; omega
    | ⟨2, _⟩ => show (((cfg0.win 10).blk t).view.emb y 2).val % 256 = (y 2).val; rw [hb2]; omega
    | ⟨3, _⟩ => show (((cfg0.win 10).blk t).view.emb y 3).val % 384 = (y 3).val; rw [hb3]; omega
  have hp : pt10Of (((cfg0.win 10).blk t).view.emb y) = t.val := by
    exact hr
  show (Pipeline.accAt (fun n h => stAt0 m c n h junk0) (stAt0 m c) 0 t.val _).1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S6x8x256x384.Idx) :
    i ∈ ((cfg0.win 10).blk t).view.set ↔ ∀ a : Fin 4, win0_10.index t a * S1x2x256x384.size a ≤ (i a).val ∧ (i a).val < win0_10.index t a * S1x2x256x384.size a + S1x2x256x384.size a := by
  show i ∈ ((View.whole main_v3_0).slice (win0_10.rect t)).set ↔ _
  rw [View.set_slice_whole, Rect.mem_set_unit]
  exact Iff.rfl

/-- THE COVERED INDICES: in some flushing point's block iff inside the box those blocks fill. -/
theorem covered_iff10 (i : S6x8x256x384.Idx) :
    (∃ t : Fin cfg0.N, (cfg0.win 10).flush t = true ∧ i ∈ ((cfg0.win 10).blk t).view.set) ↔ 0 ≤ (i 0).val ∧ (i 0).val < 6 ∧ 0 ≤ (i 1).val ∧ (i 1).val < 8 ∧ 0 ≤ (i 2).val ∧ (i 2).val < 256 ∧ 0 ≤ (i 3).val ∧ (i 3).val < 384 := by
  constructor
  · rintro ⟨t, -, hi⟩
    rw [mem_blk10] at hi
    have b0 : win0_10.index t (0 : Fin 4) * 1 ≤ (i 0).val ∧ (i 0).val < win0_10.index t (0 : Fin 4) * 1 + 1 := hi 0
    have b1 : win0_10.index t (1 : Fin 4) * 2 ≤ (i 1).val ∧ (i 1).val < win0_10.index t (1 : Fin 4) * 2 + 2 := hi 1
    have b2 : win0_10.index t (2 : Fin 4) * 256 ≤ (i 2).val ∧ (i 2).val < win0_10.index t (2 : Fin 4) * 256 + 256 := hi 2
    have b3 : win0_10.index t (3 : Fin 4) * 384 ≤ (i 3).val ∧ (i 3).val < win0_10.index t (3 : Fin 4) * 384 + 384 := hi 3
    obtain ⟨e0, e1, e2, e3, e4⟩ := idx_facts10 t
    omega
  · intro h
    have hi0 : (i 0).val < 6 := (i 0).isLt
    have hi1 : (i 1).val < 8 := (i 1).isLt
    have hi2 : (i 2).val < 256 := (i 2).isLt
    have hi3 : (i 3).val < 384 := (i 3).isLt
    obtain ⟨t, hft, ht⟩ := idx_onto10 ⟨(i 0).val / 1 - 0, by omega⟩ ⟨(i 1).val / 2 - 0, by omega⟩ ⟨(i 2).val / 256 - 0, by omega⟩ ⟨(i 3).val / 384 - 0, by omega⟩
    have q0 : win0_10.index t (0 : Fin 4) = (i 0).val / 1 - 0 + 0 := congrFun ht 0
    have q1 : win0_10.index t (1 : Fin 4) = (i 1).val / 2 - 0 + 0 := congrFun ht 1
    have q2 : win0_10.index t (2 : Fin 4) = (i 2).val / 256 - 0 + 0 := congrFun ht 2
    have q3 : win0_10.index t (3 : Fin 4) = (i 3).val / 384 - 0 + 0 := congrFun ht 3
    refine ⟨t, hft, ?_⟩
    rw [mem_blk10]
    intro a
    match a with
    | ⟨0, _⟩ => show win0_10.index t (0 : Fin 4) * 1 ≤ (i 0).val ∧ (i 0).val < win0_10.index t (0 : Fin 4) * 1 + 1; omega
    | ⟨1, _⟩ => show win0_10.index t (1 : Fin 4) * 2 ≤ (i 1).val ∧ (i 1).val < win0_10.index t (1 : Fin 4) * 2 + 2; omega
    | ⟨2, _⟩ => show win0_10.index t (2 : Fin 4) * 256 ≤ (i 2).val ∧ (i 2).val < win0_10.index t (2 : Fin 4) * 256 + 256; omega
    | ⟨3, _⟩ => show win0_10.index t (3 : Fin 4) * 384 ≤ (i 3).val ∧ (i 3).val < win0_10.index t (3 : Fin 4) * 384 + 384; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 6 := (i 0).isLt; have h1 : (i 1).val < 8 := (i 1).isLt; have h2 : (i 2).val < 256 := (i 2).isLt; have h3 : (i 3).val < 384 := (i 3).isLt; omega))

/-! ## Output window 11 -/

/-- The block of the array that holds index `i`, numbered in the order the points write the blocks back (one per point),
    `i`'s place in it, and the point that writes it back. -/
abbrev run11Of (i : S6x8x256x384.Idx) : ℕ := 4 * ((i 0).val / 1 - 0) + 1 * ((i 1).val / 2 - 0) + 1 * ((i 2).val / 256 - 0) + 1 * ((i 3).val / 384 - 0)
set_option backward.proofsInPublic true in
abbrev loc11Of (i : S6x8x256x384.Idx) : S1x2x256x384.Idx := fun a => match a with
  | ⟨0, _⟩ => ⟨(i 0).val % 1, Nat.mod_lt _ (by decide)⟩
  | ⟨1, _⟩ => ⟨(i 1).val % 2, Nat.mod_lt _ (by decide)⟩
  | ⟨2, _⟩ => ⟨(i 2).val % 256, Nat.mod_lt _ (by decide)⟩
  | ⟨3, _⟩ => ⟨(i 3).val % 384, Nat.mod_lt _ (by decide)⟩
abbrev pt11Of (i : S6x8x256x384.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v3_1) := fun i =>
  if h : pt11Of i < cfg0.N then
    (Pipeline.accAt (fun n h => stAt0 m c n h junk0) (stAt0 m c) 0 (pt11Of i) (by omega)).2.1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 4) ∧ win0_11.index t (0 : Fin 4) ≤ 5
    ∧ 0 ≤ win0_11.index t (1 : Fin 4) ∧ win0_11.index t (1 : Fin 4) ≤ 3
    ∧ 0 ≤ win0_11.index t (2 : Fin 4) ∧ win0_11.index t (2 : Fin 4) ≤ 0
    ∧ 0 ≤ win0_11.index t (3 : Fin 4) ∧ win0_11.index t (3 : Fin 4) ≤ 0
    ∧ 4 * (win0_11.index t (0 : Fin 4) - 0) + 1 * (win0_11.index t (1 : Fin 4) - 0) + 1 * (win0_11.index t (2 : Fin 4) - 0) + 1 * (win0_11.index t (3 : Fin 4) - 0) = t.val :=
  (by decide +kernel : ∀ t : Fin grid0.N, _)

/-- Every block of the box is SOME flushing point's: `onto11Pt`, the point that writes back the block at place `q` of the box. -/
abbrev onto11Pt (q0 : Fin 6) (q1 : Fin 4) (q2 : Fin 1) (q3 : Fin 1) : Fin grid0.N :=
  ⟨4 * q0.val + 1 * q1.val + 1 * q2.val + 1 * q3.val, lt_of_lt_of_eq (by omega) N_0.symm⟩
theorem idx_onto11 : ∀ (q0 : Fin 6) (q1 : Fin 4) (q2 : Fin 1) (q3 : Fin 1), ∃ t : Fin cfg0.N, (cfg0.win 11).flush t = true ∧ win0_11.index t = ![q0.val + 0, q1.val + 0, q2.val + 0, q3.val + 0] :=
  fun q0 q1 q2 q3 => ⟨onto11Pt q0 q1 q2 q3, (by decide +kernel : ∀ (q0 : Fin 6) (q1 : Fin 4) (q2 : Fin 1) (q3 : Fin 1), win0_11.flush (onto11Pt q0 q1 q2 q3) = true ∧ win0_11.index (onto11Pt q0 q1 q2 q3) = ![q0.val + 0, q1.val + 0, q2.val + 0, q3.val + 0]) q0 q1 q2 q3⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2, e3, e4⟩ := idx_facts11 t
  funext y
  have hy0 : (y 0).val < 1 := (y 0).isLt
  have hy1 : (y 1).val < 2 := (y 1).isLt
  have hy2 : (y 2).val < 256 := (y 2).isLt
  have hy3 : (y 3).val < 384 := (y 3).isLt
  have hb0 : (((cfg0.win 11).blk t).view.emb y 0).val = win0_11.index t (0 : Fin 4) * 1 + 1 * (y 0).val := rfl
  have hb1 : (((cfg0.win 11).blk t).view.emb y 1).val = win0_11.index t (1 : Fin 4) * 2 + 1 * (y 1).val := rfl
  have hb2 : (((cfg0.win 11).blk t).view.emb y 2).val = win0_11.index t (2 : Fin 4) * 256 + 1 * (y 2).val := rfl
  have hb3 : (((cfg0.win 11).blk t).view.emb y 3).val = win0_11.index t (3 : Fin 4) * 384 + 1 * (y 3).val := rfl
  have hr : run11Of (((cfg0.win 11).blk t).view.emb y) = t.val := by
    show 4 * ((((cfg0.win 11).blk t).view.emb y 0).val / 1 - 0) + 1 * ((((cfg0.win 11).blk t).view.emb y 1).val / 2 - 0) + 1 * ((((cfg0.win 11).blk t).view.emb y 2).val / 256 - 0) + 1 * ((((cfg0.win 11).blk t).view.emb y 3).val / 384 - 0) = _
    rw [hb0, hb1, hb2, hb3]
    rw [show (win0_11.index t (0 : Fin 4) * 1 + 1 * (y 0).val) / 1 = win0_11.index t (0 : Fin 4) from by omega]; rw [show (win0_11.index t (1 : Fin 4) * 2 + 1 * (y 1).val) / 2 = win0_11.index t (1 : Fin 4) from by omega]; rw [show (win0_11.index t (2 : Fin 4) * 256 + 1 * (y 2).val) / 256 = win0_11.index t (2 : Fin 4) from by omega]; rw [show (win0_11.index t (3 : Fin 4) * 384 + 1 * (y 3).val) / 384 = win0_11.index t (3 : Fin 4) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 1 = (y 0).val; rw [hb0]; omega
    | ⟨1, _⟩ => show (((cfg0.win 11).blk t).view.emb y 1).val % 2 = (y 1).val; rw [hb1]; omega
    | ⟨2, _⟩ => show (((cfg0.win 11).blk t).view.emb y 2).val % 256 = (y 2).val; rw [hb2]; omega
    | ⟨3, _⟩ => show (((cfg0.win 11).blk t).view.emb y 3).val % 384 = (y 3).val; rw [hb3]; omega
  have hp : pt11Of (((cfg0.win 11).blk t).view.emb y) = t.val := by
    exact hr
  show (Pipeline.accAt (fun n h => stAt0 m c n h junk0) (stAt0 m c) 0 t.val _).2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S6x8x256x384.Idx) :
    i ∈ ((cfg0.win 11).blk t).view.set ↔ ∀ a : Fin 4, win0_11.index t a * S1x2x256x384.size a ≤ (i a).val ∧ (i a).val < win0_11.index t a * S1x2x256x384.size a + S1x2x256x384.size a := by
  show i ∈ ((View.whole main_v3_1).slice (win0_11.rect t)).set ↔ _
  rw [View.set_slice_whole, Rect.mem_set_unit]
  exact Iff.rfl

/-- THE COVERED INDICES: in some flushing point's block iff inside the box those blocks fill. -/
theorem covered_iff11 (i : S6x8x256x384.Idx) :
    (∃ t : Fin cfg0.N, (cfg0.win 11).flush t = true ∧ i ∈ ((cfg0.win 11).blk t).view.set) ↔ 0 ≤ (i 0).val ∧ (i 0).val < 6 ∧ 0 ≤ (i 1).val ∧ (i 1).val < 8 ∧ 0 ≤ (i 2).val ∧ (i 2).val < 256 ∧ 0 ≤ (i 3).val ∧ (i 3).val < 384 := by
  constructor
  · rintro ⟨t, -, hi⟩
    rw [mem_blk11] at hi
    have b0 : win0_11.index t (0 : Fin 4) * 1 ≤ (i 0).val ∧ (i 0).val < win0_11.index t (0 : Fin 4) * 1 + 1 := hi 0
    have b1 : win0_11.index t (1 : Fin 4) * 2 ≤ (i 1).val ∧ (i 1).val < win0_11.index t (1 : Fin 4) * 2 + 2 := hi 1
    have b2 : win0_11.index t (2 : Fin 4) * 256 ≤ (i 2).val ∧ (i 2).val < win0_11.index t (2 : Fin 4) * 256 + 256 := hi 2
    have b3 : win0_11.index t (3 : Fin 4) * 384 ≤ (i 3).val ∧ (i 3).val < win0_11.index t (3 : Fin 4) * 384 + 384 := hi 3
    obtain ⟨e0, e1, e2, e3, e4⟩ := idx_facts11 t
    omega
  · intro h
    have hi0 : (i 0).val < 6 := (i 0).isLt
    have hi1 : (i 1).val < 8 := (i 1).isLt
    have hi2 : (i 2).val < 256 := (i 2).isLt
    have hi3 : (i 3).val < 384 := (i 3).isLt
    obtain ⟨t, hft, ht⟩ := idx_onto11 ⟨(i 0).val / 1 - 0, by omega⟩ ⟨(i 1).val / 2 - 0, by omega⟩ ⟨(i 2).val / 256 - 0, by omega⟩ ⟨(i 3).val / 384 - 0, by omega⟩
    have q0 : win0_11.index t (0 : Fin 4) = (i 0).val / 1 - 0 + 0 := congrFun ht 0
    have q1 : win0_11.index t (1 : Fin 4) = (i 1).val / 2 - 0 + 0 := congrFun ht 1
    have q2 : win0_11.index t (2 : Fin 4) = (i 2).val / 256 - 0 + 0 := congrFun ht 2
    have q3 : win0_11.index t (3 : Fin 4) = (i 3).val / 384 - 0 + 0 := congrFun ht 3
    refine ⟨t, hft, ?_⟩
    rw [mem_blk11]
    intro a
    match a with
    | ⟨0, _⟩ => show win0_11.index t (0 : Fin 4) * 1 ≤ (i 0).val ∧ (i 0).val < win0_11.index t (0 : Fin 4) * 1 + 1; omega
    | ⟨1, _⟩ => show win0_11.index t (1 : Fin 4) * 2 ≤ (i 1).val ∧ (i 1).val < win0_11.index t (1 : Fin 4) * 2 + 2; omega
    | ⟨2, _⟩ => show win0_11.index t (2 : Fin 4) * 256 ≤ (i 2).val ∧ (i 2).val < win0_11.index t (2 : Fin 4) * 256 + 256; omega
    | ⟨3, _⟩ => show win0_11.index t (3 : Fin 4) * 384 ≤ (i 3).val ∧ (i 3).val < win0_11.index t (3 : Fin 4) * 384 + 384; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 6 := (i 0).isLt; have h1 : (i 1).val < 8 := (i 1).isLt; have h2 : (i 2).val < 256 := (i 2).isLt; have h3 : (i 3).val < 384 := (i 3).isLt; omega))

/-! ## Output window 12 -/

/-- The block of the array that holds index `i`, numbered in the order the points write the blocks back (one per point),
    `i`'s place in it, and the point that writes it back. -/
abbrev run12Of (i : S6x8x192x384.Idx) : ℕ := 4 * ((i 0).val / 1 - 0) + 1 * ((i 1).val / 2 - 0) + 1 * ((i 2).val / 192 - 0) + 1 * ((i 3).val / 384 - 0)
set_option backward.proofsInPublic true in
abbrev loc12Of (i : S6x8x192x384.Idx) : S1x2x192x384.Idx := fun a => match a with
  | ⟨0, _⟩ => ⟨(i 0).val % 1, Nat.mod_lt _ (by decide)⟩
  | ⟨1, _⟩ => ⟨(i 1).val % 2, Nat.mod_lt _ (by decide)⟩
  | ⟨2, _⟩ => ⟨(i 2).val % 192, Nat.mod_lt _ (by decide)⟩
  | ⟨3, _⟩ => ⟨(i 3).val % 384, Nat.mod_lt _ (by decide)⟩
abbrev pt12Of (i : S6x8x192x384.Idx) : ℕ := run12Of i

/-- WHAT THE ARRAY ENDS HOLDING at index `i` inside the box the flushing blocks fill: output 12's component of the carried
    state's fold at the point that writes `i`'s block back, at `i`'s place in the block. `G12` states the array's contents
    only inside the box. -/
def G12 (c : Dev nD) : Buf (Elt F) ((c : Thread nD τ).loc main_v3_2) := fun i =>
  if h : pt12Of i < cfg0.N then
    (Pipeline.accAt (fun n h => stAt0 m c n h junk0) (stAt0 m c) 0 (pt12Of i) (by omega)).2.2.1 (loc12Of i)
  else V m c (Pipeline.arrRef spec0 12) i

/-- The printed index map, decided over the grid: output window 12's block indices stay in the box, and the block number
    read off them is the point's (`t`). -/
theorem idx_facts12 : ∀ t : Fin cfg0.N, 0 ≤ win0_12.index t (0 : Fin 4) ∧ win0_12.index t (0 : Fin 4) ≤ 5
    ∧ 0 ≤ win0_12.index t (1 : Fin 4) ∧ win0_12.index t (1 : Fin 4) ≤ 3
    ∧ 0 ≤ win0_12.index t (2 : Fin 4) ∧ win0_12.index t (2 : Fin 4) ≤ 0
    ∧ 0 ≤ win0_12.index t (3 : Fin 4) ∧ win0_12.index t (3 : Fin 4) ≤ 0
    ∧ 4 * (win0_12.index t (0 : Fin 4) - 0) + 1 * (win0_12.index t (1 : Fin 4) - 0) + 1 * (win0_12.index t (2 : Fin 4) - 0) + 1 * (win0_12.index t (3 : Fin 4) - 0) = t.val :=
  (by decide +kernel : ∀ t : Fin grid0.N, _)

/-- Every block of the box is SOME flushing point's: `onto12Pt`, the point that writes back the block at place `q` of the box. -/
abbrev onto12Pt (q0 : Fin 6) (q1 : Fin 4) (q2 : Fin 1) (q3 : Fin 1) : Fin grid0.N :=
  ⟨4 * q0.val + 1 * q1.val + 1 * q2.val + 1 * q3.val, lt_of_lt_of_eq (by omega) N_0.symm⟩
theorem idx_onto12 : ∀ (q0 : Fin 6) (q1 : Fin 4) (q2 : Fin 1) (q3 : Fin 1), ∃ t : Fin cfg0.N, (cfg0.win 12).flush t = true ∧ win0_12.index t = ![q0.val + 0, q1.val + 0, q2.val + 0, q3.val + 0] :=
  fun q0 q1 q2 q3 => ⟨onto12Pt q0 q1 q2 q3, (by decide +kernel : ∀ (q0 : Fin 6) (q1 : Fin 4) (q2 : Fin 1) (q3 : Fin 1), win0_12.flush (onto12Pt q0 q1 q2 q3) = true ∧ win0_12.index (onto12Pt q0 q1 q2 q3) = ![q0.val + 0, q1.val + 0, q2.val + 0, q3.val + 0]) q0 q1 q2 q3⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  obtain ⟨e0, e1, e2, e3, e4⟩ := idx_facts12 t
  funext y
  have hy0 : (y 0).val < 1 := (y 0).isLt
  have hy1 : (y 1).val < 2 := (y 1).isLt
  have hy2 : (y 2).val < 192 := (y 2).isLt
  have hy3 : (y 3).val < 384 := (y 3).isLt
  have hb0 : (((cfg0.win 12).blk t).view.emb y 0).val = win0_12.index t (0 : Fin 4) * 1 + 1 * (y 0).val := rfl
  have hb1 : (((cfg0.win 12).blk t).view.emb y 1).val = win0_12.index t (1 : Fin 4) * 2 + 1 * (y 1).val := rfl
  have hb2 : (((cfg0.win 12).blk t).view.emb y 2).val = win0_12.index t (2 : Fin 4) * 192 + 1 * (y 2).val := rfl
  have hb3 : (((cfg0.win 12).blk t).view.emb y 3).val = win0_12.index t (3 : Fin 4) * 384 + 1 * (y 3).val := rfl
  have hr : run12Of (((cfg0.win 12).blk t).view.emb y) = t.val := by
    show 4 * ((((cfg0.win 12).blk t).view.emb y 0).val / 1 - 0) + 1 * ((((cfg0.win 12).blk t).view.emb y 1).val / 2 - 0) + 1 * ((((cfg0.win 12).blk t).view.emb y 2).val / 192 - 0) + 1 * ((((cfg0.win 12).blk t).view.emb y 3).val / 384 - 0) = _
    rw [hb0, hb1, hb2, hb3]
    rw [show (win0_12.index t (0 : Fin 4) * 1 + 1 * (y 0).val) / 1 = win0_12.index t (0 : Fin 4) from by omega]; rw [show (win0_12.index t (1 : Fin 4) * 2 + 1 * (y 1).val) / 2 = win0_12.index t (1 : Fin 4) from by omega]; rw [show (win0_12.index t (2 : Fin 4) * 192 + 1 * (y 2).val) / 192 = win0_12.index t (2 : Fin 4) from by omega]; rw [show (win0_12.index t (3 : Fin 4) * 384 + 1 * (y 3).val) / 384 = win0_12.index t (3 : Fin 4) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 1 = (y 0).val; rw [hb0]; omega
    | ⟨1, _⟩ => show (((cfg0.win 12).blk t).view.emb y 1).val % 2 = (y 1).val; rw [hb1]; omega
    | ⟨2, _⟩ => show (((cfg0.win 12).blk t).view.emb y 2).val % 192 = (y 2).val; rw [hb2]; omega
    | ⟨3, _⟩ => show (((cfg0.win 12).blk t).view.emb y 3).val % 384 = (y 3).val; rw [hb3]; omega
  have hp : pt12Of (((cfg0.win 12).blk t).view.emb y) = t.val := by
    exact hr
  show (Pipeline.accAt (fun n h => stAt0 m c n h junk0) (stAt0 m c) 0 t.val _).2.2.1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S6x8x192x384.Idx) :
    i ∈ ((cfg0.win 12).blk t).view.set ↔ ∀ a : Fin 4, win0_12.index t a * S1x2x192x384.size a ≤ (i a).val ∧ (i a).val < win0_12.index t a * S1x2x192x384.size a + S1x2x192x384.size a := by
  show i ∈ ((View.whole main_v3_2).slice (win0_12.rect t)).set ↔ _
  rw [View.set_slice_whole, Rect.mem_set_unit]
  exact Iff.rfl

/-- THE COVERED INDICES: in some flushing point's block iff inside the box those blocks fill. -/
theorem covered_iff12 (i : S6x8x192x384.Idx) :
    (∃ t : Fin cfg0.N, (cfg0.win 12).flush t = true ∧ i ∈ ((cfg0.win 12).blk t).view.set) ↔ 0 ≤ (i 0).val ∧ (i 0).val < 6 ∧ 0 ≤ (i 1).val ∧ (i 1).val < 8 ∧ 0 ≤ (i 2).val ∧ (i 2).val < 192 ∧ 0 ≤ (i 3).val ∧ (i 3).val < 384 := by
  constructor
  · rintro ⟨t, -, hi⟩
    rw [mem_blk12] at hi
    have b0 : win0_12.index t (0 : Fin 4) * 1 ≤ (i 0).val ∧ (i 0).val < win0_12.index t (0 : Fin 4) * 1 + 1 := hi 0
    have b1 : win0_12.index t (1 : Fin 4) * 2 ≤ (i 1).val ∧ (i 1).val < win0_12.index t (1 : Fin 4) * 2 + 2 := hi 1
    have b2 : win0_12.index t (2 : Fin 4) * 192 ≤ (i 2).val ∧ (i 2).val < win0_12.index t (2 : Fin 4) * 192 + 192 := hi 2
    have b3 : win0_12.index t (3 : Fin 4) * 384 ≤ (i 3).val ∧ (i 3).val < win0_12.index t (3 : Fin 4) * 384 + 384 := hi 3
    obtain ⟨e0, e1, e2, e3, e4⟩ := idx_facts12 t
    omega
  · intro h
    have hi0 : (i 0).val < 6 := (i 0).isLt
    have hi1 : (i 1).val < 8 := (i 1).isLt
    have hi2 : (i 2).val < 192 := (i 2).isLt
    have hi3 : (i 3).val < 384 := (i 3).isLt
    obtain ⟨t, hft, ht⟩ := idx_onto12 ⟨(i 0).val / 1 - 0, by omega⟩ ⟨(i 1).val / 2 - 0, by omega⟩ ⟨(i 2).val / 192 - 0, by omega⟩ ⟨(i 3).val / 384 - 0, by omega⟩
    have q0 : win0_12.index t (0 : Fin 4) = (i 0).val / 1 - 0 + 0 := congrFun ht 0
    have q1 : win0_12.index t (1 : Fin 4) = (i 1).val / 2 - 0 + 0 := congrFun ht 1
    have q2 : win0_12.index t (2 : Fin 4) = (i 2).val / 192 - 0 + 0 := congrFun ht 2
    have q3 : win0_12.index t (3 : Fin 4) = (i 3).val / 384 - 0 + 0 := congrFun ht 3
    refine ⟨t, hft, ?_⟩
    rw [mem_blk12]
    intro a
    match a with
    | ⟨0, _⟩ => show win0_12.index t (0 : Fin 4) * 1 ≤ (i 0).val ∧ (i 0).val < win0_12.index t (0 : Fin 4) * 1 + 1; omega
    | ⟨1, _⟩ => show win0_12.index t (1 : Fin 4) * 2 ≤ (i 1).val ∧ (i 1).val < win0_12.index t (1 : Fin 4) * 2 + 2; omega
    | ⟨2, _⟩ => show win0_12.index t (2 : Fin 4) * 192 ≤ (i 2).val ∧ (i 2).val < win0_12.index t (2 : Fin 4) * 192 + 192; omega
    | ⟨3, _⟩ => show win0_12.index t (3 : Fin 4) * 384 ≤ (i 3).val ∧ (i 3).val < win0_12.index t (3 : Fin 4) * 384 + 384; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 6 := (i 0).isLt; have h1 : (i 1).val < 8 := (i 1).isLt; have h2 : (i 2).val < 192 := (i 2).isLt; have h3 : (i 3).val < 384 := (i 3).isLt; omega))

/-! ## The run, read -/

end Cert.KernelIdeal.Value

end
-- ==== Proof.KGates.lean ====
/- The gate rows the kernel prepares at its first point, over the reals: what each stored row holds at a head and a position. -/
module

public import proofs.«01_k».proof.Proof.Gen.KernelIdeal.Skeleton
public import proofs.«01_k».proof.Proof.CMath
public import Idealize.ShloMosaic.Lib.Pointwise
import Idealize.ShloMosaic.Lib.WordCmp

@[expose] public section

set_option maxRecDepth 16384

noncomputable section

namespace Cert.ML

open Idealize.ShloMosaic Cert.KernelIdeal Cert.KernelIdeal.Gen

/-- The floor division of a position by 64, as the word arithmetic spells it, is the position's chunk. -/
theorem chunk_word (s : Fin 256) :
    Scalar.select (IntOp.andi (IntOp.cmpi CmpIPredicate.ne
          (IntOp.subi (BitVec.setWidth 32 (IntOp.cmpi CmpIPredicate.sgt (BitVec.ofNat 32 ↑s) 0#32))
            (BitVec.setWidth 32 (IntOp.cmpi CmpIPredicate.slt (BitVec.ofNat 32 ↑s) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑s) 64#32) 0#32))
      (IntOp.subi (IntOp.divsi ArithUnit.vector (BitVec.ofNat 32 ↑s) 64#32) 1#32)
      (IntOp.divsi ArithUnit.vector (BitVec.ofNat 32 ↑s) 64#32) = BitVec.ofNat 32 (chunk s).val := by
  revert s; decide +kernel

/-- The chunk number of a position, as the kernel computes it. -/
theorem pay8_at (hd : Fin 48) (s : Fin 256) : k0_pay8 (ix2 hd s) = BitVec.ofNat 32 (chunk s).val := by
  pointwise [k0_pay8]; exact chunk_word s

/-- The ladder that spreads four values over the chunks picks the chunk's value. -/
theorem ladder {α : Type} (p0 p1 p2 p3 : α) (c : Fin 4) :
    Scalar.select (IntOp.cmpi CmpIPredicate.eq (BitVec.ofNat 32 c.val) 3#32) p3
      (Scalar.select (IntOp.cmpi CmpIPredicate.eq (BitVec.ofNat 32 c.val) 2#32) p2
        (Scalar.select (IntOp.cmpi CmpIPredicate.eq (BitVec.ofNat 32 c.val) 1#32) p1 p0)) = ![p0, p1, p2, p3] c := by
  fin_cases c <;> rfl

/-- The bit of the running sum's mask: the same chunk, and not later. -/
theorem mask_word (x s : Fin 256) :
    IntOp.andi (IntOp.cmpi CmpIPredicate.eq (BitVec.ofNat 32 (chunk x).val) (BitVec.ofNat 32 (chunk s).val))
      (IntOp.cmpi CmpIPredicate.sle (BitVec.ofNat 32 x.val) (BitVec.ofNat 32 s.val))
      = BitVec.ofBool (decide (chunk x = chunk s ∧ x ≤ s)) := by
  have h1 : IntOp.cmpi CmpIPredicate.eq (BitVec.ofNat 32 (chunk x).val) (BitVec.ofNat 32 (chunk s).val)
      = BitVec.ofBool (decide (chunk x = chunk s)) := by
    generalize chunk x = a; generalize chunk s = b; revert a b; decide
  have h2 : IntOp.cmpi CmpIPredicate.sle (BitVec.ofNat 32 x.val) (BitVec.ofNat 32 s.val) = BitVec.ofBool (decide (x ≤ s)) := by
    rw [WordCmp.cmpi_sle_ofNat (by omega) (by omega)]; rfl
  rw [h1, h2]
  by_cases a : chunk x = chunk s <;> by_cases b : x ≤ s <;> simp [a, b, IntOp.andi]

/-- A choice by a decided bit. -/
theorem select_dec {α : Type} (p : Prop) [Decidable p] (a b : α) : Scalar.select (BitVec.ofBool (decide p)) a b = if p then a else b := by
  by_cases h : p
  · rw [decide_eq_true h, if_pos h]; rfl
  · rw [decide_eq_false h, if_neg h]; rfl

/-- The pattern of minus infinity is the bottom. -/
theorem neg_inf : Ideal.ofBits FTy.f32 0xFF800000#32 = (⊥ : EReal) := by
  simp [Ideal.ofBits, Ideal.ieee]

variable {hd : Fin 48} {f g ig : Fin 256 → ℝ}

/-- The log-logistic of the forget gate. -/
theorem pay10_at {a : FVec Ideal S48x256 .f32} (h : ∀ s, a (ix2 hd s) = ((f s : ℝ) : EReal)) (s : Fin 256) :
    k0_pay10 a (ix2 hd s) = ((lsig (f s) : ℝ) : EReal) := by
  pointwise [k0_pay10]; rw [h]; exact lsig_coe (f s)

/-- The running sums within the chunks: the three products with the triangle add up to the first, the splits' remainders being zero. -/
theorem pay14_at {a : FVec Ideal S48x256 .f32} (h : ∀ s, a (ix2 hd s) = ((g s : ℝ) : EReal)) (s : Fin 256) :
    k0_pay14 a (iota .tc S256x256 32 [0] iota_S256x256_d0_w32) (iota .tc S256x256 32 [1] iota_S256x256_d1_w32) k0_pay11 k0_pay12 k0_pay13
      (ix2 hd s) = ((cum g s : ℝ) : EReal) := by
  pointwise [k0_pay14, k0_pay11, k0_pay12, k0_pay13]
  have hz : ∀ x : ℝ, (x : EReal) - (x : EReal) = 0 := fun x => by rw [← EReal.coe_sub, sub_self, EReal.coe_zero]
  simp only [chunk_word, mask_word, select_dec, h, hz, sub_zero, ite_self, Finset.sum_const_zero, add_zero]
  rw [cum, coe_sum]
  refine Finset.sum_congr rfl fun x _ => ?_
  split_ifs <;> rfl

/-- The exponents with which the keys enter their chunks. -/
theorem pay20_at {a b : FVec Ideal S48x256 .f32} {c d e : FVec Ideal S48x1 .f32} (ha : ∀ s, a (ix2 hd s) = ((ig s : ℝ) : EReal))
    (hb : ∀ s, b (ix2 hd s) = ((cum g s : ℝ) : EReal)) (hc : c (ix2 hd 0) = ((bl g 0 : ℝ) : EReal))
    (hd' : d (ix2 hd 0) = ((bl g 1 : ℝ) : EReal)) (he : e (ix2 hd 0) = ((bl g 2 : ℝ) : EReal)) (s : Fin 256) :
    k0_pay20 a k0_pay8 b c d e (ix2 hd s) = ((kl g ig s : ℝ) : EReal) := by
  pointwise [k0_pay20, k0_pay18]
  have h3 : b (ix2 hd 255) = ((bl g 3 : ℝ) : EReal) := hb _
  have hl : (![((bl g 0 : ℝ) : EReal), ((bl g 1 : ℝ) : EReal), ((bl g 2 : ℝ) : EReal), ((bl g 3 : ℝ) : EReal)] (chunk s)) = ((bl g (chunk s) : ℝ) : EReal) := by
    generalize chunk s = q; fin_cases q <;> rfl
  rw [pay8_at, ladder, h3, hc, hd', he, hl, hb, ha, ← EReal.coe_sub, ← EReal.coe_add]; rfl

/-- The largest exponent of a chunk. -/
theorem pay21_at {a b : FVec Ideal S48x256 .f32} {c d e : FVec Ideal S48x1 .f32}
    (h : ∀ s, k0_pay20 a k0_pay8 b c d e (ix2 hd s) = ((kl g ig s : ℝ) : EReal)) :
    k0_pay21 a k0_pay8 b c d e (ix2 hd 0) = ((amax g ig 0 : ℝ) : EReal) := by
  pointwise [k0_pay21]; rw [neg_inf]; exact (Finset.fold_congr fun l _ => h _).trans ((congrArg _ (funext fun l => rfl)).trans (fold_max fun l => kl g ig (pos 0 l)))
@[inherit_doc pay21_at] theorem pay22_at {a b : FVec Ideal S48x256 .f32} {c d e : FVec Ideal S48x1 .f32}
    (h : ∀ s, k0_pay20 a k0_pay8 b c d e (ix2 hd s) = ((kl g ig s : ℝ) : EReal)) :
    k0_pay22 a k0_pay8 b c d e (ix2 hd 0) = ((amax g ig 1 : ℝ) : EReal) := by
  pointwise [k0_pay22]; rw [neg_inf]; exact (Finset.fold_congr fun l _ => h (pos 1 l)).trans (fold_max fun l => kl g ig (pos 1 l))
@[inherit_doc pay21_at] theorem pay23_at {a b : FVec Ideal S48x256 .f32} {c d e : FVec Ideal S48x1 .f32}
    (h : ∀ s, k0_pay20 a k0_pay8 b c d e (ix2 hd s) = ((kl g ig s : ℝ) : EReal)) :
    k0_pay23 a k0_pay8 b c d e (ix2 hd 0) = ((amax g ig 2 : ℝ) : EReal) := by
  pointwise [k0_pay23]; rw [neg_inf]; exact (Finset.fold_congr fun l _ => h (pos 2 l)).trans (fold_max fun l => kl g ig (pos 2 l))
@[inherit_doc pay21_at] theorem pay24_at {a b : FVec Ideal S48x256 .f32} {c d e : FVec Ideal S48x1 .f32}
    (h : ∀ s, k0_pay20 a k0_pay8 b c d e (ix2 hd s) = ((kl g ig s : ℝ) : EReal)) :
    k0_pay24 a k0_pay8 b c d e (ix2 hd 0) = ((amax g ig 3 : ℝ) : EReal) := by
  pointwise [k0_pay24]; rw [neg_inf]; exact (Finset.fold_congr fun l _ => h (pos 3 l)).trans (fold_max fun l => kl g ig (pos 3 l))

/-- A ladder of reals picked by chunk. -/
theorem ladder_coe (p : Fin 4 → ℝ) (c : Fin 4) :
    (![((p 0 : ℝ) : EReal), ((p 1 : ℝ) : EReal), ((p 2 : ℝ) : EReal), ((p 3 : ℝ) : EReal)] c) = ((p c : ℝ) : EReal) := by
  fin_cases c <;> rfl

/-- The largest exponents, spread over their chunks. -/
theorem pay25_at {a b : FVec Ideal S48x256 .f32} {c d e : FVec Ideal S48x1 .f32}
    (h : ∀ s, k0_pay20 a k0_pay8 b c d e (ix2 hd s) = ((kl g ig s : ℝ) : EReal)) (s : Fin 256) :
    k0_pay25 a k0_pay8 b c d e (ix2 hd s) = ((amax g ig (chunk s) : ℝ) : EReal) := by
  pointwise [k0_pay25]
  rw [pay8_at, ladder, pay21_at h, pay22_at h, pay23_at h, pay24_at h]
  exact ladder_coe (amax g ig) (chunk s)

/-- The keys' weights. -/
theorem pay26_at {a b : FVec Ideal S48x256 .f32} (ha : ∀ s, a (ix2 hd s) = ((kl g ig s : ℝ) : EReal))
    (hb : ∀ s, b (ix2 hd s) = ((amax g ig (chunk s) : ℝ) : EReal)) (s : Fin 256) :
    k0_pay26 a b (ix2 hd s) = ((wt g ig s : ℝ) : EReal) := by
  pointwise [k0_pay26]; rw [ha, hb, ← EReal.coe_sub, Ideal.exp_coe]; rfl

/-- The running maximum after the first chunk. -/
theorem pay29_at {a b : FVec Ideal S48x1 .f32} (ha : a (ix2 hd 0) = ((bl g 0 : ℝ) : EReal)) (hb : b (ix2 hd 0) = ((amax g ig 0 : ℝ) : EReal)) :
    k0_pay29 a b (ix2 hd 0) = ((m1 g ig : ℝ) : EReal) := by
  pointwise [k0_pay29, k0_pay28]; rw [ha, hb, coe_max]; rfl

/-- The running maximum after the last chunk. -/
theorem pay32_at {b1 b2 b3 a1 a2 a3 m : FVec Ideal S48x1 .f32} (hb1 : b1 (ix2 hd 0) = ((bl g 1 : ℝ) : EReal)) (hb2 : b2 (ix2 hd 0) = ((bl g 2 : ℝ) : EReal))
    (hb3 : b3 (ix2 hd 0) = ((bl g 3 : ℝ) : EReal)) (ha1 : a1 (ix2 hd 0) = ((amax g ig 1 : ℝ) : EReal)) (ha2 : a2 (ix2 hd 0) = ((amax g ig 2 : ℝ) : EReal))
    (ha3 : a3 (ix2 hd 0) = ((amax g ig 3 : ℝ) : EReal)) (hm : m (ix2 hd 0) = ((m1 g ig : ℝ) : EReal)) :
    k0_pay32 b1 b2 b3 a1 a2 a3 m (ix2 hd 0) = ((m4 g ig : ℝ) : EReal) := by
  pointwise [k0_pay32, k0_pay31, k0_pay30]
  rw [hb1, hb2, hb3, ha1, ha2, ha3, hm]
  simp only [← EReal.coe_add, coe_max]; rfl

/-- The factors with which the chunks enter the final state, spread over their chunks. -/
theorem pay95_at {b1 b2 b3 a0 a1 a2 a3 m : FVec Ideal S48x1 .f32} {ks vs : Fin 4 → ℝ} {x y : FVec Ideal S48x4 .f32}
    (hb1 : b1 (ix2 hd 0) = ((bl g 1 : ℝ) : EReal)) (hb2 : b2 (ix2 hd 0) = ((bl g 2 : ℝ) : EReal))
    (hb3 : b3 (ix2 hd 0) = ((bl g 3 : ℝ) : EReal)) (ha0 : a0 (ix2 hd 0) = ((amax g ig 0 : ℝ) : EReal))
    (ha1 : a1 (ix2 hd 0) = ((amax g ig 1 : ℝ) : EReal)) (ha2 : a2 (ix2 hd 0) = ((amax g ig 2 : ℝ) : EReal))
    (ha3 : a3 (ix2 hd 0) = ((amax g ig 3 : ℝ) : EReal)) (hm : m (ix2 hd 0) = ((m4 g ig : ℝ) : EReal))
    (hx : ∀ c, x (ix2 hd c) = ((ks c : ℝ) : EReal)) (hy : ∀ c, y (ix2 hd c) = ((vs c : ℝ) : EReal)) (s : Fin 256) :
    k0_pay95 k0_pay8 (k0_pay89 x a3 m) (k0_pay91 x y m (k0_pay42 b1 b2 b3 a0)) (k0_pay92 x y m (k0_pay44 b2 b3 a1))
      (k0_pay93 x y m (k0_pay45 b3 a2)) (k0_pay94 y) (ix3 0 hd s) = ((cf g ig ks vs (chunk s) : ℝ) : EReal) := by
  pointwise [k0_pay95, k0_pay89, k0_pay91, k0_pay92, k0_pay93, k0_pay94, k0_pay86, k0_pay87, k0_pay88, k0_pay42, k0_pay41, k0_pay40,
    k0_pay44, k0_pay43, k0_pay45]
  rw [pay8_at, ladder, hb1, hb2, hb3, ha0, ha1, ha2, ha3, hm]
  simp only [hx, hy, ← EReal.coe_add, ← EReal.coe_sub, Ideal.exp_coe, ← EReal.coe_mul]
  exact ladder_coe (cf g ig ks vs) (chunk s)

/-- One entry of a head's final state: the three products of the split weighted keys with the values add up to one sum. -/
theorem pay118_at {kb : Vec Ideal S1x1x256x192 .fp8e4m3} {vb : Vec Ideal S1x1x256x384 .fp8e4m3} {w c : Vec Ideal S1x1x256 .f32}
    {ks vs : Fin 4 → ℝ} {k v : Fin 256 → ℝ} {d : Fin 192} {e : Fin 384} (hk : ∀ s, kb (ix4 0 0 s d) = ((k s : ℝ) : EReal))
    (hv : ∀ s, vb (ix4 0 0 s e) = ((v s : ℝ) : EReal)) (hw : ∀ s, w (ix3 0 0 s) = ((wt g ig s : ℝ) : EReal))
    (hc : ∀ s, c (ix3 0 0 s) = ((cf g ig ks vs (chunk s) : ℝ) : EReal)) :
    k0_pay118 (k0_pay104 vb) (k0_pay115 (k0_pay106 kb w) c) (k0_pay116 (k0_pay106 kb w) c) (k0_pay117 (k0_pay104 vb) (k0_pay106 kb w) c)
      (constant S192x384 .f32 0x00000000#32) (ix4 0 0 d e) = ((cfin g ig ks vs k v : ℝ) : EReal) := by
  pointwise [k0_pay118, k0_pay117, k0_pay116, k0_pay115, k0_pay114, k0_pay113, k0_pay112, k0_pay106, k0_pay104, k0_pay103]
  have hz : ∀ x : ℝ, (x : EReal) - (x : EReal) = 0 := fun x => by rw [← EReal.coe_sub, sub_self, EReal.coe_zero]
  simp only [hk, hv, hw, hc, ← EReal.coe_mul, hz, sub_zero, EReal.coe_zero, zero_mul, Finset.sum_const_zero, add_zero, ← coe_sum]
  rfl

end Cert.ML
-- ==== Proof.KOut.lean ====
/- What one grid point leaves in the block of final states, over the reals. -/
module

public import proofs.«01_k».proof.Proof.KI.Frame
public import proofs.«01_k».proof.Proof.KGates
public import Idealize.ShloMosaic.Lib.Pipeline.FrameBody
public import Idealize.ShloMosaic.Lib.VecWindow

@[expose] public section

set_option maxRecDepth 16384

noncomputable section

namespace Cert.ML

open Idealize.ShloMosaic Idealize.ShloMosaic.TcCoe Cert.KernelIdeal Cert.KernelIdeal.Gen

/-- The row of the gate scratch that belongs to head `q` of the pair at grid point `i`. -/
def row (i : grid0.Coords) (q : Fin 2) : Fin 48 := ⟨8 * (i 0).val + 2 * (i 1).val + q.val, by
  have h0 : (i 0).val < 6 := (i 0).isLt
  have h1 : (i 1).val < 4 := (i 1).isLt
  omega⟩

theorem off1_eq : ∀ (i : grid0.Coords) (q : Fin 2), k0_off1 i (BitVec.ofNat 32 q.val) = ![0, (row i q).val, 0] := by decide +kernel
theorem off7_eq : ∀ (i : grid0.Coords) (q : Fin 2), k0_off7 i (BitVec.ofNat 32 q.val) = ![1, (row i q).val, 0] := by decide +kernel

/-- A load of one row of the gate scratch reads that row. -/
theorem row_idx {off : Fin 3 → ℕ} (inb : ∀ a, off a + S1x1x256.size a ≤ S21x48x256.size a) (r : Fin 21) (hd : Fin 48)
    (h : off = ![r.val, hd.val, 0]) (s : Fin 256) : (Rect.unit (s := S21x48x256) off S1x1x256.size inb).toLoadRect.idx (ix3 0 0 s) = ix3 r hd s := by
  subst h
  funext a; apply Fin.ext
  match a with
  | ⟨0, _⟩ => show r.val + 1 * 0 = r.val; omega
  | ⟨1, _⟩ => show hd.val + 1 * 0 = hd.val; omega
  | ⟨2, _⟩ => show 0 + 1 * s.val = s.val; omega

/-- A load of one head's key block of the pair reads that head. -/
theorem key_idx {q : Fin 2} {off : Fin 4 → ℕ} (inb : ∀ a, off a + S1x1x256x192.size a ≤ S1x2x256x192.size a) (h : off = ![0, q.val, 0, 0]) (s : Fin 256) (d : Fin 192) :
    (Rect.unit (s := S1x2x256x192) off S1x1x256x192.size inb).toLoadRect.idx (ix4 0 0 s d) = ix4 0 q s d := by
  subst h
  funext a; apply Fin.ext
  match a with
  | ⟨0, _⟩ => rfl
  | ⟨1, _⟩ => show q.val + 1 * 0 = q.val; omega
  | ⟨2, _⟩ => show 0 + 1 * s.val = s.val; omega
  | ⟨3, _⟩ => show 0 + 1 * d.val = d.val; omega

/-- A load of one head's value block of the pair reads that head. -/
theorem val_idx {q : Fin 2} {off : Fin 4 → ℕ} (inb : ∀ a, off a + S1x1x256x384.size a ≤ S1x2x256x384.size a) (h : off = ![0, q.val, 0, 0]) (s : Fin 256) (d : Fin 384) :
    (Rect.unit (s := S1x2x256x384) off S1x1x256x384.size inb).toLoadRect.idx (ix4 0 0 s d) = ix4 0 q s d := by
  subst h
  funext a; apply Fin.ext
  match a with
  | ⟨0, _⟩ => rfl
  | ⟨1, _⟩ => show q.val + 1 * 0 = q.val; omega
  | ⟨2, _⟩ => show 0 + 1 * s.val = s.val; omega
  | ⟨3, _⟩ => show 0 + 1 * d.val = d.val; omega

/-- One head's final state as the body computes it from what it loads. -/
def headC (kb : Vec Ideal S1x1x256x192 .fp8e4m3) (vb : Vec Ideal S1x1x256x384 .fp8e4m3) (w c : Vec Ideal S1x1x256 .f32) : Vec Ideal S1x1x192x384 .f32 :=
  k0_pay118 (k0_pay104 vb) (k0_pay115 (k0_pay106 kb w) c) (k0_pay116 (k0_pay106 kb w) c) (k0_pay117 (k0_pay104 vb) (k0_pay106 kb w) c)
    (constant S192x384 .f32 0x00000000#32)

/-- Two stores of one head each, read at a head. -/
theorem canon_two (A B : S1x1x192x384.Idx → Elt Ideal .f32) (q : Fin 2) (d : Fin 192) (e : Fin 384)
    (i1 : ∀ a, (![0, 1, 0, 0] : Fin 4 → ℕ) a + S1x1x192x384.size a ≤ S1x2x192x384.size a) (i0 : ∀ a, (![0, 0, 0, 0] : Fin 4 → ℕ) a + S1x1x192x384.size a ≤ S1x2x192x384.size a) :
    View.canon (Val := Elt Ideal) (e := .f32) [⟨Rect.unit (s := S1x2x192x384) ![0, 1, 0, 0] S1x1x192x384.size i1, B⟩, ⟨Rect.unit (s := S1x2x192x384) ![0, 0, 0, 0] S1x1x192x384.size i0, A⟩] (ix4 0 q d e)
      = (![A, B] q) (ix4 0 0 d e) := by
  fin_cases q
  · rw [View.canon_cons_of_not_mem]
    · have h := View.canon_cons_emb (Val := Elt Ideal) (e := .f32) (Rect.unit (s := S1x2x192x384) ![0, 0, 0, 0] S1x1x192x384.size i0) A [] (ix4 0 0 d e)
      refine Eq.trans (congrArg _ ?_) h
      funext a; apply Fin.ext
      match a with
      | ⟨0, _⟩ => rfl
      | ⟨1, _⟩ => rfl
      | ⟨2, _⟩ => show d.val = 0 + 1 * d.val; omega
      | ⟨3, _⟩ => show e.val = 0 + 1 * e.val; omega
    · intro hm
      obtain ⟨x, hx⟩ := (Rect.unit (s := S1x2x192x384) ![0, 1, 0, 0] S1x1x192x384.size i1).exists_idx_of_mem hm
      have := congrArg Fin.val (congrFun hx 1)
      exact absurd (show 1 + 1 * (x 1).val = 0 from this) (by omega)
  · have h := View.canon_cons_emb (Val := Elt Ideal) (e := .f32) (Rect.unit (s := S1x2x192x384) ![0, 1, 0, 0] S1x1x192x384.size i1) B [⟨Rect.unit (s := S1x2x192x384) ![0, 0, 0, 0] S1x1x192x384.size i0, A⟩] (ix4 0 0 d e)
    refine Eq.trans (congrArg _ ?_) h
    funext a; apply Fin.ext
    match a with
    | ⟨0, _⟩ => rfl
    | ⟨1, _⟩ => rfl
    | ⟨2, _⟩ => show d.val = 0 + 1 * d.val; omega
    | ⟨3, _⟩ => show e.val = 0 + 1 * e.val; omega

section
variable (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole)
  (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole)
  (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole)
  (x0 x1 : Vec Ideal S6x8x256 .f32) (x2 x3 x4 : Vec Ideal S6x8x4 .f32) (x5 x6 : Vec Ideal S1x2x256x192 .fp8e4m3) (x7 : Vec Ideal S1x2x256x384 .fp8e4m3) (x8 : Vec Ideal S1x2x256x384 .bf16) (x9 : Vec Ideal S8x384 .f32)

variable {g ig : Fin 256 → ℝ} {ks vs : Fin 4 → ℝ} {k v : Fin 256 → ℝ} {q : Fin 2} {d : Fin 192} {e : Fin 384}

/-- A later point's block of final states: each head's state, from the scratch rows that the first point left. -/
theorem outB (hc0 : ¬ cond0_0 i) (xs0 : Vec Ideal S21x48x256 .f32)
    (hk : ∀ s, x6 (ix4 0 q s d) = ((k s : ℝ) : EReal)) (hv : ∀ s, x7 (ix4 0 q s e) = ((v s : ℝ) : EReal))
    (hw : ∀ s, xs0 (ix3 0 (row i q) s) = ((wt g ig s : ℝ) : EReal)) (hc : ∀ s, xs0 (ix3 1 (row i q) s) = ((cf g ig ks vs (chunk s) : ℝ) : EReal)) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 (ix4 0 q d e)
      = ((cfin g ig ks vs k v : ℝ) : EReal) := by
  unfold out0_B_12 kernelRun0_B
  rw [View.read_writes_junk_eq_canon]
  refine (canon_two _ _ q d e _ _).trans ?_
  fin_cases q
  · refine (show _ = headC (fun j => View.readAt (Elt Ideal) arg8.view (Rect.unit (s := S1x2x256x192) ![0, 0, 0, 0] S1x1x256x192.size inb_S1x2x256x192_S1x1x256x192_0_0_0_0).toLoadRect (harg8.unread x6) j)
      (fun j => View.readAt (Elt Ideal) arg9.view (Rect.unit (s := S1x2x256x384) ![0, 0, 0, 0] S1x1x256x384.size inb_S1x2x256x384_S1x1x256x384_0_0_0_0).toLoadRect (harg9.unread x7) j)
      (fun j => View.readAt (Elt Ideal) arg17.view (Rect.unit (s := S21x48x256) (k0_off1 i 0#32) S1x1x256.size (k0_off1_inb i 0)).toLoadRect (harg17.unread xs0) j)
      (fun j => View.readAt (Elt Ideal) arg17.view (Rect.unit (s := S21x48x256) (k0_off7 i 0#32) S1x1x256.size (k0_off7_inb i 0)).toLoadRect (harg17.unread xs0) j) (ix4 0 0 d e) from rfl).trans ?_
    refine pay118_at (fun s => ?_) (fun s => ?_) (fun s => ?_) (fun s => ?_)
    · rw [View.readAt_apply, harg8.read_unread]; exact (congrArg x6 (key_idx (q := 0) _ rfl s d)).trans (hk s)
    · rw [View.readAt_apply, harg9.read_unread]; exact (congrArg x7 (val_idx (q := 0) _ rfl s e)).trans (hv s)
    · rw [View.readAt_apply, harg17.read_unread]; exact (congrArg xs0 (row_idx _ 0 (row i 0) (off1_eq i 0) s)).trans (hw s)
    · rw [View.readAt_apply, harg17.read_unread]; exact (congrArg xs0 (row_idx _ 1 (row i 0) (off7_eq i 0) s)).trans (hc s)
  · refine (show _ = headC (fun j => View.readAt (Elt Ideal) arg8.view (Rect.unit (s := S1x2x256x192) ![0, 1, 0, 0] S1x1x256x192.size inb_S1x2x256x192_S1x1x256x192_0_1_0_0).toLoadRect (harg8.unread x6) j)
      (fun j => View.readAt (Elt Ideal) arg9.view (Rect.unit (s := S1x2x256x384) ![0, 1, 0, 0] S1x1x256x384.size inb_S1x2x256x384_S1x1x256x384_0_1_0_0).toLoadRect (harg9.unread x7) j)
      (fun j => View.readAt (Elt Ideal) arg17.view (Rect.unit (s := S21x48x256) (k0_off1 i 1#32) S1x1x256.size (k0_off1_inb i 1)).toLoadRect (harg17.unread xs0) j)
      (fun j => View.readAt (Elt Ideal) arg17.view (Rect.unit (s := S21x48x256) (k0_off7 i 1#32) S1x1x256.size (k0_off7_inb i 1)).toLoadRect (harg17.unread xs0) j) (ix4 0 0 d e) from rfl).trans ?_
    refine pay118_at (fun s => ?_) (fun s => ?_) (fun s => ?_) (fun s => ?_)
    · rw [View.readAt_apply, harg8.read_unread]; exact (congrArg x6 (key_idx (q := 1) _ rfl s d)).trans (hk s)
    · rw [View.readAt_apply, harg9.read_unread]; exact (congrArg x7 (val_idx (q := 1) _ rfl s e)).trans (hv s)
    · rw [View.readAt_apply, harg17.read_unread]; exact (congrArg xs0 (row_idx _ 0 (row i 1) (off1_eq i 1) s)).trans (hw s)
    · rw [View.readAt_apply, harg17.read_unread]; exact (congrArg xs0 (row_idx _ 1 (row i 1) (off7_eq i 1) s)).trans (hc s)

/-- The gate rows from the two loaded gate arrays: the log-logistic and its running sums, -/
def gB (f : Vec Ideal S6x8x256 .f32) : FVec Ideal S48x256 .f32 :=
  k0_pay14 (k0_pay10 (k0_pay4 f)) (iota .tc S256x256 32 [0] iota_S256x256_d0_w32) (iota .tc S256x256 32 [1] iota_S256x256_d1_w32) k0_pay11 k0_pay12 k0_pay13
/-- the decays of the chunks, -/
def gBL0 (f : Vec Ideal S6x8x256 .f32) : FVec Ideal S48x1 .f32 :=
  k0_pay15 (k0_pay10 (k0_pay4 f)) (iota .tc S256x256 32 [0] iota_S256x256_d0_w32) (iota .tc S256x256 32 [1] iota_S256x256_d1_w32) k0_pay11 k0_pay12 k0_pay13
@[inherit_doc gBL0] def gBL1 (f : Vec Ideal S6x8x256 .f32) : FVec Ideal S48x1 .f32 :=
  k0_pay16 (k0_pay10 (k0_pay4 f)) (iota .tc S256x256 32 [0] iota_S256x256_d0_w32) (iota .tc S256x256 32 [1] iota_S256x256_d1_w32) k0_pay11 k0_pay12 k0_pay13
@[inherit_doc gBL0] def gBL2 (f : Vec Ideal S6x8x256 .f32) : FVec Ideal S48x1 .f32 :=
  k0_pay17 (k0_pay10 (k0_pay4 f)) (iota .tc S256x256 32 [0] iota_S256x256_d0_w32) (iota .tc S256x256 32 [1] iota_S256x256_d1_w32) k0_pay11 k0_pay12 k0_pay13
/-- the keys' weights, -/
def gW (i f : Vec Ideal S6x8x256 .f32) : FVec Ideal S48x256 .f32 :=
  k0_pay26 (k0_pay20 (k0_pay3 i) k0_pay8 (gB f) (gBL0 f) (gBL1 f) (gBL2 f)) (k0_pay25 (k0_pay3 i) k0_pay8 (gB f) (gBL0 f) (gBL1 f) (gBL2 f))
/-- the largest exponents, -/
def gA0 (i f : Vec Ideal S6x8x256 .f32) : FVec Ideal S48x1 .f32 := k0_pay21 (k0_pay3 i) k0_pay8 (gB f) (gBL0 f) (gBL1 f) (gBL2 f)
@[inherit_doc gA0] def gA1 (i f : Vec Ideal S6x8x256 .f32) : FVec Ideal S48x1 .f32 := k0_pay22 (k0_pay3 i) k0_pay8 (gB f) (gBL0 f) (gBL1 f) (gBL2 f)
@[inherit_doc gA0] def gA2 (i f : Vec Ideal S6x8x256 .f32) : FVec Ideal S48x1 .f32 := k0_pay23 (k0_pay3 i) k0_pay8 (gB f) (gBL0 f) (gBL1 f) (gBL2 f)
@[inherit_doc gA0] def gA3 (i f : Vec Ideal S6x8x256 .f32) : FVec Ideal S48x1 .f32 := k0_pay24 (k0_pay3 i) k0_pay8 (gB f) (gBL0 f) (gBL1 f) (gBL2 f)
/-- the last running maximum, -/
def gM4 (i f : Vec Ideal S6x8x256 .f32) : FVec Ideal S48x1 .f32 :=
  k0_pay32 (gBL1 f) (gBL2 f) (k0_pay18 (gB f)) (gA1 i f) (gA2 i f) (gA3 i f) (k0_pay29 (gBL0 f) (gA0 i f))
/-- and the factors of the chunks. -/
def gCF (i f : Vec Ideal S6x8x256 .f32) (ks vs : Vec Ideal S6x8x4 .f32) : FVec Ideal S1x48x256 .f32 :=
  k0_pay95 k0_pay8 (k0_pay89 (k0_pay6 ks) (gA3 i f) (gM4 i f)) (k0_pay91 (k0_pay6 ks) (k0_pay7 vs) (gM4 i f) (k0_pay42 (gBL1 f) (gBL2 f) (k0_pay18 (gB f)) (gA0 i f)))
    (k0_pay92 (k0_pay6 ks) (k0_pay7 vs) (gM4 i f) (k0_pay44 (gBL2 f) (k0_pay18 (gB f)) (gA1 i f)))
    (k0_pay93 (k0_pay6 ks) (k0_pay7 vs) (gM4 i f) (k0_pay45 (k0_pay18 (gB f)) (gA2 i f))) (k0_pay94 (k0_pay7 vs))

/-- The head of a row, by its two numbers. -/
def hB (hd : Fin 48) : Fin 6 := ⟨hd.val / 8, by omega⟩
@[inherit_doc hB] def hH (hd : Fin 48) : Fin 8 := ⟨hd.val % 8, by omega⟩

section
variable {xi xf : Vec Ideal S6x8x256 .f32} {xk xv : Vec Ideal S6x8x4 .f32} {hd : Fin 48} {f ig : Fin 256 → ℝ} {ks vs : Fin 4 → ℝ}

theorem gB_at (hf : ∀ s, xf (ix3 (hB hd) (hH hd) s) = ((f s : ℝ) : EReal)) (s : Fin 256) :
    gB xf (ix2 hd s) = ((cum (fun s => lsig (f s)) s : ℝ) : EReal) :=
  pay14_at (fun s => pay10_at (fun s => by pointwise [k0_pay4]; exact hf s) s) s

theorem gBL0_at (hf : ∀ s, xf (ix3 (hB hd) (hH hd) s) = ((f s : ℝ) : EReal)) : gBL0 xf (ix2 hd 0) = ((bl (fun s => lsig (f s)) 0 : ℝ) : EReal) := by
  refine Eq.trans ?_ (gB_at hf (pos 0 63)); pointwise [gBL0, gB, k0_pay15]; rfl
theorem gBL1_at (hf : ∀ s, xf (ix3 (hB hd) (hH hd) s) = ((f s : ℝ) : EReal)) : gBL1 xf (ix2 hd 0) = ((bl (fun s => lsig (f s)) 1 : ℝ) : EReal) := by
  refine Eq.trans ?_ (gB_at hf (pos 1 63)); pointwise [gBL1, gB, k0_pay16]; rfl
theorem gBL2_at (hf : ∀ s, xf (ix3 (hB hd) (hH hd) s) = ((f s : ℝ) : EReal)) : gBL2 xf (ix2 hd 0) = ((bl (fun s => lsig (f s)) 2 : ℝ) : EReal) := by
  refine Eq.trans ?_ (gB_at hf (pos 2 63)); pointwise [gBL2, gB, k0_pay17]; rfl
theorem gBL3_at (hf : ∀ s, xf (ix3 (hB hd) (hH hd) s) = ((f s : ℝ) : EReal)) : k0_pay18 (gB xf) (ix2 hd 0) = ((bl (fun s => lsig (f s)) 3 : ℝ) : EReal) := by
  refine Eq.trans ?_ (gB_at hf (pos 3 63)); pointwise [k0_pay18]; rfl

theorem gKL_at (hi : ∀ s, xi (ix3 (hB hd) (hH hd) s) = ((ig s : ℝ) : EReal)) (hf : ∀ s, xf (ix3 (hB hd) (hH hd) s) = ((f s : ℝ) : EReal)) (s : Fin 256) :
    k0_pay20 (k0_pay3 xi) k0_pay8 (gB xf) (gBL0 xf) (gBL1 xf) (gBL2 xf) (ix2 hd s) = ((kl (fun s => lsig (f s)) ig s : ℝ) : EReal) :=
  pay20_at (fun s => by pointwise [k0_pay3]; exact hi s) (gB_at hf) (gBL0_at hf) (gBL1_at hf) (gBL2_at hf) s

/-- The weights' row holds the weights. -/
theorem gW_at (hi : ∀ s, xi (ix3 (hB hd) (hH hd) s) = ((ig s : ℝ) : EReal)) (hf : ∀ s, xf (ix3 (hB hd) (hH hd) s) = ((f s : ℝ) : EReal)) (s : Fin 256) :
    gW xi xf (ix2 hd s) = ((wt (fun s => lsig (f s)) ig s : ℝ) : EReal) :=
  pay26_at (gKL_at hi hf) (pay25_at (gKL_at hi hf)) s

/-- The factors' row holds the factors. -/
theorem gCF_at (hi : ∀ s, xi (ix3 (hB hd) (hH hd) s) = ((ig s : ℝ) : EReal)) (hf : ∀ s, xf (ix3 (hB hd) (hH hd) s) = ((f s : ℝ) : EReal))
    (hk : ∀ c, xk (ix3 (hB hd) (hH hd) c) = ((ks c : ℝ) : EReal)) (hv : ∀ c, xv (ix3 (hB hd) (hH hd) c) = ((vs c : ℝ) : EReal)) (s : Fin 256) :
    gCF xi xf xk xv (ix3 0 hd s) = ((cf (fun s => lsig (f s)) ig ks vs (chunk s) : ℝ) : EReal) :=
  pay95_at (gBL1_at hf) (gBL2_at hf) (gBL3_at hf) (pay21_at (gKL_at hi hf)) (pay22_at (gKL_at hi hf)) (pay23_at (gKL_at hi hf)) (pay24_at (gKL_at hi hf))
    (pay32_at (gBL1_at hf) (gBL2_at hf) (gBL3_at hf) (pay22_at (gKL_at hi hf)) (pay23_at (gKL_at hi hf)) (pay24_at (gKL_at hi hf))
      (pay29_at (gBL0_at hf) (pay21_at (gKL_at hi hf))))
    (fun c => by pointwise [k0_pay6]; exact hk c) (fun c => by pointwise [k0_pay7]; exact hv c) s
end

/-- The stored rows of the gate scratch, read at a row: the row stored last there. -/
theorem canon_row (a : ℕ) (inb : ∀ x, (![a, 0, 0] : Fin 3 → ℕ) x + S1x48x256.size x ≤ S21x48x256.size x) (w : S1x48x256.Idx → Elt Ideal .f32)
    (L : List (View.Piece (Elt Ideal) S21x48x256 .f32)) (r : Fin 21) (hd : Fin 48) (s : Fin 256) :
    View.canon (Val := Elt Ideal) (e := .f32) (⟨Rect.unit (s := S21x48x256) ![a, 0, 0] S1x48x256.size inb, w⟩ :: L) (ix3 r hd s)
      = if r.val = a then w (ix3 0 hd s) else View.canon L (ix3 r hd s) := by
  split_ifs with h
  · have hh := View.canon_cons_emb (Val := Elt Ideal) (e := .f32) (Rect.unit (s := S21x48x256) ![a, 0, 0] S1x48x256.size inb) w L (ix3 0 hd s)
    refine Eq.trans (congrArg _ ?_) hh
    funext x; apply Fin.ext
    match x with
    | ⟨0, _⟩ => show r.val = a + 1 * 0; omega
    | ⟨1, _⟩ => show hd.val = 0 + 1 * hd.val; omega
    | ⟨2, _⟩ => show s.val = 0 + 1 * s.val; omega
  · refine View.canon_cons_of_not_mem _ _ fun hm => ?_
    obtain ⟨x, hx⟩ := (Rect.unit (s := S21x48x256) ![a, 0, 0] S1x48x256.size inb).exists_idx_of_mem hm
    have h0 : a + 1 * (x 0).val = r.val := congrArg Fin.val (congrFun hx 0)
    have h1 : (x 0).val < 1 := (x 0).isLt
    omega

/-- What the first point leaves in the scratch: row 0 holds the weights, -/
theorem scr_W (hd : Fin 48) (s : Fin 256) :
    View.canon (kernelRun0_A.sl.HS0_21 (F := Ideal) c arg2 harg2 arg3 harg3 arg4 harg4 arg5 harg5 arg6 harg6 x0 x1 x2 x3 x4) (ix3 0 hd s) = gW x0 x1 (ix2 hd s) := by
  unfold kernelRun0_A.sl.HS0_21
  iterate 20 rw [canon_row, if_neg (by decide)]
  rw [canon_row, if_pos (by decide)]
  pointwise [k0_pay34]
  refine (show _ = gW (View.readAt (Elt Ideal) arg2.view (Rect.unit (s := S6x8x256) ![0, 0, 0] S6x8x256.size inb_S6x8x256_S6x8x256_0_0_0).toLoadRect (harg2.unread x0))
    (View.readAt (Elt Ideal) arg3.view (Rect.unit (s := S6x8x256) ![0, 0, 0] S6x8x256.size inb_S6x8x256_S6x8x256_0_0_0).toLoadRect (harg3.unread x1)) (ix2 hd s) from rfl).trans ?_
  rw [View.readAt_full, View.readAt_full, harg2.read_unread, harg3.read_unread]

/-- and row 1 the factors. -/
theorem scr_CF (hd : Fin 48) (s : Fin 256) :
    View.canon (kernelRun0_A.sl.HS0_21 (F := Ideal) c arg2 harg2 arg3 harg3 arg4 harg4 arg5 harg5 arg6 harg6 x0 x1 x2 x3 x4) (ix3 1 hd s) = gCF x0 x1 x3 x4 (ix3 0 hd s) := by
  unfold kernelRun0_A.sl.HS0_21
  rw [canon_row, if_pos (by decide)]
  refine (show _ = gCF (View.readAt (Elt Ideal) arg2.view (Rect.unit (s := S6x8x256) ![0, 0, 0] S6x8x256.size inb_S6x8x256_S6x8x256_0_0_0).toLoadRect (harg2.unread x0))
    (View.readAt (Elt Ideal) arg3.view (Rect.unit (s := S6x8x256) ![0, 0, 0] S6x8x256.size inb_S6x8x256_S6x8x256_0_0_0).toLoadRect (harg3.unread x1))
    (View.readAt (Elt Ideal) arg5.view (Rect.unit (s := S6x8x4) ![0, 0, 0] S6x8x4.size inb_S6x8x4_S6x8x4_0_0_0).toLoadRect (harg5.unread x3))
    (View.readAt (Elt Ideal) arg6.view (Rect.unit (s := S6x8x4) ![0, 0, 0] S6x8x4.size inb_S6x8x4_S6x8x4_0_0_0).toLoadRect (harg6.unread x4)) (ix3 0 hd s) from rfl).trans ?_
  rw [View.readAt_full, View.readAt_full, View.readAt_full, View.readAt_full, harg2.read_unread, harg3.read_unread, harg5.read_unread, harg6.read_unread]

/-- What the first point leaves in the scratch it carries on. -/
theorem soutA (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
    = View.canon (kernelRun0_A.sl.HS0_21 (F := Ideal) c arg2 harg2 arg3 harg3 arg4 harg4 arg5 harg5 arg6 harg6 x0 x1 x2 x3 x4) := by
  unfold sout0_A_0 kernelRun0_A
  exact View.read_writes_junk_eq_canon _ _

/-- The first point's block of final states, from the scratch rows it stores itself. -/
theorem outA (hc0 : cond0_0 i) (hk : ∀ s, x6 (ix4 0 q s d) = ((k s : ℝ) : EReal)) (hv : ∀ s, x7 (ix4 0 q s e) = ((v s : ℝ) : EReal))
    (hw : ∀ s, gW x0 x1 (ix2 (row i q) s) = ((wt g ig s : ℝ) : EReal)) (hc : ∀ s, gCF x0 x1 x3 x4 (ix3 0 (row i q) s) = ((cf g ig ks vs (chunk s) : ℝ) : EReal)) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix4 0 q d e)
      = ((cfin g ig ks vs k v : ℝ) : EReal) := by
  unfold out0_A_12 kernelRun0_A
  rw [View.read_writes_junk_eq_canon]
  refine (canon_two _ _ q d e _ _).trans ?_
  have hW := fun hd s => scr_W c arg2 harg2 arg3 harg3 arg4 harg4 arg5 harg5 arg6 harg6 x0 x1 x2 x3 x4 hd s
  have hC := fun hd s => scr_CF c arg2 harg2 arg3 harg3 arg4 harg4 arg5 harg5 arg6 harg6 x0 x1 x2 x3 x4 hd s
  have key : ∀ (p : Fin 2) (hp : p = q) (A : Vec Ideal S1x1x192x384 .f32) (ok : ∀ a, (![0, p.val, 0, 0] : Fin 4 → ℕ) a + S1x1x256x192.size a ≤ S1x2x256x192.size a)
      (ov : ∀ a, (![0, p.val, 0, 0] : Fin 4 → ℕ) a + S1x1x256x384.size a ≤ S1x2x256x384.size a),
      (A = headC (View.readAt (Elt Ideal) arg8.view (Rect.unit (s := S1x2x256x192) ![0, p.val, 0, 0] S1x1x256x192.size ok).toLoadRect (harg8.unread x6))
        (View.readAt (Elt Ideal) arg9.view (Rect.unit (s := S1x2x256x384) ![0, p.val, 0, 0] S1x1x256x384.size ov).toLoadRect (harg9.unread x7))
        (View.readAt (Elt Ideal) arg17.view (Rect.unit (s := S21x48x256) (k0_off1 i (BitVec.ofNat 32 p.val)) S1x1x256.size (k0_off1_inb i p)).toLoadRect (arg17.view.writes (Elt Ideal) arg17.view.junk (kernelRun0_A.sl.HS0_21 (F := Ideal) c arg2 harg2 arg3 harg3 arg4 harg4 arg5 harg5 arg6 harg6 x0 x1 x2 x3 x4)))
        (View.readAt (Elt Ideal) arg17.view (Rect.unit (s := S21x48x256) (k0_off7 i (BitVec.ofNat 32 p.val)) S1x1x256.size (k0_off7_inb i p)).toLoadRect (arg17.view.writes (Elt Ideal) arg17.view.junk (kernelRun0_A.sl.HS0_21 (F := Ideal) c arg2 harg2 arg3 harg3 arg4 harg4 arg5 harg5 arg6 harg6 x0 x1 x2 x3 x4)))) →
      A (ix4 0 0 d e) = ((cfin g ig ks vs k v : ℝ) : EReal) := by
    intro p hp A ok ov hA
    subst hp hA
    refine pay118_at (fun s => ?_) (fun s => ?_) (fun s => ?_) (fun s => ?_)
    · rw [View.readAt_apply, harg8.read_unread]; exact (congrArg x6 (key_idx _ rfl s d)).trans (hk s)
    · rw [View.readAt_apply, harg9.read_unread]; exact (congrArg x7 (val_idx _ rfl s e)).trans (hv s)
    · rw [View.readAt_writes_junk_eq_canon]; exact (congrArg _ (row_idx _ 0 (row i p) (off1_eq i p) s)).trans ((hW _ s).trans (hw s))
    · rw [View.readAt_writes_junk_eq_canon]; exact (congrArg _ (row_idx _ 1 (row i p) (off7_eq i p) s)).trans ((hC _ s).trans (hc s))
  fin_cases q
  · exact key 0 rfl _ inb_S1x2x256x192_S1x1x256x192_0_0_0_0 inb_S1x2x256x384_S1x1x256x384_0_0_0_0 rfl
  · exact key 1 rfl _ inb_S1x2x256x192_S1x1x256x192_0_1_0_0 inb_S1x2x256x384_S1x1x256x384_0_1_0_0 rfl

end

end Cert.ML
-- ==== Proof.KValue.lean ====
/- The final states that the kernel's run leaves, at an index, over the reals. -/
module

public import proofs.«01_k».proof.Proof.KI.Value
public import proofs.«01_k».proof.Proof.KOut
public import Idealize.ShloMosaic.Lib.StableHlo.ReadAt

@[expose] public section

set_option maxRecDepth 16384

noncomputable section

namespace Cert.ML

open Idealize.ShloMosaic Idealize.ShloMosaic.TcCoe Idealize.SL.Sem Cert.KernelIdeal Cert.KernelIdeal.Gen

variable (m : (ℓ : Loc nD τ sig) → Buf (Elt Ideal) ℓ)

/-- Where the blocks of the gate and scale windows (whole arrays) and of the key and value windows lie. -/
theorem idx_facts : ∀ t : Fin cfg0.N, (∀ a : Fin 3, win0_0.index t a = 0) ∧ (∀ a : Fin 3, win0_1.index t a = 0) ∧ (∀ a : Fin 3, win0_3.index t a = 0)
    ∧ (∀ a : Fin 3, win0_4.index t a = 0) ∧ (win0_6.index t = ![t.val / 4, t.val % 4, 0, 0]) ∧ win0_7.index t = ![t.val / 4, t.val % 4, 0, 0]
    ∧ (grid0.coords t 0).val = t.val / 4 ∧ (grid0.coords t 1).val = t.val % 4 :=
  (by decide +kernel : ∀ t : Fin grid0.N, _)

/-- The input gates, as the body loads them. -/
theorem iblk0_at (c : Dev nD) (t : Fin cfg0.N) (b : Fin 6) (h : Fin 8) (s : Fin 256) :
    (iblk m c 0 t : Vec Ideal S6x8x256 .f32) (ix3 b h s) = m ((c : Thread nD τ).loc main_arg6) (ix3 b h s) := by
  refine Eq.trans ?_ (congrFun (V_main_arg6 m c) _)
  show V m c main_arg6 (((cfg0.win 0).blk t).view.emb (ix3 b h s)) = _
  congr 1
  have e := (idx_facts t).1
  funext a; apply Fin.ext
  match a with
  | ⟨0, _⟩ => show win0_0.index t (0 : Fin 3) * 6 + 1 * b.val = b.val; rw [e]; omega
  | ⟨1, _⟩ => show win0_0.index t (1 : Fin 3) * 8 + 1 * h.val = h.val; rw [e]; omega
  | ⟨2, _⟩ => show win0_0.index t (2 : Fin 3) * 256 + 1 * s.val = s.val; rw [e]; omega

/-- The forget gates, as the body loads them. -/
theorem iblk1_at (c : Dev nD) (t : Fin cfg0.N) (b : Fin 6) (h : Fin 8) (s : Fin 256) :
    (iblk m c 1 t : Vec Ideal S6x8x256 .f32) (ix3 b h s) = m ((c : Thread nD τ).loc main_arg7) (ix3 b h s) := by
  refine Eq.trans ?_ (congrFun (V_main_arg7 m c) _)
  show V m c main_arg7 (((cfg0.win 1).blk t).view.emb (ix3 b h s)) = _
  congr 1
  have e := (idx_facts t).2.1
  funext a; apply Fin.ext
  match a with
  | ⟨0, _⟩ => show win0_1.index t (0 : Fin 3) * 6 + 1 * b.val = b.val; rw [e]; omega
  | ⟨1, _⟩ => show win0_1.index t (1 : Fin 3) * 8 + 1 * h.val = h.val; rw [e]; omega
  | ⟨2, _⟩ => show win0_1.index t (2 : Fin 3) * 256 + 1 * s.val = s.val; rw [e]; omega

/-- The keys' scales, as the body loads them. -/
theorem iblk3_at (c : Dev nD) (t : Fin cfg0.N) (b : Fin 6) (h : Fin 8) (s : Fin 4) :
    (iblk m c 3 t : Vec Ideal S6x8x4 .f32) (ix3 b h s) = m ((c : Thread nD τ).loc main_arg4) (ix3 b h s) := by
  refine Eq.trans ?_ (congrFun (V_main_arg4 m c) _)
  show V m c main_arg4 (((cfg0.win 3).blk t).view.emb (ix3 b h s)) = _
  congr 1
  have e := (idx_facts t).2.2.1
  funext a; apply Fin.ext
  match a with
  | ⟨0, _⟩ => show win0_3.index t (0 : Fin 3) * 6 + 1 * b.val = b.val; rw [e]; omega
  | ⟨1, _⟩ => show win0_3.index t (1 : Fin 3) * 8 + 1 * h.val = h.val; rw [e]; omega
  | ⟨2, _⟩ => show win0_3.index t (2 : Fin 3) * 4 + 1 * s.val = s.val; rw [e]; omega

/-- The values' scales, as the body loads them. -/
theorem iblk4_at (c : Dev nD) (t : Fin cfg0.N) (b : Fin 6) (h : Fin 8) (s : Fin 4) :
    (iblk m c 4 t : Vec Ideal S6x8x4 .f32) (ix3 b h s) = m ((c : Thread nD τ).loc main_arg5) (ix3 b h s) := by
  refine Eq.trans ?_ (congrFun (V_main_arg5 m c) _)
  show V m c main_arg5 (((cfg0.win 4).blk t).view.emb (ix3 b h s)) = _
  congr 1
  have e := (idx_facts t).2.2.2.1
  funext a; apply Fin.ext
  match a with
  | ⟨0, _⟩ => show win0_4.index t (0 : Fin 3) * 6 + 1 * b.val = b.val; rw [e]; omega
  | ⟨1, _⟩ => show win0_4.index t (1 : Fin 3) * 8 + 1 * h.val = h.val; rw [e]; omega
  | ⟨2, _⟩ => show win0_4.index t (2 : Fin 3) * 4 + 1 * s.val = s.val; rw [e]; omega

/-- The region finds the keys' codes, which over the extended reals are the keys, -/
theorem V_keys (c : Dev nD) (z : S6x8x256x192.Idx) : (V m c main_v1 : Vec Ideal S6x8x256x192 .fp8e4m3) z = m ((c : Thread nD τ).loc main_arg1) z := by
  have h : V m c main_v1 = (Host.convertf (φ := .f32) .fp8e4m3 (m ((c : Thread nD τ).loc main_arg1) : FVec Ideal S6x8x256x192 .f32) : FVec Ideal S6x8x256x192 .fp8e4m3) := by
    after_reads_simp
  exact congrFun h z
/-- and the values' codes, the values. -/
theorem V_vals (c : Dev nD) (z : S6x8x256x384.Idx) : (V m c main_v2 : Vec Ideal S6x8x256x384 .fp8e4m3) z = m ((c : Thread nD τ).loc main_arg2) z := by
  have h : V m c main_v2 = (Host.convertf (φ := .f32) .fp8e4m3 (m ((c : Thread nD τ).loc main_arg2) : FVec Ideal S6x8x256x384 .f32) : FVec Ideal S6x8x256x384 .fp8e4m3) := by
    after_reads_simp
  exact congrFun h z

/-- The batch of a point and the head of its pair. -/
def tb (t : Fin cfg0.N) : Fin 6 := ⟨t.val / 4, by have : t.val < 24 := t.isLt; omega⟩
@[inherit_doc tb] def th (t : Fin cfg0.N) (q : Fin 2) : Fin 8 := ⟨2 * (t.val % 4) + q.val, by omega⟩

/-- The keys' block of a point. -/
theorem iblk6_at (c : Dev nD) (t : Fin cfg0.N) (q : Fin 2) (s : Fin 256) (d : Fin 192) :
    (iblk m c 6 t : Vec Ideal S1x2x256x192 .fp8e4m3) (ix4 0 q s d) = m ((c : Thread nD τ).loc main_arg1) (ix4 (tb t) (th t q) s d) := by
  refine Eq.trans ?_ (V_keys m c _)
  show V m c main_v1 (((cfg0.win 6).blk t).view.emb (ix4 0 q s d)) = _
  congr 1
  have e := (idx_facts t).2.2.2.2.1
  funext a; apply Fin.ext
  match a with
  | ⟨0, _⟩ => show win0_6.index t (0 : Fin 4) * 1 + 1 * 0 = t.val / 4; rw [e]; show t.val / 4 * 1 + 1 * 0 = _; omega
  | ⟨1, _⟩ => show win0_6.index t (1 : Fin 4) * 2 + 1 * q.val = 2 * (t.val % 4) + q.val; rw [e]; show t.val % 4 * 2 + 1 * q.val = _; omega
  | ⟨2, _⟩ => show win0_6.index t (2 : Fin 4) * 256 + 1 * s.val = s.val; rw [e]; show 0 * 256 + 1 * s.val = _; omega
  | ⟨3, _⟩ => show win0_6.index t (3 : Fin 4) * 192 + 1 * d.val = d.val; rw [e]; show 0 * 192 + 1 * d.val = _; omega

/-- The values' block of a point. -/
theorem iblk7_at (c : Dev nD) (t : Fin cfg0.N) (q : Fin 2) (s : Fin 256) (d : Fin 384) :
    (iblk m c 7 t : Vec Ideal S1x2x256x384 .fp8e4m3) (ix4 0 q s d) = m ((c : Thread nD τ).loc main_arg2) (ix4 (tb t) (th t q) s d) := by
  refine Eq.trans ?_ (V_vals m c _)
  show V m c main_v2 (((cfg0.win 7).blk t).view.emb (ix4 0 q s d)) = _
  congr 1
  have e := (idx_facts t).2.2.2.2.2.1
  funext a; apply Fin.ext
  match a with
  | ⟨0, _⟩ => show win0_7.index t (0 : Fin 4) * 1 + 1 * 0 = t.val / 4; rw [e]; show t.val / 4 * 1 + 1 * 0 = _; omega
  | ⟨1, _⟩ => show win0_7.index t (1 : Fin 4) * 2 + 1 * q.val = 2 * (t.val % 4) + q.val; rw [e]; show t.val % 4 * 2 + 1 * q.val = _; omega
  | ⟨2, _⟩ => show win0_7.index t (2 : Fin 4) * 256 + 1 * s.val = s.val; rw [e]; show 0 * 256 + 1 * s.val = _; omega
  | ⟨3, _⟩ => show win0_7.index t (3 : Fin 4) * 384 + 1 * d.val = d.val; rw [e]; show 0 * 384 + 1 * d.val = _; omega

/-- The first point. -/
abbrev t0 : Fin cfg0.N := ⟨0, by decide⟩

/-- The scratch that the first point fills. -/
def scr (c : Dev nD) : Vec Ideal S21x48x256 .f32 :=
  View.canon (kernelRun0_A.sl.HS0_21 (F := Ideal) c (ms0_0 t0) (hs0_0 t0) (ms0_1 t0) (hs0_1 t0) (ms0_2 t0) (hs0_2 t0) (ms0_3 t0) (hs0_3 t0) (ms0_4 t0) (hs0_4 t0)
    (iblk m c 0 t0) (iblk m c 1 t0) (iblk m c 2 t0) (iblk m c 3 t0) (iblk m c 4 t0))

/-- Every point leaves the scratch as the first point filled it. -/
theorem scr_at (c : Dev nD) : ∀ (n : ℕ) (hn : n < cfg0.N), (outsAt0 m c n hn).2.2.2 = scr m c
  | 0, hn => by
    show (outsAt0 m c t0.val t0.isLt).2.2.2 = _
    rw [outsAt0_A m c t0 rfl]
    dsimp only
    rw [soutA]
    rfl
  | n + 1, hn => by
    have h24 : n + 1 < 24 := hn
    have hh := congrArg (fun z => z.2.2.2) (outsAt0_B m c ⟨n + 1, hn⟩ (by show ¬ (n + 1) % 24 = 0; omega))
    exact hh.trans (scr_at c n (Nat.lt_of_succ_lt hn))

section
variable {c : Dev nD} {b : Fin 6} {h : Fin 8} {f ig : Fin 256 → ℝ} {ks vs : Fin 4 → ℝ} {k v : Fin 256 → ℝ} {d : Fin 192} {e : Fin 384}
  (hi : ∀ s, m ((c : Thread nD τ).loc main_arg6) (ix3 b h s) = ((ig s : ℝ) : EReal))
  (hf : ∀ s, m ((c : Thread nD τ).loc main_arg7) (ix3 b h s) = ((f s : ℝ) : EReal))
  (hks : ∀ j, m ((c : Thread nD τ).loc main_arg4) (ix3 b h j) = ((ks j : ℝ) : EReal))
  (hvs : ∀ j, m ((c : Thread nD τ).loc main_arg5) (ix3 b h j) = ((vs j : ℝ) : EReal))
  (hk : ∀ s, m ((c : Thread nD τ).loc main_arg1) (ix4 b h s d) = ((k s : ℝ) : EReal))
  (hv : ∀ s, m ((c : Thread nD τ).loc main_arg2) (ix4 b h s e) = ((v s : ℝ) : EReal))

include hi hf hks hvs hk hv in
/-- What a point leaves in its block of final states, at a head of its pair. -/
theorem point_at (t : Fin cfg0.N) (q : Fin 2) (hb : b = tb t) (hh : h = th t q) :
    (outsAt0 m c t.val t.isLt).2.2.1 (ix4 0 q d e) = ((cfin (fun s => lsig (f s)) ig ks vs k v : ℝ) : EReal) := by
  have ht : t.val < 24 := t.isLt
  obtain ⟨-, -, -, -, -, -, g0, g1⟩ := idx_facts t
  have rb : hB (row (grid0.coords t) q) = b := by
    subst hb; apply Fin.ext; show (8 * (grid0.coords t 0).val + 2 * (grid0.coords t 1).val + q.val) / 8 = t.val / 4
    rw [g0, g1]; omega
  have rh : hH (row (grid0.coords t) q) = h := by
    subst hh; apply Fin.ext; show (8 * (grid0.coords t 0).val + 2 * (grid0.coords t 1).val + q.val) % 8 = 2 * (t.val % 4) + q.val
    rw [g0, g1]; omega
  have hW : ∀ s, gW (iblk m c 0 t0 : Vec Ideal S6x8x256 .f32) (iblk m c 1 t0) (ix2 (row (grid0.coords t) q) s) = ((wt (fun s => lsig (f s)) ig s : ℝ) : EReal) :=
    gW_at (fun s => by rw [rb, rh]; exact (iblk0_at m c t0 b h s).trans (hi s)) (fun s => by rw [rb, rh]; exact (iblk1_at m c t0 b h s).trans (hf s))
  have hC : ∀ s, gCF (iblk m c 0 t0 : Vec Ideal S6x8x256 .f32) (iblk m c 1 t0) (iblk m c 3 t0) (iblk m c 4 t0) (ix3 0 (row (grid0.coords t) q) s)
      = ((cf (fun s => lsig (f s)) ig ks vs (chunk s) : ℝ) : EReal) :=
    gCF_at (fun s => by rw [rb, rh]; exact (iblk0_at m c t0 b h s).trans (hi s)) (fun s => by rw [rb, rh]; exact (iblk1_at m c t0 b h s).trans (hf s))
      (fun s => by rw [rb, rh]; exact (iblk3_at m c t0 b h s).trans (hks s)) (fun s => by rw [rb, rh]; exact (iblk4_at m c t0 b h s).trans (hvs s))
  have hk' : ∀ s, (iblk m c 6 t : Vec Ideal S1x2x256x192 .fp8e4m3) (ix4 0 q s d) = ((k s : ℝ) : EReal) :=
    fun s => (iblk6_at m c t q s d).trans (by rw [← hb, ← hh]; exact hk s)
  have hv' : ∀ s, (iblk m c 7 t : Vec Ideal S1x2x256x384 .fp8e4m3) (ix4 0 q s e) = ((v s : ℝ) : EReal) :=
    fun s => (iblk7_at m c t q s e).trans (by rw [← hb, ← hh]; exact hv s)
  by_cases h0 : t.val % 24 = 0
  · have ht0 : t = t0 := Fin.ext (by show t.val = 0; omega)
    rw [ht0] at hk' hv' hW hC ⊢
    rw [outsAt0_A m c t0 rfl]
    dsimp only
    exact outA (hk := hk') (hv := hv') (hw := hW) (hc := hC) ..
  · rw [outsAt0_B m c t h0]
    dsimp only
    refine outB (hk := hk') (hv := hv') (hw := fun s => ?_) (hc := fun s => ?_) ..
    · rw [scr_at]; exact (scr_W ..).trans (hW s)
    · rw [scr_at]; exact (scr_CF ..).trans (hC s)

include hi hf hks hvs hk hv in
/-- The array of final states after the run, at an index. -/
theorem result_at : Cert.KernelIdeal.Value.G12 m c (ix4 b h d e) = ((cfin (fun s => lsig (f s)) ig ks vs k v : ℝ) : EReal) := by
  unfold Cert.KernelIdeal.Value.G12
  have hp : Cert.KernelIdeal.Value.pt12Of (ix4 b h d e) = 4 * b.val + h.val / 2 := by
    show 4 * (b.val / 1 - 0) + 1 * (h.val / 2 - 0) + 1 * (d.val / 192 - 0) + 1 * (e.val / 384 - 0) = _
    omega
  have hN : Cert.KernelIdeal.Value.pt12Of (ix4 b h d e) < cfg0.N := by rw [hp]; show _ < 24; omega
  rw [dif_pos hN, ← Cert.KernelIdeal.Value.outsAt0_sweep m c _ hN]
  have hl : Cert.KernelIdeal.Value.loc12Of (ix4 b h d e) = ix4 0 ⟨h.val % 2, by omega⟩ d e := by
    funext a; apply Fin.ext
    match a with
    | ⟨0, _⟩ => show b.val % 1 = 0; omega
    | ⟨1, _⟩ => rfl
    | ⟨2, _⟩ => show d.val % 192 = d.val; omega
    | ⟨3, _⟩ => show e.val % 384 = e.val; omega
  rw [hl]
  exact point_at m hi hf hks hvs hk hv ⟨_, hN⟩ ⟨h.val % 2, by omega⟩ (Fin.ext (by show b.val = Cert.KernelIdeal.Value.pt12Of (ix4 b h d e) / 4; omega))
    (Fin.ext (by show h.val = 2 * (Cert.KernelIdeal.Value.pt12Of (ix4 b h d e) % 4) + h.val % 2; omega))
end

end Cert.ML

end
-- ==== Proof.HMath.lean ====
/- The real-number side of the hidden state: the kernel's one sum over the positions, its weights already divided by the largest
   one, and the reference's sum of what the state before the chunk gives and what the chunk itself gives. -/
module

public import proofs.«01_k».proof.Proof.CMath
public import Mathlib.Analysis.SpecialFunctions.Pow.Real
public import Mathlib.Tactic.FieldSimp

@[expose] public section

noncomputable section

namespace Cert.ML

open Idealize.ShloMosaic

/-- The power of two. -/
def x2 (r : ℝ) : ℝ := Real.rpow 2 r

/-- A power of two whose exponent was divided by the logarithm of two is an exponential. -/
theorem x2_log (a b : ℝ) : x2 (a * (Real.log 2)⁻¹ + b * (Real.log 2)⁻¹) = Real.exp (a + b) := by
  have h : Real.log 2 ≠ 0 := (Real.log_pos one_lt_two).ne'
  show (2 : ℝ) ^ (a * (Real.log 2)⁻¹ + b * (Real.log 2)⁻¹) = _
  rw [Real.rpow_def_of_pos two_pos]
  congr 1; field_simp

/-- The largest value of `a` in the chunk of `s`, up to `s`. -/
def rmx (a : Fin 256 → ℝ) (s : Fin 256) : ℝ :=
  (Finset.univ.filter fun y => chunk y = chunk s ∧ y ≤ s).sup' ⟨s, by simp⟩ a

/-- `X` is, at every position, a value of `a` at an earlier position of the chunk, and at least those of the last `n` positions. -/
def Top (n : ℕ) (a X : Fin 256 → ℝ) : Prop :=
  ∀ s, (∀ y, chunk y = chunk s → y ≤ s → s.val < y.val + n → a y ≤ X s) ∧ ∃ y, chunk y = chunk s ∧ y ≤ s ∧ X s = a y

theorem top_one (a : Fin 256 → ℝ) : Top 1 a a := fun s =>
  ⟨fun y _ h1 h2 => by rw [show y = s from Fin.ext (by simp only [Fin.le_def] at h1; omega)], s, rfl, le_rfl, rfl⟩

/-- The value `n` positions earlier. -/
def back (n : ℕ) (s : Fin 256) : Fin 256 := ⟨(s.val + 256 - n) % 256, Nat.mod_lt _ (by decide)⟩

/-- One round of the running maximum doubles the reach. -/
theorem top_step {n : ℕ} (a X : Fin 256 → ℝ) (h : Top n a X) :
    Top (n + n) a (fun s => if n ≤ s.val % 64 then max (X s) (X (back n s)) else X s) := by
  intro s
  have hs := s.isLt
  by_cases hn : n ≤ s.val % 64
  · have hb : (back n s).val = s.val - n := by simp only [back]; omega
    have hc : chunk (back n s) = chunk s := Fin.ext (by simp only [chunk, hb]; omega)
    simp only [if_pos hn]
    refine ⟨fun y h0 h1 h2 => ?_, ?_⟩
    · by_cases hy : s.val < y.val + n
      · exact ((h s).1 y h0 h1 hy).trans (le_max_left _ _)
      · refine ((h (back n s)).1 y (h0.trans hc.symm) ?_ ?_).trans (le_max_right _ _)
        · rw [Fin.le_def, hb]; omega
        · rw [hb]; omega
    · rcases le_total (X s) (X (back n s)) with hle | hle
      · obtain ⟨y, h0, h1, h2⟩ := (h (back n s)).2
        rw [Fin.le_def, hb] at h1
        exact ⟨y, h0.trans hc, by rw [Fin.le_def]; omega, by rw [max_eq_right hle, h2]⟩
      · obtain ⟨y, h0, h1, h2⟩ := (h s).2
        exact ⟨y, h0, h1, by rw [max_eq_left hle, h2]⟩
  · simp only [if_neg hn]
    refine ⟨fun y h0 h1 h2 => (h s).1 y h0 h1 ?_, (h s).2⟩
    have := congrArg Fin.val h0
    simp only [chunk] at this
    rw [Fin.le_def] at h1
    omega

/-- Once the reach is the chunk, it is the largest value so far. -/
theorem top_rmx {a X : Fin 256 → ℝ} (h : Top 64 a X) (s : Fin 256) : X s = rmx a s := by
  apply le_antisymm
  · obtain ⟨y, h0, h1, h2⟩ := (h s).2
    rw [h2]; exact Finset.le_sup' a (by simp [h0, h1])
  · refine Finset.sup'_le _ _ fun y hy => ?_
    simp only [Finset.mem_filter, Finset.mem_univ, true_and] at hy
    refine (h s).1 y hy.1 hy.2 ?_
    have := congrArg Fin.val hy.1
    simp only [chunk] at this
    omega

/-- The largest value so far, read by chunk and position, over the extended reals. -/
theorem rmx_fold (a : Fin 256 → ℝ) (c : Fin 4) (l : Fin 64) (f : Fin 64 → EReal) (hf : ∀ x, f x = if x ≤ l then ((a (pos c x) : ℝ) : EReal) else ⊥) :
    (Finset.univ : Finset (Fin 64)).fold max (⊥ : EReal) f = ((rmx a (pos c l) : ℝ) : EReal) := by
  have hle : ∀ x : Fin 64, pos c x ≤ pos c l ↔ x ≤ l := fun x => by simp only [pos, Fin.le_def]; omega
  apply le_antisymm
  · rw [Finset.fold_max_le]
    refine ⟨bot_le, fun x _ => ?_⟩
    rw [hf]
    split_ifs with hx
    · exact EReal.coe_le_coe_iff.mpr (Finset.le_sup' a (by simp [chunk_pos, hle, hx]))
    · exact bot_le
  · obtain ⟨y, hy, he⟩ := Finset.exists_mem_eq_sup' (⟨pos c l, by simp⟩ : (Finset.univ.filter fun y => chunk y = chunk (pos c l) ∧ y ≤ pos c l).Nonempty) a
    simp only [Finset.mem_filter, Finset.mem_univ, true_and, chunk_pos] at hy
    have hyc := congrArg Fin.val hy.1
    simp only [chunk] at hyc
    have hyp : y = pos c ⟨y.val % 64, by omega⟩ := Fin.ext (by simp only [pos]; omega)
    rw [Finset.le_fold_max]
    refine Or.inr ⟨⟨y.val % 64, by omega⟩, Finset.mem_univ _, ?_⟩
    rw [hf, if_pos ((hle _).mp (hyp ▸ hy.2)), ← hyp, rmx, he]

variable (g ig : Fin 256 → ℝ) (qs ks vs : Fin 4 → ℝ) (S : ℝ) (q k : Fin 256 → Fin 192 → ℝ) (v : Fin 256 → ℝ)

/-- The running maximum before each chunk. -/
def mp : Fin 4 → ℝ := ![0, m1 g ig, m2 g ig, m3 g ig]

/-- The exponent of a position's own key, against the running sum. -/
def dif (s : Fin 256) : ℝ := ig s - cum g s

/-- The largest exponent at a position: that of the state before its chunk and those of the chunk's positions so far. -/
def mt (s : Fin 256) : ℝ := max (cum g s + mp g ig (chunk s)) (cum g s + rmx (dif g ig) s)

/-- The exponent with which chunk `j` enters the state before chunk `c`. -/
def ee : Fin 4 → Fin 4 → ℝ :=
  ![![0, 0, 0, 0], ![amax g ig 0, 0, 0, 0], ![amax g ig 0 + bl g 1, amax g ig 1, 0, 0],
    ![amax g ig 0 + bl g 1 + bl g 2, amax g ig 1 + bl g 2, amax g ig 2, 0]]

/-- What a recurrence over the chunks gives after one, two and three of them, and before each chunk. -/
def r1 (D : Fin 4 → ℝ) : ℝ := Real.exp (amax g ig 0 - m1 g ig) * D 0
@[inherit_doc r1] def r2 (D : Fin 4 → ℝ) : ℝ := Real.exp (bl g 1 + m1 g ig - m2 g ig) * r1 g ig D + Real.exp (amax g ig 1 - m2 g ig) * D 1
@[inherit_doc r1] def r3 (D : Fin 4 → ℝ) : ℝ := Real.exp (bl g 2 + m2 g ig - m3 g ig) * r2 g ig D + Real.exp (amax g ig 2 - m3 g ig) * D 2
@[inherit_doc r1] def pr (D : Fin 4 → ℝ) : Fin 4 → ℝ := ![0, r1 g ig D, r2 g ig D, r3 g ig D]

/-- The recurrence is one sum over the earlier chunks. -/
theorem pr_eq (D : Fin 4 → ℝ) (c : Fin 4) : pr g ig D c = ∑ j, if j < c then Real.exp (ee g ig c j - mp g ig c) * D j else 0 := by
  rw [Fin.sum_univ_four]
  fin_cases c
  · simp [pr]
  · simp [pr, r1, ee, mp]
  · have e : Real.exp (amax g ig 0 + bl g 1 - m2 g ig) = Real.exp (bl g 1 + m1 g ig - m2 g ig) * Real.exp (amax g ig 0 - m1 g ig) := by
      rw [← Real.exp_add]; congr 1; ring
    simp [pr, r2, r1, ee, mp, e]; ring
  · have e : Real.exp (amax g ig 0 + bl g 1 + bl g 2 - m3 g ig) = Real.exp (bl g 2 + m2 g ig - m3 g ig) * (Real.exp (bl g 1 + m1 g ig - m2 g ig) * Real.exp (amax g ig 0 - m1 g ig)) := by
      rw [← Real.exp_add, ← Real.exp_add]; congr 1; ring
    have e' : Real.exp (amax g ig 1 + bl g 2 - m3 g ig) = Real.exp (bl g 2 + m2 g ig - m3 g ig) * Real.exp (amax g ig 1 - m2 g ig) := by
      rw [← Real.exp_add]; congr 1; ring
    simp [pr, r3, r2, r1, ee, mp, e, e']; ring

/-- One chunk's own contribution to the normalizer. -/
def dN (d : Fin 192) (c : Fin 4) : ℝ := ks c * ∑ l : Fin 64, wt g ig (pos c l) * k (pos c l) d

/-- The state and the normalizer before each chunk. -/
def Cp (d : Fin 192) : Fin 4 → ℝ := pr g ig (dC g ig ks vs (fun s => k s d) v)
@[inherit_doc Cp] def np (d : Fin 192) : Fin 4 → ℝ := pr g ig (dN g ig ks k d)

/-- The product of a query and a key. -/
def qk (t s : Fin 256) : ℝ := ∑ d, q t d * k s d

/-- The factor of the state before the chunk. -/
def iw (c : Fin 4) (t : Fin 256) : ℝ := Real.exp (cum g t + mp g ig c - mt g ig t) * (qs c * S)

/-- The weight of position `x` of the chunk at position `l`. -/
def P (c : Fin 4) (l x : Fin 64) : ℝ :=
  (qk q k (pos c l) (pos c x) * (qs c * ks c * S)) * if x ≤ l then Real.exp (cum g (pos c l) - cum g (pos c x) + ig (pos c x) - mt g ig (pos c l)) else 0

/-- The denominator. -/
def den (c : Fin 4) (l : Fin 64) : ℝ :=
  max |iw g ig qs S c (pos c l) * ∑ d, q (pos c l) d * np g ig ks k d c + ∑ x, P g ig qs ks S q k c l x| (Real.exp (-mt g ig (pos c l)))

/-- The hidden state at position `l` of chunk `c`, as the reference spells it. -/
def hR (c : Fin 4) (l : Fin 64) : ℝ :=
  (iw g ig qs S c (pos c l) * (∑ d, q (pos c l) d * Cp g ig ks vs k v d c) + vs c * ∑ x, P g ig qs ks S q k c l x * v (pos c x)) / den g ig qs ks S q k c l

/-- The scale row of chunk `c`, at a position of chunk `j`: that of an earlier chunk carries the quotient of the values' scales. -/
def sc (c j : Fin 4) : ℝ := if j < c then qs c * S * (ks j * vs j) / vs c else qs c * ks c * S

/-- The weights of the kernel's sum: an earlier chunk's position, and one of the chunk's own. -/
def og (c : Fin 4) (t s : Fin 256) : ℝ :=
  (∑ d, q t d * (k s d * wt g ig s)) * sc qs ks vs S c (chunk s) * Real.exp (cum g t - mt g ig t + ee g ig c (chunk s))
@[inherit_doc og] def dg (c : Fin 4) (t s : Fin 256) : ℝ :=
  qk q k t s * sc qs ks vs S c c * Real.exp (cum g t - mt g ig t + dif g ig s)

/-- The factor of the normalizer's row before chunk `c`, at a position of chunk `j`. -/
def nw (c j : Fin 4) : ℝ := if j < c then Real.exp (ee g ig c j - mp g ig c) * ks j else 0

/-- The normalizer before chunk `c` as the kernel sums it. -/
def nst (c : Fin 4) (d : Fin 192) : ℝ := ∑ s, (nw g ig ks c (chunk s) * wt g ig s) * k s d

/-- The kernel's sum, its denominator and its hidden state. -/
def numK (c : Fin 4) (l : Fin 64) : ℝ :=
  (∑ j : Fin 4, if j < c then ∑ x : Fin 64, og g ig qs ks vs S q k c (pos c l) (pos j x) * v (pos j x) else 0)
    + ∑ x : Fin 64, (if x ≤ l then dg g ig qs ks vs S q k c (pos c l) (pos c x) else 0) * v (pos c x)
@[inherit_doc numK] def denK (c : Fin 4) (l : Fin 64) : ℝ :=
  max |(∑ x : Fin 64, if x ≤ l then dg g ig qs ks vs S q k c (pos c l) (pos c x) else 0)
    + Real.exp (cum g (pos c l) - mt g ig (pos c l) + mp g ig c) * (qs c * S) * ∑ d, q (pos c l) d * nst g ig ks k c d| (Real.exp (-mt g ig (pos c l)))
@[inherit_doc numK] def hK (c : Fin 4) (l : Fin 64) : ℝ := numK g ig qs ks vs S q k v c l * (vs c / denK g ig qs ks vs S q k c l)

theorem dg_eq (c : Fin 4) (l x : Fin 64) : (if x ≤ l then dg g ig qs ks vs S q k c (pos c l) (pos c x) else 0) = P g ig qs ks S q k c l x := by
  rw [P]
  split_ifs
  · rw [dg, sc, if_neg (lt_irrefl c)]; congr 2; rw [dif]; ring
  · rw [mul_zero]

theorem nst_eq (c : Fin 4) (d : Fin 192) : nst g ig ks k c d = np g ig ks k d c := by
  rw [nst, np, pr_eq, sum_pos]
  refine Finset.sum_congr rfl fun j _ => ?_
  simp only [chunk_pos, nw]
  split_ifs
  · rw [dN, ← mul_assoc, Finset.mul_sum]; exact Finset.sum_congr rfl fun x _ => by ring
  · simp

theorem denK_eq (c : Fin 4) (l : Fin 64) : denK g ig qs ks vs S q k c l = den g ig qs ks S q k c l := by
  rw [denK, den, add_comm]
  simp only [dg_eq, nst_eq, iw]
  rw [show cum g (pos c l) - mt g ig (pos c l) + mp g ig c = cum g (pos c l) + mp g ig c - mt g ig (pos c l) by ring]

theorem den_pos (c : Fin 4) (l : Fin 64) : 0 < den g ig qs ks S q k c l := lt_max_of_lt_right (Real.exp_pos _)

/-- The kernel's hidden state is the reference's, the values' scale of the chunk not being zero. -/
theorem hK_eq_hR (c : Fin 4) (l : Fin 64) (hv : vs c ≠ 0) : hK g ig qs ks vs S q k v c l = hR g ig qs ks vs S q k v c l := by
  have hn : numK g ig qs ks vs S q k v c l * vs c = iw g ig qs S c (pos c l) * (∑ d, q (pos c l) d * Cp g ig ks vs k v d c) + vs c * ∑ x, P g ig qs ks S q k c l x * v (pos c x) := by
    rw [numK, add_mul]
    simp only [dg_eq]
    rw [mul_comm (∑ x, P g ig qs ks S q k c l x * v (pos c x))]
    congr 1
    simp only [Cp, pr_eq]
    simp only [Finset.mul_sum, Finset.sum_mul]
    rw [Finset.sum_comm]
    refine Finset.sum_congr rfl fun j _ => ?_
    split_ifs with hj
    · have e : Real.exp (cum g (pos c l) - mt g ig (pos c l) + ee g ig c j) = Real.exp (cum g (pos c l) + mp g ig c - mt g ig (pos c l)) * Real.exp (ee g ig c j - mp g ig c) := by
        rw [← Real.exp_add]; congr 1; ring
      simp only [og, chunk_pos, sc, if_pos hj, dC, e, iw, Finset.mul_sum, Finset.sum_mul]
      rw [Finset.sum_comm]
      refine Finset.sum_congr rfl fun d _ => Finset.sum_congr rfl fun x _ => ?_
      field_simp
    · simp
  rw [hK, hR, denK_eq, ← hn]; ring

end Cert.ML
-- ==== Proof.HGates.lean ====
/- The gate rows that the hidden state reads, over the reals: what each stored row holds at a head and a position. -/
module

public import proofs.«01_k».proof.Proof.KGates
public import proofs.«01_k».proof.Proof.HMath
import Idealize.ShloMosaic.Lib.WordCmp

@[expose] public section

set_option maxRecDepth 16384

noncomputable section

namespace Cert.ML

open Idealize.ShloMosaic Cert.KernelIdeal Cert.KernelIdeal.Gen

/-- The scale of the query-key products is a real. -/
theorem S_coe : ∃ r : ℝ, Ideal.ofBits FTy.f32 0x3D93CD3A#32 = (r : EReal) := ⟨_, rfl⟩

/-- That real. -/
def Sr : ℝ := S_coe.choose
theorem Sr_eq : Ideal.ofBits FTy.f32 0x3D93CD3A#32 = ((Sr : ℝ) : EReal) := S_coe.choose_spec

/-- The constant that turns exponentials into powers of two. -/
theorem log2e_eq : (Named.named κ "log2e" 0x3FB8AA3B#32 : Ideal .f32) = (((Real.log 2)⁻¹ : ℝ) : EReal) := rfl

/-- A position's place in its chunk, as the word arithmetic spells it, compared with a bound. -/
theorem place_word (s : Fin 256) :
    Scalar.select (IntOp.andi (IntOp.xori (IntOp.cmpi CmpIPredicate.slt (IntOp.remsi ArithUnit.vector (BitVec.ofNat 32 ↑s) 64#32) 0#32)
          (Scalar.cmpi CmpIPredicate.slt 64#32 0#32))
        (IntOp.cmpi CmpIPredicate.ne (IntOp.remsi ArithUnit.vector (BitVec.ofNat 32 ↑s) 64#32) 0#32))
      (IntOp.addi (IntOp.remsi ArithUnit.vector (BitVec.ofNat 32 ↑s) 64#32) 64#32)
      (IntOp.remsi ArithUnit.vector (BitVec.ofNat 32 ↑s) 64#32) = BitVec.ofNat 32 (s.val % 64) := by
  revert s; decide +kernel

/-- The place of a position in its chunk, as the kernel computes it. -/
theorem pay9_at (hd : Fin 48) (s : Fin 256) :
    k0_pay9 (iota .tc S48x256 32 [1] iota_S48x256_d1_w32) 64#32 (Scalar.cmpi CmpIPredicate.eq 64#32 0#32) (ix2 hd s) = BitVec.ofNat 32 (s.val % 64) := by
  pointwise [k0_pay9]; exact place_word s

theorem sge_word : ∀ (s : Fin 256) (n : Fin 64), IntOp.cmpi CmpIPredicate.sge (BitVec.ofNat 32 (s.val % 64)) (BitVec.ofNat 32 n.val) = BitVec.ofBool (decide (n.val ≤ s.val % 64)) := by
  decide +kernel

/-- One round of the running maximum, over the reals. -/
theorem round_at {k : IVec S48x256 32} {x : FVec Ideal S48x256 .f32} {hd : Fin 48} {X : Fin 256 → ℝ} (hk : ∀ s, k (ix2 hd s) = BitVec.ofNat 32 (s.val % 64))
    (hx : ∀ s, x (ix2 hd s) = ((X s : ℝ) : EReal)) (n : Fin 64) (s : Fin 256) :
    max (x (ix2 hd s)) (Scalar.select (IntOp.cmpi CmpIPredicate.sge (k (ix2 hd s)) (BitVec.ofNat 32 n.val)) (x (ix2 hd (back n.val s))) (Ideal.ofBits FTy.f32 0xFF800000#32))
      = (((if n.val ≤ s.val % 64 then max (X s) (X (back n.val s)) else X s) : ℝ) : EReal) := by
  rw [hk, sge_word, select_dec, neg_inf, hx, hx]
  split_ifs
  · exact coe_max _ _
  · exact max_eq_left bot_le

/-- The round as an operation on a whole array of rows. -/
def rnd (k : IVec S48x256 32) (n : BitVec 32) (x : FVec Ideal S48x256 .f32) : FVec Ideal S48x256 .f32 :=
  maximumf x (select (cmpi .sge k (broadcast S48x256 n)) (dynamicRotate 1 n none x rotates_S48x256_d1) (broadcast S48x256 (Scalar.ofBits .f32 0xFF800000#32 : Ideal .f32)))

section
variable {k : IVec S48x256 32} {x : FVec Ideal S48x256 .f32} {hd : Fin 48} {a : Fin 256 → ℝ}

/-- The reach of the rows of `x`. -/
def Reach (n : ℕ) (a : Fin 256 → ℝ) (x : FVec Ideal S48x256 .f32) (hd : Fin 48) : Prop :=
  ∃ X : Fin 256 → ℝ, (∀ s, x (ix2 hd s) = ((X s : ℝ) : EReal)) ∧ Top n a X

theorem rnd1 (hk : ∀ s, k (ix2 hd s) = BitVec.ofNat 32 (s.val % 64)) (h : Reach 1 a x hd) : Reach 2 a (rnd k 1#32 x) hd := by
  obtain ⟨X, hx, ht⟩ := h
  exact ⟨_, fun s => by pointwise [rnd]; exact round_at hk hx 1 s, top_step a X ht⟩
theorem rnd2 (hk : ∀ s, k (ix2 hd s) = BitVec.ofNat 32 (s.val % 64)) (h : Reach 2 a x hd) : Reach 4 a (rnd k 2#32 x) hd := by
  obtain ⟨X, hx, ht⟩ := h
  exact ⟨_, fun s => by pointwise [rnd]; exact round_at hk hx 2 s, top_step a X ht⟩
theorem rnd4 (hk : ∀ s, k (ix2 hd s) = BitVec.ofNat 32 (s.val % 64)) (h : Reach 4 a x hd) : Reach 8 a (rnd k 4#32 x) hd := by
  obtain ⟨X, hx, ht⟩ := h
  exact ⟨_, fun s => by pointwise [rnd]; exact round_at hk hx 4 s, top_step a X ht⟩
theorem rnd8 (hk : ∀ s, k (ix2 hd s) = BitVec.ofNat 32 (s.val % 64)) (h : Reach 8 a x hd) : Reach 16 a (rnd k 8#32 x) hd := by
  obtain ⟨X, hx, ht⟩ := h
  exact ⟨_, fun s => by pointwise [rnd]; exact round_at hk hx 8 s, top_step a X ht⟩
theorem rnd16 (hk : ∀ s, k (ix2 hd s) = BitVec.ofNat 32 (s.val % 64)) (h : Reach 16 a x hd) : Reach 32 a (rnd k 16#32 x) hd := by
  obtain ⟨X, hx, ht⟩ := h
  exact ⟨_, fun s => by pointwise [rnd]; exact round_at hk hx 16 s, top_step a X ht⟩
theorem rnd32 (hk : ∀ s, k (ix2 hd s) = BitVec.ofNat 32 (s.val % 64)) (h : Reach 32 a x hd) : Reach 64 a (rnd k 32#32 x) hd := by
  obtain ⟨X, hx, ht⟩ := h
  exact ⟨_, fun s => by pointwise [rnd]; exact round_at hk hx 32 s, top_step a X ht⟩

/-- The largest exponent of a chunk up to each position. -/
theorem pay27_at (hk : ∀ s, k (ix2 hd s) = BitVec.ofNat 32 (s.val % 64)) (hx : ∀ s, x (ix2 hd s) = ((a s : ℝ) : EReal)) (s : Fin 256) :
    k0_pay27 k x (ix2 hd s) = ((rmx a s : ℝ) : EReal) := by
  obtain ⟨X, h, ht⟩ := rnd32 hk (rnd16 hk (rnd8 hk (rnd4 hk (rnd2 hk (rnd1 hk ⟨a, hx, top_one a⟩)))))
  rw [← top_rmx ht s, ← h s]
  rfl
end

/-- Choosing by a position's chunk. -/
theorem sel0 {α : Type} (j : Fin 4) (a b : α) : Scalar.select (IntOp.cmpi CmpIPredicate.eq (BitVec.ofNat 32 j.val) 0#32) a b = if j = 0 then a else b := by
  fin_cases j <;> rfl
@[inherit_doc sel0] theorem sel1 {α : Type} (j : Fin 4) (a b : α) : Scalar.select (IntOp.cmpi CmpIPredicate.eq (BitVec.ofNat 32 j.val) 1#32) a b = if j = 1 then a else b := by
  fin_cases j <;> rfl
@[inherit_doc sel0] theorem sel2 {α : Type} (j : Fin 4) (a b : α) : Scalar.select (IntOp.cmpi CmpIPredicate.eq (BitVec.ofNat 32 j.val) 2#32) a b = if j = 2 then a else b := by
  fin_cases j <;> rfl
@[inherit_doc sel0] theorem sel3 {α : Type} (j : Fin 4) (a b : α) : Scalar.select (IntOp.cmpi CmpIPredicate.eq (BitVec.ofNat 32 j.val) 3#32) a b = if j = 3 then a else b := by
  fin_cases j <;> rfl

variable {hd : Fin 48} {f g ig : Fin 256 → ℝ} {qs ks vs : Fin 4 → ℝ}

/-- The exponents against the running sums. -/
theorem pay19_at {a b : FVec Ideal S48x256 .f32} (ha : ∀ s, a (ix2 hd s) = ((ig s : ℝ) : EReal)) (hb : ∀ s, b (ix2 hd s) = ((cum g s : ℝ) : EReal)) (s : Fin 256) :
    k0_pay19 a b (ix2 hd s) = ((dif g ig s : ℝ) : EReal) := by
  pointwise [k0_pay19]; rw [ha, hb, ← EReal.coe_sub]; rfl

/-- The running maximum after the second and after the third chunk. -/
theorem pay30_at {b1 a1 m : FVec Ideal S48x1 .f32} (hb1 : b1 (ix2 hd 0) = ((bl g 1 : ℝ) : EReal)) (ha1 : a1 (ix2 hd 0) = ((amax g ig 1 : ℝ) : EReal))
    (hm : m (ix2 hd 0) = ((m1 g ig : ℝ) : EReal)) : k0_pay30 b1 a1 m (ix2 hd 0) = ((m2 g ig : ℝ) : EReal) := by
  pointwise [k0_pay30]; rw [hb1, ha1, hm, ← EReal.coe_add, coe_max]; rfl
@[inherit_doc pay30_at] theorem pay31_at {b1 b2 a1 a2 m : FVec Ideal S48x1 .f32} (hb1 : b1 (ix2 hd 0) = ((bl g 1 : ℝ) : EReal)) (hb2 : b2 (ix2 hd 0) = ((bl g 2 : ℝ) : EReal))
    (ha1 : a1 (ix2 hd 0) = ((amax g ig 1 : ℝ) : EReal)) (ha2 : a2 (ix2 hd 0) = ((amax g ig 2 : ℝ) : EReal))
    (hm : m (ix2 hd 0) = ((m1 g ig : ℝ) : EReal)) : k0_pay31 b1 b2 a1 a2 m (ix2 hd 0) = ((m3 g ig : ℝ) : EReal) := by
  pointwise [k0_pay31, k0_pay30]; rw [hb1, ha1, hm, hb2, ha2]; simp only [← EReal.coe_add, coe_max]; rfl

section
variable {b r d W : FVec Ideal S48x256 .f32} {b1 b2 a0 a1 a2 m : FVec Ideal S48x1 .f32} {xq xk xv : FVec Ideal S48x4 .f32}
  (hb : ∀ s, b (ix2 hd s) = ((cum g s : ℝ) : EReal)) (hd' : ∀ s, d (ix2 hd s) = ((dif g ig s : ℝ) : EReal))
  (hr : ∀ s, r (ix2 hd s) = ((rmx (dif g ig) s : ℝ) : EReal)) (hW : ∀ s, W (ix2 hd s) = ((wt g ig s : ℝ) : EReal))
  (hb1 : b1 (ix2 hd 0) = ((bl g 1 : ℝ) : EReal)) (hb2 : b2 (ix2 hd 0) = ((bl g 2 : ℝ) : EReal))
  (ha0 : a0 (ix2 hd 0) = ((amax g ig 0 : ℝ) : EReal)) (ha1 : a1 (ix2 hd 0) = ((amax g ig 1 : ℝ) : EReal)) (ha2 : a2 (ix2 hd 0) = ((amax g ig 2 : ℝ) : EReal))
  (hm : m (ix2 hd 0) = ((m1 g ig : ℝ) : EReal))
  (hq : ∀ c, xq (ix2 hd c) = ((qs c : ℝ) : EReal)) (hk : ∀ c, xk (ix2 hd c) = ((ks c : ℝ) : EReal)) (hv : ∀ c, xv (ix2 hd c) = ((vs c : ℝ) : EReal))
  (hv0 : ∀ c, vs c ≠ 0)

include hb hr hb1 hb2 ha1 ha2 hm in
/-- The largest exponent at each position. -/
theorem pay33_at (s : Fin 256) : k0_pay33 k0_pay8 b b1 b2 a1 a2 r k0_pay28 m (ix2 hd s) = ((mt g ig s : ℝ) : EReal) := by
  pointwise [k0_pay33, k0_pay28]
  rw [pay8_at, ladder, pay30_at hb1 ha1 hm, pay31_at hb1 hb2 ha1 ha2 hm, hm, hb, hr, ← EReal.coe_zero]
  refine (congrArg (fun z => max (_ + z) _) (ladder_coe (mp g ig) (chunk s))).trans ?_
  rw [← EReal.coe_add, ← EReal.coe_add, coe_max]; rfl

include hb hr hb1 hb2 ha1 ha2 hm in
/-- The running sums against the largest exponents, for a power of two, -/
theorem pay35_at (s : Fin 256) : k0_pay35 k0_pay8 b b1 b2 a1 a2 r k0_pay28 m (ix3 0 hd s) = (((cum g s - mt g ig s) * (Real.log 2)⁻¹ : ℝ) : EReal) := by
  pointwise [k0_pay35]; rw [pay33_at hb hr hb1 hb2 ha1 ha2 hm, hb, log2e_eq, ← EReal.coe_sub, ← EReal.coe_mul]
include hb hr hb1 hb2 ha1 ha2 hm in
/-- and the exponential of the largest exponents, negated. -/
theorem pay36_at (s : Fin 256) : k0_pay36 k0_pay8 b b1 b2 a1 a2 r k0_pay28 m (ix3 0 hd s) = ((Real.exp (-mt g ig s) : ℝ) : EReal) := by
  pointwise [k0_pay36]; rw [pay33_at hb hr hb1 hb2 ha1 ha2 hm, ← EReal.coe_zero, ← EReal.coe_sub, Ideal.exp_coe, zero_sub]

include hv in
/-- The values' scales. -/
theorem pay39_at (s : Fin 256) : k0_pay39 xv k0_pay8 (k0_pay37 xv) (k0_pay38 xv) (ix3 0 hd s) = ((vs (chunk s) : ℝ) : EReal) := by
  pointwise [k0_pay39, k0_pay37, k0_pay38]; rw [pay8_at, ladder]; simp only [hv]; exact ladder_coe vs (chunk s)

/-- The exponent of a position's key for the positions of chunk `c`. -/
def te (g ig : Fin 256 → ℝ) (c : Fin 4) (s : Fin 256) : ℝ := if chunk s = c then dif g ig s else ee g ig c (chunk s)

theorem te_coe (c : Fin 4) (s : Fin 256) : ((if chunk s = c then ((dif g ig s : ℝ) : EReal) else ((ee g ig c (chunk s) : ℝ) : EReal)) * (((Real.log 2)⁻¹ : ℝ) : EReal))
    = ((te g ig c s * (Real.log 2)⁻¹ : ℝ) : EReal) := by
  rw [te, EReal.coe_mul]; split_ifs <;> rfl

include hd' in
/-- The exponents' rows. -/
theorem pay48_at (s : Fin 256) : k0_pay48 d (k0_pay46 k0_pay8) (k0_pay47 k0_pay8) (ix3 0 hd s) = ((te g ig 0 s * (Real.log 2)⁻¹ : ℝ) : EReal) := by
  pointwise [k0_pay48, k0_pay46, k0_pay47]
  rw [pay8_at, sel0, hd', log2e_eq, ← EReal.coe_mul, te]
  generalize chunk s = j
  fin_cases j <;> simp [ee]
include hd' ha0 in
@[inherit_doc pay48_at] theorem pay52_at (s : Fin 256) : k0_pay52 k0_pay8 d a0 (ix3 0 hd s) = ((te g ig 1 s * (Real.log 2)⁻¹ : ℝ) : EReal) := by
  pointwise [k0_pay52]
  rw [pay8_at, ladder, sel1, hd', log2e_eq, ha0, ← te_coe]
  congr 2
  rw [← EReal.coe_zero]; exact ladder_coe (ee g ig 1) (chunk s)
include hd' hb1 ha0 ha1 in
@[inherit_doc pay48_at] theorem pay63_at (s : Fin 256) :
    k0_pay63 k0_pay8 d k0_pay58 (k0_pay59 k0_pay8) (k0_pay60 k0_pay8 a1 (k0_pay40 b1 a0)) (k0_pay61 k0_pay8) k0_pay62 (ix3 0 hd s) = ((te g ig 2 s * (Real.log 2)⁻¹ : ℝ) : EReal) := by
  pointwise [k0_pay63, k0_pay58, k0_pay59, k0_pay60, k0_pay61, k0_pay62, k0_pay40]
  rw [pay8_at, ladder, sel2, hd', log2e_eq, ha0, ha1, hb1, ← EReal.coe_add, ← te_coe]
  congr 2
  rw [← EReal.coe_zero]; exact ladder_coe (ee g ig 2) (chunk s)
include hd' hb1 hb2 ha0 ha1 ha2 in
@[inherit_doc pay48_at] theorem pay72_at (s : Fin 256) :
    k0_pay72 (k0_pay71 k0_pay8 d a2 (k0_pay41 b1 b2 a0) (k0_pay43 b2 a1)) (ix3 0 hd s) = ((te g ig 3 s * (Real.log 2)⁻¹ : ℝ) : EReal) := by
  pointwise [k0_pay72, k0_pay71, k0_pay41, k0_pay40, k0_pay43]
  rw [pay8_at, ladder, sel3, hd', log2e_eq, ha0, ha1, ha2, hb1, hb2]
  simp only [← EReal.coe_add]
  rw [← te_coe]
  congr 2
  rw [← EReal.coe_zero]; exact ladder_coe (ee g ig 3) (chunk s)

include hq hk in
/-- The scales' rows. -/
theorem pay49_at (s : Fin 256) : k0_pay49 xq xk k0_pay8 (ix3 0 hd s) = ((sc qs ks vs Sr 0 (chunk s) : ℝ) : EReal) := by
  pointwise [k0_pay49]
  rw [hq, hk, Sr_eq, ← EReal.coe_mul, ← EReal.coe_mul, sc, if_neg (by simp)]
include hq hk hv hv0 in
@[inherit_doc pay49_at] theorem pay56_at (s : Fin 256) : k0_pay56 k0_pay8 (k0_pay54 xq xk) (k0_pay55 xq xk xv) (ix3 0 hd s) = ((sc qs ks vs Sr 1 (chunk s) : ℝ) : EReal) := by
  pointwise [k0_pay56, k0_pay55, k0_pay54, k0_pay53]
  rw [pay8_at, ladder]; simp only [hq, hk, hv, Sr_eq, ← EReal.coe_mul, Ideal.div_coe (hv0 _), mul_one_div]
  exact ladder_coe (sc qs ks vs Sr 1) (chunk s)
include hq hk hv hv0 in
@[inherit_doc pay49_at] theorem pay69_at (s : Fin 256) : k0_pay69 (k0_pay66 xq xk xv k0_pay8) (k0_pay67 k0_pay8) (k0_pay68 xq xk) (ix3 0 hd s) = ((sc qs ks vs Sr 2 (chunk s) : ℝ) : EReal) := by
  pointwise [k0_pay69, k0_pay66, k0_pay67, k0_pay68, k0_pay65, k0_pay64]
  rw [pay8_at, ladder]; simp only [hq, hk, hv, Sr_eq, ← EReal.coe_mul, Ideal.div_coe (hv0 _), mul_one_div]
  exact ladder_coe (sc qs ks vs Sr 2) (chunk s)
include hq hk hv hv0 in
@[inherit_doc pay49_at] theorem pay74_at (s : Fin 256) : k0_pay74 xq xk xv k0_pay8 (ix3 0 hd s) = ((sc qs ks vs Sr 3 (chunk s) : ℝ) : EReal) := by
  pointwise [k0_pay74, k0_pay73]
  rw [pay8_at, ladder]; simp only [hq, hk, hv, Sr_eq, ← EReal.coe_mul, Ideal.div_coe (hv0 _), mul_one_div]
  exact ladder_coe (sc qs ks vs Sr 3) (chunk s)

/-- The row of a chunk's queries: the running maximum before it at the first chunk, the query's scale elsewhere. -/
def qr (g ig : Fin 256 → ℝ) (qs : Fin 4 → ℝ) (c : Fin 4) (s : Fin 256) : ℝ := if chunk s = 0 then mp g ig c * (Real.log 2)⁻¹ else qs c * Sr

include hq hm in
/-- The queries' rows. -/
theorem pay57_at (s : Fin 256) : k0_pay57 k0_pay8 m (k0_pay53 xq) (ix3 0 hd s) = ((qr g ig qs 1 s : ℝ) : EReal) := by
  pointwise [k0_pay57, k0_pay53]
  rw [pay8_at, sel0, hm, hq, Sr_eq, log2e_eq, ← EReal.coe_mul, ← EReal.coe_mul, qr]; split_ifs <;> rfl
include hq hm hb1 ha1 in
@[inherit_doc pay57_at] theorem pay70_at (s : Fin 256) : k0_pay70 k0_pay8 (k0_pay30 b1 a1 m) (k0_pay64 xq) (ix3 0 hd s) = ((qr g ig qs 2 s : ℝ) : EReal) := by
  pointwise [k0_pay70, k0_pay64]
  rw [pay8_at, sel0, pay30_at hb1 ha1 hm, hq, Sr_eq, log2e_eq, ← EReal.coe_mul, ← EReal.coe_mul, qr]; split_ifs <;> rfl
include hq hm hb1 hb2 ha1 ha2 in
@[inherit_doc pay57_at] theorem pay76_at (s : Fin 256) : k0_pay76 (k0_pay31 b1 b2 a1 a2 m) (k0_pay73 xq) (k0_pay75 k0_pay8) (ix3 0 hd s) = ((qr g ig qs 3 s : ℝ) : EReal) := by
  pointwise [k0_pay76, k0_pay73, k0_pay75]
  rw [pay8_at, sel0, pay31_at hb1 hb2 ha1 ha2 hm, hq, Sr_eq, log2e_eq, ← EReal.coe_mul, ← EReal.coe_mul, qr]; split_ifs <;> rfl

include hk hW ha0 hm in
/-- The normalizers' rows. -/
theorem pay77_at (s : Fin 256) : k0_pay77 xk k0_pay8 a0 W m (ix3 0 hd s) = ((nw g ig ks 1 (chunk s) * wt g ig s : ℝ) : EReal) := by
  pointwise [k0_pay77]
  rw [pay8_at, ladder, ha0, hm, hk, hW]
  simp only [← EReal.coe_sub, Ideal.exp_coe, ← EReal.coe_mul, nw]
  generalize chunk s = j
  fin_cases j <;> simp [ee, mp]
include hk hW ha0 ha1 hb1 hm in
@[inherit_doc pay77_at] theorem pay81_at (s : Fin 256) :
    k0_pay81 k0_pay8 W (k0_pay78 xk a1 (k0_pay30 b1 a1 m)) k0_pay79 (k0_pay80 xk (k0_pay30 b1 a1 m) (k0_pay40 b1 a0)) (ix3 0 hd s) = ((nw g ig ks 2 (chunk s) * wt g ig s : ℝ) : EReal) := by
  pointwise [k0_pay81, k0_pay78, k0_pay79, k0_pay80, k0_pay40]
  rw [pay8_at, sel3, sel2, sel1, pay30_at hb1 ha1 hm, ha0, ha1, hb1, hW]
  simp only [hk, ← EReal.coe_add, ← EReal.coe_sub, Ideal.exp_coe, ← EReal.coe_mul, nw]
  generalize chunk s = j
  fin_cases j <;> simp [ee, mp]
include hk hW ha0 ha1 ha2 hb1 hb2 hm in
@[inherit_doc pay77_at] theorem pay85_at (s : Fin 256) :
    k0_pay85 W (k0_pay82 xk k0_pay8 a2 (k0_pay31 b1 b2 a1 a2 m) (k0_pay41 b1 b2 a0) (k0_pay43 b2 a1)) (k0_pay83 k0_pay8) k0_pay84 (ix3 0 hd s) = ((nw g ig ks 3 (chunk s) * wt g ig s : ℝ) : EReal) := by
  pointwise [k0_pay85, k0_pay82, k0_pay83, k0_pay84, k0_pay41, k0_pay40, k0_pay43]
  rw [pay8_at, sel3, sel2, sel1, pay31_at hb1 hb2 ha1 ha2 hm, ha0, ha1, ha2, hb1, hb2, hW]
  simp only [hk, ← EReal.coe_add, ← EReal.coe_sub, Ideal.exp_coe, ← EReal.coe_mul, nw]
  generalize chunk s = j
  fin_cases j <;> simp [ee, mp]
end

end Cert.ML
-- ==== Proof.HHead.lean ====
/- The hidden state of one head, over the reals: what the kernel's chain of operations makes of the head's blocks and gate rows. -/
module

public import proofs.«01_k».proof.Proof.HGates

@[expose] public section

set_option maxRecDepth 16384

noncomputable section

namespace Cert.ML

open Idealize.ShloMosaic Cert.KernelIdeal Cert.KernelIdeal.Gen

/-- The two halves of 128 lanes. -/
def lo (x : Fin 64) : Fin 128 := ⟨x.val, by omega⟩
@[inherit_doc lo] def hi (x : Fin 64) : Fin 128 := ⟨64 + x.val, by omega⟩

theorem sum_half {α : Type} [AddCommMonoid α] (F : Fin 128 → α) : ∑ j, F j = (∑ x, F (lo x)) + ∑ x, F (hi x) := Fin.sum_univ_add (a := 64) (b := 64) F

/-- The masks of the two halves: the first half, the causal first half, and the causal second half. -/
theorem m122_lo : ∀ l x : Fin 64, k0_pay124 (ix2 l (lo x)) = 1#1 := by decide +kernel
@[inherit_doc m122_lo] theorem m122_hi : ∀ l x : Fin 64, k0_pay124 (ix2 l (hi x)) = 0#1 := by decide +kernel
@[inherit_doc m122_lo] theorem m124_lo : ∀ l x : Fin 64, k0_pay125 (ix2 l (lo x)) = BitVec.ofBool (decide (x ≤ l)) := by decide +kernel
@[inherit_doc m122_lo] theorem m124_hi : ∀ l x : Fin 64, k0_pay125 (ix2 l (hi x)) = 0#1 := by decide +kernel

/-- The mask of the causal second half. -/
def m129 : IVec S64x128 1 := k0_pay126 (iota .tc S64x128 32 [0] iota_S64x128_d0_w32) (iota .tc S64x128 32 [1] iota_S64x128_d1_w32) k0_pay124 (constantI S64x128 1 1#1)
@[inherit_doc m122_lo] theorem m129_lo : ∀ l x : Fin 64, m129 (ix2 l (lo x)) = 0#1 := by decide +kernel
@[inherit_doc m122_lo] theorem m129_hi : ∀ l x : Fin 64, m129 (ix2 l (hi x)) = BitVec.ofBool (decide (x ≤ l)) := by decide +kernel

theorem sel_same {α : Type} (m : BitVec 1) (a : α) : Scalar.select m a a = a := by unfold Scalar.select; split <;> rfl
theorem sel_one {α : Type} (a b : α) : Scalar.select 1#1 a b = a := rfl
theorem sel_zero {α : Type} (a b : α) : Scalar.select 0#1 a b = b := rfl

variable {g ig : Fin 256 → ℝ} {qs ks vs : Fin 4 → ℝ} {q k : Fin 256 → Fin 192 → ℝ} {v : Fin 256 → ℝ}

/-- The weight of a position's key at a query, from the plain product and from the one with the weighted key. -/
def om (g ig : Fin 256 → ℝ) (qs ks vs : Fin 4 → ℝ) (q k : Fin 256 → Fin 192 → ℝ) (c : Fin 4) (t s : Fin 256) : ℝ :=
  qk q k t s * sc qs ks vs Sr c (chunk s) * Real.exp (cum g t - mt g ig t + te g ig c s)
@[inherit_doc om] def oi (g ig : Fin 256 → ℝ) (qs ks vs : Fin 4 → ℝ) (q k : Fin 256 → Fin 192 → ℝ) (c : Fin 4) (t s : Fin 256) : ℝ :=
  (∑ d, q t d * (k s d * wt g ig s)) * sc qs ks vs Sr c (chunk s) * Real.exp (cum g t - mt g ig t + te g ig c s)

/-- The query's exponent, for a power of two. -/
def uu (g ig : Fin 256 → ℝ) (t : Fin 256) : ℝ := (cum g t - mt g ig t) * (Real.log 2)⁻¹

theorem ex_at (t : Fin 256) (e : ℝ) : (FloatOps.exp2 (((uu g ig t : ℝ) : EReal) + ((e * (Real.log 2)⁻¹ : ℝ) : EReal) : Ideal .f32) : Ideal .f32) = ((Real.exp (cum g t - mt g ig t + e) : ℝ) : EReal) := by
  show Ideal.exp2 _ = _
  rw [← EReal.coe_add, Ideal.exp2_coe]; exact congrArg _ (x2_log _ _)

/-- A row laid out along the queries. -/
theorem col_at (U : Vec Ideal S1x1x256 .f32) (r : Fin 256) (j : Fin 128) : k0_pay122 U (ix2 r j) = U (ix3 0 0 r) := by
  pointwise [k0_pay122]
  split_ifs with h
  · rfl
  all_goals
    refine congrArg (fun z => U (ix3 0 0 z)) (Fin.ext ?_)
    show 128 + (r.val - 128) = r.val
    omega
@[inherit_doc col_at] theorem col_at' (U : Vec Ideal S1x1x256 .f32) (r : Fin 256) (j : Fin 128) : k0_pay123 U (ix2 r j) = U (ix3 0 0 r) := by
  pointwise [k0_pay123]
  split_ifs with h
  · rfl
  all_goals
    refine congrArg (fun z => U (ix3 0 0 z)) (Fin.ext ?_)
    show 128 + (r.val - 128) = r.val
    omega

/-- A position of the first and of the last two chunks. -/
def dn (j : Fin 128) : Fin 256 := ⟨j.val, by omega⟩
@[inherit_doc dn] def up (j : Fin 128) : Fin 256 := ⟨128 + j.val, by omega⟩
theorem dn_lo (x : Fin 64) : dn (lo x) = pos 0 x := Fin.ext (show x.val = 64 * 0 + x.val by omega)
theorem dn_hi (x : Fin 64) : dn (hi x) = pos 1 x := rfl
theorem up_lo (x : Fin 64) : up (lo x) = pos 2 x := rfl
theorem up_hi (x : Fin 64) : up (hi x) = pos 3 x := Fin.ext (show 128 + (64 + x.val) = 64 * 3 + x.val by omega)

theorem coe_self (r : ℝ) : ((r : ℝ) : EReal) - ((r : ℝ) : EReal) = 0 := by rw [← EReal.coe_sub, sub_self, EReal.coe_zero]
theorem coe_if (p : Prop) [Decidable p] (a : ℝ) : (if p then ((a : ℝ) : EReal) else 0) = ((if p then a else 0 : ℝ) : EReal) := by split_ifs <;> rfl
theorem abs_coe (r : ℝ) : (FloatOps.absf (((r : ℝ) : EReal) : Ideal .f32) : Ideal .f32) = ((|r| : ℝ) : EReal) := by
  show ((max r (-r) : ℝ) : EReal) = _
  rfl

/-- On a chunk's own positions and on those of the others the weights are the ones of the kernel's sum. -/
theorem om_dg (c : Fin 4) (t : Fin 256) (x : Fin 64) : om g ig qs ks vs q k c t (pos c x) = dg g ig qs ks vs Sr q k c t (pos c x) := by
  rw [om, dg, te, chunk_pos, if_pos rfl]
@[inherit_doc om_dg] theorem oi_og {c j : Fin 4} (h : j ≠ c) (t : Fin 256) (x : Fin 64) : oi g ig qs ks vs q k c t (pos j x) = og g ig qs ks vs Sr q k c t (pos j x) := by
  rw [oi, og, te, chunk_pos, if_neg h]

section
variable {v9 v11 : Vec Ideal S1x1x256x192 .fp8e4m3} {W N0 N1 N2 N3 : Vec Ideal S1x1x256 .f32}
  (hq : ∀ s d, v9 (ix4 0 0 s d) = ((q s d : ℝ) : EReal)) (hk : ∀ s d, v11 (ix4 0 0 s d) = ((k s d : ℝ) : EReal))
  (hW : ∀ s, W (ix3 0 0 s) = ((wt g ig s : ℝ) : EReal))

include hq hk in
/-- The products of the queries and the keys of the first two and of the last two chunks, -/
theorem p91 (a b : Fin 128) (t s : Fin 256) (ht : t.val = a.val) (hs : s.val = b.val) : k0_pay120 (k0_pay102 v9) (k0_pay103 v11) (ix2 a b) = ((qk q k t s : ℝ) : EReal) := by
  pointwise [k0_pay120, k0_pay102, k0_pay103]
  simp only [hq, hk, ← EReal.coe_mul]
  rw [qk, coe_sum]
  exact Finset.sum_congr rfl fun d _ => congrArg _ (by rw [show t = dn a from Fin.ext ht, show s = dn b from Fin.ext hs]; rfl)
include hq hk in
@[inherit_doc p91] theorem p94 (a b : Fin 128) (t s : Fin 256) (ht : t.val = 128 + a.val) (hs : s.val = 128 + b.val) : k0_pay121 (k0_pay102 v9) (k0_pay103 v11) (ix2 a b) = ((qk q k t s : ℝ) : EReal) := by
  pointwise [k0_pay121, k0_pay102, k0_pay103]
  simp only [hq, hk, ← EReal.coe_mul]
  rw [qk, coe_sum]
  exact Finset.sum_congr rfl fun d _ => congrArg _ (by rw [show t = up a from Fin.ext ht, show s = up b from Fin.ext hs]; rfl)
include hq hk hW in
/-- those of the later queries and the weighted keys, -/
theorem p88 (a : Fin 192) (s t : Fin 256) (ht : t.val = 64 + a.val) : k0_pay119 (k0_pay105 v9) (k0_pay106 v11 W) (ix2 a s) = ((∑ d, q t d * (k s d * wt g ig s) : ℝ) : EReal) := by
  pointwise [k0_pay119, k0_pay105, k0_pay106, k0_pay102, k0_pay103]
  simp only [hq, hk, hW, ← EReal.coe_mul]
  rw [coe_sum]
  exact Finset.sum_congr rfl fun d _ => congrArg _ (by rw [show t = ⟨64 + a.val, by omega⟩ from Fin.ext ht])

include hk in
/-- the normalizers before the chunks, -/
theorem p109 {n : Fin 4} (hn : n ≠ 3) {N : Fin 256 → ℝ} (hN : ∀ s, (![N0, N1, N2, N3] n) (ix3 0 0 s) = ((N s : ℝ) : EReal)) (d : Fin 192) :
    k0_pay109 (k0_pay103 v11) (k0_pay107 N0) (k0_pay108 N1) N2 N3 (ix2 n d) = ((∑ s, N s * k s d : ℝ) : EReal) := by
  have fin : ∀ M : Vec Ideal S1x1x256 .f32, (∀ s, M (ix3 0 0 s) = ((N s : ℝ) : EReal)) → ∑ x, M (ix3 0 0 x) * v11 (ix4 0 0 x d) + ∑ x, (M (ix3 0 0 x) - M (ix3 0 0 x)) * v11 (ix4 0 0 x d)
      + ∑ x, (M (ix3 0 0 x) - M (ix3 0 0 x) - (M (ix3 0 0 x) - M (ix3 0 0 x))) * v11 (ix4 0 0 x d) = ((∑ s, N s * k s d : ℝ) : EReal) := by
    intro M hM
    simp only [hM, hk, coe_self, sub_zero, zero_mul, Finset.sum_const_zero, add_zero, ← EReal.coe_mul]
    exact (coe_sum _ _).symm
  fin_cases n
  · pointwise [k0_pay109, k0_pay103, k0_pay107, k0_pay108]
    exact fin N0 hN
  · pointwise [k0_pay109, k0_pay103, k0_pay107, k0_pay108]
    exact fin N1 hN
  · pointwise [k0_pay109, k0_pay103, k0_pay107, k0_pay108]
    exact fin N2 hN
  · exact absurd rfl hn

include hq hk in
/-- and their products with the queries, with their two lower parts. -/
theorem p65 {n : Fin 4} (hn : n ≠ 3) {N : Fin 256 → ℝ} (hN : ∀ s, (![N0, N1, N2, N3] n) (ix3 0 0 s) = ((N s : ℝ) : EReal)) (t : Fin 256) :
    k0_pay111 (k0_pay103 v11) (k0_pay105 v9) (k0_pay107 N0) (k0_pay108 N1) N2 N3 (ix2 t ⟨n.val, by omega⟩) = ((∑ d, q t d * ∑ s, N s * k s d : ℝ) : EReal)
      ∧ k0_pay111 (k0_pay103 v11) (k0_pay105 v9) (k0_pay107 N0) (k0_pay108 N1) N2 N3 (ix2 t ⟨n.val + 4, by omega⟩) = 0
      ∧ k0_pay111 (k0_pay103 v11) (k0_pay105 v9) (k0_pay107 N0) (k0_pay108 N1) N2 N3 (ix2 t ⟨n.val + 8, by omega⟩) = 0 := by
  have h := p109 hk hn hN
  fin_cases n
  all_goals first
    | exact absurd rfl hn
    | (refine ⟨?_, ?_, ?_⟩
       · pointwise [k0_pay111, k0_pay105, k0_pay102]
         refine (Finset.sum_congr rfl fun d _ => ?_ : _ = ∑ d, ((q t d * ∑ s, N s * k s d : ℝ) : EReal)).trans (coe_sum _ _).symm
         exact (congrArg₂ (· * ·) (hq t d) (h d)).trans (EReal.coe_mul _ _).symm
       · pointwise [k0_pay111, k0_pay105, k0_pay102]
         refine Finset.sum_eq_zero fun d _ => ?_
         refine (congrArg (_ * ·) ((congrArg₂ (· - ·) (h d) (h d)).trans (coe_self _))).trans (mul_zero _)
       · pointwise [k0_pay111, k0_pay105, k0_pay102]
         refine Finset.sum_eq_zero fun d _ => ?_
         refine (congrArg (_ * ·) (congrArg₂ (· - ·) ((congrArg₂ (· - ·) (h d) (h d)).trans (coe_self _)) ((congrArg₂ (· - ·) (h d) (h d)).trans (coe_self _)))).trans ?_
         exact (congrArg (_ * ·) (sub_zero (0 : EReal))).trans (mul_zero _))
end

section
variable {v91 v94 : FVec Ideal S128x128 .f32} {v88 : FVec Ideal S192x256 .f32} {v106 v118 : FVec Ideal S256x128 .f32} {v65 : FVec Ideal S256x12 .f32}
  {T C Q : Vec Ideal S1x1x256 .f32} {v172 : FVec Ideal S64x128 .f32} {c : Fin 4}
  (h91 : ∀ (a b : Fin 128) (t s : Fin 256), t.val = a.val → s.val = b.val → v91 (ix2 a b) = ((qk q k t s : ℝ) : EReal))
  (h94 : ∀ (a b : Fin 128) (t s : Fin 256), t.val = 128 + a.val → s.val = 128 + b.val → v94 (ix2 a b) = ((qk q k t s : ℝ) : EReal))
  (h88 : ∀ (a : Fin 192) (s t : Fin 256), t.val = 64 + a.val → v88 (ix2 a s) = ((∑ d, q t d * (k s d * wt g ig s) : ℝ) : EReal))
  (h106 : ∀ (r : Fin 256) (j : Fin 128), v106 (ix2 r j) = ((uu g ig r : ℝ) : EReal))
  (h118 : ∀ (r : Fin 256) (j : Fin 128), v118 (ix2 r j) = ((Real.exp (-mt g ig r) : ℝ) : EReal))
  (hT : ∀ s, T (ix3 0 0 s) = ((te g ig c s * (Real.log 2)⁻¹ : ℝ) : EReal))
  (hC : ∀ s, C (ix3 0 0 s) = ((sc qs ks vs Sr c (chunk s) : ℝ) : EReal))
  (hQ0 : Q (ix3 0 0 0) = ((mp g ig c * (Real.log 2)⁻¹ : ℝ) : EReal)) (hQ1 : Q (ix3 0 0 255) = ((qs c * Sr : ℝ) : EReal))

include h91 h106 hT hC in
/-- The weights of the first chunk's queries: the causal ones of their own chunk, -/
theorem w0_lo (l x : Fin 64) : k0_pay127 v91 v106 k0_pay125 T C (ix2 l (lo x)) = ((if x ≤ l then om g ig qs ks vs q k c (pos 0 l) (pos 0 x) else 0 : ℝ) : EReal) := by
  pointwise [k0_pay127]
  rw [h91 _ _ (pos 0 l) (pos 0 x) (by simp [pos]) (by simp [pos, lo]), m124_lo, select_dec, h106, hT, hC, ex_at, ← EReal.coe_mul, ← EReal.coe_mul, coe_if, ← dn_lo x, ← dn_lo l]; rfl
@[inherit_doc w0_lo] theorem w0_hi (l x : Fin 64) : k0_pay127 v91 v106 k0_pay125 T C (ix2 l (hi x)) = 0 := by
  pointwise [k0_pay127]
  rw [m124_hi, sel_zero]

include h91 h106 hT hC in
/-- of the second's, -/
theorem w172_hi (l x : Fin 64) : k0_pay133 v91 v106 (iota .tc S64x128 32 [0] iota_S64x128_d0_w32) (iota .tc S64x128 32 [1] iota_S64x128_d1_w32) k0_pay124 (constantI S64x128 1 1#1) T C (ix2 l (hi x))
    = ((if x ≤ l then om g ig qs ks vs q k c (pos 1 l) (pos 1 x) else 0 : ℝ) : EReal) := by
  have h := m129_hi l x
  rw [m129] at h
  pointwise [k0_pay133, k0_pay131, k0_pay132, k0_pay130]
  rw [h91 _ _ (pos 1 l) (pos 1 x) (by simp [pos]) (by simp [pos, hi]), h, select_dec, h106, hT, hC, ex_at, ← EReal.coe_mul, ← EReal.coe_mul, coe_if, ← dn_hi x, ← dn_hi l]; rfl
include h88 h106 hT hC in
@[inherit_doc w172_hi] theorem w1_lo (l x : Fin 64) : k0_pay134 v88 k0_pay124 (k0_pay131 v106 T) (k0_pay132 C) v172 (ix2 l (lo x)) = ((oi g ig qs ks vs q k c (pos 1 l) (pos 0 x) : ℝ) : EReal) := by
  pointwise [k0_pay134, k0_pay131, k0_pay132, k0_pay130]
  rw [m122_lo, sel_one, h88 _ _ (pos 1 l) (by simp [pos]), h106, hT, hC, ex_at, ← EReal.coe_mul, ← EReal.coe_mul, ← dn_lo x]; rfl
@[inherit_doc w172_hi] theorem w1_hi (v166 : FVec Ideal S64x128 .f32) (v167 : FVec Ideal S1x128 .f32) (l x : Fin 64) : k0_pay134 v88 k0_pay124 v166 v167 v172 (ix2 l (hi x)) = v172 (ix2 l (hi x)) := by
  pointwise [k0_pay134]
  rw [m122_hi, sel_zero]

include h88 h106 hT hC in
/-- of the third's, -/
theorem w2_lo (l : Fin 64) (j : Fin 128) : k0_pay144 v88 (k0_pay141 v106) (k0_pay142 T) C (ix2 l j) = ((oi g ig qs ks vs q k c (pos 2 l) (dn j) : ℝ) : EReal) := by
  pointwise [k0_pay144, k0_pay141, k0_pay142, k0_pay143]
  rw [h88 _ _ (pos 2 l) (by simp [pos]; omega), h106, hT, hC, ex_at, ← EReal.coe_mul, ← EReal.coe_mul]; rfl
include h94 h106 hT hC in
@[inherit_doc w2_lo] theorem w2_hi (l x : Fin 64) : k0_pay145 v94 k0_pay125 (k0_pay141 v106) (k0_pay142 T) C (ix2 l (lo x)) = ((if x ≤ l then om g ig qs ks vs q k c (pos 2 l) (pos 2 x) else 0 : ℝ) : EReal) := by
  pointwise [k0_pay145, k0_pay141, k0_pay142, k0_pay143]
  rw [h94 _ _ (pos 2 l) (pos 2 x) (by simp [pos]) (by simp [pos, lo]), m124_lo, select_dec, h106, hT, hC, ex_at, ← EReal.coe_mul, ← EReal.coe_mul, coe_if, ← up_lo x, ← up_lo l]; rfl
@[inherit_doc w2_lo] theorem w2_no (v220 : FVec Ideal S64x128 .f32) (v223 : FVec Ideal S1x256 .f32) (l x : Fin 64) : k0_pay145 v94 k0_pay125 v220 v223 C (ix2 l (hi x)) = 0 := by
  pointwise [k0_pay145, k0_pay143]
  rw [m124_hi, sel_zero]

include h88 h106 hT hC in
/-- and of the fourth's. -/
theorem w3_lo (l : Fin 64) (j : Fin 128) : k0_pay155 v88 v106 T C (ix2 l j) = ((oi g ig qs ks vs q k c (pos 3 l) (dn j) : ℝ) : EReal) := by
  pointwise [k0_pay155, k0_pay152, k0_pay153, k0_pay154]
  rw [h88 _ _ (pos 3 l) (by simp [pos]; omega), h106, hT, hC, ex_at, ← EReal.coe_mul, ← EReal.coe_mul]; rfl
include h94 h106 hT hC in
@[inherit_doc w3_lo] theorem w158_hi (l x : Fin 64) : k0_pay158 v94 v106 m129 T C (ix2 l (hi x)) = ((if x ≤ l then om g ig qs ks vs q k c (pos 3 l) (pos 3 x) else 0 : ℝ) : EReal) := by
  pointwise [k0_pay158, k0_pay152, k0_pay153, k0_pay154, k0_pay156, k0_pay157]
  rw [h94 _ _ (pos 3 l) (pos 3 x) (by simp [pos]; omega) (by simp [pos, hi]; omega), m129_hi, select_dec, h106, hT, hC, ex_at, ← EReal.coe_mul, ← EReal.coe_mul, coe_if, ← up_hi x]; rfl
include h88 h106 hT hC in
@[inherit_doc w3_lo] theorem w3_mid (l x : Fin 64) : k0_pay159 v88 v94 v106 k0_pay124 m129 T C (ix2 l (lo x)) = ((oi g ig qs ks vs q k c (pos 3 l) (pos 2 x) : ℝ) : EReal) := by
  pointwise [k0_pay159, k0_pay152, k0_pay153, k0_pay154, k0_pay156, k0_pay157]
  rw [m122_lo, sel_one, h88 _ _ (pos 3 l) (by simp [pos]; omega), h106, hT, hC, ex_at, ← EReal.coe_mul, ← EReal.coe_mul, ← up_lo x]; rfl
@[inherit_doc w3_lo] theorem w3_hi (l x : Fin 64) : k0_pay159 v88 v94 v106 k0_pay124 m129 T C (ix2 l (hi x)) = k0_pay158 v94 v106 m129 T C (ix2 l (hi x)) := by
  pointwise [k0_pay159]
  rw [m122_hi, sel_zero]

/-- A denominator from its sum of weights, its normalizer and its floor. -/
theorem den_at {c : Fin 4} {l : Fin 64} {X : Fin 64 → ℝ} (hX : ∀ x, X x = if x ≤ l then om g ig qs ks vs q k c (pos c l) (pos c x) else 0) :
    max (FloatOps.absf (∑ x, ((X x : ℝ) : EReal) + FloatOps.exp2 (((uu g ig (pos c l) : ℝ) : EReal) + ((mp g ig c * (Real.log 2)⁻¹ : ℝ) : EReal) : Ideal .f32) * ((qs c * Sr : ℝ) : EReal)
        * (((∑ d, q (pos c l) d * nst g ig ks k c d : ℝ) : EReal) + 0 + 0) : Ideal .f32) : Ideal .f32) ((Real.exp (-mt g ig (pos c l)) : ℝ) : EReal)
      = ((denK g ig qs ks vs Sr q k c l : ℝ) : EReal) := by
  rw [ex_at, add_zero, add_zero, ← EReal.coe_mul, ← EReal.coe_mul, ← coe_sum, ← EReal.coe_add]
  refine (congrArg (fun z => max z _) (abs_coe _)).trans ?_
  rw [coe_max, denK]
  simp only [hX, om_dg]

include h91 h106 h118 hT hC in
/-- The denominators of the first chunk, -/
theorem d0 (l : Fin 64) (j : Fin 128) (hc : c = 0) : k0_pay128 v91 v106 v118 k0_pay125 T C (ix2 l j) = ((denK g ig qs ks vs Sr q k 0 l : ℝ) : EReal) := by
  subst hc
  pointwise [k0_pay128]
  rw [h118, sum_half]
  simp only [w0_lo h91 h106 hT hC, w0_hi, Finset.sum_const_zero, add_zero]
  rw [← coe_sum]
  refine (congrArg (fun z => max z _) (abs_coe _)).trans ?_
  rw [coe_max, denK, ← dn_lo l]
  simp only [om_dg, nst, nw, Fin.not_lt_zero, if_false, zero_mul, Finset.sum_const_zero, mul_zero, add_zero]
  rfl

include h106 h118 hQ0 hQ1 in
/-- of the second, -/
theorem d1 (h65 : ∀ t, v65 (ix2 t 0) = ((∑ d, q t d * nst g ig ks k c d : ℝ) : EReal)) (h65b : ∀ t, v65 (ix2 t 4) = 0) (h65c : ∀ t, v65 (ix2 t 8) = 0) (hc : c = 1)
    (h172 : ∀ l x, v172 (ix2 l (hi x)) = ((if x ≤ l then om g ig qs ks vs q k c (pos 1 l) (pos 1 x) else 0 : ℝ) : EReal)) (l : Fin 64) (j : Fin 128) :
    k0_pay135 v65 v118 k0_pay124 (k0_pay130 v106) v172 Q (ix2 l j) = ((denK g ig qs ks vs Sr q k 1 l : ℝ) : EReal) := by
  subst hc
  pointwise [k0_pay135, k0_pay130]
  rw [sum_half]
  simp only [h106, h118, hQ0, hQ1, h65, h65b, h65c, m122_lo, m122_hi, sel_one, sel_zero, h172, Finset.sum_const_zero, zero_add]
  have h := den_at (g := g) (ig := ig) (qs := qs) (ks := ks) (vs := vs) (q := q) (k := k) (c := 1) (l := l) (X := fun x => if x ≤ l then om g ig qs ks vs q k 1 (pos 1 l) (pos 1 x) else 0) fun _ => rfl
  simp only [add_zero] at h ⊢
  exact h

theorem p141 (l : Fin 64) (j : Fin 128) : k0_pay141 v106 (ix2 l j) = v106 (ix2 (pos 2 l) j) := by
  pointwise [k0_pay141]; rfl

include h94 h106 h118 hT hC hQ0 hQ1 in
/-- of the third, -/
theorem d2 (h65 : ∀ t, v65 (ix2 t 1) = ((∑ d, q t d * nst g ig ks k c d : ℝ) : EReal)) (h65b : ∀ t, v65 (ix2 t 5) = 0) (h65c : ∀ t, v65 (ix2 t 9) = 0) (hc : c = 2) (l : Fin 64) (j : Fin 128) :
    k0_pay146 v65 v94 v118 k0_pay125 (k0_pay141 v106) (k0_pay142 T) C Q (ix2 l j) = ((denK g ig qs ks vs Sr q k 2 l : ℝ) : EReal) := by
  subst hc
  pointwise [k0_pay146]
  rw [sum_half]
  simp only [p141, h106, h118, hQ0, hQ1, h65, h65b, h65c, w2_hi h94 h106 hT hC, w2_no, Finset.sum_const_zero, add_zero]
  have h := den_at (g := g) (ig := ig) (qs := qs) (ks := ks) (vs := vs) (q := q) (k := k) (c := 2) (l := l) (X := fun x => if x ≤ l then om g ig qs ks vs q k 2 (pos 2 l) (pos 2 x) else 0) fun _ => rfl
  simp only [add_zero] at h
  exact h

include h94 h106 h118 hT hC hQ0 hQ1 in
/-- and of the fourth. -/
theorem d3 (h65 : ∀ t, v65 (ix2 t 2) = ((∑ d, q t d * nst g ig ks k c d : ℝ) : EReal)) (h65b : ∀ t, v65 (ix2 t 6) = 0) (h65c : ∀ t, v65 (ix2 t 10) = 0) (hc : c = 3) (l : Fin 64) (j : Fin 128) :
    k0_pay164 v118 (k0_pay160 v94 v106 k0_pay124 m129 T C) (k0_pay161 v106 Q) (k0_pay162 v65) (k0_pay163 v65) (ix2 l j) = ((denK g ig qs ks vs Sr q k 3 l : ℝ) : EReal) := by
  subst hc
  pointwise [k0_pay164, k0_pay160, k0_pay161, k0_pay162, k0_pay163, k0_pay152]
  rw [sum_half]
  simp only [h106, h118, hQ0, hQ1, h65, h65b, h65c, m122_lo, m122_hi, sel_one, sel_zero, w158_hi h94 h106 hT hC, Finset.sum_const_zero, zero_add]
  have h := den_at (g := g) (ig := ig) (qs := qs) (ks := ks) (vs := vs) (q := q) (k := k) (c := 3) (l := l) (X := fun x => if x ≤ l then om g ig qs ks vs q k 3 (pos 3 l) (pos 3 x) else 0) fun _ => rfl
  simp only [add_zero] at h ⊢
  exact h
end

section
variable {vb : Vec Ideal S1x1x256x384 .fp8e4m3} {e : Fin 384} (hv : ∀ s, vb (ix4 0 0 s e) = ((v s : ℝ) : EReal))
  {a b c : FVec Ideal S64x128 .bf16} {x y : FVec Ideal S64x128 .f32} {A B C X Y : Fin 64 → Fin 128 → ℝ}

include hv in
/-- The sums over the values: the first chunk's, -/
theorem n0 (ha : ∀ l j, a (ix2 l j) = ((A l j : ℝ) : EReal)) (l : Fin 64) :
    k0_pay165 (k0_pay104 vb) k0_pay124 a b c x y (ix2 ⟨l.val, by omega⟩ e) = ((∑ j, A l j * v (dn j) : ℝ) : EReal) := by
  pointwise [k0_pay165, k0_pay104]
  simp only [l.isLt, ↓reduceDIte, zero_mul, Finset.sum_const_zero, add_zero, hv, ha, ← EReal.coe_mul]
  rw [coe_sum]; rfl
include hv in
/-- the third's, -/
theorem n2 (hb : ∀ l j, b (ix2 l j) = ((B l j : ℝ) : EReal)) (hc : ∀ l j, c (ix2 l j) = ((C l j : ℝ) : EReal)) (l : Fin 64) :
    k0_pay165 (k0_pay104 vb) k0_pay124 a b c x y (ix2 ⟨64 + l.val, by omega⟩ e) = ((∑ j, B l j * v (dn j) + ∑ j, C l j * v (up j) : ℝ) : EReal) := by
  have h1 : ¬ (64 + l.val < 64) := by omega
  pointwise [k0_pay165, k0_pay104]
  simp only [h1, Nat.add_sub_cancel_left, l.isLt, ↓reduceDIte, hv, hb, hc, ← EReal.coe_mul]
  rw [EReal.coe_add, coe_sum, coe_sum]; rfl
include hv in
/-- and the fourth's, whose two lower parts vanish. -/
theorem n3 (hx : ∀ l j, x (ix2 l j) = ((X l j : ℝ) : EReal)) (hy : ∀ l j, y (ix2 l j) = ((Y l j : ℝ) : EReal)) (l : Fin 64) :
    k0_pay171 (k0_pay165 (k0_pay104 vb) k0_pay124 a b c x y) (ix2 l e) = ((∑ j, X l j * v (dn j) + ∑ j, Y l j * v (up j) : ℝ) : EReal) := by
  have h0 : k0_pay165 (k0_pay104 vb) k0_pay124 a b c x y (ix2 ⟨128 + l.val, by omega⟩ e) = ((∑ j, X l j * v (dn j) + ∑ j, Y l j * v (up j) : ℝ) : EReal) := by
    have h1 : ¬ (128 + l.val < 64) := by omega
    have h2 : ¬ (128 + l.val - 64 < 64) := by omega
    have h3 : 128 + l.val - 64 - 64 = l.val := by omega
    pointwise [k0_pay165, k0_pay104]
    simp only [h1, h2, h3, l.isLt, ↓reduceDIte, hv, hx, hy, ← EReal.coe_mul]
    rw [EReal.coe_add, coe_sum, coe_sum]; rfl
  have h1 : k0_pay165 (k0_pay104 vb) k0_pay124 a b c x y (ix2 ⟨192 + l.val, by omega⟩ e) = 0 := by
    have h1 : ¬ (192 + l.val < 64) := by omega
    have h2 : ¬ (192 + l.val - 64 < 64) := by omega
    have h3 : ¬ (192 + l.val - 64 - 64 < 64) := by omega
    have h4 : 192 + l.val - 64 - 64 - 64 = l.val := by omega
    pointwise [k0_pay165, k0_pay104]
    simp only [h1, h2, h3, h4, l.isLt, ↓reduceDIte, hx, hy, coe_self, sel_same, zero_mul, Finset.sum_const_zero, add_zero]
  have h2 : k0_pay165 (k0_pay104 vb) k0_pay124 a b c x y (ix2 ⟨256 + l.val, by omega⟩ e) = 0 := by
    have h1 : ¬ (256 + l.val < 64) := by omega
    have h2 : ¬ (256 + l.val - 64 < 64) := by omega
    have h3 : ¬ (256 + l.val - 64 - 64 < 64) := by omega
    have h4 : ¬ (256 + l.val - 64 - 64 - 64 < 64) := by omega
    have h5 : 256 + l.val - 64 - 64 - 64 - 64 = l.val := by omega
    pointwise [k0_pay165, k0_pay104]
    simp only [h1, h2, h3, h4, h5, ↓reduceDIte, hx, hy, coe_self, sub_zero, sel_same, zero_mul, Finset.sum_const_zero, add_zero]
  pointwise [k0_pay171]
  rw [h0, h1, h2, add_zero, add_zero]

include hv in
/-- The second's, whose lower parts vanish too, -/
theorem n1 (ha : ∀ l j, a (ix2 l j) = ((A l j : ℝ) : EReal)) (hb : ∀ l j, b (ix2 l j) = 0) (hc : ∀ l j, c (ix2 l j) = 0) (l : Fin 64) :
    k0_pay169 (k0_pay167 (k0_pay104 vb)) (k0_pay168 k0_pay124 a b c) (ix2 l e) = ((∑ j, A l j * v (dn j) : ℝ) : EReal) := by
  pointwise [k0_pay169, k0_pay167, k0_pay104, k0_pay168]
  refine (Fin.sum_univ_add (a := 128) (b := 128) _).trans ?_
  have h1 : ∀ i : Fin 128, (Fin.castAdd 128 i).val < 128 := fun i => i.isLt
  have h2 : ∀ i : Fin 128, ¬ ((Fin.natAdd 128 i).val < 128) := fun i => by simp
  simp only [h1, h2, ↓reduceDIte, hb, hc, sel_same, zero_mul, Finset.sum_const_zero, add_zero, ha, hv, ← EReal.coe_mul]
  rw [coe_sum]; rfl
include hv in
/-- and the third's lower parts. -/
theorem n2z (ha : ∀ l j, a (ix2 l j) = 0) (hb : ∀ l j, b (ix2 l j) = 0) (l : Fin 64) : k0_pay166 (k0_pay104 vb) a b (ix2 l e) = 0 := by
  pointwise [k0_pay166, k0_pay104]
  simp only [ha, hb, zero_mul, Finset.sum_const_zero, add_zero]
end

section
variable {v88 : FVec Ideal S192x256 .f32} {v122 : IVec S64x128 1} {v166 v172 v220 : FVec Ideal S64x128 .f32} {v167 : FVec Ideal S1x128 .f32} {v223 : FVec Ideal S1x256 .f32} {C : Vec Ideal S1x1x256 .f32} {X : Fin 64 → Fin 128 → ℝ}
/-- The lower parts of real weights vanish. -/
theorem z139 (h : ∀ l j, k0_pay134 v88 v122 v166 v167 v172 (ix2 l j) = ((X l j : ℝ) : EReal)) (l : Fin 64) (j : Fin 128) : k0_pay139 v88 v122 v166 v167 v172 (ix2 l j) = 0 := by
  pointwise [k0_pay139, k0_pay138, k0_pay137, k0_pay136]
  rw [h, coe_self, sel_same]
@[inherit_doc z139] theorem z140 (h : ∀ l j, k0_pay134 v88 v122 v166 v167 v172 (ix2 l j) = ((X l j : ℝ) : EReal)) (l : Fin 64) (j : Fin 128) : k0_pay140 v88 v122 v166 v167 v172 (ix2 l j) = 0 := by
  pointwise [k0_pay140, k0_pay138, k0_pay137, k0_pay136]
  rw [h, coe_self, sub_zero, sel_same]
@[inherit_doc z139] theorem z149 (h : ∀ l j, k0_pay144 v88 v220 v223 C (ix2 l j) = ((X l j : ℝ) : EReal)) (l : Fin 64) (j : Fin 128) : k0_pay149 v88 v220 v223 C (ix2 l j) = 0 := by
  pointwise [k0_pay149, k0_pay148, k0_pay147]
  rw [h, coe_self]
@[inherit_doc z139] theorem z150 (h : ∀ l j, k0_pay144 v88 v220 v223 C (ix2 l j) = ((X l j : ℝ) : EReal)) (l : Fin 64) (j : Fin 128) : k0_pay150 v88 v220 v223 C (ix2 l j) = 0 := by
  pointwise [k0_pay150, k0_pay149, k0_pay148, k0_pay147]
  rw [h, coe_self, sub_zero]
end

end Cert.ML
-- ==== Proof.HHid.lean ====
/- The hidden state of one head as the kernel's four pieces, each read at a position of its chunk. -/
module

public import proofs.«01_k».proof.Proof.HHead

@[expose] public section

set_option maxRecDepth 16384

noncomputable section

namespace Cert.ML

open Idealize.ShloMosaic Cert.KernelIdeal Cert.KernelIdeal.Gen

section
variable (a9 a11 : Vec Ideal S1x1x256x192 .fp8e4m3) (a13 : Vec Ideal S1x1x256x384 .fp8e4m3) (R : Fin 21 → Vec Ideal S1x1x256 .f32)

/-- The products that the pieces share: queries and keys of the first and of the last two chunks, queries and weighted keys, queries and normalizers. -/
def hA : FVec Ideal S128x128 .f32 := k0_pay120 (k0_pay102 a9) (k0_pay103 a11)
@[inherit_doc hA] def hA' : FVec Ideal S128x128 .f32 := k0_pay121 (k0_pay102 a9) (k0_pay103 a11)
@[inherit_doc hA] def hG : FVec Ideal S192x256 .f32 := k0_pay119 (k0_pay105 a9) (k0_pay106 a11 (R 0))
@[inherit_doc hA] def hN : FVec Ideal S256x12 .f32 := k0_pay111 (k0_pay103 a11) (k0_pay105 a9) (k0_pay107 (R 12)) (k0_pay108 (R 13)) (R 14) (R 15)
/-- The second chunk's causal weights. -/
def hB1 : FVec Ideal S64x128 .f32 :=
  k0_pay133 (hA a9 a11) (k0_pay122 (R 2)) (iota .tc S64x128 32 [0] iota_S64x128_d0_w32) (iota .tc S64x128 32 [1] iota_S64x128_d1_w32) k0_pay124 (constantI S64x128 1 1#1) (R 5) (R 9)
/-- The sums over the values: of the first, third and fourth chunk, -/
def hS : FVec Ideal S320x384 .f32 :=
  k0_pay165 (k0_pay104 a13) k0_pay124 (k0_pay129 (hA a9 a11) (k0_pay122 (R 2)) k0_pay125 (R 4) (R 8))
    (k0_pay147 (hG a9 a11 R) (k0_pay141 (k0_pay122 (R 2))) (k0_pay142 (R 6)) (R 10))
    (k0_pay151 (k0_pay145 (hA' a9 a11) k0_pay125 (k0_pay141 (k0_pay122 (R 2))) (k0_pay142 (R 6)) (R 10)))
    (k0_pay155 (hG a9 a11 R) (k0_pay122 (R 2)) (R 7) (R 11))
    (k0_pay159 (hG a9 a11 R) (hA' a9 a11) (k0_pay122 (R 2)) k0_pay124 m129 (R 7) (R 11))
/-- and of the second. -/
def hS1 : FVec Ideal S64x384 .f32 :=
  k0_pay169 (k0_pay167 (k0_pay104 a13)) (k0_pay168 k0_pay124
    (k0_pay136 (hG a9 a11 R) k0_pay124 (k0_pay131 (k0_pay122 (R 2)) (R 5)) (k0_pay132 (R 9)) (hB1 a9 a11 R))
    (k0_pay139 (hG a9 a11 R) k0_pay124 (k0_pay131 (k0_pay122 (R 2)) (R 5)) (k0_pay132 (R 9)) (hB1 a9 a11 R))
    (k0_pay140 (hG a9 a11 R) k0_pay124 (k0_pay131 (k0_pay122 (R 2)) (R 5)) (k0_pay132 (R 9)) (hB1 a9 a11 R)))

/-- The four pieces. -/
def hP0 : Vec Ideal S1x1x64x384 .bf16 :=
  k0_pay174 (k0_pay128 (hA a9 a11) (k0_pay122 (R 2)) (k0_pay123 (R 3)) k0_pay125 (R 4) (R 8)) (hS a9 a11 a13 R) (R 20)
@[inherit_doc hP0] def hP1 : Vec Ideal S1x1x64x384 .bf16 :=
  k0_pay178 (k0_pay135 (hN a9 a11 R) (k0_pay123 (R 3)) k0_pay124 (k0_pay130 (k0_pay122 (R 2))) (hB1 a9 a11 R) (R 17)) (hS1 a9 a11 a13 R) (k0_pay172 (R 20))
@[inherit_doc hP0] def hP2 : Vec Ideal S1x1x64x384 .bf16 :=
  k0_pay181 (k0_pay180 (k0_pay146 (hN a9 a11 R) (hA' a9 a11) (k0_pay123 (R 3)) k0_pay125 (k0_pay141 (k0_pay122 (R 2))) (k0_pay142 (R 6)) (R 10) (R 18))
    (k0_pay170 (hS a9 a11 a13 R) (k0_pay166 (k0_pay104 a13)
      (k0_pay149 (hG a9 a11 R) (k0_pay141 (k0_pay122 (R 2))) (k0_pay142 (R 6)) (R 10))
      (k0_pay150 (hG a9 a11 R) (k0_pay141 (k0_pay122 (R 2))) (k0_pay142 (R 6)) (R 10)))) (k0_pay172 (R 20)))
@[inherit_doc hP0] def hP3 : Vec Ideal S1x1x64x384 .bf16 :=
  k0_pay185 (k0_pay183 (k0_pay164 (k0_pay123 (R 3)) (k0_pay160 (hA' a9 a11) (k0_pay122 (R 2)) k0_pay124 m129 (R 7) (R 11)) (k0_pay161 (k0_pay122 (R 2)) (R 19))
    (k0_pay162 (hN a9 a11 R)) (k0_pay163 (hN a9 a11 R))) (k0_pay171 (hS a9 a11 a13 R)) (k0_pay172 (R 20)))
end

/-- What the rows of one head hold. -/
structure Rows (R : Fin 21 → Vec Ideal S1x1x256 .f32) (g ig : Fin 256 → ℝ) (qs ks vs : Fin 4 → ℝ) : Prop where
  W : ∀ s, R 0 (ix3 0 0 s) = ((wt g ig s : ℝ) : EReal)
  U : ∀ s, R 2 (ix3 0 0 s) = ((uu g ig s : ℝ) : EReal)
  E : ∀ s, R 3 (ix3 0 0 s) = ((Real.exp (-mt g ig s) : ℝ) : EReal)
  T0 : ∀ s, R 4 (ix3 0 0 s) = ((te g ig 0 s * (Real.log 2)⁻¹ : ℝ) : EReal)
  T1 : ∀ s, R 5 (ix3 0 0 s) = ((te g ig 1 s * (Real.log 2)⁻¹ : ℝ) : EReal)
  T2 : ∀ s, R 6 (ix3 0 0 s) = ((te g ig 2 s * (Real.log 2)⁻¹ : ℝ) : EReal)
  T3 : ∀ s, R 7 (ix3 0 0 s) = ((te g ig 3 s * (Real.log 2)⁻¹ : ℝ) : EReal)
  C0 : ∀ s, R 8 (ix3 0 0 s) = ((sc qs ks vs Sr 0 (chunk s) : ℝ) : EReal)
  C1 : ∀ s, R 9 (ix3 0 0 s) = ((sc qs ks vs Sr 1 (chunk s) : ℝ) : EReal)
  C2 : ∀ s, R 10 (ix3 0 0 s) = ((sc qs ks vs Sr 2 (chunk s) : ℝ) : EReal)
  C3 : ∀ s, R 11 (ix3 0 0 s) = ((sc qs ks vs Sr 3 (chunk s) : ℝ) : EReal)
  N1 : ∀ s, R 12 (ix3 0 0 s) = ((nw g ig ks 1 (chunk s) * wt g ig s : ℝ) : EReal)
  N2 : ∀ s, R 13 (ix3 0 0 s) = ((nw g ig ks 2 (chunk s) * wt g ig s : ℝ) : EReal)
  N3 : ∀ s, R 14 (ix3 0 0 s) = ((nw g ig ks 3 (chunk s) * wt g ig s : ℝ) : EReal)
  Q1 : ∀ s, R 17 (ix3 0 0 s) = ((qr g ig qs 1 s : ℝ) : EReal)
  Q2 : ∀ s, R 18 (ix3 0 0 s) = ((qr g ig qs 2 s : ℝ) : EReal)
  Q3 : ∀ s, R 19 (ix3 0 0 s) = ((qr g ig qs 3 s : ℝ) : EReal)
  V : ∀ s, R 20 (ix3 0 0 s) = ((vs (chunk s) : ℝ) : EReal)

/-- A function of 128 lanes from those of its halves. -/
def half (F G : Fin 64 → ℝ) (j : Fin 128) : ℝ := if h : j.val < 64 then F ⟨j.val, h⟩ else G ⟨j.val - 64, by omega⟩
theorem half_lo (F G : Fin 64 → ℝ) (x : Fin 64) : half F G (lo x) = F x := dif_pos x.isLt
theorem half_hi (F G : Fin 64 → ℝ) (x : Fin 64) : half F G (hi x) = G x := by
  rw [half, dif_neg (by simp [hi])]; congr 1; apply Fin.ext; simp [hi]
theorem of_half {f : Fin 128 → EReal} {F G : Fin 64 → ℝ} (hF : ∀ x, f (lo x) = ((F x : ℝ) : EReal)) (hG : ∀ x, f (hi x) = ((G x : ℝ) : EReal)) (j : Fin 128) :
    f j = ((half F G j : ℝ) : EReal) := by
  rw [half]
  split_ifs with h
  · exact hF ⟨j.val, h⟩
  · refine (congrArg f (Fin.ext ?_)).trans (hG ⟨j.val - 64, by omega⟩)
    show j.val = 64 + (j.val - 64); omega

section
variable {g ig : Fin 256 → ℝ} {qs ks vs : Fin 4 → ℝ} {q k : Fin 256 → Fin 192 → ℝ} {v : Fin 256 → ℝ} {e : Fin 384}
  {a9 a11 : Vec Ideal S1x1x256x192 .fp8e4m3} {a13 : Vec Ideal S1x1x256x384 .fp8e4m3} {R : Fin 21 → Vec Ideal S1x1x256 .f32}
  (hq : ∀ s d, a9 (ix4 0 0 s d) = ((q s d : ℝ) : EReal)) (hk : ∀ s d, a11 (ix4 0 0 s d) = ((k s d : ℝ) : EReal)) (hv : ∀ s, a13 (ix4 0 0 s e) = ((v s : ℝ) : EReal))
  (hR : Rows R g ig qs ks vs)

/-- A piece's last step. -/
theorem piece_at {c : Fin 4} {l : Fin 64} {n : ℝ} (hn : n = numK g ig qs ks vs Sr q k v c l) :
    ((n : ℝ) : EReal) * Ideal.div ((vs c : ℝ) : EReal) ((denK g ig qs ks vs Sr q k c l : ℝ) : EReal) = ((hK g ig qs ks vs Sr q k v c l : ℝ) : EReal) := by
  rw [Ideal.div_coe (by rw [denK_eq]; exact (den_pos ..).ne'), ← EReal.coe_mul, ← EReal.coe_mul, mul_one_div, hn, hK]

/-- The sums of the pieces are the kernel's sums: of the first chunk, -/
theorem num0 (l : Fin 64) : ∑ j, half (fun x => if x ≤ l then om g ig qs ks vs q k 0 (pos 0 l) (pos 0 x) else 0) (fun _ => 0) j * v (dn j) = numK g ig qs ks vs Sr q k v 0 l := by
  rw [numK, Fin.sum_univ_four, if_neg (by decide), if_neg (by decide), if_neg (by decide), if_neg (by decide), sum_half]
  simp only [half_lo, half_hi, dn_lo, om_dg, zero_mul, Finset.sum_const_zero, add_zero, zero_add]
/-- of the second, -/
theorem num1 (l : Fin 64) : ∑ j, half (fun x => oi g ig qs ks vs q k 1 (pos 1 l) (pos 0 x)) (fun x => if x ≤ l then om g ig qs ks vs q k 1 (pos 1 l) (pos 1 x) else 0) j * v (dn j)
    = numK g ig qs ks vs Sr q k v 1 l := by
  rw [numK, Fin.sum_univ_four, if_pos (by decide), if_neg (by decide), if_neg (by decide), if_neg (by decide), sum_half]
  simp only [half_lo, half_hi, dn_lo, dn_hi, om_dg, oi_og (show (0 : Fin 4) ≠ 1 by decide), add_zero]
/-- of the third, -/
theorem num2 (l : Fin 64) : ∑ j, oi g ig qs ks vs q k 2 (pos 2 l) (dn j) * v (dn j) + ∑ j, half (fun x => if x ≤ l then om g ig qs ks vs q k 2 (pos 2 l) (pos 2 x) else 0) (fun _ => 0) j * v (up j)
    = numK g ig qs ks vs Sr q k v 2 l := by
  rw [numK, Fin.sum_univ_four, if_pos (by decide), if_pos (by decide), if_neg (by decide), if_neg (by decide), sum_half, sum_half]
  simp only [half_lo, half_hi, dn_lo, dn_hi, up_lo, om_dg, oi_og (show (0 : Fin 4) ≠ 2 by decide), oi_og (show (1 : Fin 4) ≠ 2 by decide), zero_mul, Finset.sum_const_zero, add_zero]
/-- and of the fourth. -/
theorem num3 (l : Fin 64) : ∑ j, oi g ig qs ks vs q k 3 (pos 3 l) (dn j) * v (dn j)
      + ∑ j, half (fun x => oi g ig qs ks vs q k 3 (pos 3 l) (pos 2 x)) (fun x => if x ≤ l then om g ig qs ks vs q k 3 (pos 3 l) (pos 3 x) else 0) j * v (up j)
    = numK g ig qs ks vs Sr q k v 3 l := by
  rw [numK, Fin.sum_univ_four, if_pos (by decide), if_pos (by decide), if_pos (by decide), if_neg (by decide), sum_half, sum_half]
  simp only [half_lo, half_hi, dn_lo, dn_hi, up_lo, up_hi, om_dg, oi_og (show (0 : Fin 4) ≠ 3 by decide), oi_og (show (1 : Fin 4) ≠ 3 by decide), oi_og (show (2 : Fin 4) ≠ 3 by decide), add_zero, add_assoc]

theorem qr_zero (c : Fin 4) : qr g ig qs c 0 = mp g ig c * (Real.log 2)⁻¹ := if_pos rfl
theorem qr_last (c : Fin 4) : qr g ig qs c 255 = qs c * Sr := if_neg (by decide)

include hR in
theorem r106 (r : Fin 256) (j : Fin 128) : k0_pay122 (R 2) (ix2 r j) = ((uu g ig r : ℝ) : EReal) := (col_at _ r j).trans (hR.U r)
include hR in
theorem r118 (r : Fin 256) (j : Fin 128) : k0_pay123 (R 3) (ix2 r j) = ((Real.exp (-mt g ig r) : ℝ) : EReal) := (col_at' _ r j).trans (hR.E r)

include hq hk hR in
/-- The first chunk's weights, -/
theorem e0 (l : Fin 64) (j : Fin 128) : k0_pay127 (hA a9 a11) (k0_pay122 (R 2)) k0_pay125 (R 4) (R 8) (ix2 l j)
    = ((half (fun x => if x ≤ l then om g ig qs ks vs q k 0 (pos 0 l) (pos 0 x) else 0) (fun _ => 0) j : ℝ) : EReal) :=
  of_half (f := fun j => k0_pay127 (hA a9 a11) (k0_pay122 (R 2)) k0_pay125 (R 4) (R 8) (ix2 l j)) (w0_lo (p91 hq hk) (r106 hR) hR.T0 hR.C0 l) (fun x => (w0_hi l x).trans EReal.coe_zero.symm) j
include hq hk hR in
theorem e172 (l x : Fin 64) : hB1 a9 a11 R (ix2 l (hi x)) = ((if x ≤ l then om g ig qs ks vs q k 1 (pos 1 l) (pos 1 x) else 0 : ℝ) : EReal) :=
  w172_hi (p91 hq hk) (r106 hR) hR.T1 hR.C1 l x
include hq hk hR in
/-- the second's, -/
theorem e1 (l : Fin 64) (j : Fin 128) : k0_pay134 (hG a9 a11 R) k0_pay124 (k0_pay131 (k0_pay122 (R 2)) (R 5)) (k0_pay132 (R 9)) (hB1 a9 a11 R) (ix2 l j)
    = ((half (fun x => oi g ig qs ks vs q k 1 (pos 1 l) (pos 0 x)) (fun x => if x ≤ l then om g ig qs ks vs q k 1 (pos 1 l) (pos 1 x) else 0) j : ℝ) : EReal) :=
  of_half (f := fun j => k0_pay134 (hG a9 a11 R) k0_pay124 (k0_pay131 (k0_pay122 (R 2)) (R 5)) (k0_pay132 (R 9)) (hB1 a9 a11 R) (ix2 l j))
    (w1_lo (p88 hq hk hR.W) (r106 hR) hR.T1 hR.C1 l) (fun x => (w1_hi _ _ l x).trans (e172 hq hk hR l x)) j
include hq hk hR in
/-- the third's -/
theorem e2 (l : Fin 64) (j : Fin 128) : k0_pay144 (hG a9 a11 R) (k0_pay141 (k0_pay122 (R 2))) (k0_pay142 (R 6)) (R 10) (ix2 l j) = ((oi g ig qs ks vs q k 2 (pos 2 l) (dn j) : ℝ) : EReal) :=
  w2_lo (p88 hq hk hR.W) (r106 hR) hR.T2 hR.C2 l j
include hq hk hR in
@[inherit_doc e2] theorem e2' (l : Fin 64) (j : Fin 128) : k0_pay145 (hA' a9 a11) k0_pay125 (k0_pay141 (k0_pay122 (R 2))) (k0_pay142 (R 6)) (R 10) (ix2 l j)
    = ((half (fun x => if x ≤ l then om g ig qs ks vs q k 2 (pos 2 l) (pos 2 x) else 0) (fun _ => 0) j : ℝ) : EReal) :=
  of_half (f := fun j => k0_pay145 (hA' a9 a11) k0_pay125 (k0_pay141 (k0_pay122 (R 2))) (k0_pay142 (R 6)) (R 10) (ix2 l j))
    (w2_hi (p94 hq hk) (r106 hR) hR.T2 hR.C2 l) (fun x => (w2_no _ _ l x).trans EReal.coe_zero.symm) j
include hq hk hR in
/-- and the fourth's. -/
theorem e3 (l : Fin 64) (j : Fin 128) : k0_pay155 (hG a9 a11 R) (k0_pay122 (R 2)) (R 7) (R 11) (ix2 l j) = ((oi g ig qs ks vs q k 3 (pos 3 l) (dn j) : ℝ) : EReal) :=
  w3_lo (p88 hq hk hR.W) (r106 hR) hR.T3 hR.C3 l j
include hq hk hR in
@[inherit_doc e3] theorem e3' (l : Fin 64) (j : Fin 128) : k0_pay159 (hG a9 a11 R) (hA' a9 a11) (k0_pay122 (R 2)) k0_pay124 m129 (R 7) (R 11) (ix2 l j)
    = ((half (fun x => oi g ig qs ks vs q k 3 (pos 3 l) (pos 2 x)) (fun x => if x ≤ l then om g ig qs ks vs q k 3 (pos 3 l) (pos 3 x) else 0) j : ℝ) : EReal) :=
  of_half (f := fun j => k0_pay159 (hG a9 a11 R) (hA' a9 a11) (k0_pay122 (R 2)) k0_pay124 m129 (R 7) (R 11) (ix2 l j))
    (w3_mid (p88 hq hk hR.W) (r106 hR) hR.T3 hR.C3 l) (fun x => (w3_hi l x).trans (w158_hi (p94 hq hk) (r106 hR) hR.T3 hR.C3 l x)) j

include hq hk hv hR in
/-- The first chunk's piece, -/
theorem hP0_at (l : Fin 64) : hP0 a9 a11 a13 R (ix4 0 0 l e) = ((hK g ig qs ks vs Sr q k v 0 l : ℝ) : EReal) := by
  have hd := d0 (p91 hq hk) (r106 hR) (r118 hR) hR.T0 hR.C0 l 0 rfl
  have hn := n0 (b := k0_pay147 (hG a9 a11 R) (k0_pay141 (k0_pay122 (R 2))) (k0_pay142 (R 6)) (R 10))
    (c := k0_pay151 (k0_pay145 (hA' a9 a11) k0_pay125 (k0_pay141 (k0_pay122 (R 2))) (k0_pay142 (R 6)) (R 10)))
    (x := k0_pay155 (hG a9 a11 R) (k0_pay122 (R 2)) (R 7) (R 11)) (y := k0_pay159 (hG a9 a11 R) (hA' a9 a11) (k0_pay122 (R 2)) k0_pay124 m129 (R 7) (R 11)) hv
    (a := k0_pay129 (hA a9 a11) (k0_pay122 (R 2)) k0_pay125 (R 4) (R 8)) (fun l j => by pointwise [k0_pay129]; exact e0 hq hk hR l j) l
  pointwise [hP0, k0_pay174, k0_pay173, k0_pay172]
  refine Eq.trans (congrArg₂ (· * ·) hn (congrArg₂ Ideal.div (hR.V 0) hd)) (piece_at (c := 0) ?_)
  exact num0 l

include hq hk hv hR in
/-- the second's, -/
theorem hP1_at (l : Fin 64) : hP1 a9 a11 a13 R (ix4 0 0 l e) = ((hK g ig qs ks vs Sr q k v 1 l : ℝ) : EReal) := by
  have h65 := fun t => p65 hq hk (N0 := R 12) (N1 := R 13) (N2 := R 14) (N3 := R 15) (n := 0) (by decide) hR.N1 t
  have hd := d1 (v65 := hN a9 a11 R) (r106 hR) (r118 hR) ((hR.Q1 0).trans (congrArg _ (qr_zero 1))) ((hR.Q1 255).trans (congrArg _ (qr_last 1)))
    (fun t => (h65 t).1) (fun t => (h65 t).2.1) (fun t => (h65 t).2.2) rfl (e172 hq hk hR) l 0
  have hn := n1 hv (a := k0_pay136 (hG a9 a11 R) k0_pay124 (k0_pay131 (k0_pay122 (R 2)) (R 5)) (k0_pay132 (R 9)) (hB1 a9 a11 R))
    (fun l j => by pointwise [k0_pay136]; exact e1 hq hk hR l j) (z139 (e1 hq hk hR)) (z140 (e1 hq hk hR)) l
  pointwise [hP1, k0_pay178, k0_pay177, k0_pay172]
  refine Eq.trans (congrArg₂ (· * ·) hn (congrArg₂ Ideal.div (hR.V 64) hd)) (piece_at (c := 1) ?_)
  exact num1 l

include hq hk hv hR in
/-- the third's, -/
theorem hP2_at (l : Fin 64) : hP2 a9 a11 a13 R (ix4 0 0 l e) = ((hK g ig qs ks vs Sr q k v 2 l : ℝ) : EReal) := by
  have h65 := fun t => p65 hq hk (N0 := R 12) (N1 := R 13) (N2 := R 14) (N3 := R 15) (n := 1) (by decide) hR.N2 t
  have hd := d2 (v65 := hN a9 a11 R) (p94 hq hk) (r106 hR) (r118 hR) hR.T2 hR.C2 ((hR.Q2 0).trans (congrArg _ (qr_zero 2))) ((hR.Q2 255).trans (congrArg _ (qr_last 2)))
    (fun t => (h65 t).1) (fun t => (h65 t).2.1) (fun t => (h65 t).2.2) rfl l 0
  have hn := n2 (a := k0_pay129 (hA a9 a11) (k0_pay122 (R 2)) k0_pay125 (R 4) (R 8)) (b := k0_pay147 (hG a9 a11 R) (k0_pay141 (k0_pay122 (R 2))) (k0_pay142 (R 6)) (R 10))
    (c := k0_pay151 (k0_pay145 (hA' a9 a11) k0_pay125 (k0_pay141 (k0_pay122 (R 2))) (k0_pay142 (R 6)) (R 10)))
    (x := k0_pay155 (hG a9 a11 R) (k0_pay122 (R 2)) (R 7) (R 11)) (y := k0_pay159 (hG a9 a11 R) (hA' a9 a11) (k0_pay122 (R 2)) k0_pay124 m129 (R 7) (R 11)) hv
    (fun l j => by pointwise [k0_pay147]; exact e2 hq hk hR l j) (fun l j => by pointwise [k0_pay151]; exact e2' hq hk hR l j) l
  have hz := n2z hv (z149 (e2 hq hk hR)) (z150 (e2 hq hk hR)) l
  pointwise [hP2, k0_pay181, k0_pay180, k0_pay172, k0_pay170]
  refine Eq.trans (congrArg₂ (· * ·) (congrArg₂ (· + ·) hn hz) (congrArg₂ Ideal.div (hR.V 128) hd)) (Eq.trans (congrArg (· * _) (add_zero _)) (piece_at (c := 2) ?_))
  exact num2 l

include hq hk hv hR in
/-- and the fourth's. -/
theorem hP3_at (l : Fin 64) : hP3 a9 a11 a13 R (ix4 0 0 l e) = ((hK g ig qs ks vs Sr q k v 3 l : ℝ) : EReal) := by
  have h65 := fun t => p65 hq hk (N0 := R 12) (N1 := R 13) (N2 := R 14) (N3 := R 15) (n := 2) (by decide) hR.N3 t
  have hd := d3 (v65 := hN a9 a11 R) (p94 hq hk) (r106 hR) (r118 hR) hR.T3 hR.C3 ((hR.Q3 0).trans (congrArg _ (qr_zero 3))) ((hR.Q3 255).trans (congrArg _ (qr_last 3)))
    (fun t => (h65 t).1) (fun t => (h65 t).2.1) (fun t => (h65 t).2.2) rfl l 0
  have hn := n3 (a := k0_pay129 (hA a9 a11) (k0_pay122 (R 2)) k0_pay125 (R 4) (R 8)) (b := k0_pay147 (hG a9 a11 R) (k0_pay141 (k0_pay122 (R 2))) (k0_pay142 (R 6)) (R 10))
    (c := k0_pay151 (k0_pay145 (hA' a9 a11) k0_pay125 (k0_pay141 (k0_pay122 (R 2))) (k0_pay142 (R 6)) (R 10))) hv (e3 hq hk hR) (e3' hq hk hR) l
  pointwise [hP3, k0_pay185, k0_pay183, k0_pay172]
  refine Eq.trans (congrArg₂ (· * ·) hn (congrArg₂ Ideal.div (hR.V 192) hd)) (piece_at (c := 3) ?_)
  exact num3 l
end

end Cert.ML
-- ==== Proof.HOut.lean ====
/- What one grid point leaves in the block of hidden states, over the reals. -/
module

public import proofs.«01_k».proof.Proof.KOut
public import proofs.«01_k».proof.Proof.HHid

@[expose] public section

set_option maxRecDepth 16384

noncomputable section

namespace Cert.ML

open Idealize.ShloMosaic Idealize.ShloMosaic.TcCoe Cert.KernelIdeal Cert.KernelIdeal.Gen

/-- Where the body's loads of single rows of the scratch begin: at the row's number and the head's. -/
theorem offs_eq : ∀ (i : grid0.Coords) (q : Fin 2), k0_off1 i (BitVec.ofNat 32 q.val) = ![0, (row i q).val, 0] ∧ k0_off8 i (BitVec.ofNat 32 q.val) = ![2, (row i q).val, 0] ∧ k0_off9 i (BitVec.ofNat 32 q.val) = ![3, (row i q).val, 0] ∧ k0_off10 i (BitVec.ofNat 32 q.val) = ![4, (row i q).val, 0] ∧ k0_off12 i (BitVec.ofNat 32 q.val) = ![5, (row i q).val, 0] ∧ k0_off15 i (BitVec.ofNat 32 q.val) = ![6, (row i q).val, 0] ∧ k0_off18 i (BitVec.ofNat 32 q.val) = ![7, (row i q).val, 0] ∧ k0_off11 i (BitVec.ofNat 32 q.val) = ![8, (row i q).val, 0] ∧ k0_off13 i (BitVec.ofNat 32 q.val) = ![9, (row i q).val, 0] ∧ k0_off16 i (BitVec.ofNat 32 q.val) = ![10, (row i q).val, 0] ∧ k0_off19 i (BitVec.ofNat 32 q.val) = ![11, (row i q).val, 0] ∧ k0_off2 i (BitVec.ofNat 32 q.val) = ![12, (row i q).val, 0] ∧ k0_off3 i (BitVec.ofNat 32 q.val) = ![13, (row i q).val, 0] ∧ k0_off4 i (BitVec.ofNat 32 q.val) = ![14, (row i q).val, 0] ∧ k0_off5 i (BitVec.ofNat 32 q.val) = ![15, (row i q).val, 0] ∧ k0_off14 i (BitVec.ofNat 32 q.val) = ![17, (row i q).val, 0] ∧ k0_off17 i (BitVec.ofNat 32 q.val) = ![18, (row i q).val, 0] ∧ k0_off20 i (BitVec.ofNat 32 q.val) = ![19, (row i q).val, 0] ∧ k0_off21 i (BitVec.ofNat 32 q.val) = ![20, (row i q).val, 0] := by decide +kernel

/-- The rows of head `p` of the pair, as the body loads them from the scratch (the entries 1 and 16 are not read here). -/
def rowsM (arg17 : Memref sig .tc .vmem S21x48x256 .f32) (i : grid0.Coords) (p : Fin 2) (mem : arg17.view.ty.Contents (Elt Ideal)) : Fin 21 → Vec Ideal S1x1x256 .f32 :=
  ![View.readAt (Elt Ideal) arg17.view (Rect.unit (s := S21x48x256) (k0_off1 i (BitVec.ofNat 32 p.val)) S1x1x256.size (k0_off1_inb i p)).toLoadRect mem,
    View.readAt (Elt Ideal) arg17.view (Rect.unit (s := S21x48x256) (k0_off1 i (BitVec.ofNat 32 p.val)) S1x1x256.size (k0_off1_inb i p)).toLoadRect mem,
    View.readAt (Elt Ideal) arg17.view (Rect.unit (s := S21x48x256) (k0_off8 i (BitVec.ofNat 32 p.val)) S1x1x256.size (k0_off8_inb i p)).toLoadRect mem,
    View.readAt (Elt Ideal) arg17.view (Rect.unit (s := S21x48x256) (k0_off9 i (BitVec.ofNat 32 p.val)) S1x1x256.size (k0_off9_inb i p)).toLoadRect mem,
    View.readAt (Elt Ideal) arg17.view (Rect.unit (s := S21x48x256) (k0_off10 i (BitVec.ofNat 32 p.val)) S1x1x256.size (k0_off10_inb i p)).toLoadRect mem,
    View.readAt (Elt Ideal) arg17.view (Rect.unit (s := S21x48x256) (k0_off12 i (BitVec.ofNat 32 p.val)) S1x1x256.size (k0_off12_inb i p)).toLoadRect mem,
    View.readAt (Elt Ideal) arg17.view (Rect.unit (s := S21x48x256) (k0_off15 i (BitVec.ofNat 32 p.val)) S1x1x256.size (k0_off15_inb i p)).toLoadRect mem,
    View.readAt (Elt Ideal) arg17.view (Rect.unit (s := S21x48x256) (k0_off18 i (BitVec.ofNat 32 p.val)) S1x1x256.size (k0_off18_inb i p)).toLoadRect mem,
    View.readAt (Elt Ideal) arg17.view (Rect.unit (s := S21x48x256) (k0_off11 i (BitVec.ofNat 32 p.val)) S1x1x256.size (k0_off11_inb i p)).toLoadRect mem,
    View.readAt (Elt Ideal) arg17.view (Rect.unit (s := S21x48x256) (k0_off13 i (BitVec.ofNat 32 p.val)) S1x1x256.size (k0_off13_inb i p)).toLoadRect mem,
    View.readAt (Elt Ideal) arg17.view (Rect.unit (s := S21x48x256) (k0_off16 i (BitVec.ofNat 32 p.val)) S1x1x256.size (k0_off16_inb i p)).toLoadRect mem,
    View.readAt (Elt Ideal) arg17.view (Rect.unit (s := S21x48x256) (k0_off19 i (BitVec.ofNat 32 p.val)) S1x1x256.size (k0_off19_inb i p)).toLoadRect mem,
    View.readAt (Elt Ideal) arg17.view (Rect.unit (s := S21x48x256) (k0_off2 i (BitVec.ofNat 32 p.val)) S1x1x256.size (k0_off2_inb i p)).toLoadRect mem,
    View.readAt (Elt Ideal) arg17.view (Rect.unit (s := S21x48x256) (k0_off3 i (BitVec.ofNat 32 p.val)) S1x1x256.size (k0_off3_inb i p)).toLoadRect mem,
    View.readAt (Elt Ideal) arg17.view (Rect.unit (s := S21x48x256) (k0_off4 i (BitVec.ofNat 32 p.val)) S1x1x256.size (k0_off4_inb i p)).toLoadRect mem,
    View.readAt (Elt Ideal) arg17.view (Rect.unit (s := S21x48x256) (k0_off5 i (BitVec.ofNat 32 p.val)) S1x1x256.size (k0_off5_inb i p)).toLoadRect mem,
    View.readAt (Elt Ideal) arg17.view (Rect.unit (s := S21x48x256) (k0_off1 i (BitVec.ofNat 32 p.val)) S1x1x256.size (k0_off1_inb i p)).toLoadRect mem,
    View.readAt (Elt Ideal) arg17.view (Rect.unit (s := S21x48x256) (k0_off14 i (BitVec.ofNat 32 p.val)) S1x1x256.size (k0_off14_inb i p)).toLoadRect mem,
    View.readAt (Elt Ideal) arg17.view (Rect.unit (s := S21x48x256) (k0_off17 i (BitVec.ofNat 32 p.val)) S1x1x256.size (k0_off17_inb i p)).toLoadRect mem,
    View.readAt (Elt Ideal) arg17.view (Rect.unit (s := S21x48x256) (k0_off20 i (BitVec.ofNat 32 p.val)) S1x1x256.size (k0_off20_inb i p)).toLoadRect mem,
    View.readAt (Elt Ideal) arg17.view (Rect.unit (s := S21x48x256) (k0_off21 i (BitVec.ofNat 32 p.val)) S1x1x256.size (k0_off21_inb i p)).toLoadRect mem]

set_option maxHeartbeats 4000000 in
/-- They hold what the scratch holds in the head's rows. -/
theorem rowsM_at {arg17 : Memref sig .tc .vmem S21x48x256 .f32} {i : grid0.Coords} {p : Fin 2} {mem : arg17.view.ty.Contents (Elt Ideal)} {V : Vec Ideal S21x48x256 .f32} {g ig : Fin 256 → ℝ} {qs ks vs : Fin 4 → ℝ}
    (hV : ∀ (r : LoadRect S21x48x256) (j), View.readAt (Elt Ideal) arg17.view r mem j = V (r.idx j))
    (h : Rows (fun r j => V (ix3 r (row i p) (j 2 : Fin 256))) g ig qs ks vs) : Rows (rowsM arg17 i p mem) g ig qs ks vs := by
  obtain ⟨o0, o2, o3, o4, o5, o6, o7, o8, o9, o10, o11, o12, o13, o14, o15, o17, o18, o19, o20⟩ := offs_eq i p
  exact ⟨fun s => (hV _ _).trans ((congrArg V (row_idx _ 0 (row i p) o0 s)).trans (h.W s)),
    fun s => (hV _ _).trans ((congrArg V (row_idx _ 2 (row i p) o2 s)).trans (h.U s)),
    fun s => (hV _ _).trans ((congrArg V (row_idx _ 3 (row i p) o3 s)).trans (h.E s)),
    fun s => (hV _ _).trans ((congrArg V (row_idx _ 4 (row i p) o4 s)).trans (h.T0 s)),
    fun s => (hV _ _).trans ((congrArg V (row_idx _ 5 (row i p) o5 s)).trans (h.T1 s)),
    fun s => (hV _ _).trans ((congrArg V (row_idx _ 6 (row i p) o6 s)).trans (h.T2 s)),
    fun s => (hV _ _).trans ((congrArg V (row_idx _ 7 (row i p) o7 s)).trans (h.T3 s)),
    fun s => (hV _ _).trans ((congrArg V (row_idx _ 8 (row i p) o8 s)).trans (h.C0 s)),
    fun s => (hV _ _).trans ((congrArg V (row_idx _ 9 (row i p) o9 s)).trans (h.C1 s)),
    fun s => (hV _ _).trans ((congrArg V (row_idx _ 10 (row i p) o10 s)).trans (h.C2 s)),
    fun s => (hV _ _).trans ((congrArg V (row_idx _ 11 (row i p) o11 s)).trans (h.C3 s)),
    fun s => (hV _ _).trans ((congrArg V (row_idx _ 12 (row i p) o12 s)).trans (h.N1 s)),
    fun s => (hV _ _).trans ((congrArg V (row_idx _ 13 (row i p) o13 s)).trans (h.N2 s)),
    fun s => (hV _ _).trans ((congrArg V (row_idx _ 14 (row i p) o14 s)).trans (h.N3 s)),
    fun s => (hV _ _).trans ((congrArg V (row_idx _ 17 (row i p) o17 s)).trans (h.Q1 s)),
    fun s => (hV _ _).trans ((congrArg V (row_idx _ 18 (row i p) o18 s)).trans (h.Q2 s)),
    fun s => (hV _ _).trans ((congrArg V (row_idx _ 19 (row i p) o19 s)).trans (h.Q3 s)),
    fun s => (hV _ _).trans ((congrArg V (row_idx _ 20 (row i p) o20 s)).trans (h.V s))⟩

/-- One store of a head's chunk, read at a position of a chunk. -/
theorem canon_chunk (a b : ℕ) (inb : ∀ x, (![0, a, b, 0] : Fin 4 → ℕ) x + S1x1x64x384.size x ≤ S1x2x256x384.size x) (w : S1x1x64x384.Idx → Elt Ideal .bf16)
    (L : List (View.Piece (Elt Ideal) S1x2x256x384 .bf16)) (q : Fin 2) (c : Fin 4) (l : Fin 64) (e : Fin 384) (hb : b % 64 = 0) :
    View.canon (Val := Elt Ideal) (e := .bf16) (⟨Rect.unit (s := S1x2x256x384) ![0, a, b, 0] S1x1x64x384.size inb, w⟩ :: L) (ix4 0 q (pos c l) e)
      = if q.val = a ∧ 64 * c.val = b then w (ix4 0 0 l e) else View.canon L (ix4 0 q (pos c l) e) := by
  split_ifs with h
  · have hh := View.canon_cons_emb (Val := Elt Ideal) (e := .bf16) (Rect.unit (s := S1x2x256x384) ![0, a, b, 0] S1x1x64x384.size inb) w L (ix4 0 0 l e)
    refine Eq.trans (congrArg _ ?_) hh
    funext x; apply Fin.ext
    match x with
    | ⟨0, _⟩ => rfl
    | ⟨1, _⟩ => show q.val = a + 1 * 0; omega
    | ⟨2, _⟩ => show 64 * c.val + l.val = b + 1 * l.val; omega
    | ⟨3, _⟩ => show e.val = 0 + 1 * e.val; omega
  · refine View.canon_cons_of_not_mem _ _ fun hm => ?_
    obtain ⟨x, hx⟩ := (Rect.unit (s := S1x2x256x384) ![0, a, b, 0] S1x1x64x384.size inb).exists_idx_of_mem hm
    have h1 : a + 1 * (x 1).val = q.val := congrArg Fin.val (congrFun hx 1)
    have h2 : b + 1 * (x 2).val = 64 * c.val + l.val := congrArg Fin.val (congrFun hx 2)
    have x1 : (x 1).val < 1 := (x 1).isLt
    have x2 : (x 2).val < 64 := (x 2).isLt
    have := l.isLt
    omega

/-- The eight stores, read at a position of a chunk of a head. -/
theorem canon_eight (A : Fin 2 → Fin 4 → S1x1x64x384.Idx → Elt Ideal .bf16) (q : Fin 2) (c : Fin 4) (l : Fin 64) (e : Fin 384)
    {A00 A01 A02 A03 A10 A11 A12 A13 : S1x1x64x384.Idx → Elt Ideal .bf16}
    (i00 : ∀ x, (![0, 0, 0, 0] : Fin 4 → ℕ) x + S1x1x64x384.size x ≤ S1x2x256x384.size x) (i01 : ∀ x, (![0, 0, 64, 0] : Fin 4 → ℕ) x + S1x1x64x384.size x ≤ S1x2x256x384.size x) (i02 : ∀ x, (![0, 0, 128, 0] : Fin 4 → ℕ) x + S1x1x64x384.size x ≤ S1x2x256x384.size x) (i03 : ∀ x, (![0, 0, 192, 0] : Fin 4 → ℕ) x + S1x1x64x384.size x ≤ S1x2x256x384.size x) (i10 : ∀ x, (![0, 1, 0, 0] : Fin 4 → ℕ) x + S1x1x64x384.size x ≤ S1x2x256x384.size x) (i11 : ∀ x, (![0, 1, 64, 0] : Fin 4 → ℕ) x + S1x1x64x384.size x ≤ S1x2x256x384.size x) (i12 : ∀ x, (![0, 1, 128, 0] : Fin 4 → ℕ) x + S1x1x64x384.size x ≤ S1x2x256x384.size x) (i13 : ∀ x, (![0, 1, 192, 0] : Fin 4 → ℕ) x + S1x1x64x384.size x ≤ S1x2x256x384.size x)
    (h00 : A00 = A 0 0) (h01 : A01 = A 0 1) (h02 : A02 = A 0 2) (h03 : A03 = A 0 3) (h10 : A10 = A 1 0) (h11 : A11 = A 1 1) (h12 : A12 = A 1 2) (h13 : A13 = A 1 3) :
    View.canon (Val := Elt Ideal) (e := .bf16) [⟨Rect.unit (s := S1x2x256x384) ![0, 1, 192, 0] S1x1x64x384.size i13, A13⟩, ⟨Rect.unit (s := S1x2x256x384) ![0, 1, 128, 0] S1x1x64x384.size i12, A12⟩, ⟨Rect.unit (s := S1x2x256x384) ![0, 1, 64, 0] S1x1x64x384.size i11, A11⟩, ⟨Rect.unit (s := S1x2x256x384) ![0, 1, 0, 0] S1x1x64x384.size i10, A10⟩, ⟨Rect.unit (s := S1x2x256x384) ![0, 0, 192, 0] S1x1x64x384.size i03, A03⟩, ⟨Rect.unit (s := S1x2x256x384) ![0, 0, 128, 0] S1x1x64x384.size i02, A02⟩, ⟨Rect.unit (s := S1x2x256x384) ![0, 0, 64, 0] S1x1x64x384.size i01, A01⟩, ⟨Rect.unit (s := S1x2x256x384) ![0, 0, 0, 0] S1x1x64x384.size i00, A00⟩] (ix4 0 q (pos c l) e)
      = A q c (ix4 0 0 l e) := by
  subst h00 h01 h02 h03 h10 h11 h12 h13
  fin_cases q <;> fin_cases c
  · rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_pos (by decide)]; rfl
  · rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_pos (by decide)]; rfl
  · rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_pos (by decide)]; rfl
  · rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_pos (by decide)]; rfl
  · rw [canon_chunk _ _ _ _ _ _ _ _ _ (by decide), if_neg (by decide)]; rw [canon_chunk _ _ _ _ _ _ _ _ _ (by decide), if_neg (by decide)]; rw [canon_chunk _ _ _ _ _ _ _ _ _ (by decide), if_neg (by decide)]; rw [canon_chunk _ _ _ _ _ _ _ _ _ (by decide), if_pos (by decide)]; rfl
  · rw [canon_chunk _ _ _ _ _ _ _ _ _ (by decide), if_neg (by decide)]; rw [canon_chunk _ _ _ _ _ _ _ _ _ (by decide), if_neg (by decide)]; rw [canon_chunk _ _ _ _ _ _ _ _ _ (by decide), if_pos (by decide)]; rfl
  · rw [canon_chunk _ _ _ _ _ _ _ _ _ (by decide), if_neg (by decide)]; rw [canon_chunk _ _ _ _ _ _ _ _ _ (by decide), if_pos (by decide)]; rfl
  · rw [canon_chunk _ _ _ _ _ _ _ _ _ (by decide), if_pos (by decide)]; rfl

/-- The exponents' row and its running maximum within a chunk. -/
def gD (xi xf : Vec Ideal S6x8x256 .f32) : FVec Ideal S48x256 .f32 := k0_pay19 (k0_pay3 xi) (gB xf)
@[inherit_doc gD] def gRM (xi xf : Vec Ideal S6x8x256 .f32) : FVec Ideal S48x256 .f32 :=
  k0_pay27 (k0_pay9 (iota .tc S48x256 32 [1] iota_S48x256_d1_w32) 64#32 (Scalar.cmpi CmpIPredicate.eq 64#32 0#32)) (gD xi xf)
/-- The running maxima of the chunks. -/
def gM1 (xi xf : Vec Ideal S6x8x256 .f32) : FVec Ideal S48x1 .f32 := k0_pay29 (gBL0 xf) (gA0 xi xf)
@[inherit_doc gM1] def gM2 (xi xf : Vec Ideal S6x8x256 .f32) : FVec Ideal S48x1 .f32 := k0_pay30 (gBL1 xf) (gA1 xi xf) (gM1 xi xf)
@[inherit_doc gM1] def gM3 (xi xf : Vec Ideal S6x8x256 .f32) : FVec Ideal S48x1 .f32 := k0_pay31 (gBL1 xf) (gBL2 xf) (gA1 xi xf) (gA2 xi xf) (gM1 xi xf)

/-- The stored gate rows by their number (15 and 16 are not read for the hidden states). -/
def gRow (xi xf : Vec Ideal S6x8x256 .f32) (xq xk xv : Vec Ideal S6x8x4 .f32) : Fin 21 → FVec Ideal S1x48x256 .f32 :=
  ![k0_pay34 (gW xi xf), gCF xi xf xk xv,
    k0_pay35 k0_pay8 (gB xf) (gBL1 xf) (gBL2 xf) (gA1 xi xf) (gA2 xi xf) (gRM xi xf) k0_pay28 (gM1 xi xf),
    k0_pay36 k0_pay8 (gB xf) (gBL1 xf) (gBL2 xf) (gA1 xi xf) (gA2 xi xf) (gRM xi xf) k0_pay28 (gM1 xi xf),
    k0_pay48 (gD xi xf) (k0_pay46 k0_pay8) (k0_pay47 k0_pay8),
    k0_pay52 k0_pay8 (gD xi xf) (gA0 xi xf),
    k0_pay63 k0_pay8 (gD xi xf) k0_pay58 (k0_pay59 k0_pay8) (k0_pay60 k0_pay8 (gA1 xi xf) (k0_pay40 (gBL1 xf) (gA0 xi xf))) (k0_pay61 k0_pay8) k0_pay62,
    k0_pay72 (k0_pay71 k0_pay8 (gD xi xf) (gA2 xi xf) (k0_pay41 (gBL1 xf) (gBL2 xf) (gA0 xi xf)) (k0_pay43 (gBL2 xf) (gA1 xi xf))),
    k0_pay49 (k0_pay5 xq) (k0_pay6 xk) k0_pay8,
    k0_pay56 k0_pay8 (k0_pay54 (k0_pay5 xq) (k0_pay6 xk)) (k0_pay55 (k0_pay5 xq) (k0_pay6 xk) (k0_pay7 xv)),
    k0_pay69 (k0_pay66 (k0_pay5 xq) (k0_pay6 xk) (k0_pay7 xv) k0_pay8) (k0_pay67 k0_pay8) (k0_pay68 (k0_pay5 xq) (k0_pay6 xk)),
    k0_pay74 (k0_pay5 xq) (k0_pay6 xk) (k0_pay7 xv) k0_pay8,
    k0_pay77 (k0_pay6 xk) k0_pay8 (gA0 xi xf) (gW xi xf) (gM1 xi xf),
    k0_pay81 k0_pay8 (gW xi xf) (k0_pay78 (k0_pay6 xk) (gA1 xi xf) (gM2 xi xf)) k0_pay79 (k0_pay80 (k0_pay6 xk) (gM2 xi xf) (k0_pay40 (gBL1 xf) (gA0 xi xf))),
    k0_pay85 (gW xi xf) (k0_pay82 (k0_pay6 xk) k0_pay8 (gA2 xi xf) (gM3 xi xf) (k0_pay41 (gBL1 xf) (gBL2 xf) (gA0 xi xf)) (k0_pay43 (gBL2 xf) (gA1 xi xf))) (k0_pay83 k0_pay8) k0_pay84,
    gCF xi xf xk xv, gCF xi xf xk xv,
    k0_pay57 k0_pay8 (gM1 xi xf) (k0_pay53 (k0_pay5 xq)),
    k0_pay70 k0_pay8 (gM2 xi xf) (k0_pay64 (k0_pay5 xq)),
    k0_pay76 (gM3 xi xf) (k0_pay73 (k0_pay5 xq)) (k0_pay75 k0_pay8),
    k0_pay39 (k0_pay7 xv) k0_pay8 (k0_pay37 (k0_pay7 xv)) (k0_pay38 (k0_pay7 xv))]

section
variable {xi xf : Vec Ideal S6x8x256 .f32} {xq xk xv : Vec Ideal S6x8x4 .f32} {hd : Fin 48} {f ig : Fin 256 → ℝ} {qs ks vs : Fin 4 → ℝ}

/-- The stored rows hold what the head reads. -/
theorem gRow_at (hi : ∀ s, xi (ix3 (hB hd) (hH hd) s) = ((ig s : ℝ) : EReal)) (hf : ∀ s, xf (ix3 (hB hd) (hH hd) s) = ((f s : ℝ) : EReal))
    (hq : ∀ c, xq (ix3 (hB hd) (hH hd) c) = ((qs c : ℝ) : EReal)) (hk : ∀ c, xk (ix3 (hB hd) (hH hd) c) = ((ks c : ℝ) : EReal))
    (hv : ∀ c, xv (ix3 (hB hd) (hH hd) c) = ((vs c : ℝ) : EReal)) (hv0 : ∀ c, vs c ≠ 0) :
    Rows (fun r j => gRow xi xf xq xk xv r (ix3 0 hd (j 2 : Fin 256))) (fun s => lsig (f s)) ig qs ks vs := by
  have b := gB_at hf
  have b1 := gBL1_at hf
  have b2 := gBL2_at hf
  have a0 : gA0 xi xf (ix2 hd 0) = _ := pay21_at (gKL_at hi hf)
  have a1 : gA1 xi xf (ix2 hd 0) = _ := pay22_at (gKL_at hi hf)
  have a2 : gA2 xi xf (ix2 hd 0) = _ := pay23_at (gKL_at hi hf)
  have m1 : gM1 xi xf (ix2 hd 0) = _ := pay29_at (gBL0_at hf) a0
  have m2 : gM2 xi xf (ix2 hd 0) = _ := pay30_at b1 a1 m1
  have m3 : gM3 xi xf (ix2 hd 0) = _ := pay31_at b1 b2 a1 a2 m1
  have d : ∀ s, gD xi xf (ix2 hd s) = _ := pay19_at (fun s => by pointwise [k0_pay3]; exact hi s) b
  have r : ∀ s, gRM xi xf (ix2 hd s) = _ := pay27_at (pay9_at hd) d
  have w := gW_at hi hf
  have q : ∀ c, k0_pay5 xq (ix2 hd c) = ((qs c : ℝ) : EReal) := fun c => by pointwise [k0_pay5]; exact hq c
  have k : ∀ c, k0_pay6 xk (ix2 hd c) = ((ks c : ℝ) : EReal) := fun c => by pointwise [k0_pay6]; exact hk c
  have v : ∀ c, k0_pay7 xv (ix2 hd c) = ((vs c : ℝ) : EReal) := fun c => by pointwise [k0_pay7]; exact hv c
  constructor
  · intro s; refine Eq.trans ?_ (w s); show k0_pay34 (gW xi xf) (ix3 0 hd s) = _; pointwise [k0_pay34]
  · exact pay35_at b r b1 b2 a1 a2 m1
  · exact pay36_at b r b1 b2 a1 a2 m1
  · exact pay48_at d
  · exact pay52_at d a0
  · exact pay63_at d b1 a0 a1
  · exact pay72_at d b1 b2 a0 a1 a2
  · exact pay49_at q k
  · exact pay56_at q k v hv0
  · exact pay69_at q k v hv0
  · exact pay74_at q k v hv0
  · exact pay77_at w a0 m1 k
  · exact pay81_at w b1 a0 a1 m1 k
  · exact pay85_at w b1 b2 a0 a1 a2 m1 k
  · exact pay57_at m1 q
  · exact pay70_at b1 a1 m1 q
  · exact pay76_at b1 b2 a1 a2 m1 q
  · exact pay39_at v
end

/-- One stored row of the gate scratch, read at a row, when the earlier stores hold the same rows. -/
theorem canon_step {A : Fin 21 → FVec Ideal S1x48x256 .f32} {r : Fin 21} {hd : Fin 48} {s : Fin 256} {a : ℕ} {inb : ∀ x, (![a, 0, 0] : Fin 3 → ℕ) x + S1x48x256.size x ≤ S21x48x256.size x}
    {w : S1x48x256.Idx → Elt Ideal .f32} {L : List (View.Piece (Elt Ideal) S21x48x256 .f32)} (h1 : r.val = a → w = A r)
    (h2 : r.val ≠ a → View.canon (Val := Elt Ideal) (e := .f32) L (ix3 r hd s) = A r (ix3 0 hd s)) :
    View.canon (Val := Elt Ideal) (e := .f32) (⟨Rect.unit (s := S21x48x256) ![a, 0, 0] S1x48x256.size inb, w⟩ :: L) (ix3 r hd s) = A r (ix3 0 hd s) := by
  rw [canon_row]
  split_ifs with h
  · rw [h1 h]
  · exact h2 h

/-- The pieces by the chunk, -/
def hP (a9 a11 : Vec Ideal S1x1x256x192 .fp8e4m3) (a13 : Vec Ideal S1x1x256x384 .fp8e4m3) (R : Fin 21 → Vec Ideal S1x1x256 .f32) (c : Fin 4) : Vec Ideal S1x1x64x384 .bf16 :=
  ![hP0 a9 a11 a13 R, hP1 a9 a11 a13 R, hP2 a9 a11 a13 R, hP3 a9 a11 a13 R] c
/-- and what they hold. -/
theorem hP_at {g ig : Fin 256 → ℝ} {qs ks vs : Fin 4 → ℝ} {q k : Fin 256 → Fin 192 → ℝ} {v : Fin 256 → ℝ} {e : Fin 384}
    {a9 a11 : Vec Ideal S1x1x256x192 .fp8e4m3} {a13 : Vec Ideal S1x1x256x384 .fp8e4m3} {R : Fin 21 → Vec Ideal S1x1x256 .f32}
    (hq : ∀ s d, a9 (ix4 0 0 s d) = ((q s d : ℝ) : EReal)) (hk : ∀ s d, a11 (ix4 0 0 s d) = ((k s d : ℝ) : EReal)) (hv : ∀ s, a13 (ix4 0 0 s e) = ((v s : ℝ) : EReal))
    (hR : Rows R g ig qs ks vs) (c : Fin 4) (l : Fin 64) : hP a9 a11 a13 R c (ix4 0 0 l e) = ((hK g ig qs ks vs Sr q k v c l : ℝ) : EReal) := by
  fin_cases c
  · exact hP0_at hq hk hv hR l
  · exact hP1_at hq hk hv hR l
  · exact hP2_at hq hk hv hR l
  · exact hP3_at hq hk hv hR l

section
variable (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole)
  (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole)
  (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole)
  (x0 x1 : Vec Ideal S6x8x256 .f32) (x2 x3 x4 : Vec Ideal S6x8x4 .f32) (x5 x6 : Vec Ideal S1x2x256x192 .fp8e4m3) (x7 : Vec Ideal S1x2x256x384 .fp8e4m3) (x8 : Vec Ideal S1x2x256x384 .bf16) (x9 : Vec Ideal S8x384 .f32)

variable {g ig : Fin 256 → ℝ} {qs ks vs : Fin 4 → ℝ} {q k : Fin 256 → Fin 192 → ℝ} {v : Fin 256 → ℝ} {p : Fin 2} {e : Fin 384}

theorem inbK (p : Fin 2) : ∀ a, (![0, p.val, 0, 0] : Fin 4 → ℕ) a + S1x1x256x192.size a ≤ S1x2x256x192.size a := by
  fin_cases p
  · exact inb_S1x2x256x192_S1x1x256x192_0_0_0_0
  · exact inb_S1x2x256x192_S1x1x256x192_0_1_0_0
theorem inbV (p : Fin 2) : ∀ a, (![0, p.val, 0, 0] : Fin 4 → ℕ) a + S1x1x256x384.size a ≤ S1x2x256x384.size a := by
  fin_cases p
  · exact inb_S1x2x256x384_S1x1x256x384_0_0_0_0
  · exact inb_S1x2x256x384_S1x1x256x384_0_1_0_0

/-- A piece of one head, as the body computes it from what it loads of its blocks and of the scratch. -/
def hPM (mem : arg17.view.ty.Contents (Elt Ideal)) (p : Fin 2) (c : Fin 4) : Vec Ideal S1x1x64x384 .bf16 :=
  hP (View.readAt (Elt Ideal) arg7.view (Rect.unit (s := S1x2x256x192) ![0, p.val, 0, 0] S1x1x256x192.size (inbK p)).toLoadRect (harg7.unread x5))
    (View.readAt (Elt Ideal) arg8.view (Rect.unit (s := S1x2x256x192) ![0, p.val, 0, 0] S1x1x256x192.size (inbK p)).toLoadRect (harg8.unread x6))
    (View.readAt (Elt Ideal) arg9.view (Rect.unit (s := S1x2x256x384) ![0, p.val, 0, 0] S1x1x256x384.size (inbV p)).toLoadRect (harg9.unread x7))
    (rowsM arg17 i p mem) c

/-- Such a piece holds the kernel's hidden state. -/
theorem hPM_at {mem : arg17.view.ty.Contents (Elt Ideal)} {V : Vec Ideal S21x48x256 .f32} (hV : ∀ (r : LoadRect S21x48x256) (j), View.readAt (Elt Ideal) arg17.view r mem j = V (r.idx j))
    (hq : ∀ s d, x5 (ix4 0 p s d) = ((q s d : ℝ) : EReal)) (hk : ∀ s d, x6 (ix4 0 p s d) = ((k s d : ℝ) : EReal)) (hv : ∀ s, x7 (ix4 0 p s e) = ((v s : ℝ) : EReal))
    (h : Rows (fun r j => V (ix3 r (row i p) (j 2 : Fin 256))) g ig qs ks vs) (c : Fin 4) (l : Fin 64) :
    hPM i arg7 harg7 arg8 harg8 arg9 harg9 arg17 x5 x6 x7 mem p c (ix4 0 0 l e) = ((hK g ig qs ks vs Sr q k v c l : ℝ) : EReal) := by
  refine hP_at (fun s d => ?_) (fun s d => ?_) (fun s => ?_) (rowsM_at hV h) c l
  · rw [View.readAt_apply, harg7.read_unread]; exact (congrArg x5 (key_idx _ rfl s d)).trans (hq s d)
  · rw [View.readAt_apply, harg8.read_unread]; exact (congrArg x6 (key_idx _ rfl s d)).trans (hk s d)
  · rw [View.readAt_apply, harg9.read_unread]; exact (congrArg x7 (val_idx _ rfl s e)).trans (hv s)

set_option maxHeartbeats 4000000 in
/-- What the first point leaves in the scratch, row by row. -/
theorem scr_rows (r : Fin 21) (h15 : r.val ≠ 15) (h16 : r.val ≠ 16) (hd : Fin 48) (s : Fin 256) :
    View.canon (kernelRun0_A.sl.HS0_21 (F := Ideal) c arg2 harg2 arg3 harg3 arg4 harg4 arg5 harg5 arg6 harg6 x0 x1 x2 x3 x4) (ix3 r hd s) = gRow x0 x1 x2 x3 x4 r (ix3 0 hd s) := by
  have e : gRow x0 x1 x2 x3 x4 = gRow (View.readAt (Elt Ideal) arg2.view (Rect.unit (s := S6x8x256) ![0, 0, 0] S6x8x256.size inb_S6x8x256_S6x8x256_0_0_0).toLoadRect (harg2.unread x0))
    (View.readAt (Elt Ideal) arg3.view (Rect.unit (s := S6x8x256) ![0, 0, 0] S6x8x256.size inb_S6x8x256_S6x8x256_0_0_0).toLoadRect (harg3.unread x1))
    (View.readAt (Elt Ideal) arg4.view (Rect.unit (s := S6x8x4) ![0, 0, 0] S6x8x4.size inb_S6x8x4_S6x8x4_0_0_0).toLoadRect (harg4.unread x2))
    (View.readAt (Elt Ideal) arg5.view (Rect.unit (s := S6x8x4) ![0, 0, 0] S6x8x4.size inb_S6x8x4_S6x8x4_0_0_0).toLoadRect (harg5.unread x3))
    (View.readAt (Elt Ideal) arg6.view (Rect.unit (s := S6x8x4) ![0, 0, 0] S6x8x4.size inb_S6x8x4_S6x8x4_0_0_0).toLoadRect (harg6.unread x4)) := by
    rw [View.readAt_full, View.readAt_full, View.readAt_full, View.readAt_full, View.readAt_full, harg2.read_unread, harg3.read_unread, harg4.read_unread, harg5.read_unread, harg6.read_unread]
  rw [e]
  unfold kernelRun0_A.sl.HS0_21
  refine canon_step (fun h => (by obtain rfl : r = 1 := Fin.ext h; rfl)) fun n1 => ?_
  refine canon_step (fun h => absurd h h15) fun n15 => ?_
  refine canon_step (fun h => (by obtain rfl : r = 14 := Fin.ext h; rfl)) fun n14 => ?_
  refine canon_step (fun h => (by obtain rfl : r = 13 := Fin.ext h; rfl)) fun n13 => ?_
  refine canon_step (fun h => (by obtain rfl : r = 12 := Fin.ext h; rfl)) fun n12 => ?_
  refine canon_step (fun h => (by obtain rfl : r = 19 := Fin.ext h; rfl)) fun n19 => ?_
  refine canon_step (fun h => (by obtain rfl : r = 11 := Fin.ext h; rfl)) fun n11 => ?_
  refine canon_step (fun h => (by obtain rfl : r = 7 := Fin.ext h; rfl)) fun n7 => ?_
  refine canon_step (fun h => (by obtain rfl : r = 18 := Fin.ext h; rfl)) fun n18 => ?_
  refine canon_step (fun h => (by obtain rfl : r = 10 := Fin.ext h; rfl)) fun n10 => ?_
  refine canon_step (fun h => (by obtain rfl : r = 6 := Fin.ext h; rfl)) fun n6 => ?_
  refine canon_step (fun h => (by obtain rfl : r = 17 := Fin.ext h; rfl)) fun n17 => ?_
  refine canon_step (fun h => (by obtain rfl : r = 9 := Fin.ext h; rfl)) fun n9 => ?_
  refine canon_step (fun h => (by obtain rfl : r = 5 := Fin.ext h; rfl)) fun n5 => ?_
  refine canon_step (fun h => absurd h h16) fun n16 => ?_
  refine canon_step (fun h => (by obtain rfl : r = 8 := Fin.ext h; rfl)) fun n8 => ?_
  refine canon_step (fun h => (by obtain rfl : r = 4 := Fin.ext h; rfl)) fun n4 => ?_
  refine canon_step (fun h => (by obtain rfl : r = 20 := Fin.ext h; rfl)) fun n20 => ?_
  refine canon_step (fun h => (by obtain rfl : r = 3 := Fin.ext h; rfl)) fun n3 => ?_
  refine canon_step (fun h => (by obtain rfl : r = 2 := Fin.ext h; rfl)) fun n2 => ?_
  refine canon_step (fun h => (by obtain rfl : r = 0 := Fin.ext h; rfl)) fun n0 => ?_
  exfalso
  have := r.isLt
  omega

/-- So the scratch's rows hold what the head reads. -/
theorem scr_head {hd : Fin 48} {f : Fin 256 → ℝ} (hi : ∀ s, x0 (ix3 (hB hd) (hH hd) s) = ((ig s : ℝ) : EReal)) (hf : ∀ s, x1 (ix3 (hB hd) (hH hd) s) = ((f s : ℝ) : EReal))
    (hq : ∀ c, x2 (ix3 (hB hd) (hH hd) c) = ((qs c : ℝ) : EReal)) (hk : ∀ c, x3 (ix3 (hB hd) (hH hd) c) = ((ks c : ℝ) : EReal))
    (hv : ∀ c, x4 (ix3 (hB hd) (hH hd) c) = ((vs c : ℝ) : EReal)) (hv0 : ∀ c, vs c ≠ 0) :
    Rows (fun r j => View.canon (kernelRun0_A.sl.HS0_21 (F := Ideal) c arg2 harg2 arg3 harg3 arg4 harg4 arg5 harg5 arg6 harg6 x0 x1 x2 x3 x4) (ix3 r hd (j 2 : Fin 256)))
      (fun s => lsig (f s)) ig qs ks vs := by
  have h := gRow_at hi hf hq hk hv hv0
  have e := fun r h15 h16 s => scr_rows c arg2 harg2 arg3 harg3 arg4 harg4 arg5 harg5 arg6 harg6 x0 x1 x2 x3 x4 r h15 h16 hd s
  exact ⟨fun s => (e 0 (by decide) (by decide) s).trans (h.W s), fun s => (e 2 (by decide) (by decide) s).trans (h.U s), fun s => (e 3 (by decide) (by decide) s).trans (h.E s), fun s => (e 4 (by decide) (by decide) s).trans (h.T0 s), fun s => (e 5 (by decide) (by decide) s).trans (h.T1 s), fun s => (e 6 (by decide) (by decide) s).trans (h.T2 s), fun s => (e 7 (by decide) (by decide) s).trans (h.T3 s), fun s => (e 8 (by decide) (by decide) s).trans (h.C0 s), fun s => (e 9 (by decide) (by decide) s).trans (h.C1 s), fun s => (e 10 (by decide) (by decide) s).trans (h.C2 s), fun s => (e 11 (by decide) (by decide) s).trans (h.C3 s), fun s => (e 12 (by decide) (by decide) s).trans (h.N1 s), fun s => (e 13 (by decide) (by decide) s).trans (h.N2 s), fun s => (e 14 (by decide) (by decide) s).trans (h.N3 s), fun s => (e 17 (by decide) (by decide) s).trans (h.Q1 s), fun s => (e 18 (by decide) (by decide) s).trans (h.Q2 s), fun s => (e 19 (by decide) (by decide) s).trans (h.Q3 s), fun s => (e 20 (by decide) (by decide) s).trans (h.V s)⟩

set_option maxHeartbeats 4000000 in
/-- A later point's block of hidden states, from the scratch rows that the first point left. -/
theorem hidB (hc0 : ¬ cond0_0 i) (xs0 : Vec Ideal S21x48x256 .f32)
    (hq : ∀ s d, x5 (ix4 0 p s d) = ((q s d : ℝ) : EReal)) (hk : ∀ s d, x6 (ix4 0 p s d) = ((k s d : ℝ) : EReal)) (hv : ∀ s, x7 (ix4 0 p s e) = ((v s : ℝ) : EReal))
    (h : Rows (fun r j => xs0 (ix3 r (row i p) (j 2 : Fin 256))) g ig qs ks vs) (cc : Fin 4) (l : Fin 64) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 (ix4 0 p (pos cc l) e)
      = ((hK g ig qs ks vs Sr q k v cc l : ℝ) : EReal) := by
  unfold out0_B_11 kernelRun0_B
  rw [View.read_writes_junk_eq_canon]
  refine (canon_eight (hPM i arg7 harg7 arg8 harg8 arg9 harg9 arg17 x5 x6 x7 (harg17.unread xs0)) p cc l e _ _ _ _ _ _ _ _ ?_ ?_ ?_ ?_ ?_ ?_ ?_ ?_).trans
    (hPM_at (V := xs0) (hV := fun r j => ?_) (hq := hq) (hk := hk) (hv := hv) (h := h) ..)
  · rfl
  · rfl
  · rfl
  · rfl
  · rfl
  · rfl
  · rfl
  · rfl
  · rw [View.readAt_apply, harg17.read_unread]
set_option maxHeartbeats 4000000 in
/-- The first point's block of hidden states, from the scratch rows it stores itself. -/
theorem hidA (hc0 : cond0_0 i)
    (hq : ∀ s d, x5 (ix4 0 p s d) = ((q s d : ℝ) : EReal)) (hk : ∀ s d, x6 (ix4 0 p s d) = ((k s d : ℝ) : EReal)) (hv : ∀ s, x7 (ix4 0 p s e) = ((v s : ℝ) : EReal))
    (h : Rows (fun r j => View.canon (kernelRun0_A.sl.HS0_21 (F := Ideal) c arg2 harg2 arg3 harg3 arg4 harg4 arg5 harg5 arg6 harg6 x0 x1 x2 x3 x4) (ix3 r (row i p) (j 2 : Fin 256))) g ig qs ks vs) (cc : Fin 4) (l : Fin 64) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix4 0 p (pos cc l) e)
      = ((hK g ig qs ks vs Sr q k v cc l : ℝ) : EReal) := by
  unfold out0_A_11 kernelRun0_A
  rw [View.read_writes_junk_eq_canon]
  refine (canon_eight (hPM i arg7 harg7 arg8 harg8 arg9 harg9 arg17 x5 x6 x7 (arg17.view.writes (Elt Ideal) arg17.view.junk (kernelRun0_A.sl.HS0_21 (F := Ideal) c arg2 harg2 arg3 harg3 arg4 harg4 arg5 harg5 arg6 harg6 x0 x1 x2 x3 x4))) p cc l e _ _ _ _ _ _ _ _ ?_ ?_ ?_ ?_ ?_ ?_ ?_ ?_).trans
    (hPM_at (V := View.canon (kernelRun0_A.sl.HS0_21 (F := Ideal) c arg2 harg2 arg3 harg3 arg4 harg4 arg5 harg5 arg6 harg6 x0 x1 x2 x3 x4)) (hV := fun r j => ?_) (hq := hq) (hk := hk) (hv := hv) (h := h) ..)
  · rfl
  · rfl
  · rfl
  · rfl
  · rfl
  · rfl
  · rfl
  · rfl
  · rw [View.readAt_writes_junk_eq_canon]
end

end Cert.ML
-- ==== Proof.HValue.lean ====
/- The hidden states that the kernel's run leaves, at an index, over the reals. -/
module

public import proofs.«01_k».proof.Proof.KValue
public import proofs.«01_k».proof.Proof.HOut

@[expose] public section

set_option maxRecDepth 16384

noncomputable section

namespace Cert.ML

open Idealize.ShloMosaic Idealize.ShloMosaic.TcCoe Idealize.SL.Sem Cert.KernelIdeal Cert.KernelIdeal.Gen

variable (m : (ℓ : Loc nD τ sig) → Buf (Elt Ideal) ℓ)

/-- Where the blocks of the queries' scales (a whole array) and of the queries lie. -/
theorem idx_facts_q : ∀ t : Fin cfg0.N, (∀ a : Fin 3, win0_2.index t a = 0) ∧ win0_5.index t = ![t.val / 4, t.val % 4, 0, 0] :=
  (by decide +kernel : ∀ t : Fin grid0.N, _)

/-- The queries' scales, as the body loads them. -/
theorem iblk2_at (c : Dev nD) (t : Fin cfg0.N) (b : Fin 6) (h : Fin 8) (s : Fin 4) :
    (iblk m c 2 t : Vec Ideal S6x8x4 .f32) (ix3 b h s) = m ((c : Thread nD τ).loc main_arg3) (ix3 b h s) := by
  refine Eq.trans ?_ (congrFun (V_main_arg3 m c) _)
  show V m c main_arg3 (((cfg0.win 2).blk t).view.emb (ix3 b h s)) = _
  congr 1
  have e := (idx_facts_q t).1
  funext a; apply Fin.ext
  match a with
  | ⟨0, _⟩ => show win0_2.index t (0 : Fin 3) * 6 + 1 * b.val = b.val; rw [e]; omega
  | ⟨1, _⟩ => show win0_2.index t (1 : Fin 3) * 8 + 1 * h.val = h.val; rw [e]; omega
  | ⟨2, _⟩ => show win0_2.index t (2 : Fin 3) * 4 + 1 * s.val = s.val; rw [e]; omega

/-- The region finds the queries' codes, which over the extended reals are the queries. -/
theorem V_queries (c : Dev nD) (z : S6x8x256x192.Idx) : (V m c main_v0 : Vec Ideal S6x8x256x192 .fp8e4m3) z = m ((c : Thread nD τ).loc main_arg0) z := by
  have h : V m c main_v0 = (Host.convertf (φ := .f32) .fp8e4m3 (m ((c : Thread nD τ).loc main_arg0) : FVec Ideal S6x8x256x192 .f32) : FVec Ideal S6x8x256x192 .fp8e4m3) := by
    after_reads_simp
  exact congrFun h z

/-- The queries' block of a point. -/
theorem iblk5_at (c : Dev nD) (t : Fin cfg0.N) (q : Fin 2) (s : Fin 256) (d : Fin 192) :
    (iblk m c 5 t : Vec Ideal S1x2x256x192 .fp8e4m3) (ix4 0 q s d) = m ((c : Thread nD τ).loc main_arg0) (ix4 (tb t) (th t q) s d) := by
  refine Eq.trans ?_ (V_queries m c _)
  show V m c main_v0 (((cfg0.win 5).blk t).view.emb (ix4 0 q s d)) = _
  congr 1
  have e := (idx_facts_q t).2
  funext a; apply Fin.ext
  match a with
  | ⟨0, _⟩ => show win0_5.index t (0 : Fin 4) * 1 + 1 * 0 = t.val / 4; rw [e]; show t.val / 4 * 1 + 1 * 0 = _; omega
  | ⟨1, _⟩ => show win0_5.index t (1 : Fin 4) * 2 + 1 * q.val = 2 * (t.val % 4) + q.val; rw [e]; show t.val % 4 * 2 + 1 * q.val = _; omega
  | ⟨2, _⟩ => show win0_5.index t (2 : Fin 4) * 256 + 1 * s.val = s.val; rw [e]; show 0 * 256 + 1 * s.val = _; omega
  | ⟨3, _⟩ => show win0_5.index t (3 : Fin 4) * 192 + 1 * d.val = d.val; rw [e]; show 0 * 192 + 1 * d.val = _; omega

section
variable {c : Dev nD} {b : Fin 6} {h : Fin 8} {f ig : Fin 256 → ℝ} {qs ks vs : Fin 4 → ℝ} {q k : Fin 256 → Fin 192 → ℝ} {v : Fin 256 → ℝ} {e : Fin 384}
  (hi : ∀ s, m ((c : Thread nD τ).loc main_arg6) (ix3 b h s) = ((ig s : ℝ) : EReal))
  (hf : ∀ s, m ((c : Thread nD τ).loc main_arg7) (ix3 b h s) = ((f s : ℝ) : EReal))
  (hqs : ∀ j, m ((c : Thread nD τ).loc main_arg3) (ix3 b h j) = ((qs j : ℝ) : EReal))
  (hks : ∀ j, m ((c : Thread nD τ).loc main_arg4) (ix3 b h j) = ((ks j : ℝ) : EReal))
  (hvs : ∀ j, m ((c : Thread nD τ).loc main_arg5) (ix3 b h j) = ((vs j : ℝ) : EReal)) (hv0 : ∀ j, vs j ≠ 0)
  (hq : ∀ s d, m ((c : Thread nD τ).loc main_arg0) (ix4 b h s d) = ((q s d : ℝ) : EReal))
  (hk : ∀ s d, m ((c : Thread nD τ).loc main_arg1) (ix4 b h s d) = ((k s d : ℝ) : EReal))
  (hv : ∀ s, m ((c : Thread nD τ).loc main_arg2) (ix4 b h s e) = ((v s : ℝ) : EReal))

include hi hf hqs hks hvs hv0 hq hk hv in
/-- What a point leaves in its block of hidden states, at a head of its pair. -/
theorem hid_point_at (t : Fin cfg0.N) (p : Fin 2) (hb : b = tb t) (hh : h = th t p) (cc : Fin 4) (l : Fin 64) :
    (outsAt0 m c t.val t.isLt).2.1 (ix4 0 p (pos cc l) e) = ((hK (fun s => lsig (f s)) ig qs ks vs Sr q k v cc l : ℝ) : EReal) := by
  have ht : t.val < 24 := t.isLt
  obtain ⟨-, -, -, -, -, -, g0, g1⟩ := idx_facts t
  have rb : hB (row (grid0.coords t) p) = b := by
    subst hb; apply Fin.ext; show (8 * (grid0.coords t 0).val + 2 * (grid0.coords t 1).val + p.val) / 8 = t.val / 4
    rw [g0, g1]; omega
  have rh : hH (row (grid0.coords t) p) = h := by
    subst hh; apply Fin.ext; show (8 * (grid0.coords t 0).val + 2 * (grid0.coords t 1).val + p.val) % 8 = 2 * (t.val % 4) + p.val
    rw [g0, g1]; omega
  have hR : Rows (fun r j => scr m c (ix3 r (row (grid0.coords t) p) (j 2 : Fin 256))) (fun s => lsig (f s)) ig qs ks vs :=
    scr_head c (ms0_0 t0) (hs0_0 t0) (ms0_1 t0) (hs0_1 t0) (ms0_2 t0) (hs0_2 t0) (ms0_3 t0) (hs0_3 t0) (ms0_4 t0) (hs0_4 t0) _ _ _ _ _
      (fun s => by rw [rb, rh]; exact (iblk0_at m c t0 b h s).trans (hi s)) (fun s => by rw [rb, rh]; exact (iblk1_at m c t0 b h s).trans (hf s))
      (fun s => by rw [rb, rh]; exact (iblk2_at m c t0 b h s).trans (hqs s)) (fun s => by rw [rb, rh]; exact (iblk3_at m c t0 b h s).trans (hks s))
      (fun s => by rw [rb, rh]; exact (iblk4_at m c t0 b h s).trans (hvs s)) hv0
  have hq' : ∀ s d, (iblk m c 5 t : Vec Ideal S1x2x256x192 .fp8e4m3) (ix4 0 p s d) = ((q s d : ℝ) : EReal) :=
    fun s d => (iblk5_at m c t p s d).trans (by rw [← hb, ← hh]; exact hq s d)
  have hk' : ∀ s d, (iblk m c 6 t : Vec Ideal S1x2x256x192 .fp8e4m3) (ix4 0 p s d) = ((k s d : ℝ) : EReal) :=
    fun s d => (iblk6_at m c t p s d).trans (by rw [← hb, ← hh]; exact hk s d)
  have hv' : ∀ s, (iblk m c 7 t : Vec Ideal S1x2x256x384 .fp8e4m3) (ix4 0 p s e) = ((v s : ℝ) : EReal) :=
    fun s => (iblk7_at m c t p s e).trans (by rw [← hb, ← hh]; exact hv s)
  by_cases h0 : t.val % 24 = 0
  · have ht0 : t = t0 := Fin.ext (by show t.val = 0; omega)
    rw [ht0] at hq' hk' hv' hR ⊢
    rw [outsAt0_A m c t0 rfl]
    dsimp only
    exact hidA (hq := hq') (hk := hk') (hv := hv') (h := hR) ..
  · rw [outsAt0_B m c t h0]
    dsimp only
    refine hidB (hq := hq') (hk := hk') (hv := hv') (h := ?_) ..
    rw [scr_at]; exact hR

include hi hf hqs hks hvs hv0 hq hk hv in
/-- The array of hidden states after the run, at an index. -/
theorem hid_result_at (cc : Fin 4) (l : Fin 64) :
    Cert.KernelIdeal.Value.G11 m c (ix4 b h (pos cc l) e) = ((hK (fun s => lsig (f s)) ig qs ks vs Sr q k v cc l : ℝ) : EReal) := by
  unfold Cert.KernelIdeal.Value.G11
  have hs : (pos cc l).val < 256 := (pos cc l).isLt
  have hp : Cert.KernelIdeal.Value.pt11Of (ix4 b h (pos cc l) e) = 4 * b.val + h.val / 2 := by
    show 4 * (b.val / 1 - 0) + 1 * (h.val / 2 - 0) + 1 * ((pos cc l).val / 256 - 0) + 1 * (e.val / 384 - 0) = _
    omega
  have hN : Cert.KernelIdeal.Value.pt11Of (ix4 b h (pos cc l) e) < cfg0.N := by rw [hp]; show _ < 24; omega
  rw [dif_pos hN, ← Cert.KernelIdeal.Value.outsAt0_sweep m c _ hN]
  have hl : Cert.KernelIdeal.Value.loc11Of (ix4 b h (pos cc l) e) = ix4 0 ⟨h.val % 2, by omega⟩ (pos cc l) e := by
    funext a; apply Fin.ext
    match a with
    | ⟨0, _⟩ => show b.val % 1 = 0; omega
    | ⟨1, _⟩ => rfl
    | ⟨2, _⟩ => show (pos cc l).val % 256 = (pos cc l).val; omega
    | ⟨3, _⟩ => show e.val % 384 = e.val; omega
  rw [hl]
  exact hid_point_at m hi hf hqs hks hvs hv0 hq hk hv ⟨_, hN⟩ ⟨h.val % 2, by omega⟩ (Fin.ext (by show b.val = Cert.KernelIdeal.Value.pt11Of (ix4 b h (pos cc l) e) / 4; omega))
    (Fin.ext (by show h.val = 2 * (Cert.KernelIdeal.Value.pt11Of (ix4 b h (pos cc l) e) % 4) + h.val % 2; omega)) cc l
end

end Cert.ML

end
-- ==== Proof.YMath.lean ====
/- One entry of the normalized and gated output, over the extended reals. -/
module

public import proofs.«01_k».proof.Proof.CMath

@[expose] public section

noncomputable section

namespace Cert.ML

open Idealize.ShloMosaic

/-- An entry of the output: the hidden state `H e`, times the logistic of the gate `o`, the weight `w` and the reciprocal root of the mean square of the hidden states. -/
def yE (o w : EReal) (H : Fin 384 → EReal) (e : Fin 384) : EReal :=
  Ideal.logistic o * w * H e * Ideal.rsqrt ((∑ x, H x * H x) * ((384⁻¹ : ℝ) : EReal) + Ideal.ofBits .f32 0x358637BD#32)

/-- The literal 384. -/
theorem lit_384 : Ideal.ofBits .f32 0x43C00000#32 = ((384 : ℝ) : EReal) := by
  simp [Ideal.ofBits, Ideal.ieee]
  rw [← EReal.coe_mul]
  norm_num

end Cert.ML

end
-- ==== Proof.YOut.lean ====
/- What one grid point leaves in the block of outputs, over the extended reals. -/
module

public import proofs.«01_k».proof.Proof.HOut
public import proofs.«01_k».proof.Proof.YMath

@[expose] public section

set_option maxRecDepth 16384

noncomputable section

namespace Cert.ML

open Idealize.ShloMosaic Idealize.ShloMosaic.TcCoe Cert.KernelIdeal Cert.KernelIdeal.Gen

section
variable (a9 a11 : Vec Ideal S1x1x256x192 .fp8e4m3) (a13 : Vec Ideal S1x1x256x384 .fp8e4m3) (R : Fin 21 → Vec Ideal S1x1x256 .f32)

/-- The hidden states of a chunk before they are rounded. -/
def hF (c : Fin 4) : FVec Ideal S64x384 .f32 :=
  ![k0_pay173 (k0_pay128 (hA a9 a11) (k0_pay122 (R 2)) (k0_pay123 (R 3)) k0_pay125 (R 4) (R 8)) (hS a9 a11 a13 R) (R 20),
    k0_pay177 (k0_pay135 (hN a9 a11 R) (k0_pay123 (R 3)) k0_pay124 (k0_pay130 (k0_pay122 (R 2))) (hB1 a9 a11 R) (R 17)) (hS1 a9 a11 a13 R) (k0_pay172 (R 20)),
    k0_pay180 (k0_pay146 (hN a9 a11 R) (hA' a9 a11) (k0_pay123 (R 3)) k0_pay125 (k0_pay141 (k0_pay122 (R 2))) (k0_pay142 (R 6)) (R 10) (R 18))
      (k0_pay170 (hS a9 a11 a13 R) (k0_pay166 (k0_pay104 a13)
        (k0_pay149 (hG a9 a11 R) (k0_pay141 (k0_pay122 (R 2))) (k0_pay142 (R 6)) (R 10))
        (k0_pay150 (hG a9 a11 R) (k0_pay141 (k0_pay122 (R 2))) (k0_pay142 (R 6)) (R 10)))) (k0_pay172 (R 20)),
    k0_pay183 (k0_pay164 (k0_pay123 (R 3)) (k0_pay160 (hA' a9 a11) (k0_pay122 (R 2)) k0_pay124 m129 (R 7) (R 11)) (k0_pay161 (k0_pay122 (R 2)) (R 19))
      (k0_pay162 (hN a9 a11 R)) (k0_pay163 (hN a9 a11 R))) (k0_pay171 (hS a9 a11 a13 R)) (k0_pay172 (R 20))] c

/-- The stored piece is those, rounded, which changes nothing over the extended reals. -/
theorem hF_eq (c : Fin 4) (l : Fin 64) (e : Fin 384) : hF a9 a11 a13 R c (ix2 l e) = hP a9 a11 a13 R c (ix4 0 0 l e) := by
  fin_cases c
  · show _ = hP0 a9 a11 a13 R (ix4 0 0 l e); unfold hP0; pointwise [k0_pay174]; rfl
  · show _ = hP1 a9 a11 a13 R (ix4 0 0 l e); unfold hP1; pointwise [k0_pay178]; rfl
  · show _ = hP2 a9 a11 a13 R (ix4 0 0 l e); unfold hP2; pointwise [k0_pay181]; rfl
  · show _ = hP3 a9 a11 a13 R (ix4 0 0 l e); unfold hP3; pointwise [k0_pay185]; rfl
end

/-- The named constant is the reciprocal of 384. -/
theorem inv_dv : (Named.named (F := Ideal) κ "inv_dv" 0x3B2AAAAB#32 : Ideal .f32) = ((384⁻¹ : ℝ) : EReal) := IdealRules.named_const.ideal_named_scalar _ _ _ _ rfl

/-- The output of a chunk, an entry. -/
theorem pay182_at (w : Vec Ideal S1x384 .f32) (H : FVec Ideal S64x384 .f32) (o : Vec Ideal S1x1x64x384 .bf16) (l : Fin 64) (e : Fin 384) :
    k0_pay182 w H o (ix4 0 0 l e) = yE (o (ix4 0 0 l e)) (w (ix2 0 e)) (fun x => H (ix2 l x)) e := by
  pointwise [k0_pay182]
  rw [inv_dv]
  rfl

section
variable (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole)
  (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole)
  (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole)
  (x0 x1 : Vec Ideal S6x8x256 .f32) (x2 x3 x4 : Vec Ideal S6x8x4 .f32) (x5 x6 : Vec Ideal S1x2x256x192 .fp8e4m3) (x7 : Vec Ideal S1x2x256x384 .fp8e4m3) (x8 : Vec Ideal S1x2x256x384 .bf16) (x9 : Vec Ideal S8x384 .f32)
variable {g ig : Fin 256 → ℝ} {qs ks vs : Fin 4 → ℝ} {q k : Fin 256 → Fin 192 → ℝ} {v : Fin 256 → Fin 384 → ℝ} {p : Fin 2} {e : Fin 384}

/-- A chunk of a head lies in the pair's block. -/
theorem inbO (p : Fin 2) (c : Fin 4) : ∀ a, (![0, p.val, 64 * c.val, 0] : Fin 4 → ℕ) a + S1x1x64x384.size a ≤ S1x2x256x384.size a := by
  revert p c; decide +kernel

/-- The head of a point's pair. -/
def hd8 (i : grid0.Coords) (p : Fin 2) : Fin 8 := ⟨2 * (i 1).val + p.val, by have h1 : (i 1).val < 4 := (i 1).isLt; omega⟩

/-- Where the body's load of the weights begins: at the head's row. -/
theorem off22_eq : ∀ (i : grid0.Coords) (p : Fin 2), k0_off22 i (BitVec.ofNat 32 p.val) = ![(hd8 i p).val, 0] := by decide +kernel

/-- A chunk of one head's outputs, as the body computes it from what it loads of its blocks and of the scratch. -/
def yPM (mem : arg17.view.ty.Contents (Elt Ideal)) (p : Fin 2) (c : Fin 4) : Vec Ideal S1x1x64x384 .bf16 :=
  k0_pay182 (View.readAt (Elt Ideal) arg11.view (Rect.unit (s := S8x384) (k0_off22 i (BitVec.ofNat 32 p.val)) S1x384.size (k0_off22_inb i p)).toLoadRect (harg11.unread x9))
    (hF (View.readAt (Elt Ideal) arg7.view (Rect.unit (s := S1x2x256x192) ![0, p.val, 0, 0] S1x1x256x192.size (inbK p)).toLoadRect (harg7.unread x5))
      (View.readAt (Elt Ideal) arg8.view (Rect.unit (s := S1x2x256x192) ![0, p.val, 0, 0] S1x1x256x192.size (inbK p)).toLoadRect (harg8.unread x6))
      (View.readAt (Elt Ideal) arg9.view (Rect.unit (s := S1x2x256x384) ![0, p.val, 0, 0] S1x1x256x384.size (inbV p)).toLoadRect (harg9.unread x7))
      (rowsM arg17 i p mem) c)
    (View.readAt (Elt Ideal) arg10.view (Rect.unit (s := S1x2x256x384) ![0, p.val, 64 * c.val, 0] S1x1x64x384.size (inbO p c)).toLoadRect (harg10.unread x8))

/-- Such a piece holds the outputs of the kernel's hidden states. -/
theorem yPM_at {mem : arg17.view.ty.Contents (Elt Ideal)} {V : Vec Ideal S21x48x256 .f32} (hV : ∀ (r : LoadRect S21x48x256) (j), View.readAt (Elt Ideal) arg17.view r mem j = V (r.idx j))
    (hq : ∀ s d, x5 (ix4 0 p s d) = ((q s d : ℝ) : EReal)) (hk : ∀ s d, x6 (ix4 0 p s d) = ((k s d : ℝ) : EReal)) (hv : ∀ s e, x7 (ix4 0 p s e) = ((v s e : ℝ) : EReal))
    (h : Rows (fun r j => V (ix3 r (row i p) (j 2 : Fin 256))) g ig qs ks vs) (c : Fin 4) (l : Fin 64) :
    yPM i arg7 harg7 arg8 harg8 arg9 harg9 arg10 harg10 arg11 harg11 arg17 x5 x6 x7 x8 x9 mem p c (ix4 0 0 l e)
      = yE (x8 (ix4 0 p (pos c l) e)) (x9 (ix2 (hd8 i p) e)) (fun x => ((hK g ig qs ks vs Sr q k (fun s => v s x) c l : ℝ) : EReal)) e := by
  unfold yPM
  rw [pay182_at]
  have eo : (Rect.unit (s := S1x2x256x384) ![0, p.val, 64 * c.val, 0] S1x1x64x384.size (inbO p c)).toLoadRect.idx (ix4 0 0 l e) = ix4 0 p (pos c l) e := by
    funext a; apply Fin.ext
    match a with
    | ⟨0, _⟩ => rfl
    | ⟨1, _⟩ => show p.val + 1 * 0 = p.val; omega
    | ⟨2, _⟩ => show 64 * c.val + 1 * l.val = 64 * c.val + l.val; omega
    | ⟨3, _⟩ => show 0 + 1 * e.val = e.val; omega
  have ew : (Rect.unit (s := S8x384) (k0_off22 i (BitVec.ofNat 32 p.val)) S1x384.size (k0_off22_inb i p)).toLoadRect.idx (ix2 0 e) = ix2 (hd8 i p) e := by
    have o := off22_eq i p
    funext a; apply Fin.ext
    match a with
    | ⟨0, _⟩ => show k0_off22 i (BitVec.ofNat 32 p.val) 0 + 1 * 0 = (hd8 i p).val; rw [o]; rfl
    | ⟨1, _⟩ => show k0_off22 i (BitVec.ofNat 32 p.val) 1 + 1 * e.val = e.val; rw [o]; show 0 + 1 * e.val = e.val; omega
  rw [View.readAt_apply, View.readAt_apply, harg10.read_unread, harg11.read_unread, eo, ew]
  congr 1
  funext x
  rw [hF_eq]
  exact hPM_at i arg7 harg7 arg8 harg8 arg9 harg9 arg17 x5 x6 x7 hV hq hk (fun s => hv s x) h c l

set_option maxHeartbeats 4000000 in
/-- A later point's block of outputs, from the scratch rows that the first point left. -/
theorem outyB (hc0 : ¬ cond0_0 i) (xs0 : Vec Ideal S21x48x256 .f32)
    (hq : ∀ s d, x5 (ix4 0 p s d) = ((q s d : ℝ) : EReal)) (hk : ∀ s d, x6 (ix4 0 p s d) = ((k s d : ℝ) : EReal)) (hv : ∀ s e, x7 (ix4 0 p s e) = ((v s e : ℝ) : EReal))
    (h : Rows (fun r j => xs0 (ix3 r (row i p) (j 2 : Fin 256))) g ig qs ks vs) (cc : Fin 4) (l : Fin 64) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 (ix4 0 p (pos cc l) e)
      = yE (x8 (ix4 0 p (pos cc l) e)) (x9 (ix2 (hd8 i p) e)) (fun x => ((hK g ig qs ks vs Sr q k (fun s => v s x) cc l : ℝ) : EReal)) e := by
  unfold out0_B_10 kernelRun0_B
  rw [View.read_writes_junk_eq_canon]
  refine (canon_eight (yPM i arg7 harg7 arg8 harg8 arg9 harg9 arg10 harg10 arg11 harg11 arg17 x5 x6 x7 x8 x9 (harg17.unread xs0)) p cc l e _ _ _ _ _ _ _ _ ?_ ?_ ?_ ?_ ?_ ?_ ?_ ?_).trans
    (yPM_at (V := xs0) (hV := fun r j => ?_) (hq := hq) (hk := hk) (hv := hv) (h := h) ..)
  · rfl
  · rfl
  · rfl
  · rfl
  · rfl
  · rfl
  · rfl
  · rfl
  · rw [View.readAt_apply, harg17.read_unread]
set_option maxHeartbeats 4000000 in
/-- The first point's block of outputs, from the scratch rows it stores itself. -/
theorem outyA (hc0 : cond0_0 i)
    (hq : ∀ s d, x5 (ix4 0 p s d) = ((q s d : ℝ) : EReal)) (hk : ∀ s d, x6 (ix4 0 p s d) = ((k s d : ℝ) : EReal)) (hv : ∀ s e, x7 (ix4 0 p s e) = ((v s e : ℝ) : EReal))
    (h : Rows (fun r j => View.canon (kernelRun0_A.sl.HS0_21 (F := Ideal) c arg2 harg2 arg3 harg3 arg4 harg4 arg5 harg5 arg6 harg6 x0 x1 x2 x3 x4) (ix3 r (row i p) (j 2 : Fin 256))) g ig qs ks vs) (cc : Fin 4) (l : Fin 64) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix4 0 p (pos cc l) e)
      = yE (x8 (ix4 0 p (pos cc l) e)) (x9 (ix2 (hd8 i p) e)) (fun x => ((hK g ig qs ks vs Sr q k (fun s => v s x) cc l : ℝ) : EReal)) e := by
  unfold out0_A_10 kernelRun0_A
  rw [View.read_writes_junk_eq_canon]
  refine (canon_eight (yPM i arg7 harg7 arg8 harg8 arg9 harg9 arg10 harg10 arg11 harg11 arg17 x5 x6 x7 x8 x9 (arg17.view.writes (Elt Ideal) arg17.view.junk (kernelRun0_A.sl.HS0_21 (F := Ideal) c arg2 harg2 arg3 harg3 arg4 harg4 arg5 harg5 arg6 harg6 x0 x1 x2 x3 x4))) p cc l e _ _ _ _ _ _ _ _ ?_ ?_ ?_ ?_ ?_ ?_ ?_ ?_).trans
    (yPM_at (V := View.canon (kernelRun0_A.sl.HS0_21 (F := Ideal) c arg2 harg2 arg3 harg3 arg4 harg4 arg5 harg5 arg6 harg6 x0 x1 x2 x3 x4)) (hV := fun r j => ?_) (hq := hq) (hk := hk) (hv := hv) (h := h) ..)
  · rfl
  · rfl
  · rfl
  · rfl
  · rfl
  · rfl
  · rfl
  · rfl
  · rw [View.readAt_writes_junk_eq_canon]
end

end Cert.ML

end
-- ==== Proof.YValue.lean ====
/- The outputs that the kernel's run leaves, at an index, over the reals. -/
module

public import proofs.«01_k».proof.Proof.HValue
public import proofs.«01_k».proof.Proof.YOut

@[expose] public section

set_option maxRecDepth 16384

noncomputable section

namespace Cert.ML

open Idealize.ShloMosaic Idealize.ShloMosaic.TcCoe Idealize.SL.Sem Cert.KernelIdeal Cert.KernelIdeal.Gen

variable (m : (ℓ : Loc nD τ sig) → Buf (Elt Ideal) ℓ)

/-- Where the blocks of the output gates and of the weights (a whole array) lie. -/
theorem idx_facts_y : ∀ t : Fin cfg0.N, win0_8.index t = ![t.val / 4, t.val % 4, 0, 0] ∧ (∀ a : Fin 2, win0_9.index t a = 0) :=
  (by decide +kernel : ∀ t : Fin grid0.N, _)

/-- The output gates' block of a point. -/
theorem iblk8_at (c : Dev nD) (t : Fin cfg0.N) (q : Fin 2) (s : Fin 256) (d : Fin 384) :
    (iblk m c 8 t : Vec Ideal S1x2x256x384 .bf16) (ix4 0 q s d) = m ((c : Thread nD τ).loc main_arg8) (ix4 (tb t) (th t q) s d) := by
  refine Eq.trans ?_ (congrFun (V_main_arg8 m c) _)
  show V m c main_arg8 (((cfg0.win 8).blk t).view.emb (ix4 0 q s d)) = _
  congr 1
  have e := (idx_facts_y t).1
  funext a; apply Fin.ext
  match a with
  | ⟨0, _⟩ => show win0_8.index t (0 : Fin 4) * 1 + 1 * 0 = t.val / 4; rw [e]; show t.val / 4 * 1 + 1 * 0 = _; omega
  | ⟨1, _⟩ => show win0_8.index t (1 : Fin 4) * 2 + 1 * q.val = 2 * (t.val % 4) + q.val; rw [e]; show t.val % 4 * 2 + 1 * q.val = _; omega
  | ⟨2, _⟩ => show win0_8.index t (2 : Fin 4) * 256 + 1 * s.val = s.val; rw [e]; show 0 * 256 + 1 * s.val = _; omega
  | ⟨3, _⟩ => show win0_8.index t (3 : Fin 4) * 384 + 1 * d.val = d.val; rw [e]; show 0 * 384 + 1 * d.val = _; omega

/-- The weights, as the body loads them. -/
theorem iblk9_at (c : Dev nD) (t : Fin cfg0.N) (h : Fin 8) (d : Fin 384) :
    (iblk m c 9 t : Vec Ideal S8x384 .f32) (ix2 h d) = m ((c : Thread nD τ).loc main_arg9) (ix2 h d) := by
  refine Eq.trans ?_ (congrFun (V_main_arg9 m c) _)
  show V m c main_arg9 (((cfg0.win 9).blk t).view.emb (ix2 h d)) = _
  congr 1
  have e := (idx_facts_y t).2
  funext a; apply Fin.ext
  match a with
  | ⟨0, _⟩ => show win0_9.index t (0 : Fin 2) * 8 + 1 * h.val = h.val; rw [e]; omega
  | ⟨1, _⟩ => show win0_9.index t (1 : Fin 2) * 384 + 1 * d.val = d.val; rw [e]; omega

section
variable {c : Dev nD} {b : Fin 6} {h : Fin 8} {f ig : Fin 256 → ℝ} {qs ks vs : Fin 4 → ℝ} {q k : Fin 256 → Fin 192 → ℝ} {v : Fin 256 → Fin 384 → ℝ} {e : Fin 384}
  (hi : ∀ s, m ((c : Thread nD τ).loc main_arg6) (ix3 b h s) = ((ig s : ℝ) : EReal))
  (hf : ∀ s, m ((c : Thread nD τ).loc main_arg7) (ix3 b h s) = ((f s : ℝ) : EReal))
  (hqs : ∀ j, m ((c : Thread nD τ).loc main_arg3) (ix3 b h j) = ((qs j : ℝ) : EReal))
  (hks : ∀ j, m ((c : Thread nD τ).loc main_arg4) (ix3 b h j) = ((ks j : ℝ) : EReal))
  (hvs : ∀ j, m ((c : Thread nD τ).loc main_arg5) (ix3 b h j) = ((vs j : ℝ) : EReal)) (hv0 : ∀ j, vs j ≠ 0)
  (hq : ∀ s d, m ((c : Thread nD τ).loc main_arg0) (ix4 b h s d) = ((q s d : ℝ) : EReal))
  (hk : ∀ s d, m ((c : Thread nD τ).loc main_arg1) (ix4 b h s d) = ((k s d : ℝ) : EReal))
  (hv : ∀ s e, m ((c : Thread nD τ).loc main_arg2) (ix4 b h s e) = ((v s e : ℝ) : EReal))

include hi hf hqs hks hvs hv0 hq hk hv in
/-- What a point leaves in its block of outputs, at a head of its pair. -/
theorem y_point_at (t : Fin cfg0.N) (p : Fin 2) (hb : b = tb t) (hh : h = th t p) (cc : Fin 4) (l : Fin 64) :
    (outsAt0 m c t.val t.isLt).1 (ix4 0 p (pos cc l) e) = yE (m ((c : Thread nD τ).loc main_arg8) (ix4 b h (pos cc l) e)) (m ((c : Thread nD τ).loc main_arg9) (ix2 h e))
        (fun x => ((hK (fun s => lsig (f s)) ig qs ks vs Sr q k (fun s => v s x) cc l : ℝ) : EReal)) e := by
  have ht : t.val < 24 := t.isLt
  obtain ⟨-, -, -, -, -, -, g0, g1⟩ := idx_facts t
  have rb : hB (row (grid0.coords t) p) = b := by
    subst hb; apply Fin.ext; show (8 * (grid0.coords t 0).val + 2 * (grid0.coords t 1).val + p.val) / 8 = t.val / 4
    rw [g0, g1]; omega
  have rh : hH (row (grid0.coords t) p) = h := by
    subst hh; apply Fin.ext; show (8 * (grid0.coords t 0).val + 2 * (grid0.coords t 1).val + p.val) % 8 = 2 * (t.val % 4) + p.val
    rw [g0, g1]; omega
  have hR : Rows (fun r j => scr m c (ix3 r (row (grid0.coords t) p) (j 2 : Fin 256))) (fun s => lsig (f s)) ig qs ks vs :=
    scr_head c (ms0_0 t0) (hs0_0 t0) (ms0_1 t0) (hs0_1 t0) (ms0_2 t0) (hs0_2 t0) (ms0_3 t0) (hs0_3 t0) (ms0_4 t0) (hs0_4 t0) _ _ _ _ _
      (fun s => by rw [rb, rh]; exact (iblk0_at m c t0 b h s).trans (hi s)) (fun s => by rw [rb, rh]; exact (iblk1_at m c t0 b h s).trans (hf s))
      (fun s => by rw [rb, rh]; exact (iblk2_at m c t0 b h s).trans (hqs s)) (fun s => by rw [rb, rh]; exact (iblk3_at m c t0 b h s).trans (hks s))
      (fun s => by rw [rb, rh]; exact (iblk4_at m c t0 b h s).trans (hvs s)) hv0
  have hq' : ∀ s d, (iblk m c 5 t : Vec Ideal S1x2x256x192 .fp8e4m3) (ix4 0 p s d) = ((q s d : ℝ) : EReal) :=
    fun s d => (iblk5_at m c t p s d).trans (by rw [← hb, ← hh]; exact hq s d)
  have hk' : ∀ s d, (iblk m c 6 t : Vec Ideal S1x2x256x192 .fp8e4m3) (ix4 0 p s d) = ((k s d : ℝ) : EReal) :=
    fun s d => (iblk6_at m c t p s d).trans (by rw [← hb, ← hh]; exact hk s d)
  have hv' : ∀ s e, (iblk m c 7 t : Vec Ideal S1x2x256x384 .fp8e4m3) (ix4 0 p s e) = ((v s e : ℝ) : EReal) :=
    fun s e => (iblk7_at m c t p s e).trans (by rw [← hb, ← hh]; exact hv s e)
  have ho : m ((c : Thread nD τ).loc main_arg8) (ix4 b h (pos cc l) e) = (iblk m c 8 t : Vec Ideal S1x2x256x384 .bf16) (ix4 0 p (pos cc l) e) := by
    rw [iblk8_at, ← hb, ← hh]
  have hw : m ((c : Thread nD τ).loc main_arg9) (ix2 h e) = (iblk m c 9 t : Vec Ideal S8x384 .f32) (ix2 (hd8 (grid0.coords t) p) e) := by
    rw [iblk9_at]; subst hh; congr 2
    apply Fin.ext; show 2 * (t.val % 4) + p.val = 2 * (grid0.coords t 1).val + p.val; rw [g1]
  rw [ho, hw]
  clear ho hw
  by_cases h0 : t.val % 24 = 0
  · have ht0 : t = t0 := Fin.ext (by show t.val = 0; omega)
    rw [ht0] at hq' hk' hv' hR ⊢
    rw [outsAt0_A m c t0 rfl]
    dsimp only
    exact outyA (hq := hq') (hk := hk') (hv := hv') (h := hR) ..
  · rw [outsAt0_B m c t h0]
    dsimp only
    refine outyB (hq := hq') (hk := hk') (hv := hv') (h := ?_) ..
    rw [scr_at]; exact hR

include hi hf hqs hks hvs hv0 hq hk hv in
/-- The array of outputs after the run, at an index. -/
theorem y_result_at (cc : Fin 4) (l : Fin 64) :
    Cert.KernelIdeal.Value.G10 m c (ix4 b h (pos cc l) e) = yE (m ((c : Thread nD τ).loc main_arg8) (ix4 b h (pos cc l) e)) (m ((c : Thread nD τ).loc main_arg9) (ix2 h e))
        (fun x => ((hK (fun s => lsig (f s)) ig qs ks vs Sr q k (fun s => v s x) cc l : ℝ) : EReal)) e := by
  unfold Cert.KernelIdeal.Value.G10
  have hs : (pos cc l).val < 256 := (pos cc l).isLt
  have hp : Cert.KernelIdeal.Value.pt10Of (ix4 b h (pos cc l) e) = 4 * b.val + h.val / 2 := by
    show 4 * (b.val / 1 - 0) + 1 * (h.val / 2 - 0) + 1 * ((pos cc l).val / 256 - 0) + 1 * (e.val / 384 - 0) = _
    omega
  have hN : Cert.KernelIdeal.Value.pt10Of (ix4 b h (pos cc l) e) < cfg0.N := by rw [hp]; show _ < 24; omega
  rw [dif_pos hN, ← Cert.KernelIdeal.Value.outsAt0_sweep m c _ hN]
  have hl : Cert.KernelIdeal.Value.loc10Of (ix4 b h (pos cc l) e) = ix4 0 ⟨h.val % 2, by omega⟩ (pos cc l) e := by
    funext a; apply Fin.ext
    match a with
    | ⟨0, _⟩ => show b.val % 1 = 0; omega
    | ⟨1, _⟩ => rfl
    | ⟨2, _⟩ => show (pos cc l).val % 256 = (pos cc l).val; omega
    | ⟨3, _⟩ => show e.val % 384 = e.val; omega
  rw [hl]
  exact y_point_at m hi hf hqs hks hvs hv0 hq hk hv ⟨_, hN⟩ ⟨h.val % 2, by omega⟩ (Fin.ext (by show b.val = Cert.KernelIdeal.Value.pt10Of (ix4 b h (pos cc l) e) / 4; omega))
    (Fin.ext (by show h.val = 2 * (Cert.KernelIdeal.Value.pt10Of (ix4 b h (pos cc l) e) % 4) + h.val % 2; omega)) cc l
end

end Cert.ML

end
-- ==== Proof.RRead.lean ====
/- The reference's host operations, read at an index, over the reals. -/
module

public import proofs.«01_k».proof.Proof.Gen.ReferenceIdeal.Launch
public import proofs.«01_k».proof.Proof.CMath
public import Idealize.ShloMosaic.Lib.Pointwise
public import Idealize.ShloMosaic.Lib.StableHlo.ReadAt
public import Idealize.ShloMosaic.Lib.Pipeline.Frame

@[expose] public section

set_option maxRecDepth 16384

noncomputable section

namespace Cert.ML

open Idealize.ShloMosaic Idealize.ShloMosaic.TcCoe Cert.ReferenceIdeal Cert.ReferenceIdeal.Gen

theorem foldl_sum {α : Type*} (t : α → EReal) (L : List α) : ∀ r : EReal, L.foldl (fun r n => r + t n) r = r + (L.map t).sum := by
  induction L with
  | nil => intro r; simp
  | cons a L ih => intro r; rw [List.foldl_cons, ih, List.map_cons, List.sum_cons, add_assoc]

/-- The places of a window of one row of 64, in order. -/
theorem win_place : ∀ n : Fin (Shape.numel ⟨4, ![1, 1, 1, 64]⟩), ((⟨4, ![1, 1, 1, 64]⟩ : Shape).rowMajor.symm n 3).val = n.val := by decide +kernel
theorem win_numel : Shape.numel ⟨4, ![1, 1, 1, 64]⟩ = 64 := by decide +kernel

/-- The running sum along a chunk. -/
theorem cumsum_at (x : FVec Ideal S6x8x4x64 .f32) (v : FVec Ideal S_ .f32) (hv : ∀ j, v j = 0) (g : Fin 64 → ℝ) (b : Fin 6) (h : Fin 8) (c : Fin 4)
    (hx : ∀ i, x (ix4 b h c i) = ((g i : ℝ) : EReal)) (l : Fin 64) :
    Host.reduceWindowAdd ![1, 1, 1, 64] ![1, 1, 1, 1] ![0, 0, 0, 63] ![0, 0, 0, 0] x v reduceWindows_S6x8x4x64_S6x8x4x64_w1s1p0_0_w1s1p0_0_w1s1p0_0_w64s1p63_0 h_S_ (ix4 b h c l)
      = ((∑ i : Fin 64, (if i ≤ l then g i else 0) : ℝ) : EReal) := by
  unfold Host.reduceWindowAdd
  rw [Ideal.hostReduceWindowAdd_def, hv]
  unfold Ideal.hostReduceWindowAdd Host.reduceWindow
  dsimp only
  rw [foldl_sum, zero_add]
  rw [← List.ofFn_eq_map, List.sum_ofFn, ← (finCongr win_numel).symm.sum_comp, coe_sum]
  refine (Finset.sum_congr rfl fun n _ => (?_ : _ = (((if n + (l + 1) ≤ l then g (n + (l + 1)) else 0 : ℝ)) : EReal))).trans
    (Equiv.sum_comp (Equiv.addRight (l + 1)) fun i => (((if i ≤ l then g i else 0 : ℝ)) : EReal))
  · have w0 : ∀ a : Fin 4, a ≠ 3 → ((⟨4, ![1, 1, 1, 64]⟩ : Shape).rowMajor.symm ((finCongr win_numel).symm n) a).val = 0 := by
      intro a ha
      have := ((⟨4, ![1, 1, 1, 64]⟩ : Shape).rowMajor.symm ((finCongr win_numel).symm n) a).isLt
      match a, ha, this with
      | 0, _, t => exact Nat.lt_one_iff.mp t
      | 1, _, t => exact Nat.lt_one_iff.mp t
      | 2, _, t => exact Nat.lt_one_iff.mp t
      | 3, ha, _ => exact absurd rfl ha
    have w3 : ((⟨4, ![1, 1, 1, 64]⟩ : Shape).rowMajor.symm ((finCongr win_numel).symm n) 3).val = n.val := win_place _
    have hval : (n + (l + 1)).val = (n.val + (l.val + 1) % 64) % 64 := by simp [Fin.val_add]
    split
    · next hin =>
      have h3 := (hin 3).1
      change 63 ≤ l.val * 1 + ((⟨4, ![1, 1, 1, 64]⟩ : Shape).rowMajor.symm ((finCongr win_numel).symm n) 3).val at h3
      rw [w3] at h3
      have hv' : (n + (l + 1)).val = l.val + n.val - 63 := by rw [hval]; omega
      rw [if_pos (Fin.le_def.mpr (by rw [hv']; omega)), ← hx]
      refine congrArg x (funext fun a => Fin.ext ?_)
      match a with
      | 0 => show b.val * 1 + ((⟨4, ![1, 1, 1, 64]⟩ : Shape).rowMajor.symm ((finCongr win_numel).symm n) 0).val - 0 = b.val; rw [w0 0 (by decide)]; omega
      | 1 => show h.val * 1 + ((⟨4, ![1, 1, 1, 64]⟩ : Shape).rowMajor.symm ((finCongr win_numel).symm n) 1).val - 0 = h.val; rw [w0 1 (by decide)]; omega
      | 2 => show c.val * 1 + ((⟨4, ![1, 1, 1, 64]⟩ : Shape).rowMajor.symm ((finCongr win_numel).symm n) 2).val - 0 = c.val; rw [w0 2 (by decide)]; omega
      | 3 => show l.val * 1 + ((⟨4, ![1, 1, 1, 64]⟩ : Shape).rowMajor.symm ((finCongr win_numel).symm n) 3).val - 63 = (n + (l + 1)).val; rw [w3, hv']; omega
    · next hin =>
      rw [if_neg fun hle => hin fun a => ?_, EReal.coe_zero]
      have hle' := Fin.le_def.mp hle
      rw [hval] at hle'
      match a with
      | 0 => exact ⟨Nat.zero_le _, by show b.val * 1 + ((⟨4, ![1, 1, 1, 64]⟩ : Shape).rowMajor.symm ((finCongr win_numel).symm n) 0).val - 0 < 6; rw [w0 0 (by decide)]; omega⟩
      | 1 => exact ⟨Nat.zero_le _, by show h.val * 1 + ((⟨4, ![1, 1, 1, 64]⟩ : Shape).rowMajor.symm ((finCongr win_numel).symm n) 1).val - 0 < 8; rw [w0 1 (by decide)]; omega⟩
      | 2 => exact ⟨Nat.zero_le _, by show c.val * 1 + ((⟨4, ![1, 1, 1, 64]⟩ : Shape).rowMajor.symm ((finCongr win_numel).symm n) 2).val - 0 < 4; rw [w0 2 (by decide)]; omega⟩
      | 3 =>
        show 63 ≤ l.val * 1 + ((⟨4, ![1, 1, 1, 64]⟩ : Shape).rowMajor.symm ((finCongr win_numel).symm n) 3).val
          ∧ l.val * 1 + ((⟨4, ![1, 1, 1, 64]⟩ : Shape).rowMajor.symm ((finCongr win_numel).symm n) 3).val - 63 < 64
        rw [w3]; omega

/-- A place of a chunk, as the reshape counts it. -/
theorem pos_mk (j : Fin 4) (l : Fin 64) (hl : j.val * 64 + l.val < 256) : (⟨j.val * 64 + l.val, hl⟩ : Fin 256) = pos j l :=
  Fin.ext (by simp only [pos]; omega)

/-- The bottom of the extended reals, as its bits. -/
theorem ref_neg_inf : Ideal.ofBits FTy.f32 0xFF800000#32 = (⊥ : EReal) := by
  simp [Ideal.ofBits, Ideal.ieee]

/-- The log-logistic as the reference writes it. -/
theorem lsig_ref (x : ℝ) : -(if -(x : EReal) ≠ -(x : EReal) then -(x : EReal) else max (-(x : EReal)) 0 + Ideal.log1p (Ideal.exp (-(FloatOps.absf (F := Ideal) (φ := .f32) (-(x : EReal)) : EReal))))
    = ((lsig x : ℝ) : EReal) := by
  have h : -(FloatOps.absf (F := Ideal) (φ := .f32) (-(x : EReal)) : EReal) = ((-|x| : ℝ) : EReal) := by
    show -(max (-(x : EReal)) (-(-(x : EReal)))) = _
    rw [neg_neg, ← EReal.coe_neg, coe_max, ← EReal.coe_neg, max_comm]; rfl
  have hp : ¬ (1 + Real.exp (-|x|) ≤ 0) := by have := Real.exp_pos (-|x|); linarith
  rw [if_neg (by simp), h, Ideal.exp_coe, Ideal.log1p, ← EReal.coe_one, ← EReal.coe_add, Ideal.log_coe, if_neg hp, ← EReal.coe_zero, ← EReal.coe_neg, coe_max,
    ← EReal.coe_add, ← EReal.coe_neg, EReal.coe_eq_coe_iff, lsig, neg_add, ← min_neg_neg, neg_neg, neg_zero]; rfl

section
variable (V : Valuation τ sig (Elt Ideal)) {b : Fin 6} {h : Fin 8} {d : Fin 192} {e : Fin 384}

/-- The log-logistic of the forget gates. -/
theorem sig_at {f : Fin 256 → ℝ} (hf : ∀ s, (V (Proc.devRef .tc main_arg7) : Vec Ideal S6x8x256 .f32) (ix3 b h s) = ((f s : ℝ) : EReal)) (s : Fin 256) :
    (StableHlo.after (hostOps1_1 (F := Ideal)) V (Proc.devRef .tc main_v8) : Vec Ideal S6x8x256 .f32) (ix3 b h s) = ((lsig (f s) : ℝ) : EReal) := by
  have hs := hf s
  after_reads_at
  rw [hs]; exact lsig_ref (f s)

/-- The gates and codes by chunk, -/
theorem keys_at (j : Fin 4) (l : Fin 64) : (StableHlo.after (hostOps1 (F := Ideal)) V (Proc.devRef .tc main_v5) : Vec Ideal S6x8x4x64x192 .f32) (ix5 b h j l d)
    = (V (Proc.devRef .tc main_v3_1) : Vec Ideal S6x8x256x192 .f32) (ix4 b h (pos j l) d) := by
  after_reads_at
  rw [pos_mk]
theorem vals_at (j : Fin 4) (l : Fin 64) : (StableHlo.after (hostOps1 (F := Ideal)) V (Proc.devRef .tc main_v6) : Vec Ideal S6x8x4x64x384 .f32) (ix5 b h j l e)
    = (V (Proc.devRef .tc main_v3_2) : Vec Ideal S6x8x256x384 .f32) (ix4 b h (pos j l) e) := by
  after_reads_at
  rw [pos_mk]
theorem ig_at (j : Fin 4) (l : Fin 64) : (StableHlo.after (hostOps1 (F := Ideal)) V (Proc.devRef .tc main_v7) : Vec Ideal S6x8x4x64 .f32) (ix4 b h j l)
    = (V (Proc.devRef .tc main_arg6) : Vec Ideal S6x8x256 .f32) (ix3 b h (pos j l)) := by
  after_reads_at
  rw [pos_mk]
/-- the log-logistics by chunk, -/
theorem sig4_at (j : Fin 4) (l : Fin 64) : (StableHlo.after (hostOps1_2 (F := Ideal)) V (Proc.devRef .tc main_v9) : Vec Ideal S6x8x4x64 .f32) (ix4 b h j l)
    = (V (Proc.devRef .tc main_v8) : Vec Ideal S6x8x256 .f32) (ix3 b h (pos j l)) := by
  after_reads_at
  rw [pos_mk]
/-- and their running sums. -/
theorem cum_at {g : Fin 64 → ℝ} {j : Fin 4} (hg : ∀ l, (V (Proc.devRef .tc main_v9) : Vec Ideal S6x8x4x64 .f32) (ix4 b h j l) = ((g l : ℝ) : EReal)) (l : Fin 64) :
    (StableHlo.after (hostOps1_3 (F := Ideal)) V (Proc.devRef .tc main_v10) : Vec Ideal S6x8x4x64 .f32) (ix4 b h j l) = ((∑ i : Fin 64, (if i ≤ l then g i else 0) : ℝ) : EReal) := by
  after_reads_simp
  simp -implicitDefEqProofs only [StableHlo.TRef.toBuf, StableHlo.TRef.ofBuf, cast_cast, cast_eq]
  exact cumsum_at _ _ (fun j => Ideal.ofBits_zero_f32) g b h j hg l
end

/-- What the steps read of the prelude, for one entry of the state: decays, largest exponents, contributions. -/
def Chunks (V : Valuation τ sig (Elt Ideal)) (b : Fin 6) (h : Fin 8) (d : Fin 192) (e : Fin 384) (B A D : Fin 4 → ℝ) : Prop :=
  (∀ j, (V (Proc.devRef .tc main_v12) : Vec Ideal S6x8x4 .f32) (ix3 b h j) = ((B j : ℝ) : EReal))
  ∧ (∀ j, (V (Proc.devRef .tc main_v17) : Vec Ideal S6x8x4 .f32) (ix3 b h j) = ((A j : ℝ) : EReal))
  ∧ (∀ j, (V (Proc.devRef .tc main_v31) : Vec Ideal S6x8x4x192x384 .f32) (ix5 b h j d e) = ((D j : ℝ) : EReal))

section
variable (V : Valuation τ sig (Elt Ideal)) {b : Fin 6} {h : Fin 8} {d : Fin 192} {e : Fin 384} {B A D : Fin 4 → ℝ} {M C : ℝ}

/-- The running maximum and the state over chunk 0. -/
theorem step1 (hV : Chunks V b h d e B A D)
    (hM : (V (Proc.devRef .tc main_v33) : Vec Ideal S6x8 .f32) (ix2 b h) = ((M : ℝ) : EReal))
    (hC : (V (Proc.devRef .tc main_v32) : Vec Ideal S6x8x192x384 .f32) (ix4 b h d e) = ((C : ℝ) : EReal)) :
    Chunks (StableHlo.after ((hostOps1_4 (F := Ideal)).drop 26 |>.take 24) V) b h d e B A D
    ∧ (StableHlo.after ((hostOps1_4 (F := Ideal)).drop 26 |>.take 24) V (Proc.devRef .tc main_v39) : Vec Ideal S6x8 .f32) (ix2 b h) = ((max (B 0 + M) (A 0) : ℝ) : EReal)
    ∧ (StableHlo.after ((hostOps1_4 (F := Ideal)).drop 26 |>.take 24) V (Proc.devRef .tc main_v57) : Vec Ideal S6x8x192x384 .f32) (ix4 b h d e)
      = ((Real.exp (B 0 + M - max (B 0 + M) (A 0)) * C + Real.exp (A 0 - max (B 0 + M) (A 0)) * D 0 : ℝ) : EReal) := by
  obtain ⟨hB, hA, hD⟩ := hV
  refine ⟨⟨fun j => ?_, fun j => ?_, fun j => ?_⟩, ?_, ?_⟩
  · rw [← hB]; after_reads_at
  · rw [← hA]; after_reads_at
  · rw [← hD]; after_reads_at
  · after_reads_at
    rw [hB, hA, hM, ← EReal.coe_add, coe_max]
  · after_reads_at
    rw [hB, hA, hM, hC, hD, ← EReal.coe_add, coe_max, ← EReal.coe_sub, ← EReal.coe_sub, Ideal.exp_coe, Ideal.exp_coe, ← EReal.coe_mul, ← EReal.coe_mul, ← EReal.coe_add]

/-- The running maximum and the state over chunk 1. -/
theorem step2 (hV : Chunks V b h d e B A D)
    (hM : (V (Proc.devRef .tc main_v39) : Vec Ideal S6x8 .f32) (ix2 b h) = ((M : ℝ) : EReal))
    (hC : (V (Proc.devRef .tc main_v57) : Vec Ideal S6x8x192x384 .f32) (ix4 b h d e) = ((C : ℝ) : EReal)) :
    Chunks (StableHlo.after ((hostOps1_4 (F := Ideal)).drop 50 |>.take 24) V) b h d e B A D
    ∧ (StableHlo.after ((hostOps1_4 (F := Ideal)).drop 50 |>.take 24) V (Proc.devRef .tc main_v63) : Vec Ideal S6x8 .f32) (ix2 b h) = ((max (B 1 + M) (A 1) : ℝ) : EReal)
    ∧ (StableHlo.after ((hostOps1_4 (F := Ideal)).drop 50 |>.take 24) V (Proc.devRef .tc main_v81) : Vec Ideal S6x8x192x384 .f32) (ix4 b h d e)
      = ((Real.exp (B 1 + M - max (B 1 + M) (A 1)) * C + Real.exp (A 1 - max (B 1 + M) (A 1)) * D 1 : ℝ) : EReal) := by
  obtain ⟨hB, hA, hD⟩ := hV
  refine ⟨⟨fun j => ?_, fun j => ?_, fun j => ?_⟩, ?_, ?_⟩
  · rw [← hB]; after_reads_at
  · rw [← hA]; after_reads_at
  · rw [← hD]; after_reads_at
  · after_reads_at
    rw [hB, hA, hM, ← EReal.coe_add, coe_max]
  · after_reads_at
    rw [hB, hA, hM, hC, hD, ← EReal.coe_add, coe_max, ← EReal.coe_sub, ← EReal.coe_sub, Ideal.exp_coe, Ideal.exp_coe, ← EReal.coe_mul, ← EReal.coe_mul, ← EReal.coe_add]

/-- The running maximum and the state over chunk 2. -/
theorem step3 (hV : Chunks V b h d e B A D)
    (hM : (V (Proc.devRef .tc main_v63) : Vec Ideal S6x8 .f32) (ix2 b h) = ((M : ℝ) : EReal))
    (hC : (V (Proc.devRef .tc main_v81) : Vec Ideal S6x8x192x384 .f32) (ix4 b h d e) = ((C : ℝ) : EReal)) :
    Chunks (StableHlo.after ((hostOps1_4 (F := Ideal)).drop 74 |>.take 24) V) b h d e B A D
    ∧ (StableHlo.after ((hostOps1_4 (F := Ideal)).drop 74 |>.take 24) V (Proc.devRef .tc main_v87) : Vec Ideal S6x8 .f32) (ix2 b h) = ((max (B 2 + M) (A 2) : ℝ) : EReal)
    ∧ (StableHlo.after ((hostOps1_4 (F := Ideal)).drop 74 |>.take 24) V (Proc.devRef .tc main_v105) : Vec Ideal S6x8x192x384 .f32) (ix4 b h d e)
      = ((Real.exp (B 2 + M - max (B 2 + M) (A 2)) * C + Real.exp (A 2 - max (B 2 + M) (A 2)) * D 2 : ℝ) : EReal) := by
  obtain ⟨hB, hA, hD⟩ := hV
  refine ⟨⟨fun j => ?_, fun j => ?_, fun j => ?_⟩, ?_, ?_⟩
  · rw [← hB]; after_reads_at
  · rw [← hA]; after_reads_at
  · rw [← hD]; after_reads_at
  · after_reads_at
    rw [hB, hA, hM, ← EReal.coe_add, coe_max]
  · after_reads_at
    rw [hB, hA, hM, hC, hD, ← EReal.coe_add, coe_max, ← EReal.coe_sub, ← EReal.coe_sub, Ideal.exp_coe, Ideal.exp_coe, ← EReal.coe_mul, ← EReal.coe_mul, ← EReal.coe_add]

/-- The running maximum and the state over chunk 3. -/
theorem step4 (hV : Chunks V b h d e B A D)
    (hM : (V (Proc.devRef .tc main_v87) : Vec Ideal S6x8 .f32) (ix2 b h) = ((M : ℝ) : EReal))
    (hC : (V (Proc.devRef .tc main_v105) : Vec Ideal S6x8x192x384 .f32) (ix4 b h d e) = ((C : ℝ) : EReal)) :
    Chunks (StableHlo.after ((hostOps1_4 (F := Ideal)).drop 98) V) b h d e B A D
    ∧ (StableHlo.after ((hostOps1_4 (F := Ideal)).drop 98) V (Proc.devRef .tc main_v111) : Vec Ideal S6x8 .f32) (ix2 b h) = ((max (B 3 + M) (A 3) : ℝ) : EReal)
    ∧ (StableHlo.after ((hostOps1_4 (F := Ideal)).drop 98) V (Proc.devRef .tc main_v129) : Vec Ideal S6x8x192x384 .f32) (ix4 b h d e)
      = ((Real.exp (B 3 + M - max (B 3 + M) (A 3)) * C + Real.exp (A 3 - max (B 3 + M) (A 3)) * D 3 : ℝ) : EReal) := by
  obtain ⟨hB, hA, hD⟩ := hV
  refine ⟨⟨fun j => ?_, fun j => ?_, fun j => ?_⟩, ?_, ?_⟩
  · rw [← hB]; after_reads_at
  · rw [← hA]; after_reads_at
  · rw [← hD]; after_reads_at
  · after_reads_at
    rw [hB, hA, hM, ← EReal.coe_add, coe_max]
  · after_reads_at
    rw [hB, hA, hM, hC, hD, ← EReal.coe_add, coe_max, ← EReal.coe_sub, ← EReal.coe_sub, Ideal.exp_coe, Ideal.exp_coe, ← EReal.coe_mul, ← EReal.coe_mul, ← EReal.coe_add]

end

section
variable (V : Valuation τ sig (Elt Ideal)) {b : Fin 6} {h : Fin 8} {d : Fin 192} {e : Fin 384} {g ig : Fin 256 → ℝ} {ks vs : Fin 4 → ℝ} {k v : Fin 256 → ℝ}
variable (h8 : ∀ j l, (V (Proc.devRef .tc main_v10) : Vec Ideal S6x8x4x64 .f32) (ix4 b h j l) = ((cum g (pos j l) : ℝ) : EReal))
variable (h5 : ∀ j l, (V (Proc.devRef .tc main_v7) : Vec Ideal S6x8x4x64 .f32) (ix4 b h j l) = ((ig (pos j l) : ℝ) : EReal))
include h8

/-- The prelude's decays of the chunks, -/
theorem pre_bl (j : Fin 4) : (StableHlo.after ((hostOps1_4 (F := Ideal)).take 26) V (Proc.devRef .tc main_v12) : Vec Ideal S6x8x4 .f32) (ix3 b h j) = ((bl g j : ℝ) : EReal) := by
  have hj := h8 j
  after_reads_at
  exact hj 63

include h5
/-- the largest exponents of the chunks, -/
theorem pre_amax (j : Fin 4) : (StableHlo.after ((hostOps1_4 (F := Ideal)).take 26) V (Proc.devRef .tc main_v17) : Vec Ideal S6x8x4 .f32) (ix3 b h j) = ((amax g ig j : ℝ) : EReal) := by
  have hj := h8 j
  have hi := h5 j
  after_reads_at
  simp only [hj, hi, ← EReal.coe_sub, ← EReal.coe_add]
  refine (congrArg₂ (fun z w => (Finset.univ : Finset (Fin 64)).fold max z w) ref_neg_inf rfl).trans ((fold_max _).trans ?_)
  simp only [amax, kl, bl, chunk_pos]

variable (h3 : ∀ j l, (V (Proc.devRef .tc main_v5) : Vec Ideal S6x8x4x64x192 .f32) (ix5 b h j l d) = ((k (pos j l) : ℝ) : EReal))
variable (h4 : ∀ j l, (V (Proc.devRef .tc main_v6) : Vec Ideal S6x8x4x64x384 .f32) (ix5 b h j l e) = ((v (pos j l) : ℝ) : EReal))
variable (hks : ∀ j, (V (Proc.devRef .tc main_arg4) : Vec Ideal S6x8x4 .f32) (ix3 b h j) = ((ks j : ℝ) : EReal))
variable (hvs : ∀ j, (V (Proc.devRef .tc main_arg5) : Vec Ideal S6x8x4 .f32) (ix3 b h j) = ((vs j : ℝ) : EReal))

include h3 h4 hks hvs
/-- and the chunks' own contributions. -/
theorem pre_dC (j : Fin 4) : (StableHlo.after ((hostOps1_4 (F := Ideal)).take 26) V (Proc.devRef .tc main_v31) : Vec Ideal S6x8x4x192x384 .f32) (ix5 b h j d e)
    = ((dC g ig ks vs k v j : ℝ) : EReal) := by
  have hj := h8 j
  have hi := h5 j
  have hk := h3 j
  have hv := h4 j
  have hm : (Finset.univ : Finset (Fin 64)).fold max (Ideal.ofBits .f32 4286578688#32) (fun x => ((cum g (pos j 63) - cum g (pos j x) + ig (pos j x) : ℝ) : EReal)) = ((amax g ig j : ℝ) : EReal) := by
    refine (congrArg₂ (fun z w => (Finset.univ : Finset (Fin 64)).fold max z w) ref_neg_inf rfl).trans ((fold_max _).trans ?_)
    simp only [amax, kl, bl, chunk_pos]
  after_reads_at
  simp only [hj, hi, hk, hv, ← EReal.coe_sub, ← EReal.coe_add]
  rw [hm, hks, hvs]
  simp only [← EReal.coe_sub, Ideal.exp_coe, ← EReal.coe_mul]
  rw [← coe_sum, ← EReal.coe_mul]
  simp only [dC, wt, kl, bl, chunk_pos]

omit h8 h5 h3 h4 hks hvs in
/-- The maximum and the state start at zero. -/
theorem pre_zero : (StableHlo.after ((hostOps1_4 (F := Ideal)).take 26) V (Proc.devRef .tc main_v33) : Vec Ideal S6x8 .f32) (ix2 b h) = ((0 : ℝ) : EReal)
    ∧ (StableHlo.after ((hostOps1_4 (F := Ideal)).take 26) V (Proc.devRef .tc main_v32) : Vec Ideal S6x8x192x384 .f32) (ix4 b h d e) = ((0 : ℝ) : EReal) := by
  refine ⟨?_, ?_⟩ <;> after_reads_at <;> exact EReal.coe_zero.symm

/-- The state that the reference returns, from the running sums and the codes. -/
theorem state_at : (StableHlo.after (hostOps1_4 (F := Ideal)) V (Proc.devRef .tc main_v129) : Vec Ideal S6x8x192x384 .f32) (ix4 b h d e)
    = ((c4 g ig ks vs k v : ℝ) : EReal) := by
  have hs : (hostOps1_4 (F := Ideal)) = hostOps1_4.take 26 ++ ((hostOps1_4.drop 26).take 24 ++ ((hostOps1_4.drop 50).take 24 ++ ((hostOps1_4.drop 74).take 24 ++ hostOps1_4.drop 98))) := rfl
  rw [hs, StableHlo.after_append, StableHlo.after_append, StableHlo.after_append, StableHlo.after_append]
  obtain ⟨z1, z2⟩ := pre_zero V (b := b) (h := h) (d := d) (e := e)
  obtain ⟨p1, q1, r1⟩ := step1 _ ⟨pre_bl V h8, pre_amax V h8 h5, pre_dC V h8 h5 h3 h4 hks hvs⟩ z1 z2
  obtain ⟨p2, q2, r2⟩ := step2 _ p1 q1 r1
  obtain ⟨p3, q3, r3⟩ := step3 _ p2 q2 r2
  obtain ⟨_, _, r4⟩ := step4 _ p3 q3 r3
  refine r4.trans ?_
  simp only [add_zero, mul_zero, zero_add, c4, c3, c2, c1, m4, m3, m2, m1]
end

end Cert.ML

end
-- ==== Proof.RHid.lean ====
/- The hidden states that the reference's host operations compute, read at an index, over the reals. -/
module

public import proofs.«01_k».proof.Proof.RRead
public import proofs.«01_k».proof.Proof.HGates
public import proofs.«01_k».proof.Proof.Gen.ReferenceIdeal.Frame

@[expose] public section

set_option maxRecDepth 16384

noncomputable section

namespace Cert.ML

open Idealize.ShloMosaic Idealize.ShloMosaic.TcCoe Cert.ReferenceIdeal Cert.ReferenceIdeal.Gen

/-- A running maximum of shifted values. -/
theorem rmx_add (c : ℝ) (a : Fin 256 → ℝ) (s : Fin 256) : rmx (fun y => c + a y) s = c + rmx a s :=
  (map_finset_sup' (OrderIso.addLeft c) _ a).symm

/-- A magnitude of a real number. -/
theorem absf_coe (x : ℝ) : (FloatOps.absf (F := Ideal) (φ := .f32) (x : EReal) : EReal) = ((|x| : ℝ) : EReal) := by
  show max (x : EReal) (-(x : EReal)) = _
  rw [← EReal.coe_neg, coe_max]; rfl

theorem pos_div (j : Fin 4) (l : Fin 64) (hh : (pos j l).val / 64 < 4) : (⟨(pos j l).val / 64, hh⟩ : Fin 4) = j :=
  Fin.ext (by show (64 * j.val + l.val) / 64 = j.val; omega)
theorem pos_mod (j : Fin 4) (l : Fin 64) (hh : (pos j l).val % 64 < 64) : (⟨(pos j l).val % 64, hh⟩ : Fin 64) = l :=
  Fin.ext (by show (64 * j.val + l.val) % 64 = l.val; omega)

/-- The words of two places of a chunk compare as the places. -/
theorem tril_word : ∀ l x : Fin 64, IntOp.cmpi CmpIPredicate.sge (BitVec.ofNat 32 l.val + 0#32) (BitVec.ofNat 32 x.val) = BitVec.ofBool (decide (x ≤ l)) := by decide +kernel

section
variable (V : Valuation τ sig (Elt Ideal)) {b : Fin 6} {h : Fin 8} {d : Fin 192} {e : Fin 384}

/-- The queries by chunk. -/
theorem queries_at (j : Fin 4) (l : Fin 64) : (StableHlo.after (hostOps1 (F := Ideal)) V (Proc.devRef .tc main_v4) : Vec Ideal S6x8x4x64x192 .f32) (ix5 b h j l d)
    = (V (Proc.devRef .tc main_v3_0) : Vec Ideal S6x8x256x192 .f32) (ix4 b h (pos j l) d) := by
  after_reads_at
  rw [pos_mk]

/-- The causal mask. -/
theorem tril_at (h187 : ∀ l x, (V (Proc.devRef .tc main_v187) : Vec Ideal S64x64 .i1) (ix2 l x) = 1#1) (l x : Fin 64) :
    (StableHlo.after (hostOps1_5 (F := Ideal)) V (Proc.devRef .tc main_v188) : Vec Ideal S64x64 .i1) (ix2 l x) = BitVec.ofBool (decide (x ≤ l)) := by
  have h1 := h187 l x
  after_reads_at
  rw [h1]
  have := tril_word l x
  show Scalar.select (IntOp.cmpi CmpIPredicate.sge (BitVec.ofNat 32 l.val + 0#32) (BitVec.ofNat 32 x.val)) 1#1 0#1 = _
  rw [this]
  cases decide (x ≤ l) <;> rfl
/-- The exponents of a chunk's positions, -/
theorem diff_at {j : Fin 4} {B I : Fin 64 → ℝ} (h10 : ∀ l, (V (Proc.devRef .tc main_v10) : Vec Ideal S6x8x4x64 .f32) (ix4 b h j l) = ((B l : ℝ) : EReal))
    (h7 : ∀ l, (V (Proc.devRef .tc main_v7) : Vec Ideal S6x8x4x64 .f32) (ix4 b h j l) = ((I l : ℝ) : EReal)) (l x : Fin 64) : (StableHlo.after (hostOps1_6 (F := Ideal)) V (Proc.devRef .tc main_v196) : Vec Ideal S6x8x4x64x64 .f32) (ix5 b h j l x)
    = ((B l - B x + I x : ℝ) : EReal) := by
  have h1 := h10 l
  have h2 := h10 x
  have h3 := h7 x
  after_reads_at
  rw [h1, h2, h3, ← EReal.coe_sub, ← EReal.coe_add]
/-- (and the bottom that stands for the masked ones), -/
theorem bot_at : (StableHlo.after (hostOps1_6 (F := Ideal)) V (Proc.devRef .tc main_cst_5) : Vec Ideal S_ .f32) ix0 = Ideal.ofBits .f32 0xFF800000#32 := by
  after_reads_at
/-- masked. -/
theorem mask_at {j : Fin 4} {l x : Fin 64} (hm : (V (Proc.devRef .tc main_v188) : Vec Ideal S64x64 .i1) (ix2 l x) = BitVec.ofBool (decide (x ≤ l))) :
    (StableHlo.after (hostOps1_7 (F := Ideal)) V (Proc.devRef .tc main_v197) : Vec Ideal S6x8x4x64x64 .f32) (ix5 b h j l x)
      = if x ≤ l then (V (Proc.devRef .tc main_v196) : Vec Ideal S6x8x4x64x64 .f32) (ix5 b h j l x) else (V (Proc.devRef .tc main_cst_5) : Vec Ideal S_ .f32) ix0 := by
  after_reads_at
  rw [hm]
  by_cases hx : x ≤ l
  · rw [if_pos hx, decide_eq_true hx]; rfl
  · rw [if_neg hx, decide_eq_false hx]; rfl
end

section
variable (V : Valuation τ sig (Elt Ideal)) {b : Fin 6} {h : Fin 8} {e : Fin 384} {g ig : Fin 256 → ℝ} {qs ks vs : Fin 4 → ℝ} {q k : Fin 256 → Fin 192 → ℝ} {v : Fin 256 → ℝ} {j : Fin 4} {l : Fin 64}

/-- The hidden state from the running sums, the masked exponents and the states before each chunk. -/
theorem hid_at (h10 : (V (Proc.devRef .tc main_v10) : Vec Ideal S6x8x4x64 .f32) (ix4 b h j l) = ((cum g (pos j l) : ℝ) : EReal))
    (h139 : (V (Proc.devRef .tc main_v139) : Vec Ideal S6x8x4 .f32) (ix3 b h j) = ((mp g ig j : ℝ) : EReal))
    (h197 : ∀ x, (V (Proc.devRef .tc main_v197) : Vec Ideal S6x8x4x64x64 .f32) (ix5 b h j l x)
      = if x ≤ l then ((cum g (pos j l) - cum g (pos j x) + ig (pos j x) : ℝ) : EReal) else ⊥)
    (h3 : (V (Proc.devRef .tc main_arg3) : Vec Ideal S6x8x4 .f32) (ix3 b h j) = ((qs j : ℝ) : EReal))
    (h5 : (V (Proc.devRef .tc main_arg5) : Vec Ideal S6x8x4 .f32) (ix3 b h j) = ((vs j : ℝ) : EReal))
    (h4 : ∀ d, (V (Proc.devRef .tc main_v4) : Vec Ideal S6x8x4x64x192 .f32) (ix5 b h j l d) = ((q (pos j l) d : ℝ) : EReal))
    (h134 : ∀ d, (V (Proc.devRef .tc main_v134) : Vec Ideal S6x8x4x192x384 .f32) (ix5 b h j d e) = ((Cp g ig ks vs k v d j : ℝ) : EReal))
    (h179 : ∀ d, (V (Proc.devRef .tc main_v179) : Vec Ideal S6x8x4x192 .f32) (ix4 b h j d) = ((np g ig ks k d j : ℝ) : EReal))
    (h186 : ∀ x, (V (Proc.devRef .tc main_v186) : Vec Ideal S6x8x4x64x64 .f32) (ix5 b h j l x) = ((qk q k (pos j l) (pos j x) * (qs j * ks j * Sr) : ℝ) : EReal))
    (h6 : ∀ x, (V (Proc.devRef .tc main_v6) : Vec Ideal S6x8x4x64x384 .f32) (ix5 b h j x e) = ((v (pos j x) : ℝ) : EReal)) :
    (StableHlo.after (hostOps1_8 (F := Ideal)) V (Proc.devRef .tc main_v237) : Vec Ideal S6x8x256x384 .f32) (ix4 b h (pos j l) e) = ((hR g ig qs ks vs Sr q k v j l : ℝ) : EReal) := by
  have hfold : (Finset.univ : Finset (Fin 64)).fold max (Ideal.ofBits FTy.f32 0xFF800000#32) (fun x => (V (Proc.devRef .tc main_v197) : Vec Ideal S6x8x4x64x64 .f32) (ix5 b h j l x))
      = ((cum g (pos j l) + rmx (dif g ig) (pos j l) : ℝ) : EReal) := by
    rw [ref_neg_inf, rmx_fold (fun s => cum g (pos j l) + dif g ig s) j l _ (fun x => (h197 x).trans ?_), rmx_add]
    simp only [dif]; congr 2; ring
  have hmt : max ((cum g (pos j l) : ℝ) + (mp g ig j : ℝ) : EReal) ((cum g (pos j l) + rmx (dif g ig) (pos j l) : ℝ) : EReal) = ((mt g ig (pos j l) : ℝ) : EReal) := by
    rw [← EReal.coe_add, coe_max, mt, chunk_pos]
  have hP : ∀ x, ((qk q k (pos j l) (pos j x) * (qs j * ks j * Sr) : ℝ) : EReal) * Ideal.exp (@HSub.hSub EReal EReal EReal _ ((V (Proc.devRef .tc main_v197) : Vec Ideal S6x8x4x64x64 .f32) (ix5 b h j l x)) ((mt g ig (pos j l) : ℝ) : EReal))
      = ((P g ig qs ks Sr q k j l x : ℝ) : EReal) := by
    intro x
    rw [h197, P]
    split_ifs
    · rw [← EReal.coe_sub, Ideal.exp_coe, ← EReal.coe_mul]
    · rw [EReal.bot_sub, Ideal.exp_bot, mul_zero, mul_zero, EReal.coe_zero]
  have hiw : Ideal.exp ((cum g (pos j l) : ℝ) + (mp g ig j : ℝ) - ((mt g ig (pos j l) : ℝ) : EReal) : EReal) * (((qs j : ℝ) : EReal) * ((Sr : ℝ) : EReal)) = ((iw g ig qs Sr j (pos j l) : ℝ) : EReal) := by
    rw [← EReal.coe_add, ← EReal.coe_sub, Ideal.exp_coe, ← EReal.coe_mul, ← EReal.coe_mul, iw]
  after_reads_at
  simp only [pos_div, pos_mod]
  rw [hfold, h10, h139, hmt, h3, h5, Sr_eq, hiw]
  simp only [h186, hP, h4, h134, h179, h6, ← EReal.coe_mul, ← coe_sum, ← EReal.coe_add, absf_coe, ← EReal.coe_neg, Ideal.exp_coe, coe_max]
  refine (Ideal.div_coe (den_pos g ig qs ks Sr q k j l).ne' _).trans ?_
  rw [← EReal.coe_mul, mul_one_div]
  rfl
end

section
variable (V : Valuation τ sig (Elt Ideal)) {b : Fin 6} {h : Fin 8} {d : Fin 192} {e : Fin 384}

/-- The factors of the first step of the recurrence, of the second and of the third. -/
theorem fac1 {B A D : Fin 4 → ℝ} {M : ℝ} (hV : Chunks V b h d e B A D) (hM : (V (Proc.devRef .tc main_v33) : Vec Ideal S6x8 .f32) (ix2 b h) = ((M : ℝ) : EReal)) :
    (StableHlo.after ((hostOps1_4 (F := Ideal)).drop 26 |>.take 24) V (Proc.devRef .tc main_v44) : Vec Ideal S6x8 .f32) (ix2 b h) = ((Real.exp (B 0 + M - max (B 0 + M) (A 0)) : ℝ) : EReal)
    ∧ (StableHlo.after ((hostOps1_4 (F := Ideal)).drop 26 |>.take 24) V (Proc.devRef .tc main_v48) : Vec Ideal S6x8 .f32) (ix2 b h) = ((Real.exp (A 0 - max (B 0 + M) (A 0)) : ℝ) : EReal) := by
  have hb := hV.1 0
  have ha := hV.2.1 0
  constructor <;> (
    after_reads_at
    rw [hb, ha, hM]
    simp only [← EReal.coe_add, coe_max, ← EReal.coe_sub, Ideal.exp_coe])
@[inherit_doc fac1] theorem fac2 {B A D : Fin 4 → ℝ} {M : ℝ} (hV : Chunks V b h d e B A D) (hM : (V (Proc.devRef .tc main_v39) : Vec Ideal S6x8 .f32) (ix2 b h) = ((M : ℝ) : EReal)) :
    (StableHlo.after ((hostOps1_4 (F := Ideal)).drop 50 |>.take 24) V (Proc.devRef .tc main_v68) : Vec Ideal S6x8 .f32) (ix2 b h) = ((Real.exp (B 1 + M - max (B 1 + M) (A 1)) : ℝ) : EReal)
    ∧ (StableHlo.after ((hostOps1_4 (F := Ideal)).drop 50 |>.take 24) V (Proc.devRef .tc main_v72) : Vec Ideal S6x8 .f32) (ix2 b h) = ((Real.exp (A 1 - max (B 1 + M) (A 1)) : ℝ) : EReal) := by
  have hb := hV.1 1
  have ha := hV.2.1 1
  constructor <;> (
    after_reads_at
    rw [hb, ha, hM]
    simp only [← EReal.coe_add, coe_max, ← EReal.coe_sub, Ideal.exp_coe])
@[inherit_doc fac1] theorem fac3 {B A D : Fin 4 → ℝ} {M : ℝ} (hV : Chunks V b h d e B A D) (hM : (V (Proc.devRef .tc main_v63) : Vec Ideal S6x8 .f32) (ix2 b h) = ((M : ℝ) : EReal)) :
    (StableHlo.after ((hostOps1_4 (F := Ideal)).drop 74 |>.take 24) V (Proc.devRef .tc main_v92) : Vec Ideal S6x8 .f32) (ix2 b h) = ((Real.exp (B 2 + M - max (B 2 + M) (A 2)) : ℝ) : EReal)
    ∧ (StableHlo.after ((hostOps1_4 (F := Ideal)).drop 74 |>.take 24) V (Proc.devRef .tc main_v96) : Vec Ideal S6x8 .f32) (ix2 b h) = ((Real.exp (A 2 - max (B 2 + M) (A 2)) : ℝ) : EReal) := by
  have hb := hV.1 2
  have ha := hV.2.1 2
  constructor <;> (
    after_reads_at
    rw [hb, ha, hM]
    simp only [← EReal.coe_add, coe_max, ← EReal.coe_sub, Ideal.exp_coe])
end

/-- What the last part of the recurrence's operations finds: the states after one, two and three chunks, the factors of the steps and the weights. -/
structure Steps (V : Valuation τ sig (Elt Ideal)) (b : Fin 6) (h : Fin 8) (e : Fin 384) (g ig : Fin 256 → ℝ) (D : Fin 192 → Fin 4 → ℝ) : Prop where
  c0 : ∀ d, (V (Proc.devRef .tc main_v32) : Vec Ideal S6x8x192x384 .f32) (ix4 b h d e) = ((0 : ℝ) : EReal)
  c1 : ∀ d, (V (Proc.devRef .tc main_v57) : Vec Ideal S6x8x192x384 .f32) (ix4 b h d e) = ((r1 g ig (D d) : ℝ) : EReal)
  c2 : ∀ d, (V (Proc.devRef .tc main_v81) : Vec Ideal S6x8x192x384 .f32) (ix4 b h d e) = ((r2 g ig (D d) : ℝ) : EReal)
  c3 : ∀ d, (V (Proc.devRef .tc main_v105) : Vec Ideal S6x8x192x384 .f32) (ix4 b h d e) = ((r3 g ig (D d) : ℝ) : EReal)
  m0 : (V (Proc.devRef .tc main_v33) : Vec Ideal S6x8 .f32) (ix2 b h) = ((0 : ℝ) : EReal)
  m1 : (V (Proc.devRef .tc main_v39) : Vec Ideal S6x8 .f32) (ix2 b h) = ((m1 g ig : ℝ) : EReal)
  m2 : (V (Proc.devRef .tc main_v63) : Vec Ideal S6x8 .f32) (ix2 b h) = ((m2 g ig : ℝ) : EReal)
  m3 : (V (Proc.devRef .tc main_v87) : Vec Ideal S6x8 .f32) (ix2 b h) = ((m3 g ig : ℝ) : EReal)
  a1 : (V (Proc.devRef .tc main_v44) : Vec Ideal S6x8 .f32) (ix2 b h) = ((Real.exp (bl g 0 - Cert.ML.m1 g ig) : ℝ) : EReal)
  b1 : (V (Proc.devRef .tc main_v48) : Vec Ideal S6x8 .f32) (ix2 b h) = ((Real.exp (amax g ig 0 - Cert.ML.m1 g ig) : ℝ) : EReal)
  a2 : (V (Proc.devRef .tc main_v68) : Vec Ideal S6x8 .f32) (ix2 b h) = ((Real.exp (bl g 1 + Cert.ML.m1 g ig - Cert.ML.m2 g ig) : ℝ) : EReal)
  b2 : (V (Proc.devRef .tc main_v72) : Vec Ideal S6x8 .f32) (ix2 b h) = ((Real.exp (amax g ig 1 - Cert.ML.m2 g ig) : ℝ) : EReal)
  a3 : (V (Proc.devRef .tc main_v92) : Vec Ideal S6x8 .f32) (ix2 b h) = ((Real.exp (bl g 2 + Cert.ML.m2 g ig - Cert.ML.m3 g ig) : ℝ) : EReal)
  b3 : (V (Proc.devRef .tc main_v96) : Vec Ideal S6x8 .f32) (ix2 b h) = ((Real.exp (amax g ig 2 - Cert.ML.m3 g ig) : ℝ) : EReal)
  w : ∀ j l, (V (Proc.devRef .tc main_v21) : Vec Ideal S6x8x4x64 .f32) (ix4 b h j l) = ((wt g ig (pos j l) : ℝ) : EReal)

/-- The first part of the tail keeps them. -/
theorem Steps.keep {V : Valuation τ sig (Elt Ideal)} {b : Fin 6} {h : Fin 8} {e : Fin 384} {g ig : Fin 256 → ℝ} {D : Fin 192 → Fin 4 → ℝ} (hV : Steps V b h e g ig D) :
    Steps (StableHlo.after ((hostOps1_4 (F := Ideal)).drop 98 |>.take 42) V) b h e g ig D := by
  have k : ∀ r : Ref sig .tc, r ∉ (hostOps1_4_W.drop 98).take 42 → StableHlo.after ((hostOps1_4 (F := Ideal)).drop 98 |>.take 42) V (Proc.devRef .tc r) = V (Proc.devRef .tc r) :=
    fun r hr => StableHlo.after_of_writes_sub (r := r) _ V (StableHlo.forall_writes_sub_of_map (W := (hostOps1_4_W.drop 98).take 42) rfl) hr
  constructor
  · rw [k main_v32 (by decide +kernel)]; exact hV.c0
  · rw [k main_v57 (by decide +kernel)]; exact hV.c1
  · rw [k main_v81 (by decide +kernel)]; exact hV.c2
  · rw [k main_v105 (by decide +kernel)]; exact hV.c3
  · rw [k main_v33 (by decide +kernel)]; exact hV.m0
  · rw [k main_v39 (by decide +kernel)]; exact hV.m1
  · rw [k main_v63 (by decide +kernel)]; exact hV.m2
  · rw [k main_v87 (by decide +kernel)]; exact hV.m3
  · rw [k main_v44 (by decide +kernel)]; exact hV.a1
  · rw [k main_v48 (by decide +kernel)]; exact hV.b1
  · rw [k main_v68 (by decide +kernel)]; exact hV.a2
  · rw [k main_v72 (by decide +kernel)]; exact hV.b2
  · rw [k main_v92 (by decide +kernel)]; exact hV.a3
  · rw [k main_v96 (by decide +kernel)]; exact hV.b3
  · rw [k main_v21 (by decide +kernel)]; exact hV.w

section
variable (V : Valuation τ sig (Elt Ideal)) {b : Fin 6} {h : Fin 8} {d : Fin 192} {e : Fin 384} {g ig : Fin 256 → ℝ} {D : Fin 192 → Fin 4 → ℝ}

/-- The states before each chunk, gathered. -/
theorem cprev_at (hV : Steps V b h e g ig D) (d : Fin 192) (j : Fin 4) :
    (StableHlo.after ((hostOps1_4 (F := Ideal)).drop 98) V (Proc.devRef .tc main_v134) : Vec Ideal S6x8x4x192x384 .f32) (ix5 b h j d e) = ((pr g ig (D d) j : ℝ) : EReal) := by
  have h0 := hV.c0 d
  have h1 := hV.c1 d
  have h2 := hV.c2 d
  have h3 := hV.c3 d
  fin_cases j
  · after_reads_at
    refine Eq.trans (b := (StableHlo.after ((hostOps1_4 (F := Ideal)).drop 98 |>.take 25) V (Proc.devRef .tc main_v130) : Vec Ideal S6x8x1x192x384 .f32) (ix5 b h 0 d e)) rfl ?_
    after_reads_at
    exact h0
  · after_reads_at
    refine Eq.trans (b := (StableHlo.after ((hostOps1_4 (F := Ideal)).drop 98 |>.take 26) V (Proc.devRef .tc main_v131) : Vec Ideal S6x8x1x192x384 .f32) (ix5 b h 0 d e)) rfl ?_
    after_reads_at
    exact h1
  · after_reads_at
    refine Eq.trans (b := (StableHlo.after ((hostOps1_4 (F := Ideal)).drop 98 |>.take 27) V (Proc.devRef .tc main_v132) : Vec Ideal S6x8x1x192x384 .f32) (ix5 b h 0 d e)) rfl ?_
    after_reads_at
    exact h2
  · after_reads_at
    refine Eq.trans (b := (StableHlo.after ((hostOps1_4 (F := Ideal)).drop 98 |>.take 28) V (Proc.devRef .tc main_v133) : Vec Ideal S6x8x1x192x384 .f32) (ix5 b h 0 d e)) rfl ?_
    after_reads_at
    exact h3

/-- The running maxima before each chunk, gathered. -/
theorem mprev_at (hV : Steps V b h e g ig D) (j : Fin 4) :
    (StableHlo.after ((hostOps1_4 (F := Ideal)).drop 98) V (Proc.devRef .tc main_v139) : Vec Ideal S6x8x4 .f32) (ix3 b h j) = ((mp g ig j : ℝ) : EReal) := by
  fin_cases j
  · after_reads_at
    refine Eq.trans (b := (StableHlo.after ((hostOps1_4 (F := Ideal)).drop 98 |>.take 30) V (Proc.devRef .tc main_v135) : Vec Ideal S6x8x1 .f32) (ix3 b h 0)) rfl ?_
    after_reads_at
    exact hV.m0
  · after_reads_at
    refine Eq.trans (b := (StableHlo.after ((hostOps1_4 (F := Ideal)).drop 98 |>.take 31) V (Proc.devRef .tc main_v136) : Vec Ideal S6x8x1 .f32) (ix3 b h 0)) rfl ?_
    after_reads_at
    exact hV.m1
  · after_reads_at
    refine Eq.trans (b := (StableHlo.after ((hostOps1_4 (F := Ideal)).drop 98 |>.take 32) V (Proc.devRef .tc main_v137) : Vec Ideal S6x8x1 .f32) (ix3 b h 0)) rfl ?_
    after_reads_at
    exact hV.m2
  · after_reads_at
    refine Eq.trans (b := (StableHlo.after ((hostOps1_4 (F := Ideal)).drop 98 |>.take 33) V (Proc.devRef .tc main_v138) : Vec Ideal S6x8x1 .f32) (ix3 b h 0)) rfl ?_
    after_reads_at
    exact hV.m3

/-- Every chunk's own contribution to the normalizer. -/
theorem dn_at {ks : Fin 4 → ℝ} {k : Fin 256 → Fin 192 → ℝ} (hV : Steps V b h e g ig D) (h4 : ∀ j, (V (Proc.devRef .tc main_arg4) : Vec Ideal S6x8x4 .f32) (ix3 b h j) = ((ks j : ℝ) : EReal))
    (h5 : ∀ j l d, (V (Proc.devRef .tc main_v5) : Vec Ideal S6x8x4x64x192 .f32) (ix5 b h j l d) = ((k (pos j l) d : ℝ) : EReal)) (d : Fin 192) (j : Fin 4) :
    (StableHlo.after ((hostOps1_4 (F := Ideal)).drop 98 |>.take 42) V (Proc.devRef .tc main_v146) : Vec Ideal S6x8x4x192 .f32) (ix4 b h j d) = ((dN g ig ks k d j : ℝ) : EReal) := by
  have hw := hV.w
  after_reads_at
  simp only [h4, hw, h5, Ideal.ofBits_zero_f32, zero_add, ← EReal.coe_mul, ← coe_sum]
  rfl

/-- The normalizers before each chunk, gathered. -/
theorem nprev_at {N : Fin 4 → ℝ} (hV : Steps V b h e g ig D) {d : Fin 192} (hN : ∀ j, (V (Proc.devRef .tc main_v146) : Vec Ideal S6x8x4x192 .f32) (ix4 b h j d) = ((N j : ℝ) : EReal)) (j : Fin 4) :
    (StableHlo.after ((hostOps1_4 (F := Ideal)).drop 98 |>.drop 42) V (Proc.devRef .tc main_v179) : Vec Ideal S6x8x4x192 .f32) (ix4 b h j d) = ((pr g ig N j : ℝ) : EReal) := by
  have h0 := hN 0
  have h1 := hN 1
  have h2 := hN 2
  fin_cases j
  · after_reads_at
    refine Eq.trans (b := (StableHlo.after ((hostOps1_4 (F := Ideal)).drop 98 |>.drop 42 |>.take 30) V (Proc.devRef .tc main_v175) : Vec Ideal S6x8x1x192 .f32) (ix4 b h 0 d)) rfl ?_
    after_reads_at
    exact EReal.coe_zero.symm
  · after_reads_at
    refine Eq.trans (b := (StableHlo.after ((hostOps1_4 (F := Ideal)).drop 98 |>.drop 42 |>.take 31) V (Proc.devRef .tc main_v176) : Vec Ideal S6x8x1x192 .f32) (ix4 b h 0 d)) rfl ?_
    after_reads_at
    rw [hV.a1, hV.b1, h0]; simp only [Ideal.ofBits_zero_f32, ← EReal.coe_zero, ← EReal.coe_mul, ← EReal.coe_add, mul_zero, zero_add, r1, r2, r3]; rfl
  · after_reads_at
    refine Eq.trans (b := (StableHlo.after ((hostOps1_4 (F := Ideal)).drop 98 |>.drop 42 |>.take 32) V (Proc.devRef .tc main_v177) : Vec Ideal S6x8x1x192 .f32) (ix4 b h 0 d)) rfl ?_
    after_reads_at
    rw [hV.a1, hV.b1, hV.a2, hV.b2, h0, h1]; simp only [Ideal.ofBits_zero_f32, ← EReal.coe_zero, ← EReal.coe_mul, ← EReal.coe_add, mul_zero, zero_add, r1, r2, r3]; rfl
  · after_reads_at
    refine Eq.trans (b := (StableHlo.after ((hostOps1_4 (F := Ideal)).drop 98 |>.drop 42 |>.take 33) V (Proc.devRef .tc main_v178) : Vec Ideal S6x8x1x192 .f32) (ix4 b h 0 d)) rfl ?_
    after_reads_at
    rw [hV.a1, hV.b1, hV.a2, hV.b2, hV.a3, hV.b3, h0, h1, h2]; simp only [Ideal.ofBits_zero_f32, ← EReal.coe_zero, ← EReal.coe_mul, ← EReal.coe_add, mul_zero, zero_add, r1, r2, r3]; rfl

/-- The scores of a chunk's positions. -/
theorem scores_at {qs ks : Fin 4 → ℝ} {q k : Fin 256 → Fin 192 → ℝ} (h3 : ∀ j, (V (Proc.devRef .tc main_arg3) : Vec Ideal S6x8x4 .f32) (ix3 b h j) = ((qs j : ℝ) : EReal))
    (h4 : ∀ j, (V (Proc.devRef .tc main_arg4) : Vec Ideal S6x8x4 .f32) (ix3 b h j) = ((ks j : ℝ) : EReal))
    (hq : ∀ j l d, (V (Proc.devRef .tc main_v4) : Vec Ideal S6x8x4x64x192 .f32) (ix5 b h j l d) = ((q (pos j l) d : ℝ) : EReal))
    (hk : ∀ j l d, (V (Proc.devRef .tc main_v5) : Vec Ideal S6x8x4x64x192 .f32) (ix5 b h j l d) = ((k (pos j l) d : ℝ) : EReal)) (j : Fin 4) (l x : Fin 64) :
    (StableHlo.after ((hostOps1_4 (F := Ideal)).drop 98) V (Proc.devRef .tc main_v186) : Vec Ideal S6x8x4x64x64 .f32) (ix5 b h j l x) = ((qk q k (pos j l) (pos j x) * (qs j * ks j * Sr) : ℝ) : EReal) := by
  after_reads_at
  simp only [h3, h4, hq, hk, Sr_eq, ← EReal.coe_mul, ← coe_sum]
  rfl

/-- The mask before it is cut. -/
theorem ones_at (l x : Fin 64) : (StableHlo.after ((hostOps1_4 (F := Ideal)).drop 98) V (Proc.devRef .tc main_v187) : Vec Ideal S64x64 .i1) (ix2 l x) = 1#1 := by
  after_reads_at
end

section
variable (V : Valuation τ sig (Elt Ideal))

/-- What the first step of the recurrence does not write, it keeps (and likewise the second and the third). -/
theorem keep1 (r : Ref sig .tc) (hr : r ∉ (hostOps1_4_W.drop 26).take 24) : StableHlo.after ((hostOps1_4 (F := Ideal)).drop 26 |>.take 24) V (Proc.devRef .tc r) = V (Proc.devRef .tc r) :=
  StableHlo.after_of_writes_sub (r := r) _ V (StableHlo.forall_writes_sub_of_map (W := (hostOps1_4_W.drop 26).take 24) rfl) hr
@[inherit_doc keep1]
theorem keep2 (r : Ref sig .tc) (hr : r ∉ (hostOps1_4_W.drop 50).take 24) : StableHlo.after ((hostOps1_4 (F := Ideal)).drop 50 |>.take 24) V (Proc.devRef .tc r) = V (Proc.devRef .tc r) :=
  StableHlo.after_of_writes_sub (r := r) _ V (StableHlo.forall_writes_sub_of_map (W := (hostOps1_4_W.drop 50).take 24) rfl) hr
@[inherit_doc keep1]
theorem keep3 (r : Ref sig .tc) (hr : r ∉ (hostOps1_4_W.drop 74).take 24) : StableHlo.after ((hostOps1_4 (F := Ideal)).drop 74 |>.take 24) V (Proc.devRef .tc r) = V (Proc.devRef .tc r) :=
  StableHlo.after_of_writes_sub (r := r) _ V (StableHlo.forall_writes_sub_of_map (W := (hostOps1_4_W.drop 74).take 24) rfl) hr
/-- What the prelude and the steps do not write, they keep. -/
theorem keep3s (r : Ref sig .tc) (hr : r ∉ hostOps1_4_W.take 98) : StableHlo.after ((hostOps1_4 (F := Ideal)).take 98) V (Proc.devRef .tc r) = V (Proc.devRef .tc r) :=
  StableHlo.after_of_writes_sub (r := r) _ V (StableHlo.forall_writes_sub_of_map (W := hostOps1_4_W.take 98) rfl) hr

variable {b : Fin 6} {h : Fin 8} {e : Fin 384} {g ig : Fin 256 → ℝ} {qs ks vs : Fin 4 → ℝ} {q k : Fin 256 → Fin 192 → ℝ} {v : Fin 256 → ℝ}
variable (h8 : ∀ j l, (V (Proc.devRef .tc main_v10) : Vec Ideal S6x8x4x64 .f32) (ix4 b h j l) = ((cum g (pos j l) : ℝ) : EReal))
variable (h5 : ∀ j l, (V (Proc.devRef .tc main_v7) : Vec Ideal S6x8x4x64 .f32) (ix4 b h j l) = ((ig (pos j l) : ℝ) : EReal))
include h8 h5

/-- The weights of the positions in their chunks. -/
theorem pre_w (j : Fin 4) (l : Fin 64) : (StableHlo.after ((hostOps1_4 (F := Ideal)).take 26) V (Proc.devRef .tc main_v21) : Vec Ideal S6x8x4x64 .f32) (ix4 b h j l) = ((wt g ig (pos j l) : ℝ) : EReal) := by
  have hj := h8 j
  have hi := h5 j
  have hm : (Finset.univ : Finset (Fin 64)).fold max (Ideal.ofBits .f32 4286578688#32) (fun x => ((cum g (pos j 63) - cum g (pos j x) + ig (pos j x) : ℝ) : EReal)) = ((amax g ig j : ℝ) : EReal) := by
    refine (congrArg₂ (fun z w => (Finset.univ : Finset (Fin 64)).fold max z w) ref_neg_inf rfl).trans ((fold_max _).trans ?_)
    simp only [amax, kl, bl, chunk_pos]
  after_reads_at
  simp only [hj, hi, ← EReal.coe_sub, ← EReal.coe_add]
  rw [hm]
  simp only [← EReal.coe_sub, Ideal.exp_coe]
  simp only [wt, kl, bl, chunk_pos]

variable (hq : ∀ j l d, (V (Proc.devRef .tc main_v4) : Vec Ideal S6x8x4x64x192 .f32) (ix5 b h j l d) = ((q (pos j l) d : ℝ) : EReal))
variable (hk : ∀ j l d, (V (Proc.devRef .tc main_v5) : Vec Ideal S6x8x4x64x192 .f32) (ix5 b h j l d) = ((k (pos j l) d : ℝ) : EReal))
variable (hv : ∀ j l, (V (Proc.devRef .tc main_v6) : Vec Ideal S6x8x4x64x384 .f32) (ix5 b h j l e) = ((v (pos j l) : ℝ) : EReal))
variable (hqs : ∀ j, (V (Proc.devRef .tc main_arg3) : Vec Ideal S6x8x4 .f32) (ix3 b h j) = ((qs j : ℝ) : EReal))
variable (hks : ∀ j, (V (Proc.devRef .tc main_arg4) : Vec Ideal S6x8x4 .f32) (ix3 b h j) = ((ks j : ℝ) : EReal))
variable (hvs : ∀ j, (V (Proc.devRef .tc main_arg5) : Vec Ideal S6x8x4 .f32) (ix3 b h j) = ((vs j : ℝ) : EReal))

include hk hv hks hvs in
/-- What the first three steps leave. -/
theorem steps_at : Steps (StableHlo.after ((hostOps1_4 (F := Ideal)).take 98) V) b h e g ig (fun d => dC g ig ks vs (fun s => k s d) v) := by
  have hs : (hostOps1_4 (F := Ideal)).take 98 = hostOps1_4.take 26 ++ ((hostOps1_4.drop 26).take 24 ++ ((hostOps1_4.drop 50).take 24 ++ (hostOps1_4.drop 74).take 24)) := rfl
  rw [hs, StableHlo.after_append, StableHlo.after_append, StableHlo.after_append]
  have z1 := (pre_zero V (b := b) (h := h) (d := 0) (e := e)).1
  have p := fun d => (⟨pre_bl V h8, pre_amax V h8 h5, pre_dC V h8 h5 (fun j l => hk j l d) hv hks hvs⟩ : Chunks (StableHlo.after ((hostOps1_4 (F := Ideal)).take 26) V) b h d e (bl g) (amax g ig) (dC g ig ks vs (fun s => k s d) v))
  have s1 := fun d => step1 _ (p d) z1 (pre_zero V).2
  have s2 := fun d => step2 _ (s1 d).1 (s1 d).2.1 (s1 d).2.2
  have s3 := fun d => step3 _ (s2 d).1 (s2 d).2.1 (s2 d).2.2
  exact
    {
      c0 := fun d => by rw [keep3 _ main_v32 (by decide +kernel), keep2 _ main_v32 (by decide +kernel), keep1 _ main_v32 (by decide +kernel)]; exact (pre_zero V (d := d)).2
      c1 := fun d => by rw [keep3 _ main_v57 (by decide +kernel), keep2 _ main_v57 (by decide +kernel)]; exact ((s1 d).2.2).trans (by simp only [add_zero, mul_zero, zero_add, r3, r2, r1, m3, m2, m1])
      c2 := fun d => by rw [keep3 _ main_v81 (by decide +kernel)]; exact ((s2 d).2.2).trans (by simp only [add_zero, mul_zero, zero_add, r3, r2, r1, m3, m2, m1])
      c3 := fun d => by exact ((s3 d).2.2).trans (by simp only [add_zero, mul_zero, zero_add, r3, r2, r1, m3, m2, m1])
      m0 := by rw [keep3 _ main_v33 (by decide +kernel), keep2 _ main_v33 (by decide +kernel), keep1 _ main_v33 (by decide +kernel)]; exact z1
      m1 := by rw [keep3 _ main_v39 (by decide +kernel), keep2 _ main_v39 (by decide +kernel)]; exact ((s1 0).2.1).trans (by simp only [add_zero, mul_zero, zero_add, r3, r2, r1, m3, m2, m1])
      m2 := by rw [keep3 _ main_v63 (by decide +kernel)]; exact ((s2 0).2.1).trans (by simp only [add_zero, mul_zero, zero_add, r3, r2, r1, m3, m2, m1])
      m3 := by exact ((s3 0).2.1).trans (by simp only [add_zero, mul_zero, zero_add, r3, r2, r1, m3, m2, m1])
      a1 := by rw [keep3 _ main_v44 (by decide +kernel), keep2 _ main_v44 (by decide +kernel)]; exact ((fac1 _ (p 0) z1).1).trans (by simp only [add_zero, mul_zero, zero_add, r3, r2, r1, m3, m2, m1])
      b1 := by rw [keep3 _ main_v48 (by decide +kernel), keep2 _ main_v48 (by decide +kernel)]; exact ((fac1 _ (p 0) z1).2).trans (by simp only [add_zero, mul_zero, zero_add, r3, r2, r1, m3, m2, m1])
      a2 := by rw [keep3 _ main_v68 (by decide +kernel)]; exact ((fac2 _ (s1 0).1 (s1 0).2.1).1).trans (by simp only [add_zero, mul_zero, zero_add, r3, r2, r1, m3, m2, m1])
      b2 := by rw [keep3 _ main_v72 (by decide +kernel)]; exact ((fac2 _ (s1 0).1 (s1 0).2.1).2).trans (by simp only [add_zero, mul_zero, zero_add, r3, r2, r1, m3, m2, m1])
      a3 := by exact ((fac3 _ (s2 0).1 (s2 0).2.1).1).trans (by simp only [add_zero, mul_zero, zero_add, r3, r2, r1, m3, m2, m1])
      b3 := by exact ((fac3 _ (s2 0).1 (s2 0).2.1).2).trans (by simp only [add_zero, mul_zero, zero_add, r3, r2, r1, m3, m2, m1])
      w := fun j l => by rw [keep3 _ main_v21 (by decide +kernel), keep2 _ main_v21 (by decide +kernel), keep1 _ main_v21 (by decide +kernel)]; exact pre_w V h8 h5 j l
    }

include hq hk hv hqs hks hvs in
/-- The hidden state that the reference returns, from the running sums and the codes. -/
theorem hidden_at (j : Fin 4) (l : Fin 64) :
    (StableHlo.after (hostOps1_8 (F := Ideal)) (StableHlo.after hostOps1_7 (StableHlo.after hostOps1_6 (StableHlo.after hostOps1_5 (StableHlo.after hostOps1_4 V))))
      (Proc.devRef .tc main_v237) : Vec Ideal S6x8x256x384 .f32) (ix4 b h (pos j l) e) = ((hR g ig qs ks vs Sr q k v j l : ℝ) : EReal) := by
  have hst := steps_at V h8 h5 hk hv hks hvs
  have hs : (hostOps1_4 (F := Ideal)) = hostOps1_4.take 98 ++ hostOps1_4.drop 98 := rfl
  have hs' : (hostOps1_4 (F := Ideal)).drop 98 = (hostOps1_4.drop 98).take 42 ++ (hostOps1_4.drop 98).drop 42 := rfl
  have k98 : ∀ r : Ref sig .tc, r ∉ hostOps1_4_W.take 98 → StableHlo.after ((hostOps1_4 (F := Ideal)).take 98) V (Proc.devRef .tc r) = V (Proc.devRef .tc r) := keep3s V
  have q4 : ∀ j l d, (StableHlo.after ((hostOps1_4 (F := Ideal)).take 98) V (Proc.devRef .tc main_v4) : Vec Ideal S6x8x4x64x192 .f32) (ix5 b h j l d) = ((q (pos j l) d : ℝ) : EReal) := by
    rw [k98 main_v4 (by decide +kernel)]; exact hq
  have k5 : ∀ j l d, (StableHlo.after ((hostOps1_4 (F := Ideal)).take 98) V (Proc.devRef .tc main_v5) : Vec Ideal S6x8x4x64x192 .f32) (ix5 b h j l d) = ((k (pos j l) d : ℝ) : EReal) := by
    rw [k98 main_v5 (by decide +kernel)]; exact hk
  have q3 : ∀ j, (StableHlo.after ((hostOps1_4 (F := Ideal)).take 98) V (Proc.devRef .tc main_arg3) : Vec Ideal S6x8x4 .f32) (ix3 b h j) = ((qs j : ℝ) : EReal) := by
    rw [k98 main_arg3 (by decide +kernel)]; exact hqs
  have a4 : ∀ j, (StableHlo.after ((hostOps1_4 (F := Ideal)).take 98) V (Proc.devRef .tc main_arg4) : Vec Ideal S6x8x4 .f32) (ix3 b h j) = ((ks j : ℝ) : EReal) := by
    rw [k98 main_arg4 (by decide +kernel)]; exact hks
  -- what the recurrence's operations leave
  have e134 : ∀ d, (StableHlo.after (hostOps1_4 (F := Ideal)) V (Proc.devRef .tc main_v134) : Vec Ideal S6x8x4x192x384 .f32) (ix5 b h j d e) = ((Cp g ig ks vs k v d j : ℝ) : EReal) := fun d => by
    rw [hs, StableHlo.after_append]; exact cprev_at _ hst d j
  have e139 : (StableHlo.after (hostOps1_4 (F := Ideal)) V (Proc.devRef .tc main_v139) : Vec Ideal S6x8x4 .f32) (ix3 b h j) = ((mp g ig j : ℝ) : EReal) := by
    rw [hs, StableHlo.after_append]; exact mprev_at _ hst j
  have e179 : ∀ d, (StableHlo.after (hostOps1_4 (F := Ideal)) V (Proc.devRef .tc main_v179) : Vec Ideal S6x8x4x192 .f32) (ix4 b h j d) = ((np g ig ks k d j : ℝ) : EReal) := fun d => by
    rw [hs, StableHlo.after_append, hs', StableHlo.after_append]
    exact nprev_at _ hst.keep (fun j => dn_at _ hst a4 k5 d j) j
  have e186 : ∀ x, (StableHlo.after (hostOps1_4 (F := Ideal)) V (Proc.devRef .tc main_v186) : Vec Ideal S6x8x4x64x64 .f32) (ix5 b h j l x) = ((qk q k (pos j l) (pos j x) * (qs j * ks j * Sr) : ℝ) : EReal) := fun x => by
    rw [hs, StableHlo.after_append]; exact scores_at _ q3 a4 q4 k5 j l x
  have e187 : ∀ l x, (StableHlo.after (hostOps1_4 (F := Ideal)) V (Proc.devRef .tc main_v187) : Vec Ideal S64x64 .i1) (ix2 l x) = 1#1 := fun l x => by
    rw [hs, StableHlo.after_append]; exact ones_at _ l x
  have w4 : ∀ r : Ref sig .tc, r ∉ hostOps1_4_W → StableHlo.after (hostOps1_4 (F := Ideal)) V (Proc.devRef .tc r) = V (Proc.devRef .tc r) :=
    fun r hr => StableHlo.after_of_writes_sub (r := r) _ V hostOps1_4_writes hr
  generalize StableHlo.after (hostOps1_4 (F := Ideal)) V = U at *
  have w5 : ∀ r : Ref sig .tc, r ∉ hostOps1_5_W → StableHlo.after (hostOps1_5 (F := Ideal)) U (Proc.devRef .tc r) = U (Proc.devRef .tc r) :=
    fun r hr => StableHlo.after_of_writes_sub (r := r) _ U hostOps1_5_writes hr
  have e188 := tril_at U e187
  generalize StableHlo.after (hostOps1_5 (F := Ideal)) U = U5 at *
  have w6 : ∀ r : Ref sig .tc, r ∉ hostOps1_6_W → StableHlo.after (hostOps1_6 (F := Ideal)) U5 (Proc.devRef .tc r) = U5 (Proc.devRef .tc r) :=
    fun r hr => StableHlo.after_of_writes_sub (r := r) _ U5 hostOps1_6_writes hr
  have e196 := diff_at U5 (b := b) (h := h) (j := j) (B := fun l => cum g (pos j l)) (I := fun l => ig (pos j l))
    (fun l => by rw [w5 main_v10 (by decide +kernel), w4 main_v10 (by decide +kernel)]; exact h8 j l) (fun l => by rw [w5 main_v7 (by decide +kernel), w4 main_v7 (by decide +kernel)]; exact h5 j l)
  have ebot := bot_at U5
  have e188' : ∀ l x, (StableHlo.after (hostOps1_6 (F := Ideal)) U5 (Proc.devRef .tc main_v188) : Vec Ideal S64x64 .i1) (ix2 l x) = BitVec.ofBool (decide (x ≤ l)) := by
    rw [w6 main_v188 (by decide +kernel)]; exact e188
  generalize StableHlo.after (hostOps1_6 (F := Ideal)) U5 = U6 at *
  have w7 : ∀ r : Ref sig .tc, r ∉ hostOps1_7_W → StableHlo.after (hostOps1_7 (F := Ideal)) U6 (Proc.devRef .tc r) = U6 (Proc.devRef .tc r) :=
    fun r hr => StableHlo.after_of_writes_sub (r := r) _ U6 hostOps1_7_writes hr
  have e197 := fun x => (mask_at U6 (b := b) (h := h) (j := j) (e188' l x)).trans (by rw [e196, ebot, ref_neg_inf])
  generalize StableHlo.after (hostOps1_7 (F := Ideal)) U6 = U7 at *
  have w : ∀ r : Ref sig .tc, r ∉ hostOps1_5_W ++ hostOps1_6_W ++ hostOps1_7_W → U7 (Proc.devRef .tc r) = U (Proc.devRef .tc r) := fun r hr => by
    simp only [List.mem_append, not_or] at hr
    rw [w7 r hr.2, w6 r hr.1.2, w5 r hr.1.1]
  refine hid_at U7 ?_ ?_ e197 ?_ ?_ (fun d => ?_) (fun d => ?_) (fun d => ?_) (fun x => ?_) (fun x => ?_)
  · rw [w main_v10 (by decide +kernel), w4 main_v10 (by decide +kernel)]; exact h8 j l
  · rw [w main_v139 (by decide +kernel)]; exact e139
  · rw [w main_arg3 (by decide +kernel), w4 main_arg3 (by decide +kernel)]; exact hqs j
  · rw [w main_arg5 (by decide +kernel), w4 main_arg5 (by decide +kernel)]; exact hvs j
  · rw [w main_v4 (by decide +kernel), w4 main_v4 (by decide +kernel)]; exact hq j l d
  · rw [w main_v134 (by decide +kernel)]; exact e134 d
  · rw [w main_v179 (by decide +kernel)]; exact e179 d
  · rw [w main_v186 (by decide +kernel)]; exact e186 x
  · rw [w main_v6 (by decide +kernel), w4 main_v6 (by decide +kernel)]; exact hv j x
end

end Cert.ML

end
-- ==== Proof.RY.lean ====
/- The reference's last operations: the output and the rounded hidden states, from the hidden states. -/
module

public import proofs.«01_k».proof.Proof.RHid
public import proofs.«01_k».proof.Proof.YMath

@[expose] public section

set_option maxRecDepth 16384

noncomputable section

namespace Cert.ML

namespace Ref

open Idealize.ShloMosaic Idealize.ShloMosaic.TcCoe Cert.ReferenceIdeal Cert.ReferenceIdeal.Gen

section
variable (V : Valuation τ sig (Elt Ideal)) {b : Fin 6} {h : Fin 8} {s : Fin 256} {e : Fin 384}

/-- The last operations keep what they do not write. -/
theorem keep_last (r : Ref sig .tc) (hr : r ∉ hostOps1_8_W.drop 43) :
    StableHlo.after ((hostOps1_8 (F := Ideal)).drop 43) V (Proc.devRef .tc r) = V (Proc.devRef .tc r) :=
  StableHlo.after_of_writes_sub (r := r) _ V (StableHlo.forall_writes_sub_of_map (W := hostOps1_8_W.drop 43) rfl) hr

/-- They come after the ones that compute the hidden states. -/
theorem split_last : StableHlo.after (hostOps1_8 (F := Ideal)) V = StableHlo.after ((hostOps1_8 (F := Ideal)).drop 43) (StableHlo.after ((hostOps1_8 (F := Ideal)).take 43) V) := by
  rw [← StableHlo.after_append]; rfl

/-- The returned hidden states are the hidden states. -/
theorem last_hid : (StableHlo.after (hostOps1_8 (F := Ideal)) V (Proc.devRef .tc main_v260) : Vec Ideal S6x8x256x384 .bf16) (ix4 b h s e)
    = (StableHlo.after (hostOps1_8 (F := Ideal)) V (Proc.devRef .tc main_v237) : Vec Ideal S6x8x256x384 .f32) (ix4 b h s e) := by
  rw [split_last, keep_last _ main_v237 (by decide +kernel)]
  generalize StableHlo.after ((hostOps1_8 (F := Ideal)).take 43) V = U
  after_reads_at

set_option maxHeartbeats 4000000 in
/-- The returned output, from the hidden states of its position. -/
theorem last_y : (StableHlo.after (hostOps1_8 (F := Ideal)) V (Proc.devRef .tc main_v259) : Vec Ideal S6x8x256x384 .bf16) (ix4 b h s e)
    = yE ((V (Proc.devRef .tc main_arg8) : Vec Ideal S6x8x256x384 .bf16) (ix4 b h s e)) ((V (Proc.devRef .tc main_arg9) : Vec Ideal S8x384 .f32) (ix2 h e))
        (fun x => (StableHlo.after (hostOps1_8 (F := Ideal)) V (Proc.devRef .tc main_v237) : Vec Ideal S6x8x256x384 .f32) (ix4 b h s x)) e := by
  have k : ∀ r : Ref sig .tc, r ∉ hostOps1_8_W.take 43 → StableHlo.after ((hostOps1_8 (F := Ideal)).take 43) V (Proc.devRef .tc r) = V (Proc.devRef .tc r) :=
    fun r hr => StableHlo.after_of_writes_sub (r := r) _ V (StableHlo.forall_writes_sub_of_map (W := hostOps1_8_W.take 43) rfl) hr
  rw [split_last, keep_last _ main_v237 (by decide +kernel), ← k main_arg8 (by decide +kernel), ← k main_arg9 (by decide +kernel)]
  generalize StableHlo.after ((hostOps1_8 (F := Ideal)).take 43) V = U
  after_reads_at
  unfold yE Ideal.logistic
  congr 2
  refine congrArg (· + _) ?_
  rw [lit_384]
  refine (Ideal.div_coe (by norm_num) _).trans ?_
  rw [one_div]
end

end Ref

end Cert.ML

end
-- ==== Proof.RValue.lean ====
/- The hidden states and the final states that the reference's run leaves, at an index, over the reals. -/
module

public import proofs.«01_k».proof.Proof.Gen.ReferenceIdeal.Frame
public import proofs.«01_k».proof.Proof.RY
public import Idealize.ShloMosaic.Lib.Pipeline.ValueKit
public import Idealize.ShloMosaic.Lib.StableHlo.ReadAt

@[expose] public section

set_option maxRecDepth 16384

noncomputable section

namespace Cert.ML

namespace Ref

open Idealize.ShloMosaic Idealize.ShloMosaic.TcCoe Idealize.SL.Sem Cert.ReferenceIdeal Cert.ReferenceIdeal.Gen

variable (m : (ℓ : Loc nD τ sig) → Buf (Elt Ideal) ℓ)

/-- Over the extended reals the queries' codes are the argument's entries. -/
theorem queries_V (c : Dev nD) (z : S6x8x256x192.Idx) : (V m c main_v0 : Vec Ideal S6x8x256x192 .fp8e4m3) z = m ((c : Thread nD τ).loc main_arg0) z := by
  have h : V m c main_v0 = (Host.convertf (φ := .f32) .fp8e4m3 (m ((c : Thread nD τ).loc main_arg0) : FVec Ideal S6x8x256x192 .f32) : FVec Ideal S6x8x256x192 .fp8e4m3) := by
    after_reads_simp
  exact congrFun h z

/-- Over the extended reals the keys' codes are the argument's entries. -/
theorem keys_V (c : Dev nD) (z : S6x8x256x192.Idx) : (V m c main_v1 : Vec Ideal S6x8x256x192 .fp8e4m3) z = m ((c : Thread nD τ).loc main_arg1) z := by
  have h : V m c main_v1 = (Host.convertf (φ := .f32) .fp8e4m3 (m ((c : Thread nD τ).loc main_arg1) : FVec Ideal S6x8x256x192 .f32) : FVec Ideal S6x8x256x192 .fp8e4m3) := by
    after_reads_simp
  exact congrFun h z

/-- Over the extended reals the values' codes are the argument's entries. -/
theorem vals_V (c : Dev nD) (z : S6x8x256x384.Idx) : (V m c main_v2 : Vec Ideal S6x8x256x384 .fp8e4m3) z = m ((c : Thread nD τ).loc main_arg2) z := by
  have h : V m c main_v2 = (Host.convertf (φ := .f32) .fp8e4m3 (m ((c : Thread nD τ).loc main_arg2) : FVec Ideal S6x8x256x384 .f32) : FVec Ideal S6x8x256x384 .fp8e4m3) := by
    after_reads_simp
  exact congrFun h z

/-- The queries that the region leaves, an entry: the argument's. -/
theorem queries_arr (c : Dev nD) (b : Fin 6) (h : Fin 8) (s : Fin 256) (d : Fin 192) :
    ((dats m 0 c).arrAt 3 cfg0.N : Vec Ideal S6x8x256x192 .f32) (ix4 b h s d) = m ((c : Thread nD τ).loc main_arg0) (ix4 b h s d) := by
  have e : win0_3.index t0_0 = ![0, 0, 0, 0] := by decide +kernel
  have hr := congrFun ((dats m 0 c).read_blk_arrAt_eq_flushed 3 (fun t t' _ _ hne => absurd ((fin_N0 t).trans (fin_N0 t').symm) hne) cfg0.N t0_0 t0_0.isLt (by decide +kernel)) (ix4 b h s d)
  have hemb : ((cfg0.win 3).blk t0_0).view.emb (ix4 b h s d) = ix4 b h s d := by
    funext a; apply Fin.ext
    match a with
    | ⟨0, _⟩ => show win0_3.index t0_0 (0 : Fin 4) * 6 + 1 * b.val = b.val; rw [e]; show 0 * 6 + 1 * b.val = _; omega
    | ⟨1, _⟩ => show win0_3.index t0_0 (1 : Fin 4) * 8 + 1 * h.val = h.val; rw [e]; show 0 * 8 + 1 * h.val = _; omega
    | ⟨2, _⟩ => show win0_3.index t0_0 (2 : Fin 4) * 256 + 1 * s.val = s.val; rw [e]; show 0 * 256 + 1 * s.val = _; omega
    | ⟨3, _⟩ => show win0_3.index t0_0 (3 : Fin 4) * 192 + 1 * d.val = d.val; rw [e]; show 0 * 192 + 1 * d.val = _; omega
  have hl : ((dats m 0 c).arrAt 3 cfg0.N : Vec Ideal S6x8x256x192 .f32) (((cfg0.win 3).blk t0_0).view.emb (ix4 b h s d)) = (dats m 0 c).after 3 t0_0 (ix4 b h s d) := hr
  rw [hemb, after0_3] at hl
  refine hl.trans ?_
  rw [out0_3, View.canon_cons_unit_lit _ _ _ (by decide), View.ld_unit_lit _ _ (by decide)]
  have hp : k0_pay1 (iblk m c 0 t0_0 : Vec Ideal S6x8x256x192 .fp8e4m3) (ix4 b h s d) = (V m c main_v0 : Vec Ideal S6x8x256x192 .fp8e4m3) (((cfg0.win 0).blk t0_0).view.emb (ix4 b h s d)) := by
    pointwise [k0_pay1]; rfl
  refine hp.trans (Eq.trans ?_ (queries_V m c _))
  congr 1

/-- The keys that the region leaves, an entry: the argument's. -/
theorem keys_arr (c : Dev nD) (b : Fin 6) (h : Fin 8) (s : Fin 256) (d : Fin 192) :
    ((dats m 0 c).arrAt 4 cfg0.N : Vec Ideal S6x8x256x192 .f32) (ix4 b h s d) = m ((c : Thread nD τ).loc main_arg1) (ix4 b h s d) := by
  have e : win0_4.index t0_0 = ![0, 0, 0, 0] := by decide +kernel
  have hr := congrFun ((dats m 0 c).read_blk_arrAt_eq_flushed 4 (fun t t' _ _ hne => absurd ((fin_N0 t).trans (fin_N0 t').symm) hne) cfg0.N t0_0 t0_0.isLt (by decide +kernel)) (ix4 b h s d)
  have hemb : ((cfg0.win 4).blk t0_0).view.emb (ix4 b h s d) = ix4 b h s d := by
    funext a; apply Fin.ext
    match a with
    | ⟨0, _⟩ => show win0_4.index t0_0 (0 : Fin 4) * 6 + 1 * b.val = b.val; rw [e]; show 0 * 6 + 1 * b.val = _; omega
    | ⟨1, _⟩ => show win0_4.index t0_0 (1 : Fin 4) * 8 + 1 * h.val = h.val; rw [e]; show 0 * 8 + 1 * h.val = _; omega
    | ⟨2, _⟩ => show win0_4.index t0_0 (2 : Fin 4) * 256 + 1 * s.val = s.val; rw [e]; show 0 * 256 + 1 * s.val = _; omega
    | ⟨3, _⟩ => show win0_4.index t0_0 (3 : Fin 4) * 192 + 1 * d.val = d.val; rw [e]; show 0 * 192 + 1 * d.val = _; omega
  have hl : ((dats m 0 c).arrAt 4 cfg0.N : Vec Ideal S6x8x256x192 .f32) (((cfg0.win 4).blk t0_0).view.emb (ix4 b h s d)) = (dats m 0 c).after 4 t0_0 (ix4 b h s d) := hr
  rw [hemb, after0_4] at hl
  refine hl.trans ?_
  rw [out0_4, View.canon_cons_unit_lit _ _ _ (by decide), View.ld_unit_lit _ _ (by decide)]
  have hp : k0_pay2 (iblk m c 1 t0_0 : Vec Ideal S6x8x256x192 .fp8e4m3) (ix4 b h s d) = (V m c main_v1 : Vec Ideal S6x8x256x192 .fp8e4m3) (((cfg0.win 1).blk t0_0).view.emb (ix4 b h s d)) := by
    pointwise [k0_pay2]; rfl
  refine hp.trans (Eq.trans ?_ (keys_V m c _))
  congr 1

/-- The values that the region leaves, an entry: the argument's. -/
theorem vals_arr (c : Dev nD) (b : Fin 6) (h : Fin 8) (s : Fin 256) (d : Fin 384) :
    ((dats m 0 c).arrAt 5 cfg0.N : Vec Ideal S6x8x256x384 .f32) (ix4 b h s d) = m ((c : Thread nD τ).loc main_arg2) (ix4 b h s d) := by
  have e : win0_5.index t0_0 = ![0, 0, 0, 0] := by decide +kernel
  have hr := congrFun ((dats m 0 c).read_blk_arrAt_eq_flushed 5 (fun t t' _ _ hne => absurd ((fin_N0 t).trans (fin_N0 t').symm) hne) cfg0.N t0_0 t0_0.isLt (by decide +kernel)) (ix4 b h s d)
  have hemb : ((cfg0.win 5).blk t0_0).view.emb (ix4 b h s d) = ix4 b h s d := by
    funext a; apply Fin.ext
    match a with
    | ⟨0, _⟩ => show win0_5.index t0_0 (0 : Fin 4) * 6 + 1 * b.val = b.val; rw [e]; show 0 * 6 + 1 * b.val = _; omega
    | ⟨1, _⟩ => show win0_5.index t0_0 (1 : Fin 4) * 8 + 1 * h.val = h.val; rw [e]; show 0 * 8 + 1 * h.val = _; omega
    | ⟨2, _⟩ => show win0_5.index t0_0 (2 : Fin 4) * 256 + 1 * s.val = s.val; rw [e]; show 0 * 256 + 1 * s.val = _; omega
    | ⟨3, _⟩ => show win0_5.index t0_0 (3 : Fin 4) * 384 + 1 * d.val = d.val; rw [e]; show 0 * 384 + 1 * d.val = _; omega
  have hl : ((dats m 0 c).arrAt 5 cfg0.N : Vec Ideal S6x8x256x384 .f32) (((cfg0.win 5).blk t0_0).view.emb (ix4 b h s d)) = (dats m 0 c).after 5 t0_0 (ix4 b h s d) := hr
  rw [hemb, after0_5] at hl
  refine hl.trans ?_
  rw [out0_5, View.canon_cons_unit_lit _ _ _ (by decide), View.ld_unit_lit _ _ (by decide)]
  have hp : k0_pay3 (iblk m c 2 t0_0 : Vec Ideal S6x8x256x384 .fp8e4m3) (ix4 b h s d) = (V m c main_v2 : Vec Ideal S6x8x256x384 .fp8e4m3) (((cfg0.win 2).blk t0_0).view.emb (ix4 b h s d)) := by
    pointwise [k0_pay3]; rfl
  refine hp.trans (Eq.trans ?_ (vals_V m c _))
  congr 1

/-- The buffers as the region leaves them. -/
abbrev W0 (c : Dev nD) : Valuation τ sig (Elt Ideal) := Pipeline.withArrays spec0 c (V0 m c) (fun w => (dats m 0 c).arrAt w cfg0.N)

/-- The buffers as the recurrence finds them. -/
abbrev W3 (c : Dev nD) : Valuation τ sig (Elt Ideal) := StableHlo.after hostOps1_3 (StableHlo.after hostOps1_2 (StableHlo.after hostOps1_1 (StableHlo.after hostOps1 (W0 m c))))

section
variable {m : (ℓ : Loc nD τ sig) → Buf (Elt Ideal) ℓ} {c : Dev nD} {b : Fin 6} {h : Fin 8} {d : Fin 192} {e : Fin 384}

/-- What the region does not write is the program's. -/
theorem W0_of (r : Ref sig .tc) (hr : ∀ w, Pipeline.arrRef spec0 w ≠ r) : W0 m c (Proc.devRef .tc r) = V m c r := Pipeline.withArrays_of_ne _ c (V0 m c) _ r hr

/-- The arrays that the region writes, at an index. -/
theorem wqueries {z : S6x8x256x192.Idx} {x : EReal} (hx : m ((c : Thread nD τ).loc main_arg0) z = x) : (W0 m c (Proc.devRef .tc main_v3_0) : Vec Ideal S6x8x256x192 .f32) z = x := by
  obtain ⟨b, h, s, d, rfl⟩ : ∃ b h s d, z = ix4 b h s d := ⟨z 0, z 1, z 2, z 3, by funext a; match a with | 0 => rfl | 1 => rfl | 2 => rfl | 3 => rfl⟩
  exact (congrFun (Pipeline.withArrays_arr spec0 launch0.win.arr_inj c (V0 m c) (fun w => (dats m 0 c).arrAt w cfg0.N) 3) _).trans ((queries_arr m c b h s d).trans hx)
@[inherit_doc wqueries] theorem wkeys {z : S6x8x256x192.Idx} {x : EReal} (hx : m ((c : Thread nD τ).loc main_arg1) z = x) : (W0 m c (Proc.devRef .tc main_v3_1) : Vec Ideal S6x8x256x192 .f32) z = x := by
  obtain ⟨b, h, s, d, rfl⟩ : ∃ b h s d, z = ix4 b h s d := ⟨z 0, z 1, z 2, z 3, by funext a; match a with | 0 => rfl | 1 => rfl | 2 => rfl | 3 => rfl⟩
  exact (congrFun (Pipeline.withArrays_arr spec0 launch0.win.arr_inj c (V0 m c) (fun w => (dats m 0 c).arrAt w cfg0.N) 4) _).trans ((keys_arr m c b h s d).trans hx)
@[inherit_doc wqueries] theorem wvals {z : S6x8x256x384.Idx} {x : EReal} (hx : m ((c : Thread nD τ).loc main_arg2) z = x) : (W0 m c (Proc.devRef .tc main_v3_2) : Vec Ideal S6x8x256x384 .f32) z = x := by
  obtain ⟨b, h, s, d, rfl⟩ : ∃ b h s d, z = ix4 b h s d := ⟨z 0, z 1, z 2, z 3, by funext a; match a with | 0 => rfl | 1 => rfl | 2 => rfl | 3 => rfl⟩
  exact (congrFun (Pipeline.withArrays_arr spec0 launch0.win.arr_inj c (V0 m c) (fun w => (dats m 0 c).arrAt w cfg0.N) 5) _).trans ((vals_arr m c b h s d).trans hx)

/-- The running sums of the gates' logarithms, -/
theorem cum_V {f : Fin 256 → ℝ} (hf : ∀ s, m ((c : Thread nD τ).loc main_arg7) (ix3 b h s) = ((f s : ℝ) : EReal)) (j : Fin 4) (l : Fin 64) :
    (W3 m c (Proc.devRef .tc main_v10) : Vec Ideal S6x8x4x64 .f32) (ix4 b h j l) = ((cum (fun s => lsig (f s)) (pos j l) : ℝ) : EReal) := by
  rw [cum_pos]
  refine cum_at _ (g := fun i => lsig (f (pos j i))) (fun l => ?_) l
  refine (sig4_at _ j l).trans (sig_at _ (fun s => ?_) (pos j l))
  rw [StableHlo.after_of_writes_sub (r := main_arg7) hostOps1 _ hostOps1_writes (by decide +kernel), W0_of main_arg7 (by decide), V_main_arg7]
  exact hf s
/-- the input gates, -/
theorem ig_V (j : Fin 4) (l : Fin 64) : (W3 m c (Proc.devRef .tc main_v7) : Vec Ideal S6x8x4x64 .f32) (ix4 b h j l) = m ((c : Thread nD τ).loc main_arg6) (ix3 b h (pos j l)) := by
  unfold W3
  rw [StableHlo.after_of_writes_sub (r := main_v7) hostOps1_3 _ hostOps1_3_writes (by decide +kernel),
      StableHlo.after_of_writes_sub (r := main_v7) hostOps1_2 _ hostOps1_2_writes (by decide +kernel),
      StableHlo.after_of_writes_sub (r := main_v7) hostOps1_1 _ hostOps1_1_writes (by decide +kernel)]
  refine (ig_at _ j l).trans ?_
  rw [W0_of main_arg6 (by decide), V_main_arg6]
/-- the queries, the keys and the values by chunk, -/
theorem q_V (j : Fin 4) (l : Fin 64) : (W3 m c (Proc.devRef .tc main_v4) : Vec Ideal S6x8x4x64x192 .f32) (ix5 b h j l d) = m ((c : Thread nD τ).loc main_arg0) (ix4 b h (pos j l) d) := by
  unfold W3
  rw [StableHlo.after_of_writes_sub (r := main_v4) hostOps1_3 _ hostOps1_3_writes (by decide +kernel),
      StableHlo.after_of_writes_sub (r := main_v4) hostOps1_2 _ hostOps1_2_writes (by decide +kernel),
      StableHlo.after_of_writes_sub (r := main_v4) hostOps1_1 _ hostOps1_1_writes (by decide +kernel)]
  exact (queries_at _ j l).trans (wqueries rfl)
@[inherit_doc q_V] theorem k_V (j : Fin 4) (l : Fin 64) : (W3 m c (Proc.devRef .tc main_v5) : Vec Ideal S6x8x4x64x192 .f32) (ix5 b h j l d) = m ((c : Thread nD τ).loc main_arg1) (ix4 b h (pos j l) d) := by
  unfold W3
  rw [StableHlo.after_of_writes_sub (r := main_v5) hostOps1_3 _ hostOps1_3_writes (by decide +kernel),
      StableHlo.after_of_writes_sub (r := main_v5) hostOps1_2 _ hostOps1_2_writes (by decide +kernel),
      StableHlo.after_of_writes_sub (r := main_v5) hostOps1_1 _ hostOps1_1_writes (by decide +kernel)]
  exact (keys_at _ j l).trans (wkeys rfl)
@[inherit_doc q_V] theorem v_V (j : Fin 4) (l : Fin 64) : (W3 m c (Proc.devRef .tc main_v6) : Vec Ideal S6x8x4x64x384 .f32) (ix5 b h j l e) = m ((c : Thread nD τ).loc main_arg2) (ix4 b h (pos j l) e) := by
  unfold W3
  rw [StableHlo.after_of_writes_sub (r := main_v6) hostOps1_3 _ hostOps1_3_writes (by decide +kernel),
      StableHlo.after_of_writes_sub (r := main_v6) hostOps1_2 _ hostOps1_2_writes (by decide +kernel),
      StableHlo.after_of_writes_sub (r := main_v6) hostOps1_1 _ hostOps1_1_writes (by decide +kernel)]
  exact (vals_at _ j l).trans (wvals rfl)
/-- and the scales. -/
theorem qs_V (j : Fin 4) : (W3 m c (Proc.devRef .tc main_arg3) : Vec Ideal S6x8x4 .f32) (ix3 b h j) = m ((c : Thread nD τ).loc main_arg3) (ix3 b h j) := by
  unfold W3
  rw [StableHlo.after_of_writes_sub (r := main_arg3) hostOps1_3 _ hostOps1_3_writes (by decide +kernel),
      StableHlo.after_of_writes_sub (r := main_arg3) hostOps1_2 _ hostOps1_2_writes (by decide +kernel),
      StableHlo.after_of_writes_sub (r := main_arg3) hostOps1_1 _ hostOps1_1_writes (by decide +kernel),
      StableHlo.after_of_writes_sub (r := main_arg3) hostOps1 _ hostOps1_writes (by decide +kernel)]
  refine (congrFun (W0_of main_arg3 (by decide)) _).trans ?_
  rw [V_main_arg3]
@[inherit_doc qs_V] theorem ks_V (j : Fin 4) : (W3 m c (Proc.devRef .tc main_arg4) : Vec Ideal S6x8x4 .f32) (ix3 b h j) = m ((c : Thread nD τ).loc main_arg4) (ix3 b h j) := by
  unfold W3
  rw [StableHlo.after_of_writes_sub (r := main_arg4) hostOps1_3 _ hostOps1_3_writes (by decide +kernel),
      StableHlo.after_of_writes_sub (r := main_arg4) hostOps1_2 _ hostOps1_2_writes (by decide +kernel),
      StableHlo.after_of_writes_sub (r := main_arg4) hostOps1_1 _ hostOps1_1_writes (by decide +kernel),
      StableHlo.after_of_writes_sub (r := main_arg4) hostOps1 _ hostOps1_writes (by decide +kernel)]
  refine (congrFun (W0_of main_arg4 (by decide)) _).trans ?_
  rw [V_main_arg4]
@[inherit_doc qs_V] theorem vs_V (j : Fin 4) : (W3 m c (Proc.devRef .tc main_arg5) : Vec Ideal S6x8x4 .f32) (ix3 b h j) = m ((c : Thread nD τ).loc main_arg5) (ix3 b h j) := by
  unfold W3
  rw [StableHlo.after_of_writes_sub (r := main_arg5) hostOps1_3 _ hostOps1_3_writes (by decide +kernel),
      StableHlo.after_of_writes_sub (r := main_arg5) hostOps1_2 _ hostOps1_2_writes (by decide +kernel),
      StableHlo.after_of_writes_sub (r := main_arg5) hostOps1_1 _ hostOps1_1_writes (by decide +kernel),
      StableHlo.after_of_writes_sub (r := main_arg5) hostOps1 _ hostOps1_writes (by decide +kernel)]
  refine (congrFun (W0_of main_arg5 (by decide)) _).trans ?_
  rw [V_main_arg5]

variable {f ig : Fin 256 → ℝ} {qs ks vs : Fin 4 → ℝ}
  (hi : ∀ s, m ((c : Thread nD τ).loc main_arg6) (ix3 b h s) = ((ig s : ℝ) : EReal)) (hf : ∀ s, m ((c : Thread nD τ).loc main_arg7) (ix3 b h s) = ((f s : ℝ) : EReal))
  (hqs : ∀ j, m ((c : Thread nD τ).loc main_arg3) (ix3 b h j) = ((qs j : ℝ) : EReal))
  (hks : ∀ j, m ((c : Thread nD τ).loc main_arg4) (ix3 b h j) = ((ks j : ℝ) : EReal)) (hvs : ∀ j, m ((c : Thread nD τ).loc main_arg5) (ix3 b h j) = ((vs j : ℝ) : EReal))

include hi hf hks hvs in
/-- The state the reference returns, an entry: the final state over the reals. -/
theorem result_at {k v : Fin 256 → ℝ}
    (hk : ∀ s, m ((c : Thread nD τ).loc main_arg1) (ix4 b h s d) = ((k s : ℝ) : EReal)) (hv : ∀ s, m ((c : Thread nD τ).loc main_arg2) (ix4 b h s e) = ((v s : ℝ) : EReal)) :
    (Pipeline.afterTail₀ cfgs (dats m) 0 (V0 m) [hostOps1, hostOps1_1, hostOps1_2, hostOps1_3, hostOps1_4, hostOps1_5, hostOps1_6, hostOps1_7, hostOps1_8] c main_v129 : Vec Ideal S6x8x192x384 .f32) (ix4 b h d e)
      = ((cfin (fun s => lsig (f s)) ig ks vs k v : ℝ) : EReal) := by
  rw [← c4_eq_cfin]
  unfold Pipeline.afterTail₀
  simp only [List.flatten_cons, List.flatten_nil, List.append_nil, StableHlo.after_append]
  rw [StableHlo.after_of_writes_sub (r := main_v129) hostOps1_8 _ hostOps1_8_writes (by decide +kernel),
      StableHlo.after_of_writes_sub (r := main_v129) hostOps1_7 _ hostOps1_7_writes (by decide +kernel),
      StableHlo.after_of_writes_sub (r := main_v129) hostOps1_6 _ hostOps1_6_writes (by decide +kernel),
      StableHlo.after_of_writes_sub (r := main_v129) hostOps1_5 _ hostOps1_5_writes (by decide +kernel)]
  exact state_at (W3 m c) (g := fun s => lsig (f s)) (ig := ig) (fun j l => cum_V hf j l) (fun j l => (ig_V j l).trans (hi _)) (fun j l => (k_V j l).trans (hk _)) (fun j l => (v_V j l).trans (hv _))
    (fun j => (ks_V j).trans (hks j)) (fun j => (vs_V j).trans (hvs j))

include hi hf hqs hks hvs in
/-- The hidden state the reference returns, an entry. -/
theorem hid_result_at {q k : Fin 256 → Fin 192 → ℝ} {v : Fin 256 → ℝ} (hq : ∀ s d, m ((c : Thread nD τ).loc main_arg0) (ix4 b h s d) = ((q s d : ℝ) : EReal))
    (hk : ∀ s d, m ((c : Thread nD τ).loc main_arg1) (ix4 b h s d) = ((k s d : ℝ) : EReal)) (hv : ∀ s, m ((c : Thread nD τ).loc main_arg2) (ix4 b h s e) = ((v s : ℝ) : EReal)) (j : Fin 4) (l : Fin 64) :
    (Pipeline.afterTail₀ cfgs (dats m) 0 (V0 m) [hostOps1, hostOps1_1, hostOps1_2, hostOps1_3, hostOps1_4, hostOps1_5, hostOps1_6, hostOps1_7, hostOps1_8] c main_v260 : Vec Ideal S6x8x256x384 .bf16) (ix4 b h (pos j l) e)
      = ((hR (fun s => lsig (f s)) ig qs ks vs Sr q k v j l : ℝ) : EReal) := by
  unfold Pipeline.afterTail₀
  simp only [List.flatten_cons, List.flatten_nil, List.append_nil, StableHlo.after_append]
  refine (last_hid _).trans ?_
  exact hidden_at (W3 m c) (g := fun s => lsig (f s)) (ig := ig) (fun j l => cum_V hf j l) (fun j l => (ig_V j l).trans (hi _)) (fun j l d => (q_V j l).trans (hq _ d)) (fun j l d => (k_V j l).trans (hk _ d))
    (fun j l => (v_V j l).trans (hv _)) (fun j => (qs_V j).trans (hqs j)) (fun j => (ks_V j).trans (hks j)) (fun j => (vs_V j).trans (hvs j)) j l

include hi hf hqs hks hvs in
/-- The output the reference returns, an entry. -/
theorem y_result_at {q k : Fin 256 → Fin 192 → ℝ} {v : Fin 256 → Fin 384 → ℝ} (hq : ∀ s d, m ((c : Thread nD τ).loc main_arg0) (ix4 b h s d) = ((q s d : ℝ) : EReal))
    (hk : ∀ s d, m ((c : Thread nD τ).loc main_arg1) (ix4 b h s d) = ((k s d : ℝ) : EReal)) (hv : ∀ s e, m ((c : Thread nD τ).loc main_arg2) (ix4 b h s e) = ((v s e : ℝ) : EReal)) (j : Fin 4) (l : Fin 64) :
    (Pipeline.afterTail₀ cfgs (dats m) 0 (V0 m) [hostOps1, hostOps1_1, hostOps1_2, hostOps1_3, hostOps1_4, hostOps1_5, hostOps1_6, hostOps1_7, hostOps1_8] c main_v259 : Vec Ideal S6x8x256x384 .bf16) (ix4 b h (pos j l) e)
      = yE (m ((c : Thread nD τ).loc main_arg8) (ix4 b h (pos j l) e)) (m ((c : Thread nD τ).loc main_arg9) (ix2 h e))
        (fun x => ((hR (fun s => lsig (f s)) ig qs ks vs Sr q k (fun s => v s x) j l : ℝ) : EReal)) e := by
  unfold Pipeline.afterTail₀
  simp only [List.flatten_cons, List.flatten_nil, List.append_nil, StableHlo.after_append]
  refine (last_y _).trans ?_
  have hw : ∀ r : Ref sig .tc, (∀ w, Pipeline.arrRef spec0 w ≠ r) → r ∉ hostOps1_W ++ hostOps1_1_W ++ hostOps1_2_W ++ hostOps1_3_W ++ hostOps1_4_W ++ hostOps1_5_W ++ hostOps1_6_W ++ hostOps1_7_W →
      (StableHlo.after hostOps1_7 (StableHlo.after hostOps1_6 (StableHlo.after hostOps1_5 (StableHlo.after hostOps1_4 (W3 m c)))) (Proc.devRef .tc r)) = V m c r := by
    intro r hr hn
    simp only [List.mem_append, not_or] at hn
    obtain ⟨⟨⟨⟨⟨⟨⟨n0, n1⟩, n2⟩, n3⟩, n4⟩, n5⟩, n6⟩, n7⟩ := hn
    unfold W3
    rw [StableHlo.after_of_writes_sub hostOps1_7 _ hostOps1_7_writes n7, StableHlo.after_of_writes_sub hostOps1_6 _ hostOps1_6_writes n6, StableHlo.after_of_writes_sub hostOps1_5 _ hostOps1_5_writes n5,
      StableHlo.after_of_writes_sub hostOps1_4 _ hostOps1_4_writes n4, StableHlo.after_of_writes_sub hostOps1_3 _ hostOps1_3_writes n3, StableHlo.after_of_writes_sub hostOps1_2 _ hostOps1_2_writes n2,
      StableHlo.after_of_writes_sub hostOps1_1 _ hostOps1_1_writes n1, StableHlo.after_of_writes_sub hostOps1 _ hostOps1_writes n0]
    exact W0_of r hr
  have e8 := (hw main_arg8 (by decide) (by decide +kernel)).trans (V_main_arg8 m c)
  have e9 := (hw main_arg9 (by decide) (by decide +kernel)).trans (V_main_arg9 m c)
  rw [← e8, ← e9]
  refine congrArg (fun H => yE _ _ H e) (funext fun x => ?_)
  exact hidden_at (W3 m c) (g := fun s => lsig (f s)) (ig := ig) (fun j l => cum_V hf j l) (fun j l => (ig_V j l).trans (hi _)) (fun j l d => (q_V j l).trans (hq _ d)) (fun j l d => (k_V j l).trans (hk _ d))
    (fun j l => (v_V j l).trans (hv _ x)) (fun j => (qs_V j).trans (hqs j)) (fun j => (ks_V j).trans (hks j)) (fun j => (vs_V j).trans (hvs j)) j l
end

end Ref

end Cert.ML

end
-- ==== Proof.RState.lean ====
/- The final running maximum and the final normalizer that the reference returns, at an index, over the reals. -/
module

public import proofs.«01_k».proof.Proof.RValue

@[expose] public section

set_option maxRecDepth 16384

noncomputable section

namespace Cert.ML

namespace Ref

open Idealize.ShloMosaic Idealize.ShloMosaic.TcCoe Idealize.SL.Sem Cert.ReferenceIdeal Cert.ReferenceIdeal.Gen

section
variable (V : Valuation τ sig (Elt Ideal)) {b : Fin 6} {h : Fin 8} {d : Fin 192} {e : Fin 384}

/-- The last operations' normalizer: the last step of its recurrence. -/
theorem last_n {w x y z : EReal} (hw : (V (Proc.devRef .tc main_v116) : Vec Ideal S6x8 .f32) (ix2 b h) = w) (hx : (V (Proc.devRef .tc main_v174) : Vec Ideal S6x8x192 .f32) (ix3 b h d) = x)
    (hy : (V (Proc.devRef .tc main_v120) : Vec Ideal S6x8 .f32) (ix2 b h) = y) (hz : (V (Proc.devRef .tc main_v146) : Vec Ideal S6x8x4x192 .f32) (ix4 b h 3 d) = z) :
    (StableHlo.after (hostOps1_8 (F := Ideal)) V (Proc.devRef .tc main_v269) : Vec Ideal S6x8x192 .f32) (ix3 b h d) = w * x + y * z := by
  have k : ∀ r : Ref sig .tc, r ∉ hostOps1_8_W.take 43 → StableHlo.after ((hostOps1_8 (F := Ideal)).take 43) V (Proc.devRef .tc r) = V (Proc.devRef .tc r) :=
    fun r hr => StableHlo.after_of_writes_sub (r := r) _ V (StableHlo.forall_writes_sub_of_map (W := hostOps1_8_W.take 43) rfl) hr
  rw [split_last]
  rw [← k main_v116 (by decide +kernel)] at hw
  rw [← k main_v174 (by decide +kernel)] at hx
  rw [← k main_v120 (by decide +kernel)] at hy
  rw [← k main_v146 (by decide +kernel)] at hz
  generalize StableHlo.after ((hostOps1_8 (F := Ideal)).take 43) V = U at hw hx hy hz ⊢
  after_reads_at
  rw [hw, hx, hy, hz]

/-- The factors of the last step. -/
theorem fac4 {B A D : Fin 4 → ℝ} {M : ℝ} (hV : Chunks V b h d e B A D) (hM : (V (Proc.devRef .tc main_v87) : Vec Ideal S6x8 .f32) (ix2 b h) = ((M : ℝ) : EReal)) :
    (StableHlo.after ((hostOps1_4 (F := Ideal)).drop 98) V (Proc.devRef .tc main_v116) : Vec Ideal S6x8 .f32) (ix2 b h) = ((Real.exp (B 3 + M - max (B 3 + M) (A 3)) : ℝ) : EReal)
    ∧ (StableHlo.after ((hostOps1_4 (F := Ideal)).drop 98) V (Proc.devRef .tc main_v120) : Vec Ideal S6x8 .f32) (ix2 b h) = ((Real.exp (A 3 - max (B 3 + M) (A 3)) : ℝ) : EReal) := by
  have hb := hV.1 3
  have ha := hV.2.1 3
  constructor <;> (
    after_reads_at
    rw [hb, ha, hM]
    simp only [← EReal.coe_add, coe_max, ← EReal.coe_sub, Ideal.exp_coe])

/-- The normalizer after three chunks. -/
theorem n3_at {g ig : Fin 256 → ℝ} {D : Fin 192 → Fin 4 → ℝ} {N : Fin 4 → ℝ} (hV : Steps V b h e g ig D)
    (hN : ∀ j, (V (Proc.devRef .tc main_v146) : Vec Ideal S6x8x4x192 .f32) (ix4 b h j d) = ((N j : ℝ) : EReal)) :
    (StableHlo.after ((hostOps1_4 (F := Ideal)).drop 98 |>.drop 42) V (Proc.devRef .tc main_v174) : Vec Ideal S6x8x192 .f32) (ix3 b h d) = ((r3 g ig N : ℝ) : EReal) := by
  have h0 := hN 0
  have h1 := hN 1
  have h2 := hN 2
  after_reads_at
  rw [hV.a1, hV.b1, hV.a2, hV.b2, hV.a3, hV.b3, h0, h1, h2]; simp only [Ideal.ofBits_zero_f32, ← EReal.coe_zero, ← EReal.coe_mul, ← EReal.coe_add, mul_zero, zero_add, r1, r2, r3]
end

section
variable (V : Valuation τ sig (Elt Ideal)) {b : Fin 6} {h : Fin 8} {e : Fin 384} {g ig : Fin 256 → ℝ} {ks vs : Fin 4 → ℝ} {k : Fin 256 → Fin 192 → ℝ} {v : Fin 256 → ℝ}
variable (h8 : ∀ j l, (V (Proc.devRef .tc main_v10) : Vec Ideal S6x8x4x64 .f32) (ix4 b h j l) = ((cum g (pos j l) : ℝ) : EReal))
variable (h5 : ∀ j l, (V (Proc.devRef .tc main_v7) : Vec Ideal S6x8x4x64 .f32) (ix4 b h j l) = ((ig (pos j l) : ℝ) : EReal))
variable (hk : ∀ j l d, (V (Proc.devRef .tc main_v5) : Vec Ideal S6x8x4x64x192 .f32) (ix5 b h j l d) = ((k (pos j l) d : ℝ) : EReal))
variable (hv : ∀ j l, (V (Proc.devRef .tc main_v6) : Vec Ideal S6x8x4x64x384 .f32) (ix5 b h j l e) = ((v (pos j l) : ℝ) : EReal))
variable (hks : ∀ j, (V (Proc.devRef .tc main_arg4) : Vec Ideal S6x8x4 .f32) (ix3 b h j) = ((ks j : ℝ) : EReal))
variable (hvs : ∀ j, (V (Proc.devRef .tc main_arg5) : Vec Ideal S6x8x4 .f32) (ix3 b h j) = ((vs j : ℝ) : EReal))

include h8 h5 hk hv hks hvs

/-- What three steps leave for the last one: the chunks' numbers, the running maximum and the state. -/
theorem three_at (d : Fin 192) : ∃ C : ℝ, Chunks (StableHlo.after ((hostOps1_4 (F := Ideal)).take 98) V) b h d e (bl g) (amax g ig) (dC g ig ks vs (fun s => k s d) v)
    ∧ (StableHlo.after ((hostOps1_4 (F := Ideal)).take 98) V (Proc.devRef .tc main_v87) : Vec Ideal S6x8 .f32) (ix2 b h) = ((m3 g ig : ℝ) : EReal)
    ∧ (StableHlo.after ((hostOps1_4 (F := Ideal)).take 98) V (Proc.devRef .tc main_v105) : Vec Ideal S6x8x192x384 .f32) (ix4 b h d e) = ((C : ℝ) : EReal) := by
  have hs : (hostOps1_4 (F := Ideal)).take 98 = hostOps1_4.take 26 ++ ((hostOps1_4.drop 26).take 24 ++ ((hostOps1_4.drop 50).take 24 ++ (hostOps1_4.drop 74).take 24)) := rfl
  rw [hs, StableHlo.after_append, StableHlo.after_append, StableHlo.after_append]
  obtain ⟨z1, z2⟩ := pre_zero V (b := b) (h := h) (d := d) (e := e)
  obtain ⟨p1, q1, r1⟩ := step1 _ ⟨pre_bl V h8, pre_amax V h8 h5, pre_dC (k := fun s => k s d) V h8 h5 (fun j l => hk j l d) hv hks hvs⟩ z1 z2
  obtain ⟨p2, q2, r2⟩ := step2 _ p1 q1 r1
  obtain ⟨p3, q3, r3⟩ := step3 _ p2 q2 r2
  exact ⟨_, p3, q3.trans (by simp only [add_zero, m3, m2, m1]), r3⟩

/-- The final running maximum. -/
theorem max_at : (StableHlo.after (hostOps1_4 (F := Ideal)) V (Proc.devRef .tc main_v111) : Vec Ideal S6x8 .f32) (ix2 b h) = ((m4 g ig : ℝ) : EReal) := by
  have hs : (hostOps1_4 (F := Ideal)) = hostOps1_4.take 98 ++ hostOps1_4.drop 98 := rfl
  obtain ⟨C, p, q, r⟩ := three_at V h8 h5 hk hv hks hvs 0
  rw [hs, StableHlo.after_append]
  exact (step4 _ p q r).2.1

/-- The final normalizer. -/
theorem norm_at (d : Fin 192) : (StableHlo.after (hostOps1_8 (F := Ideal)) (StableHlo.after hostOps1_7 (StableHlo.after hostOps1_6 (StableHlo.after hostOps1_5 (StableHlo.after hostOps1_4 V))))
      (Proc.devRef .tc main_v269) : Vec Ideal S6x8x192 .f32) (ix3 b h d) = ((cfin g ig ks (fun _ => 1) (fun s => k s d) (fun _ => 1) : ℝ) : EReal) := by
  have hst := steps_at V h8 h5 hk hv hks hvs
  have hs : (hostOps1_4 (F := Ideal)) = hostOps1_4.take 98 ++ hostOps1_4.drop 98 := rfl
  have hs' : (hostOps1_4 (F := Ideal)).drop 98 = (hostOps1_4.drop 98).take 42 ++ (hostOps1_4.drop 98).drop 42 := rfl
  have k98 : ∀ r : Ref sig .tc, r ∉ hostOps1_4_W.take 98 → StableHlo.after ((hostOps1_4 (F := Ideal)).take 98) V (Proc.devRef .tc r) = V (Proc.devRef .tc r) := keep3s V
  have k5 : ∀ j l d, (StableHlo.after ((hostOps1_4 (F := Ideal)).take 98) V (Proc.devRef .tc main_v5) : Vec Ideal S6x8x4x64x192 .f32) (ix5 b h j l d) = ((k (pos j l) d : ℝ) : EReal) := by
    rw [k98 main_v5 (by decide +kernel)]; exact hk
  have a4 : ∀ j, (StableHlo.after ((hostOps1_4 (F := Ideal)).take 98) V (Proc.devRef .tc main_arg4) : Vec Ideal S6x8x4 .f32) (ix3 b h j) = ((ks j : ℝ) : EReal) := by
    rw [k98 main_arg4 (by decide +kernel)]; exact hks
  have hdn := fun j => dn_at _ hst a4 k5 d j
  obtain ⟨C, p, q, -⟩ := three_at V h8 h5 hk hv hks hvs d
  have e116 : (StableHlo.after (hostOps1_4 (F := Ideal)) V (Proc.devRef .tc main_v116) : Vec Ideal S6x8 .f32) (ix2 b h) = ((Real.exp (bl g 3 + m3 g ig - m4 g ig) : ℝ) : EReal) := by
    rw [hs, StableHlo.after_append]; exact (fac4 _ p q).1
  have e120 : (StableHlo.after (hostOps1_4 (F := Ideal)) V (Proc.devRef .tc main_v120) : Vec Ideal S6x8 .f32) (ix2 b h) = ((Real.exp (amax g ig 3 - m4 g ig) : ℝ) : EReal) := by
    rw [hs, StableHlo.after_append]; exact (fac4 _ p q).2
  have e174 : (StableHlo.after (hostOps1_4 (F := Ideal)) V (Proc.devRef .tc main_v174) : Vec Ideal S6x8x192 .f32) (ix3 b h d) = ((r3 g ig (dN g ig ks k d) : ℝ) : EReal) := by
    rw [hs, StableHlo.after_append, hs', StableHlo.after_append]; exact n3_at _ hst.keep hdn
  have e146 : (StableHlo.after (hostOps1_4 (F := Ideal)) V (Proc.devRef .tc main_v146) : Vec Ideal S6x8x4x192 .f32) (ix4 b h 3 d) = ((dN g ig ks k d 3 : ℝ) : EReal) := by
    rw [hs, StableHlo.after_append, hs', StableHlo.after_append,
      StableHlo.after_of_writes_sub (r := main_v146) _ _ (StableHlo.forall_writes_sub_of_map (W := (hostOps1_4_W.drop 98).drop 42) rfl) (by decide +kernel)]
    exact hdn 3
  have w : ∀ r : Ref sig .tc, r ∉ hostOps1_5_W → r ∉ hostOps1_6_W → r ∉ hostOps1_7_W →
      StableHlo.after hostOps1_7 (StableHlo.after hostOps1_6 (StableHlo.after hostOps1_5 (StableHlo.after (hostOps1_4 (F := Ideal)) V))) (Proc.devRef .tc r)
        = StableHlo.after (hostOps1_4 (F := Ideal)) V (Proc.devRef .tc r) := fun r n5 n6 n7 => by
    rw [StableHlo.after_of_writes_sub (r := r) hostOps1_7 _ hostOps1_7_writes n7, StableHlo.after_of_writes_sub (r := r) hostOps1_6 _ hostOps1_6_writes n6,
      StableHlo.after_of_writes_sub (r := r) hostOps1_5 _ hostOps1_5_writes n5]
  rw [last_n _ ((congrFun (w main_v116 (by decide +kernel) (by decide +kernel) (by decide +kernel)) _).trans e116) ((congrFun (w main_v174 (by decide +kernel) (by decide +kernel) (by decide +kernel)) _).trans e174)
      ((congrFun (w main_v120 (by decide +kernel) (by decide +kernel) (by decide +kernel)) _).trans e120) ((congrFun (w main_v146 (by decide +kernel) (by decide +kernel) (by decide +kernel)) _).trans e146),
    ← EReal.coe_mul, ← EReal.coe_mul, ← EReal.coe_add, ← c4_eq_cfin]
  have hd : ∀ j, dC g ig ks (fun _ => 1) (fun s => k s d) (fun _ => 1) j = dN g ig ks k d j := fun j => by
    simp only [dC, dN, mul_one]; rw [mul_comm]; exact congrArg _ (Finset.sum_congr rfl fun l _ => mul_comm _ _)
  simp only [c4, c3, c2, c1, r3, r2, r1, hd]
end

section
variable {m : (ℓ : Loc nD τ sig) → Buf (Elt Ideal) ℓ} {c : Dev nD} {b : Fin 6} {h : Fin 8} {f ig : Fin 256 → ℝ} {ks vs : Fin 4 → ℝ}
  (hi : ∀ s, m ((c : Thread nD τ).loc main_arg6) (ix3 b h s) = ((ig s : ℝ) : EReal)) (hf : ∀ s, m ((c : Thread nD τ).loc main_arg7) (ix3 b h s) = ((f s : ℝ) : EReal))
  (hks : ∀ j, m ((c : Thread nD τ).loc main_arg4) (ix3 b h j) = ((ks j : ℝ) : EReal)) (hvs : ∀ j, m ((c : Thread nD τ).loc main_arg5) (ix3 b h j) = ((vs j : ℝ) : EReal))

include hi hf hks hvs in
/-- The running maximum the reference returns, an entry. -/
theorem max_result_at {k : Fin 256 → Fin 192 → ℝ} {v : Fin 256 → ℝ} {e : Fin 384}
    (hk : ∀ s d, m ((c : Thread nD τ).loc main_arg1) (ix4 b h s d) = ((k s d : ℝ) : EReal)) (hv : ∀ s, m ((c : Thread nD τ).loc main_arg2) (ix4 b h s e) = ((v s : ℝ) : EReal)) :
    (Pipeline.afterTail₀ cfgs (dats m) 0 (V0 m) [hostOps1, hostOps1_1, hostOps1_2, hostOps1_3, hostOps1_4, hostOps1_5, hostOps1_6, hostOps1_7, hostOps1_8] c main_v111 : Vec Ideal S6x8 .f32) (ix2 b h)
      = ((m4 (fun s => lsig (f s)) ig : ℝ) : EReal) := by
  unfold Pipeline.afterTail₀
  simp only [List.flatten_cons, List.flatten_nil, List.append_nil, StableHlo.after_append]
  rw [StableHlo.after_of_writes_sub (r := main_v111) hostOps1_8 _ hostOps1_8_writes (by decide +kernel),
      StableHlo.after_of_writes_sub (r := main_v111) hostOps1_7 _ hostOps1_7_writes (by decide +kernel),
      StableHlo.after_of_writes_sub (r := main_v111) hostOps1_6 _ hostOps1_6_writes (by decide +kernel),
      StableHlo.after_of_writes_sub (r := main_v111) hostOps1_5 _ hostOps1_5_writes (by decide +kernel)]
  exact max_at (W3 m c) (g := fun s => lsig (f s)) (ig := ig) (fun j l => cum_V hf j l) (fun j l => (ig_V j l).trans (hi _)) (fun j l d => (k_V j l).trans (hk _ d)) (fun j l => (v_V j l).trans (hv _))
    (fun j => (ks_V j).trans (hks j)) (fun j => (vs_V j).trans (hvs j))

include hi hf hks hvs in
/-- The normalizer the reference returns, an entry. -/
theorem norm_result_at {k : Fin 256 → Fin 192 → ℝ} {v : Fin 256 → ℝ} {e : Fin 384} {d : Fin 192}
    (hk : ∀ s d, m ((c : Thread nD τ).loc main_arg1) (ix4 b h s d) = ((k s d : ℝ) : EReal)) (hv : ∀ s, m ((c : Thread nD τ).loc main_arg2) (ix4 b h s e) = ((v s : ℝ) : EReal)) :
    (Pipeline.afterTail₀ cfgs (dats m) 0 (V0 m) [hostOps1, hostOps1_1, hostOps1_2, hostOps1_3, hostOps1_4, hostOps1_5, hostOps1_6, hostOps1_7, hostOps1_8] c main_v269 : Vec Ideal S6x8x192 .f32) (ix3 b h d)
      = ((cfin (fun s => lsig (f s)) ig ks (fun _ => 1) (fun s => k s d) (fun _ => 1) : ℝ) : EReal) := by
  unfold Pipeline.afterTail₀
  simp only [List.flatten_cons, List.flatten_nil, List.append_nil, StableHlo.after_append]
  exact norm_at (W3 m c) (g := fun s => lsig (f s)) (ig := ig) (fun j l => cum_V hf j l) (fun j l => (ig_V j l).trans (hi _)) (fun j l d => (k_V j l).trans (hk _ d)) (fun j l => (v_V j l).trans (hv _))
    (fun j => (ks_V j).trans (hks j)) (fun j => (vs_V j).trans (hvs j)) d
end

end Ref

end Cert.ML

end
-- ==== Proof.KI.State.lean ====
/- The arrays of final normalizers and final running maxima after the kernel's run. -/
module

public import proofs.«01_k».proof.Proof.KI.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- Where the two rows of a point lie. -/
theorem off6_eq : ∀ (i : grid0.Coords) (q : Fin 2), k0_off6 i (BitVec.ofNat 32 q.val) = ![0, 2 * (i 1).val + q.val, 0] := by decide +kernel

/-- The head pair of a point, and where its blocks of normalizers and of maxima lie. -/
theorem idx_13 : ∀ t : Fin cfg0.N, (grid0.coords t 1).val = t.val % 4 ∧ win0_13.index t = ![t.val / 4, 0, 0] ∧ win0_14.index t = ![0, 0] :=
  (by decide +kernel : ∀ t : Fin grid0.N, _)

/-- A point stores two rows of normalizers. -/
theorem L13_eq (c : Dev nD) (s : Fin cfg0.N) : ∃ A B, L13 m c s
    = [⟨Rect.unit (s := S1x8x192) (k0_off6 (grid0.coords s) (BitVec.ofNat 32 (1 : Fin 2).val)) S1x1x192.size (k0_off6_inb (grid0.coords s) 1), A⟩,
       ⟨Rect.unit (s := S1x8x192) (k0_off6 (grid0.coords s) (BitVec.ofNat 32 (0 : Fin 2).val)) S1x1x192.size (k0_off6_inb (grid0.coords s) 0), B⟩] := by
  by_cases h0 : s.val % 24 = 0
  · rw [L13_A m c s h0]; unfold kernelRun0_A; exact ⟨_, _, rfl⟩
  · rw [L13_B m c s h0]; unfold kernelRun0_B; exact ⟨_, _, rfl⟩

/-- A row of a point, in the block of its batch. -/
theorem mem_row (t : Fin cfg0.N) (q : Fin 2) (y : S1x8x192.Idx) :
    y ∈ (Rect.unit (s := S1x8x192) (k0_off6 (grid0.coords t) (BitVec.ofNat 32 q.val)) S1x1x192.size (k0_off6_inb (grid0.coords t) q)).set ↔ (y 1).val = 2 * (t.val % 4) + q.val := by
  rw [Rect.mem_set_unit, off6_eq, (idx_13 t).1]
  have h0 : (y 0).val < 1 := (y 0).isLt
  have h2 : (y 2).val < 192 := (y 2).isLt
  constructor
  · intro h
    have h1 : 2 * (t.val % 4) + q.val ≤ (y 1).val ∧ (y 1).val < 2 * (t.val % 4) + q.val + 1 := h 1
    omega
  · intro h a
    match a with
    | ⟨0, _⟩ => show 0 ≤ (y 0).val ∧ (y 0).val < 0 + 1; omega
    | ⟨1, _⟩ => show 2 * (t.val % 4) + q.val ≤ (y 1).val ∧ (y 1).val < 2 * (t.val % 4) + q.val + 1; omega
    | ⟨2, _⟩ => show 0 ≤ (y 2).val ∧ (y 2).val < 0 + 192; omega

/-- The rows a point stores are its head pair's. -/
theorem cov13 (c : Dev nD) (s : Fin cfg0.N) (y : S1x8x192.Idx) : (∃ pc ∈ L13 m c s, y ∈ pc.1.set) ↔ (y 1).val / 2 = s.val % 4 := by
  obtain ⟨A, B, h⟩ := L13_eq m c s
  rw [h]
  constructor
  · rintro ⟨pc, hm, hy⟩
    rcases List.mem_cons.mp hm with rfl | hm
    · have := (mem_row s 1 y).mp hy
      have e : ((1 : Fin 2) : ℕ) = 1 := rfl
      omega
    · rcases List.mem_singleton.mp hm with rfl
      have := (mem_row s 0 y).mp hy
      have e : ((0 : Fin 2) : ℕ) = 0 := rfl
      omega
  · intro hy
    rcases Nat.mod_two_eq_zero_or_one (y 1).val with h2 | h2
    · exact ⟨_, List.mem_cons_of_mem _ (List.mem_singleton.mpr rfl), (mem_row s 0 y).mpr (by show _ = 2 * (s.val % 4) + 0; omega)⟩
    · exact ⟨_, List.mem_cons_self, (mem_row s 1 y).mpr (by show _ = 2 * (s.val % 4) + 1; omega)⟩

/-- The point that stores a row of the array of normalizers. -/
def pt13 (b : Fin 6) (h : Fin 8) : Fin cfg0.N := ⟨4 * b.val + h.val / 2, by show _ < 24; omega⟩

/-- The array of final normalizers: at each head what its point stored. -/
def G13 (c : Dev nD) : Buf (Elt F) ((c : Thread nD τ).loc main_v3_3) := fun i : S6x8x192.Idx => N13 m c (pt13 (i 0) (i 1)) (ix3 0 (i 1) (i 2))

/-- The array of final maxima: what the first point stored. -/
def G14 (c : Dev nD) : Buf (Elt F) ((c : Thread nD τ).loc main_v3_4) := fun i : S6x8.Idx => M14 m c i

/-- What the run leaves in the two arrays of the last two results. -/
theorem post1314 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v3_3) = G13 m c ∧ r.2.mem ((c : Thread nD τ).loc main_v3_4) = G14 m c := by
  obtain ⟨after, hL, hA⟩ := h.exists_exact c
  constructor
  · refine (hA 13).trans (Dat.arrAt_eq_of_covers _ 13 _ (by decide +kernel) fun t hf y => ?_)
    have h13 : Has13 m c t (after 13 t) := Dat.toRRel_leaves (dat := dats m 0 c) (show forgets0 (13 : Fin 15) = true by decide) (hL 13 t hf)
    have h3 := (flush0_13 t).mp hf
    have y0 : (y 0).val < 1 := (y 0).isLt
    have y1 : (y 1).val < 8 := (y 1).isLt
    have ht : t.val < 24 := t.isLt
    have e := (idx_13 t).2.1
    have b0 : (((cfg0.win 13).blk t).view.emb y 0).val = win0_13.index t (0 : Fin 3) * 1 + 1 * (y 0).val := rfl
    have b1 : (((cfg0.win 13).blk t).view.emb y 1).val = win0_13.index t (1 : Fin 3) * 8 + 1 * (y 1).val := rfl
    have b2 : (((cfg0.win 13).blk t).view.emb y 2).val = win0_13.index t (2 : Fin 3) * 192 + 1 * (y 2).val := rfl
    rw [e] at b0 b1 b2
    have b0' : (((cfg0.win 13).blk t).view.emb y 0).val = t.val / 4 := b0.trans (by show t.val / 4 * 1 + _ = _; omega)
    have b1' : (((cfg0.win 13).blk t).view.emb y 1).val = (y 1).val := b1.trans (by show 0 * 8 + _ = _; omega)
    have b2' : (((cfg0.win 13).blk t).view.emb y 2).val = (y 2).val := b2.trans (by show 0 * 192 + _ = _; omega)
    have hv : (pt13 (((cfg0.win 13).blk t).view.emb y 0) (((cfg0.win 13).blk t).view.emb y 1)).val = 4 * (t.val / 4) + (y 1).val / 2 := by
      show 4 * (((cfg0.win 13).blk t).view.emb y 0).val + (((cfg0.win 13).blk t).view.emb y 1).val / 2 = _
      rw [b0', b1']
    have hy : (ix3 0 (((cfg0.win 13).blk t).view.emb y 1) (((cfg0.win 13).blk t).view.emb y 2) : S1x8x192.Idx) = (cfg0.win 13).xinj (grid0.coords t) y := by
      funext a; apply Fin.ext
      match a with
      | ⟨0, _⟩ => show 0 = (y 0).val; omega
      | ⟨1, _⟩ => exact b1'
      | ⟨2, _⟩ => exact b2'
    show after 13 t ((cfg0.win 13).xinj (grid0.coords t) y) = N13 m c (pt13 (((cfg0.win 13).blk t).view.emb y 0) (((cfg0.win 13).blk t).view.emb y 1)) (ix3 0 (((cfg0.win 13).blk t).view.emb y 1) (((cfg0.win 13).blk t).view.emb y 2))
    rw [hy]
    refine h13 _ (by rw [hv]; omega) (by rw [hv]; omega) _ ((cov13 m c _ _).mpr ?_) fun r h1 h2 pc hm hin => ?_
    · rw [hv]; show (y 1).val / 2 = _; omega
    · have h5 : (y 1).val / 2 = r.val % 4 := (cov13 m c r _).mp ⟨pc, hm, hin⟩
      rw [hv] at h1
      omega
  · refine (hA 14).trans (Dat.arrAt_eq_of_covers _ 14 _ (by decide +kernel) fun t hf y => ?_)
    have h14 : after 14 t = M14 m c := Dat.toRRel_leaves (dat := dats m 0 c) (show forgets0 (14 : Fin 15) = true by decide) (hL 14 t hf)
    have e := (idx_13 t).2.2
    have b0 : (((cfg0.win 14).blk t).view.emb y 0).val = win0_14.index t (0 : Fin 2) * 6 + 1 * (y 0).val := rfl
    have b1 : (((cfg0.win 14).blk t).view.emb y 1).val = win0_14.index t (1 : Fin 2) * 8 + 1 * (y 1).val := rfl
    rw [e] at b0 b1
    show after 14 t ((cfg0.win 14).xinj (grid0.coords t) y) = M14 m c (((cfg0.win 14).blk t).view.emb y)
    rw [h14]
    refine congrArg (M14 m c) (funext fun a => Fin.ext ?_)
    match a with
    | ⟨0, _⟩ => exact (b0.trans (by show 0 * 6 + 1 * (y 0).val = (y 0).val; omega)).symm
    | ⟨1, _⟩ => exact (b1.trans (by show 0 * 8 + 1 * (y 1).val = (y 1).val; omega)).symm

/-- The run with all five result arrays, the arguments unchanged. -/
theorem run5 : θ_run defs (onTc (τ := τ) (main (F := F))) ⟨m, fun _ => 0, ρ⟩ fun r => ∀ c : Dev nD,
      r.2.mem ((c : Thread nD τ).loc main_v3_0) = G10 m c
      ∧ r.2.mem ((c : Thread nD τ).loc main_v3_1) = G11 m c
      ∧ r.2.mem ((c : Thread nD τ).loc main_v3_2) = G12 m c
      ∧ r.2.mem ((c : Thread nD τ).loc main_v3_3) = G13 m c
      ∧ r.2.mem ((c : Thread nD τ).loc main_v3_4) = G14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post10 m r h c).trans (final10 m c),
      (post11 m r h c).trans (final11 m c),
      (post12 m r h c).trans (final12 m c),
      (post1314 m r h c).1,
      (post1314 m r h c).2,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value

end
-- ==== Proof.NOut.lean ====
/- What the grid points leave in the blocks of final normalizers and of final maxima, over the reals. -/
module

public import proofs.«01_k».proof.Proof.HOut

@[expose] public section

set_option maxRecDepth 16384

noncomputable section

namespace Cert.ML

open Idealize.ShloMosaic Idealize.ShloMosaic.TcCoe Cert.KernelIdeal Cert.KernelIdeal.Gen

section
variable {hd : Fin 48} {g ig : Fin 256 → ℝ}

/-- The factors with which the chunks' keys enter the final normalizer, times the keys' weights. -/
theorem pay90_at {b1 b2 b3 a0 a1 a2 a3 m : FVec Ideal S48x1 .f32} {W : FVec Ideal S48x256 .f32} {ks : Fin 4 → ℝ} {x : FVec Ideal S48x4 .f32}
    (hb1 : b1 (ix2 hd 0) = ((bl g 1 : ℝ) : EReal)) (hb2 : b2 (ix2 hd 0) = ((bl g 2 : ℝ) : EReal))
    (hb3 : b3 (ix2 hd 0) = ((bl g 3 : ℝ) : EReal)) (ha0 : a0 (ix2 hd 0) = ((amax g ig 0 : ℝ) : EReal))
    (ha1 : a1 (ix2 hd 0) = ((amax g ig 1 : ℝ) : EReal)) (ha2 : a2 (ix2 hd 0) = ((amax g ig 2 : ℝ) : EReal))
    (ha3 : a3 (ix2 hd 0) = ((amax g ig 3 : ℝ) : EReal)) (hm : m (ix2 hd 0) = ((m4 g ig : ℝ) : EReal))
    (hx : ∀ c, x (ix2 hd c) = ((ks c : ℝ) : EReal)) (hW : ∀ s, W (ix2 hd s) = ((wt g ig s : ℝ) : EReal)) (s : Fin 256) :
    k0_pay90 x k0_pay8 a3 W m (k0_pay42 b1 b2 b3 a0) (k0_pay44 b2 b3 a1) (k0_pay45 b3 a2) (ix3 0 hd s) = ((cf g ig ks (fun _ => 1) (chunk s) * wt g ig s : ℝ) : EReal) := by
  pointwise [k0_pay90, k0_pay89, k0_pay86, k0_pay87, k0_pay88, k0_pay42, k0_pay41, k0_pay40, k0_pay44, k0_pay43, k0_pay45]
  rw [pay8_at, ladder, hb1, hb2, hb3, ha0, ha1, ha2, ha3, hm, hW]
  simp only [hx, ← EReal.coe_add, ← EReal.coe_sub, Ideal.exp_coe, ← EReal.coe_mul]
  have hc := ladder_coe (fun c => Real.exp (ce g ig c) * ks c) (chunk s)
  refine (congrArg (· * ((wt g ig s : ℝ) : EReal)) hc).trans ?_
  rw [← EReal.coe_mul]; simp only [cf, mul_one]
end

/-- The row of the final normalizer's factors, from the loaded gates and scales. -/
def gN (i f : Vec Ideal S6x8x256 .f32) (ks : Vec Ideal S6x8x4 .f32) : FVec Ideal S1x48x256 .f32 :=
  k0_pay90 (k0_pay6 ks) k0_pay8 (gA3 i f) (gW i f) (gM4 i f) (k0_pay42 (gBL1 f) (gBL2 f) (k0_pay18 (gB f)) (gA0 i f)) (k0_pay44 (gBL2 f) (k0_pay18 (gB f)) (gA1 i f)) (k0_pay45 (k0_pay18 (gB f)) (gA2 i f))

section
variable {xi xf : Vec Ideal S6x8x256 .f32} {xk : Vec Ideal S6x8x4 .f32} {hd : Fin 48} {f ig : Fin 256 → ℝ} {ks : Fin 4 → ℝ}

/-- The last running maximum. -/
theorem gM4_at (hi : ∀ s, xi (ix3 (hB hd) (hH hd) s) = ((ig s : ℝ) : EReal)) (hf : ∀ s, xf (ix3 (hB hd) (hH hd) s) = ((f s : ℝ) : EReal)) :
    gM4 xi xf (ix2 hd 0) = ((m4 (fun s => lsig (f s)) ig : ℝ) : EReal) :=
  pay32_at (gBL1_at hf) (gBL2_at hf) (gBL3_at hf) (pay22_at (gKL_at hi hf)) (pay23_at (gKL_at hi hf)) (pay24_at (gKL_at hi hf)) (pay29_at (gBL0_at hf) (pay21_at (gKL_at hi hf)))

/-- The normalizer's row holds its factors. -/
theorem gN_at (hi : ∀ s, xi (ix3 (hB hd) (hH hd) s) = ((ig s : ℝ) : EReal)) (hf : ∀ s, xf (ix3 (hB hd) (hH hd) s) = ((f s : ℝ) : EReal))
    (hk : ∀ c, xk (ix3 (hB hd) (hH hd) c) = ((ks c : ℝ) : EReal)) (s : Fin 256) :
    gN xi xf xk (ix3 0 hd s) = ((cf (fun s => lsig (f s)) ig ks (fun _ => 1) (chunk s) * wt (fun s => lsig (f s)) ig s : ℝ) : EReal) :=
  pay90_at (gBL1_at hf) (gBL2_at hf) (gBL3_at hf) (pay21_at (gKL_at hi hf)) (pay22_at (gKL_at hi hf)) (pay23_at (gKL_at hi hf)) (pay24_at (gKL_at hi hf))
    (gM4_at hi hf) (fun c => by pointwise [k0_pay6]; exact hk c) (gW_at hi hf) s
end

section
variable {v11 : Vec Ideal S1x1x256x192 .fp8e4m3} {N0 N1 N2 N3 : Vec Ideal S1x1x256 .f32} {k N : Fin 256 → ℝ} {d : Fin 192}
  (hk : ∀ s, v11 (ix4 0 0 s d) = ((k s : ℝ) : EReal)) (hN : ∀ s, N3 (ix3 0 0 s) = ((N s : ℝ) : EReal))

include hk hN in
/-- The stored row of a head's final normalizer: the sum over all positions, with its two lower parts. -/
theorem p110 : k0_pay110 (k0_pay103 v11) (k0_pay107 N0) (k0_pay108 N1) N2 N3 (ix3 0 0 d) = ((∑ s, N s * k s : ℝ) : EReal) := by
  pointwise [k0_pay110, k0_pay109, k0_pay103, k0_pay107, k0_pay108]
  simp only [hN, hk, coe_self, sub_zero, zero_mul, Finset.sum_const_zero, add_zero, ← EReal.coe_mul]
  exact (coe_sum _ _).symm

include hk hN in
@[inherit_doc p110] theorem p194 : k0_pay194 (k0_pay188 v11) N0 N1 N2 N3 (ix3 0 0 d) = ((∑ s, N s * k s : ℝ) : EReal) := by
  pointwise [k0_pay194, k0_pay193, k0_pay188]
  simp only [hN, hk, coe_self, sub_zero, zero_mul, Finset.sum_const_zero, add_zero, ← EReal.coe_mul]
  exact (coe_sum _ _).symm
end

/-- A sum that picks one of eight entries. -/
theorem pick8 (a : Fin 8 → EReal) (h : Fin 8) (t : Fin 8 → EReal) (ht : ∀ x, t x = Scalar.select (IntOp.cmpi CmpIPredicate.eq (BitVec.ofNat 32 x.val) (BitVec.ofNat 32 h.val)) (a x) 0) :
    ∑ x, t x = a h := by
  simp only [ht]
  fin_cases h <;> rw [Fin.sum_univ_eight]
  · exact (by simp only [zero_add, add_zero] : a 0 + 0 + 0 + 0 + 0 + 0 + 0 + 0 = a 0)
  · exact (by simp only [zero_add, add_zero] : 0 + a 1 + 0 + 0 + 0 + 0 + 0 + 0 = a 1)
  · exact (by simp only [zero_add, add_zero] : 0 + 0 + a 2 + 0 + 0 + 0 + 0 + 0 = a 2)
  · exact (by simp only [zero_add, add_zero] : 0 + 0 + 0 + a 3 + 0 + 0 + 0 + 0 = a 3)
  · exact (by simp only [zero_add, add_zero] : 0 + 0 + 0 + 0 + a 4 + 0 + 0 + 0 = a 4)
  · exact (by simp only [zero_add, add_zero] : 0 + 0 + 0 + 0 + 0 + a 5 + 0 + 0 = a 5)
  · exact (by simp only [zero_add, add_zero] : 0 + 0 + 0 + 0 + 0 + 0 + a 6 + 0 = a 6)
  · exact (by simp only [zero_add, add_zero] : 0 + 0 + 0 + 0 + 0 + 0 + 0 + a 7 = a 7)

/-- A stored row of maxima holds the maxima of its batch's heads. -/ theorem pay96_at (v : FVec Ideal S48x1 .f32) (h : Fin 8) : k0_pay96 v (ix2 0 h) = v (ix2 ⟨8 * 0 + h.val, by omega⟩ 0) := by
  pointwise [k0_pay96]
  exact pick8 (fun x => v (ix2 ⟨x.val, by omega⟩ 0)) h _ (fun x => rfl)
@[inherit_doc pay96_at] theorem pay97_at (v : FVec Ideal S48x1 .f32) (h : Fin 8) : k0_pay97 v (ix2 0 h) = v (ix2 ⟨8 * 1 + h.val, by omega⟩ 0) := by
  pointwise [k0_pay97]
  exact pick8 (fun x => v (ix2 ⟨8 * 1 + x.val, by omega⟩ 0)) h _ (fun x => rfl)
@[inherit_doc pay96_at] theorem pay98_at (v : FVec Ideal S48x1 .f32) (h : Fin 8) : k0_pay98 v (iota .tc S8x128 32 [0] iota_S8x128_d0_w32) (iota .tc S8x128 32 [1] iota_S8x128_d1_w32) (ix2 0 h) = v (ix2 ⟨8 * 2 + h.val, by omega⟩ 0) := by
  pointwise [k0_pay98]
  exact pick8 (fun x => v (ix2 ⟨8 * 2 + x.val, by omega⟩ 0)) h _ (fun x => rfl)
@[inherit_doc pay96_at] theorem pay99_at (v : FVec Ideal S48x1 .f32) (h : Fin 8) : k0_pay99 v (iota .tc S8x128 32 [0] iota_S8x128_d0_w32) (iota .tc S8x128 32 [1] iota_S8x128_d1_w32) (ix2 0 h) = v (ix2 ⟨8 * 3 + h.val, by omega⟩ 0) := by
  pointwise [k0_pay99]
  exact pick8 (fun x => v (ix2 ⟨8 * 3 + x.val, by omega⟩ 0)) h _ (fun x => rfl)
@[inherit_doc pay96_at] theorem pay100_at (v : FVec Ideal S48x1 .f32) (h : Fin 8) : k0_pay100 v (iota .tc S8x128 32 [0] iota_S8x128_d0_w32) (iota .tc S8x128 32 [1] iota_S8x128_d1_w32) (ix2 0 h) = v (ix2 ⟨8 * 4 + h.val, by omega⟩ 0) := by
  pointwise [k0_pay100]
  exact pick8 (fun x => v (ix2 ⟨8 * 4 + x.val, by omega⟩ 0)) h _ (fun x => rfl)
@[inherit_doc pay96_at] theorem pay101_at (v : FVec Ideal S48x1 .f32) (h : Fin 8) : k0_pay101 v (iota .tc S8x128 32 [0] iota_S8x128_d0_w32) (iota .tc S8x128 32 [1] iota_S8x128_d1_w32) (ix2 0 h) = v (ix2 ⟨8 * 5 + h.val, by omega⟩ 0) := by
  pointwise [k0_pay101]
  exact pick8 (fun x => v (ix2 ⟨8 * 5 + x.val, by omega⟩ 0)) h _ (fun x => rfl)

/-- Where a point's two rows of normalizers begin. -/
theorem off6_at : ∀ (i : grid0.Coords) (q : Fin 2), k0_off6 i (BitVec.ofNat 32 q.val) = ![0, 2 * (i 1).val + q.val, 0] := by decide +kernel

/-- One stored row of normalizers, read at a head. -/
theorem canon_head (i : grid0.Coords) (p : Fin 2) (w : S1x1x192.Idx → Elt Ideal .f32) (L : List (View.Piece (Elt Ideal) S1x8x192 .f32)) (h : Fin 8) (d : Fin 192) :
    View.canon (Val := Elt Ideal) (e := .f32) (⟨Rect.unit (s := S1x8x192) (k0_off6 i (BitVec.ofNat 32 p.val)) S1x1x192.size (k0_off6_inb i p), w⟩ :: L) (ix3 0 h d)
      = if h.val = 2 * (i 1).val + p.val then w (ix3 0 0 d) else View.canon L (ix3 0 h d) := by
  have o : k0_off6 i (BitVec.ofNat 32 p.val) = ![0, 2 * (i 1).val + p.val, 0] := off6_at i p
  split_ifs with hh
  · have hc := View.canon_cons_emb (Val := Elt Ideal) (e := .f32) (Rect.unit (s := S1x8x192) (k0_off6 i (BitVec.ofNat 32 p.val)) S1x1x192.size (k0_off6_inb i p)) w L (ix3 0 0 d)
    refine Eq.trans (congrArg _ ?_) hc
    funext x; apply Fin.ext
    match x with
    | ⟨0, _⟩ => show 0 = k0_off6 i (BitVec.ofNat 32 p.val) 0 + 1 * 0; rw [o]; rfl
    | ⟨1, _⟩ => show h.val = k0_off6 i (BitVec.ofNat 32 p.val) 1 + 1 * 0; rw [o]; exact hh
    | ⟨2, _⟩ => show d.val = k0_off6 i (BitVec.ofNat 32 p.val) 2 + 1 * d.val; rw [o]; show d.val = 0 + 1 * d.val; omega
  · refine View.canon_cons_of_not_mem _ _ fun hm => ?_
    obtain ⟨x, hx⟩ := (Rect.unit (s := S1x8x192) (k0_off6 i (BitVec.ofNat 32 p.val)) S1x1x192.size (k0_off6_inb i p)).exists_idx_of_mem hm
    have h0 : k0_off6 i (BitVec.ofNat 32 p.val) 1 + 1 * (x 1).val = h.val := congrArg Fin.val (congrFun hx 1)
    have o1 : k0_off6 i (BitVec.ofNat 32 p.val) 1 = 2 * (i 1).val + p.val := congrFun o 1
    have h1 : (x 1).val < 1 := (x 1).isLt
    omega

/-- One stored row of maxima, read at a batch. -/
theorem canon_batch (a : ℕ) (inb : ∀ x, (![a, 0] : Fin 2 → ℕ) x + S1x8.size x ≤ S6x8.size x) (w : S1x8.Idx → Elt Ideal .f32) (L : List (View.Piece (Elt Ideal) S6x8 .f32)) (b : Fin 6) (h : Fin 8) :
    View.canon (Val := Elt Ideal) (e := .f32) (⟨Rect.unit (s := S6x8) ![a, 0] S1x8.size inb, w⟩ :: L) (ix2 b h) = if b.val = a then w (ix2 0 h) else View.canon L (ix2 b h) := by
  split_ifs with hh
  · have hc := View.canon_cons_emb (Val := Elt Ideal) (e := .f32) (Rect.unit (s := S6x8) ![a, 0] S1x8.size inb) w L (ix2 0 h)
    refine Eq.trans (congrArg _ ?_) hc
    funext x; apply Fin.ext
    match x with
    | ⟨0, _⟩ => show b.val = a + 1 * 0; omega
    | ⟨1, _⟩ => show h.val = 0 + 1 * h.val; omega
  · refine View.canon_cons_of_not_mem _ _ fun hm => ?_
    obtain ⟨x, hx⟩ := (Rect.unit (s := S6x8) ![a, 0] S1x8.size inb).exists_idx_of_mem hm
    have h0 : a + 1 * (x 0).val = b.val := congrArg Fin.val (congrFun hx 0)
    have h1 : (x 0).val < 1 := (x 0).isLt
    omega

section
variable (c : Dev nD) (i : grid0.Coords) (arg2 : Memref sig .tc .vmem S6x8x256 .f32) (harg2 : arg2.IsWhole) (arg3 : Memref sig .tc .vmem S6x8x256 .f32) (harg3 : arg3.IsWhole) (arg4 : Memref sig .tc .vmem S6x8x4 .f32) (harg4 : arg4.IsWhole) (arg5 : Memref sig .tc .vmem S6x8x4 .f32) (harg5 : arg5.IsWhole) (arg6 : Memref sig .tc .vmem S6x8x4 .f32) (harg6 : arg6.IsWhole)
  (arg7 : Memref sig .tc .vmem S1x2x256x192 .fp8e4m3) (harg7 : arg7.IsWhole) (arg8 : Memref sig .tc .vmem S1x2x256x192 .fp8e4m3) (harg8 : arg8.IsWhole) (arg9 : Memref sig .tc .vmem S1x2x256x384 .fp8e4m3) (harg9 : arg9.IsWhole) (arg10 : Memref sig .tc .vmem S1x2x256x384 .bf16) (harg10 : arg10.IsWhole) (arg11 : Memref sig .tc .vmem S8x384 .f32) (harg11 : arg11.IsWhole)
  (arg12 : Memref sig .tc .vmem S1x2x256x384 .bf16) (harg12 : arg12.IsWhole) (arg13 : Memref sig .tc .vmem S1x2x256x384 .bf16) (harg13 : arg13.IsWhole) (arg14 : Memref sig .tc .vmem S1x2x192x384 .f32) (harg14 : arg14.IsWhole) (arg15 : Memref sig .tc .vmem S1x8x192 .f32) (harg15 : arg15.IsWhole) (arg16 : Memref sig .tc .vmem S6x8 .f32) (harg16 : arg16.IsWhole) (arg17 : Memref sig .tc .vmem S21x48x256 .f32) (harg17 : arg17.IsWhole)
  (x0 x1 : Vec Ideal S6x8x256 .f32) (x2 x3 x4 : Vec Ideal S6x8x4 .f32) (x5 x6 : Vec Ideal S1x2x256x192 .fp8e4m3) (x7 : Vec Ideal S1x2x256x384 .fp8e4m3) (x8 : Vec Ideal S1x2x256x384 .bf16) (x9 : Vec Ideal S8x384 .f32)

variable {g ig : Fin 256 → ℝ} {ks : Fin 4 → ℝ} {k : Fin 256 → ℝ} {p : Fin 2} {d : Fin 192}

/-- What the first point leaves in row 15 of the scratch: the factors of the final normalizer. -/
theorem scr_N (hd : Fin 48) (s : Fin 256) :
    View.canon (kernelRun0_A.sl.HS0_21 (F := Ideal) c arg2 harg2 arg3 harg3 arg4 harg4 arg5 harg5 arg6 harg6 x0 x1 x2 x3 x4) (ix3 15 hd s) = gN x0 x1 x3 (ix3 0 hd s) := by
  unfold kernelRun0_A.sl.HS0_21
  rw [canon_row, if_neg (by decide), canon_row, if_pos (by decide)]
  refine (show _ = gN (View.readAt (Elt Ideal) arg2.view (Rect.unit (s := S6x8x256) ![0, 0, 0] S6x8x256.size inb_S6x8x256_S6x8x256_0_0_0).toLoadRect (harg2.unread x0)) (View.readAt (Elt Ideal) arg3.view (Rect.unit (s := S6x8x256) ![0, 0, 0] S6x8x256.size inb_S6x8x256_S6x8x256_0_0_0).toLoadRect (harg3.unread x1)) (View.readAt (Elt Ideal) arg5.view (Rect.unit (s := S6x8x4) ![0, 0, 0] S6x8x4.size inb_S6x8x4_S6x8x4_0_0_0).toLoadRect (harg5.unread x3)) (ix3 0 hd s) from rfl).trans ?_
  rw [View.readAt_full, View.readAt_full, View.readAt_full, harg2.read_unread, harg3.read_unread, harg5.read_unread]

/-- The row of normalizers of one head, as the body computes it from what it loads of the keys and of the scratch. -/
def nPM (mem : arg17.view.ty.Contents (Elt Ideal)) : Fin 2 → Vec Ideal S1x1x192 .f32 :=
  ![k0_pay110 (k0_pay103 (View.readAt (Elt Ideal) arg8.view (Rect.unit (s := S1x2x256x192) ![0, 0, 0, 0] S1x1x256x192.size (inbK 0)).toLoadRect (harg8.unread x6)))
      (k0_pay107 (rowsM arg17 i 0 mem 12)) (k0_pay108 (rowsM arg17 i 0 mem 13)) (rowsM arg17 i 0 mem 14) (rowsM arg17 i 0 mem 15),
    k0_pay194 (k0_pay188 (View.readAt (Elt Ideal) arg8.view (Rect.unit (s := S1x2x256x192) ![0, 1, 0, 0] S1x1x256x192.size (inbK 1)).toLoadRect (harg8.unread x6)))
      (rowsM arg17 i 1 mem 12) (rowsM arg17 i 1 mem 13) (rowsM arg17 i 1 mem 14) (rowsM arg17 i 1 mem 15)]

/-- Such a row holds the final normalizer. -/
theorem nPM_at {mem : arg17.view.ty.Contents (Elt Ideal)} {V : Vec Ideal S21x48x256 .f32} (hV : ∀ (r : LoadRect S21x48x256) (j), View.readAt (Elt Ideal) arg17.view r mem j = V (r.idx j))
    (hk : ∀ s, x6 (ix4 0 p s d) = ((k s : ℝ) : EReal)) (hN : ∀ s, V (ix3 15 (row i p) s) = ((cf g ig ks (fun _ => 1) (chunk s) * wt g ig s : ℝ) : EReal)) :
    nPM i arg8 harg8 arg17 x6 mem p (ix3 0 0 d) = ((cfin g ig ks (fun _ => 1) k (fun _ => 1) : ℝ) : EReal) := by
  have hr : ∀ s, rowsM arg17 i p mem 15 (ix3 0 0 s) = ((cf g ig ks (fun _ => 1) (chunk s) * wt g ig s : ℝ) : EReal) := fun s => by
    obtain ⟨-, -, -, -, -, -, -, -, -, -, -, -, -, -, o15, -⟩ := offs_eq i p
    exact (hV _ _).trans ((congrArg V (row_idx _ 15 (row i p) o15 s)).trans (hN s))
  have hs : cfin g ig ks (fun _ => 1) k (fun _ => 1) = ∑ s, (cf g ig ks (fun _ => 1) (chunk s) * wt g ig s) * k s :=
    Finset.sum_congr rfl fun s _ => by ring
  rw [hs]
  fin_cases p
  · refine p110 (fun s => ?_) hr
    rw [View.readAt_apply, harg8.read_unread]; exact (congrArg x6 (key_idx (q := 0) _ rfl s d)).trans (hk s)
  · refine p194 (fun s => ?_) hr
    rw [View.readAt_apply, harg8.read_unread]; exact (congrArg x6 (key_idx (q := 1) _ rfl s d)).trans (hk s)

/-- Two stored rows, read at one of the two heads. -/
theorem canon_heads (w : Fin 2 → Vec Ideal S1x1x192 .f32) (A B : Vec Ideal S1x1x192 .f32) (hA : A = w 0) (hB : B = w 1) (h : Fin 8) (hh : h.val = 2 * (i 1).val + p.val) :
    View.canon (Val := Elt Ideal) (e := .f32) [⟨Rect.unit (s := S1x8x192) (k0_off6 i (BitVec.ofNat 32 (1 : Fin 2).val)) S1x1x192.size (k0_off6_inb i 1), B⟩,
      ⟨Rect.unit (s := S1x8x192) (k0_off6 i (BitVec.ofNat 32 (0 : Fin 2).val)) S1x1x192.size (k0_off6_inb i 0), A⟩] (ix3 0 h d) = w p (ix3 0 0 d) := by
  subst hA hB
  rw [canon_head, canon_head]
  match p, hh with
  | ⟨0, _⟩, hh =>
    have h' : h.val = 2 * (i 1).val + (0 : Fin 2).val := hh
    rw [if_neg (by show ¬ h.val = 2 * (i 1).val + 1; have h'' : h.val = 2 * (i 1).val + 0 := hh; omega), if_pos h']; rfl
  | ⟨1, _⟩, hh =>
    have h' : h.val = 2 * (i 1).val + (1 : Fin 2).val := hh
    rw [if_pos h']; rfl

set_option maxHeartbeats 4000000 in
/-- A later point's rows of normalizers, from the scratch rows that the first point left. -/
theorem nB (hc0 : ¬ cond0_0 i) (xs0 : Vec Ideal S21x48x256 .f32) (h : Fin 8) (hh : h.val = 2 * (i 1).val + p.val)
    (hk : ∀ s, x6 (ix4 0 p s d) = ((k s : ℝ) : EReal)) (hN : ∀ s, xs0 (ix3 15 (row i p) s) = ((cf g ig ks (fun _ => 1) (chunk s) * wt g ig s : ℝ) : EReal)) :
    VO0_13.read (Elt Ideal) (VO0_13.writes (Elt Ideal) VO0_13.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0).2.2.2.2.1) (ix3 0 h d)
      = ((cfin g ig ks (fun _ => 1) k (fun _ => 1) : ℝ) : EReal) := by
  unfold kernelRun0_B
  rw [View.read_writes_junk_eq_canon]
  refine (canon_heads i (nPM i arg8 harg8 arg17 x6 (harg17.unread xs0)) _ _ ?_ ?_ h hh).trans (nPM_at (V := xs0) (hV := fun r j => ?_) (hk := hk) (hN := hN) ..)
  · rfl
  · rfl
  · rw [View.readAt_apply, harg17.read_unread]

set_option maxHeartbeats 4000000 in
/-- The first point's rows of normalizers, from the scratch rows it stores itself. -/
theorem nA (hc0 : cond0_0 i) (h : Fin 8) (hh : h.val = 2 * (i 1).val + p.val)
    (hk : ∀ s, x6 (ix4 0 p s d) = ((k s : ℝ) : EReal)) (hN : ∀ s, gN x0 x1 x3 (ix3 0 (row i p) s) = ((cf g ig ks (fun _ => 1) (chunk s) * wt g ig s : ℝ) : EReal)) :
    VO0_13.read (Elt Ideal) (VO0_13.writes (Elt Ideal) VO0_13.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.1) (ix3 0 h d)
      = ((cfin g ig ks (fun _ => 1) k (fun _ => 1) : ℝ) : EReal) := by
  have hN' := fun s => (scr_N c arg2 harg2 arg3 harg3 arg4 harg4 arg5 harg5 arg6 harg6 x0 x1 x2 x3 x4 (row i p) s).trans (hN s)
  unfold kernelRun0_A
  rw [View.read_writes_junk_eq_canon]
  refine (canon_heads i (nPM i arg8 harg8 arg17 x6 (arg17.view.writes (Elt Ideal) arg17.view.junk (kernelRun0_A.sl.HS0_21 (F := Ideal) c arg2 harg2 arg3 harg3 arg4 harg4 arg5 harg5 arg6 harg6 x0 x1 x2 x3 x4))) _ _ ?_ ?_ h hh).trans
    (nPM_at (V := View.canon (kernelRun0_A.sl.HS0_21 (F := Ideal) c arg2 harg2 arg3 harg3 arg4 harg4 arg5 harg5 arg6 harg6 x0 x1 x2 x3 x4)) (hV := fun r j => ?_) (hk := hk) (hN := hN') ..)
  · rfl
  · rfl
  · rw [View.readAt_writes_junk_eq_canon]

set_option maxHeartbeats 4000000 in
/-- The first point's rows of maxima. -/
theorem mA (hc0 : cond0_0 i) (b : Fin 6) (h : Fin 8) :
    VO0_14.read (Elt Ideal) (VO0_14.writes (Elt Ideal) VO0_14.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.2.1) (ix2 b h)
      = gM4 x0 x1 (ix2 ⟨8 * b.val + h.val, by omega⟩ 0) := by
  have e : gM4 x0 x1 = gM4 (View.readAt (Elt Ideal) arg2.view (Rect.unit (s := S6x8x256) ![0, 0, 0] S6x8x256.size inb_S6x8x256_S6x8x256_0_0_0).toLoadRect (harg2.unread x0)) (View.readAt (Elt Ideal) arg3.view (Rect.unit (s := S6x8x256) ![0, 0, 0] S6x8x256.size inb_S6x8x256_S6x8x256_0_0_0).toLoadRect (harg3.unread x1)) := by
    rw [View.readAt_full, View.readAt_full, harg2.read_unread, harg3.read_unread]
  rw [e]
  unfold kernelRun0_A
  rw [View.read_writes_junk_eq_canon]
  fin_cases b
  · rw [canon_batch, if_neg (by decide), canon_batch, if_neg (by decide), canon_batch, if_neg (by decide), canon_batch, if_neg (by decide), canon_batch, if_neg (by decide), canon_batch, if_pos (by decide)]; exact pay96_at _ h
  · rw [canon_batch, if_neg (by decide), canon_batch, if_neg (by decide), canon_batch, if_neg (by decide), canon_batch, if_neg (by decide), canon_batch, if_pos (by decide)]; exact pay97_at _ h
  · rw [canon_batch, if_neg (by decide), canon_batch, if_neg (by decide), canon_batch, if_neg (by decide), canon_batch, if_pos (by decide)]; exact pay98_at _ h
  · rw [canon_batch, if_neg (by decide), canon_batch, if_neg (by decide), canon_batch, if_pos (by decide)]; exact pay99_at _ h
  · rw [canon_batch, if_neg (by decide), canon_batch, if_pos (by decide)]; exact pay100_at _ h
  · rw [canon_batch, if_pos (by decide)]; exact pay101_at _ h
end

end Cert.ML

end
-- ==== Proof.NValue.lean ====
/- The final normalizers and the final maxima that the kernel's run leaves, at an index, over the reals. -/
module

public import proofs.«01_k».proof.Proof.KValue
public import proofs.«01_k».proof.Proof.KI.State
public import proofs.«01_k».proof.Proof.NOut

@[expose] public section

set_option maxRecDepth 16384

noncomputable section

namespace Cert.ML

open Idealize.ShloMosaic Idealize.ShloMosaic.TcCoe Idealize.SL.Sem Cert.KernelIdeal Cert.KernelIdeal.Gen

variable (m : (ℓ : Loc nD τ sig) → Buf (Elt Ideal) ℓ)

section
variable {c : Dev nD} {b : Fin 6} {h : Fin 8} {f ig : Fin 256 → ℝ} {ks : Fin 4 → ℝ} {k : Fin 256 → ℝ} {d : Fin 192}
  (hi : ∀ s, m ((c : Thread nD τ).loc main_arg6) (ix3 b h s) = ((ig s : ℝ) : EReal))
  (hf : ∀ s, m ((c : Thread nD τ).loc main_arg7) (ix3 b h s) = ((f s : ℝ) : EReal))
  (hks : ∀ j, m ((c : Thread nD τ).loc main_arg4) (ix3 b h j) = ((ks j : ℝ) : EReal))
  (hk : ∀ s, m ((c : Thread nD τ).loc main_arg1) (ix4 b h s d) = ((k s : ℝ) : EReal))

include hi hf hks hk in
/-- What a point stores of the final normalizers, at a head of its pair. -/
theorem n_point_at (t : Fin cfg0.N) (q : Fin 2) (hb : b = tb t) (hh : h = th t q) :
    N13 m c t (ix3 0 h d) = ((cfin (fun s => lsig (f s)) ig ks (fun _ => 1) k (fun _ => 1) : ℝ) : EReal) := by
  have ht : t.val < 24 := t.isLt
  obtain ⟨-, -, -, -, -, -, g0, g1⟩ := idx_facts t
  have rb : hB (row (grid0.coords t) q) = b := by
    subst hb; apply Fin.ext; show (8 * (grid0.coords t 0).val + 2 * (grid0.coords t 1).val + q.val) / 8 = t.val / 4
    rw [g0, g1]; omega
  have rh : hH (row (grid0.coords t) q) = h := by
    subst hh; apply Fin.ext; show (8 * (grid0.coords t 0).val + 2 * (grid0.coords t 1).val + q.val) % 8 = 2 * (t.val % 4) + q.val
    rw [g0, g1]; omega
  have hN : ∀ s, gN (iblk m c 0 t0 : Vec Ideal S6x8x256 .f32) (iblk m c 1 t0) (iblk m c 3 t0) (ix3 0 (row (grid0.coords t) q) s)
      = ((cf (fun s => lsig (f s)) ig ks (fun _ => 1) (chunk s) * wt (fun s => lsig (f s)) ig s : ℝ) : EReal) :=
    gN_at (fun s => by rw [rb, rh]; exact (iblk0_at m c t0 b h s).trans (hi s)) (fun s => by rw [rb, rh]; exact (iblk1_at m c t0 b h s).trans (hf s))
      (fun s => by rw [rb, rh]; exact (iblk3_at m c t0 b h s).trans (hks s))
  have hk' : ∀ s, (iblk m c 6 t : Vec Ideal S1x2x256x192 .fp8e4m3) (ix4 0 q s d) = ((k s : ℝ) : EReal) :=
    fun s => (iblk6_at m c t q s d).trans (by rw [← hb, ← hh]; exact hk s)
  have hr : h.val = 2 * (grid0.coords t 1).val + q.val := by subst hh; rw [g1]; rfl
  unfold N13
  by_cases h0 : t.val % 24 = 0
  · have ht0 : t = t0 := Fin.ext (by show t.val = 0; omega)
    rw [ht0] at hk' hN hr ⊢
    rw [L13_A m c t0 rfl]
    exact nA (hk := hk') (hN := hN) (hh := hr) ..
  · rw [L13_B m c t h0]
    refine nB (hk := hk') (hN := fun s => ?_) (hh := hr) ..
    rw [scr_at]; exact (scr_N ..).trans (hN s)

include hi hf hks hk in
/-- The array of final normalizers after the run, at an index. -/
theorem n_result_at : Cert.KernelIdeal.Value.G13 m c (ix3 b h d) = ((cfin (fun s => lsig (f s)) ig ks (fun _ => 1) k (fun _ => 1) : ℝ) : EReal) :=
  n_point_at m hi hf hks hk (Cert.KernelIdeal.Value.pt13 b h) ⟨h.val % 2, by omega⟩ (Fin.ext (by show b.val = (4 * b.val + h.val / 2) / 4; omega))
    (Fin.ext (by show h.val = 2 * ((4 * b.val + h.val / 2) % 4) + h.val % 2; omega))

include hi hf in
/-- The array of final maxima after the run, at an index. -/
theorem m_result_at : Cert.KernelIdeal.Value.G14 m c (ix2 b h) = ((m4 (fun s => lsig (f s)) ig : ℝ) : EReal) := by
  have rb : hB ⟨8 * b.val + h.val, by omega⟩ = b := Fin.ext (by show (8 * b.val + h.val) / 8 = b.val; omega)
  have rh : hH ⟨8 * b.val + h.val, by omega⟩ = h := Fin.ext (by show (8 * b.val + h.val) % 8 = h.val; omega)
  show M14 m c (ix2 b h) = _
  unfold M14 L14
  refine (mA ..).trans (gM4_at (hd := ⟨8 * b.val + h.val, by omega⟩) (fun s => ?_) fun s => ?_)
  · rw [rb, rh]; exact (iblk0_at m c t0 b h s).trans (hi s)
  · rw [rb, rh]; exact (iblk1_at m c t0 b h s).trans (hf s)
end

end Cert.ML

end
-- ==== Proof.Algebraic.lean ====
/- The kernel's outputs, hidden states, final states, final normalizers and final maxima are the reference's, over the extended reals, under the precondition. -/
module

public import proofs.«01_k».proof.Defs
public import proofs.«01_k».proof.Proof.Pre
public import proofs.«01_k».proof.Proof.YValue
public import proofs.«01_k».proof.Proof.RState
public import proofs.«01_k».proof.Proof.NValue

@[expose] public section

set_option maxRecDepth 16384

noncomputable section

namespace Cert.ML

open Idealize.ShloMosaic Idealize.ShloMosaic.TcCoe Idealize.SL.Sem

/-- Kernel and reference end with equal outputs, hidden states, final states, final normalizers and final maxima, from inputs that are real numbers. -/
theorem algebraic : Cert.algebraic_KernelIdeal_ReferenceIdeal_pre_finite_inputs (hKernelIdeal := Cert.KernelIdeal.Gen.facts) (hReferenceIdeal := Cert.ReferenceIdeal.Gen.facts)
    (hPre_finite_inputs := pre_facts) := by
  intro m g m' g' hP hA
  refine ⟨fun c => Cert.KernelIdeal.Value.G10 m c, fun c => Cert.KernelIdeal.Value.G11 m c, fun c => Cert.KernelIdeal.Value.G12 m c, fun c => Cert.KernelIdeal.Value.G13 m c, fun c => Cert.KernelIdeal.Value.G14 m c,
    (θ_run _ _ _).mono (fun r h c => ?_) (Cert.KernelIdeal.Value.run5 m g),
    (θ_run _ _ _).mono (fun r h c => ?_) (θ_run_and (Cert.ReferenceIdeal.Gen.run_main m' g') (Cert.ReferenceIdeal.Gen.unchanged m' g'))⟩
  · exact h c
  · obtain ⟨h1, h2⟩ := h
    obtain ⟨p0, p1, p2, p3, p4, p5, p6, p7, p8⟩ := @pre_real pre_facts _ _ _ _ _ _ _ _ _ _ (hP c)
    obtain ⟨a0, a1, a2, a3, a4, a5, a6, a7, a8, a9⟩ := hA c
    choose q hq using p0
    choose k hk using p1
    choose v hv using p2
    choose qs hqs using p3
    choose ks hks using p4
    choose vs hvs using p5
    choose ig hi using p6
    choose f hf using p7
    have hv0 : ∀ i, vs i ≠ 0 := fun i h0 => p8 i ((hvs i).trans (by rw [h0]; exact EReal.coe_zero))
    refine ⟨(((h1 c).2 Cert.ReferenceIdeal.main_v259 (Pipeline.mem_restRefs_of Cert.ReferenceIdeal.main_v259 (by decide) (by decide)))).trans ?_,
      (((h1 c).2 Cert.ReferenceIdeal.main_v260 (Pipeline.mem_restRefs_of Cert.ReferenceIdeal.main_v260 (by decide) (by decide)))).trans ?_,
      (((h1 c).2 Cert.ReferenceIdeal.main_v129 (Pipeline.mem_restRefs_of Cert.ReferenceIdeal.main_v129 (by decide) (by decide)))).trans ?_,
      (((h1 c).2 Cert.ReferenceIdeal.main_v269 (Pipeline.mem_restRefs_of Cert.ReferenceIdeal.main_v269 (by decide) (by decide)))).trans ?_,
      (((h1 c).2 Cert.ReferenceIdeal.main_v111 (Pipeline.mem_restRefs_of Cert.ReferenceIdeal.main_v111 (by decide) (by decide)))).trans ?_, h2 c⟩
    · refine funext fun z => ?_
      obtain ⟨b, h, s, e, rfl⟩ : ∃ b h s e, z = ix4 b h s e := ⟨z 0, z 1, z 2, z 3, by funext a; match a with | 0 => rfl | 1 => rfl | 2 => rfl | 3 => rfl⟩
      obtain ⟨j, l, rfl⟩ : ∃ j l, s = pos j l := ⟨chunk s, ⟨s.val % 64, by omega⟩, Fin.ext (by simp only [pos, chunk]; omega)⟩
      refine (Ref.y_result_at (m := m') (c := c) (b := b) (h := h) (e := e) (f := fun s => f (ix3 b h s)) (ig := fun s => ig (ix3 b h s)) (qs := fun j => qs (ix3 b h j)) (ks := fun j => ks (ix3 b h j))
        (vs := fun j => vs (ix3 b h j)) (q := fun s d => q (ix4 b h s d)) (k := fun s d => k (ix4 b h s d)) (v := fun s e => v (ix4 b h s e)) (fun s => (congrFun a6 _).trans (hi _)) (fun s => (congrFun a7 _).trans (hf _))
        (fun s => (congrFun a3 _).trans (hqs _)) (fun s => (congrFun a4 _).trans (hks _)) (fun s => (congrFun a5 _).trans (hvs _)) (fun s d => (congrFun a0 _).trans (hq _)) (fun s d => (congrFun a1 _).trans (hk _))
        (fun s e => (congrFun a2 _).trans (hv _)) j l).trans ?_
      refine Eq.trans ?_ (y_result_at m (c := c) (fun s => hi _) (fun s => hf _) (fun s => hqs _) (fun s => hks _) (fun s => hvs _) (fun j => hv0 _) (fun s d => hq _) (fun s d => hk _) (fun s e => hv _) j l).symm
      rw [congrFun a8 _, congrFun a9 _]
      exact congrArg (fun H => yE _ _ H e) (funext fun x => by rw [hK_eq_hR _ _ _ _ _ _ _ _ _ _ _ (hv0 _)])
    · refine funext fun z => ?_
      obtain ⟨b, h, s, e, rfl⟩ : ∃ b h s e, z = ix4 b h s e := ⟨z 0, z 1, z 2, z 3, by funext a; match a with | 0 => rfl | 1 => rfl | 2 => rfl | 3 => rfl⟩
      obtain ⟨j, l, rfl⟩ : ∃ j l, s = pos j l := ⟨chunk s, ⟨s.val % 64, by omega⟩, Fin.ext (by simp only [pos, chunk]; omega)⟩
      refine (Ref.hid_result_at (m := m') (c := c) (b := b) (h := h) (e := e) (f := fun s => f (ix3 b h s)) (ig := fun s => ig (ix3 b h s)) (qs := fun j => qs (ix3 b h j)) (ks := fun j => ks (ix3 b h j))
        (vs := fun j => vs (ix3 b h j)) (q := fun s d => q (ix4 b h s d)) (k := fun s d => k (ix4 b h s d)) (v := fun s => v (ix4 b h s e)) (fun s => (congrFun a6 _).trans (hi _)) (fun s => (congrFun a7 _).trans (hf _))
        (fun s => (congrFun a3 _).trans (hqs _)) (fun s => (congrFun a4 _).trans (hks _)) (fun s => (congrFun a5 _).trans (hvs _)) (fun s d => (congrFun a0 _).trans (hq _)) (fun s d => (congrFun a1 _).trans (hk _))
        (fun s => (congrFun a2 _).trans (hv _)) j l).trans ?_
      refine Eq.trans ?_ (hid_result_at m (c := c) (fun s => hi _) (fun s => hf _) (fun s => hqs _) (fun s => hks _) (fun s => hvs _) (fun j => hv0 _) (fun s d => hq _) (fun s d => hk _) (fun s => hv _) j l).symm
      rw [hK_eq_hR _ _ _ _ _ _ _ _ _ _ _ (hv0 _)]
    · refine funext fun z => ?_
      obtain ⟨b, h, d, e, rfl⟩ : ∃ b h d e, z = ix4 b h d e := ⟨z 0, z 1, z 2, z 3, by funext a; match a with | 0 => rfl | 1 => rfl | 2 => rfl | 3 => rfl⟩
      refine (Ref.result_at (m := m') (c := c) (b := b) (h := h) (d := d) (e := e) (f := fun s => f (ix3 b h s)) (ig := fun s => ig (ix3 b h s)) (ks := fun j => ks (ix3 b h j)) (vs := fun j => vs (ix3 b h j))
        (k := fun s => k (ix4 b h s d)) (v := fun s => v (ix4 b h s e)) (fun s => (congrFun a6 _).trans (hi _)) (fun s => (congrFun a7 _).trans (hf _)) (fun s => (congrFun a4 _).trans (hks _))
        (fun s => (congrFun a5 _).trans (hvs _)) (fun s => (congrFun a1 _).trans (hk _)) (fun s => (congrFun a2 _).trans (hv _))).trans ?_
      exact (result_at m (c := c) (fun s => hi _) (fun s => hf _) (fun s => hks _) (fun s => hvs _) (fun s => hk _) (fun s => hv _)).symm
    · refine funext fun z => ?_
      obtain ⟨b, h, d, rfl⟩ : ∃ b h d, z = ix3 b h d := ⟨z 0, z 1, z 2, by funext a; match a with | 0 => rfl | 1 => rfl | 2 => rfl⟩
      refine (Ref.norm_result_at (m := m') (c := c) (b := b) (h := h) (d := d) (e := 0) (f := fun s => f (ix3 b h s)) (ig := fun s => ig (ix3 b h s)) (ks := fun j => ks (ix3 b h j)) (vs := fun j => vs (ix3 b h j))
        (k := fun s d => k (ix4 b h s d)) (v := fun s => v (ix4 b h s 0)) (fun s => (congrFun a6 _).trans (hi _)) (fun s => (congrFun a7 _).trans (hf _)) (fun s => (congrFun a4 _).trans (hks _))
        (fun s => (congrFun a5 _).trans (hvs _)) (fun s d => (congrFun a1 _).trans (hk _)) (fun s => (congrFun a2 _).trans (hv _))).trans ?_
      exact (n_result_at m (c := c) (fun s => hi _) (fun s => hf _) (fun s => hks _) (fun s => hk _)).symm
    · refine funext fun z => ?_
      obtain ⟨b, h, rfl⟩ : ∃ b h, z = ix2 b h := ⟨z 0, z 1, by funext a; match a with | 0 => rfl | 1 => rfl⟩
      refine (Ref.max_result_at (m := m') (c := c) (b := b) (h := h) (e := 0) (f := fun s => f (ix3 b h s)) (ig := fun s => ig (ix3 b h s)) (ks := fun j => ks (ix3 b h j)) (vs := fun j => vs (ix3 b h j))
        (k := fun s d => k (ix4 b h s d)) (v := fun s => v (ix4 b h s 0)) (fun s => (congrFun a6 _).trans (hi _)) (fun s => (congrFun a7 _).trans (hf _)) (fun s => (congrFun a4 _).trans (hks _))
        (fun s => (congrFun a5 _).trans (hvs _)) (fun s d => (congrFun a1 _).trans (hk _)) (fun s => (congrFun a2 _).trans (hv _))).trans ?_
      exact (m_result_at m (c := c) (fun s => hi _) (fun s => hf _)).symm

end Cert.ML

end
-- ==== Proof.lean ====
module

public import proofs.«01_k».proof.Defs
public import proofs.«01_k».proof.Proof.KB.Frame
public import proofs.«01_k».proof.Proof.KI.Frame
public import proofs.«01_k».proof.Proof.Gen.ReferenceIdeal.Frame
public import proofs.«01_k».proof.Proof.Algebraic

@[expose] public section

noncomputable section

namespace Cert.Proof

open Idealize.ShloMosaic

/-- The three runs end with their arguments unchanged and every counter at zero, the named constants are `1 / log 2` and
    `1 / 384`, and over the extended reals the kernel's outputs, hidden states, final states,
    final normalizers and final maxima are the reference's. -/
theorem claim : Cert.Claim :=
  ⟨Cert.Kernel.Gen.facts, Cert.KernelIdeal.Gen.facts, Cert.ReferenceIdeal.Gen.facts, Cert.ML.pre_facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    ⟨IdealRules.named_const.statement Cert.KernelIdeal.κ "log2e" .f32 0x3FB8AA3B#32 _ rfl,
      IdealRules.named_const.statement Cert.KernelIdeal.κ "inv_dv" .f32 0x3B2AAAAB#32 _ rfl⟩, Cert.ML.algebraic⟩

end Cert.Proof

end
